-- ==== Defs.lean ====
def Pre_Ffb (m : (ℓ : Loc Cert.Ffb.nD Cert.Ffb.τ Cert.Ffb.sig) → Buf (Elt Bits) ℓ) : Prop :=
  True

def Pre_FfbIdeal (m : (ℓ : Loc Cert.FfbIdeal.nD Cert.FfbIdeal.τ Cert.FfbIdeal.sig) → Buf (Elt Ideal) ℓ) : Prop :=
  True

def Pre_FfbIdeal_finite_ffn [hPre_finite_ffn : Cert.Pre_finite_ffn.Facts] (m : (ℓ : Loc Cert.FfbIdeal.nD Cert.FfbIdeal.τ Cert.FfbIdeal.sig) → Buf (Elt Ideal) ℓ) : Prop :=
  ∀ c : Dev Cert.FfbIdeal.nD,
    (Cert.Pre_finite_ffn.fn (F := Ideal) (m ((c.tc : Thread Cert.FfbIdeal.nD Cert.FfbIdeal.τ).loc Cert.FfbIdeal.main_arg0)) (m ((c.tc : Thread Cert.FfbIdeal.nD Cert.FfbIdeal.τ).loc Cert.FfbIdeal.main_arg1)) (m ((c.tc : Thread Cert.FfbIdeal.nD Cert.FfbIdeal.τ).loc Cert.FfbIdeal.main_arg2)) (m ((c.tc : Thread Cert.FfbIdeal.nD Cert.FfbIdeal.τ).loc Cert.FfbIdeal.main_arg3)) (m ((c.tc : Thread Cert.FfbIdeal.nD Cert.FfbIdeal.τ).loc Cert.FfbIdeal.main_arg4)) (m ((c.tc : Thread Cert.FfbIdeal.nD Cert.FfbIdeal.τ).loc Cert.FfbIdeal.main_arg5))) = (fun _ => 1#1)

def Pre_FfbRefIdeal (m : (ℓ : Loc Cert.FfbRefIdeal.nD Cert.FfbRefIdeal.τ Cert.FfbRefIdeal.sig) → Buf (Elt Ideal) ℓ) : Prop :=
  True

def Pre_FfbRefIdeal_finite_ffn [hPre_finite_ffn : Cert.Pre_finite_ffn.Facts] (m : (ℓ : Loc Cert.FfbRefIdeal.nD Cert.FfbRefIdeal.τ Cert.FfbRefIdeal.sig) → Buf (Elt Ideal) ℓ) : Prop :=
  ∀ c : Dev Cert.FfbRefIdeal.nD,
    (Cert.Pre_finite_ffn.fn (F := Ideal) (m ((c.tc : Thread Cert.FfbRefIdeal.nD Cert.FfbRefIdeal.τ).loc Cert.FfbRefIdeal.main_arg0)) (m ((c.tc : Thread Cert.FfbRefIdeal.nD Cert.FfbRefIdeal.τ).loc Cert.FfbRefIdeal.main_arg1)) (m ((c.tc : Thread Cert.FfbRefIdeal.nD Cert.FfbRefIdeal.τ).loc Cert.FfbRefIdeal.main_arg2)) (m ((c.tc : Thread Cert.FfbRefIdeal.nD Cert.FfbRefIdeal.τ).loc Cert.FfbRefIdeal.main_arg3)) (m ((c.tc : Thread Cert.FfbRefIdeal.nD Cert.FfbRefIdeal.τ).loc Cert.FfbRefIdeal.main_arg4)) (m ((c.tc : Thread Cert.FfbRefIdeal.nD Cert.FfbRefIdeal.τ).loc Cert.FfbRefIdeal.main_arg5))) = (fun _ => 1#1)

def Pre_WgA (m : (ℓ : Loc Cert.WgA.nD Cert.WgA.τ Cert.WgA.sig) → Buf (Elt Bits) ℓ) : Prop :=
  True

def Pre_WgAIdeal (m : (ℓ : Loc Cert.WgAIdeal.nD Cert.WgAIdeal.τ Cert.WgAIdeal.sig) → Buf (Elt Ideal) ℓ) : Prop :=
  True

def Pre_WgARefIdeal (m : (ℓ : Loc Cert.WgARefIdeal.nD Cert.WgARefIdeal.τ Cert.WgARefIdeal.sig) → Buf (Elt Ideal) ℓ) : Prop :=
  True

def Pre_WgB (m : (ℓ : Loc Cert.WgB.nD Cert.WgB.τ Cert.WgB.sig) → Buf (Elt Bits) ℓ) : Prop :=
  True

def Pre_WgBIdeal (m : (ℓ : Loc Cert.WgBIdeal.nD Cert.WgBIdeal.τ Cert.WgBIdeal.sig) → Buf (Elt Ideal) ℓ) : Prop :=
  True

def Pre_WgBRefIdeal (m : (ℓ : Loc Cert.WgBRefIdeal.nD Cert.WgBRefIdeal.τ Cert.WgBRefIdeal.sig) → Buf (Elt Ideal) ℓ) : Prop :=
  True

def Pre_WgC (m : (ℓ : Loc Cert.WgC.nD Cert.WgC.τ Cert.WgC.sig) → Buf (Elt Bits) ℓ) : Prop :=
  True

def Pre_WgCIdeal (m : (ℓ : Loc Cert.WgCIdeal.nD Cert.WgCIdeal.τ Cert.WgCIdeal.sig) → Buf (Elt Ideal) ℓ) : Prop :=
  True

def Pre_WgCRefIdeal (m : (ℓ : Loc Cert.WgCRefIdeal.nD Cert.WgCRefIdeal.τ Cert.WgCRefIdeal.sig) → Buf (Elt Ideal) ℓ) : Prop :=
  True

def Pre_WgD (m : (ℓ : Loc Cert.WgD.nD Cert.WgD.τ Cert.WgD.sig) → Buf (Elt Bits) ℓ) : Prop :=
  True

def Pre_WgDIdeal (m : (ℓ : Loc Cert.WgDIdeal.nD Cert.WgDIdeal.τ Cert.WgDIdeal.sig) → Buf (Elt Ideal) ℓ) : Prop :=
  True

def Pre_WgDRefIdeal (m : (ℓ : Loc Cert.WgDRefIdeal.nD Cert.WgDRefIdeal.τ Cert.WgDRefIdeal.sig) → Buf (Elt Ideal) ℓ) : Prop :=
  True

def Pre_WgE (m : (ℓ : Loc Cert.WgE.nD Cert.WgE.τ Cert.WgE.sig) → Buf (Elt Bits) ℓ) : Prop :=
  True

def Pre_WgEIdeal (m : (ℓ : Loc Cert.WgEIdeal.nD Cert.WgEIdeal.τ Cert.WgEIdeal.sig) → Buf (Elt Ideal) ℓ) : Prop :=
  True

def Pre_WgERefIdeal (m : (ℓ : Loc Cert.WgERefIdeal.nD Cert.WgERefIdeal.τ Cert.WgERefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_InBx (m : (ℓ : Loc Cert.InBx.nD Cert.InBx.τ Cert.InBx.sig) → Buf (Elt Bits) ℓ) : Prop :=
  True

def Pre_InBxIdeal (m : (ℓ : Loc Cert.InBxIdeal.nD Cert.InBxIdeal.τ Cert.InBxIdeal.sig) → Buf (Elt Ideal) ℓ) : Prop :=
  True

def Pre_InBxIdeal_finite_in [hPre_finite_in : Cert.Pre_finite_in.Facts] (m : (ℓ : Loc Cert.InBxIdeal.nD Cert.InBxIdeal.τ Cert.InBxIdeal.sig) → Buf (Elt Ideal) ℓ) : Prop :=
  ∀ c : Dev Cert.InBxIdeal.nD,
    (Cert.Pre_finite_in.fn (F := Ideal) (m ((c.tc : Thread Cert.InBxIdeal.nD Cert.InBxIdeal.τ).loc Cert.InBxIdeal.main_arg0)) (m ((c.tc : Thread Cert.InBxIdeal.nD Cert.InBxIdeal.τ).loc Cert.InBxIdeal.main_arg1)) (m ((c.tc : Thread Cert.InBxIdeal.nD Cert.InBxIdeal.τ).loc Cert.InBxIdeal.main_arg2)) (m ((c.tc : Thread Cert.InBxIdeal.nD Cert.InBxIdeal.τ).loc Cert.InBxIdeal.main_arg3)) (m ((c.tc : Thread Cert.InBxIdeal.nD Cert.InBxIdeal.τ).loc Cert.InBxIdeal.main_arg4))) = (fun _ => 1#1)

def Pre_InBxRefIdeal (m : (ℓ : Loc Cert.InBxRefIdeal.nD Cert.InBxRefIdeal.τ Cert.InBxRefIdeal.sig) → Buf (Elt Ideal) ℓ) : Prop :=
  True

def Pre_InBxRefIdeal_finite_in [hPre_finite_in : Cert.Pre_finite_in.Facts] (m : (ℓ : Loc Cert.InBxRefIdeal.nD Cert.InBxRefIdeal.τ Cert.InBxRefIdeal.sig) → Buf (Elt Ideal) ℓ) : Prop :=
  ∀ c : Dev Cert.InBxRefIdeal.nD,
    (Cert.Pre_finite_in.fn (F := Ideal) (m ((c.tc : Thread Cert.InBxRefIdeal.nD Cert.InBxRefIdeal.τ).loc Cert.InBxRefIdeal.main_arg0)) (m ((c.tc : Thread Cert.InBxRefIdeal.nD Cert.InBxRefIdeal.τ).loc Cert.InBxRefIdeal.main_arg1)) (m ((c.tc : Thread Cert.InBxRefIdeal.nD Cert.InBxRefIdeal.τ).loc Cert.InBxRefIdeal.main_arg2)) (m ((c.tc : Thread Cert.InBxRefIdeal.nD Cert.InBxRefIdeal.τ).loc Cert.InBxRefIdeal.main_arg3)) (m ((c.tc : Thread Cert.InBxRefIdeal.nD Cert.InBxRefIdeal.τ).loc Cert.InBxRefIdeal.main_arg4))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))) = (fun _ => 1#1)

def quiescent_Ffb [hFfb : Cert.Ffb.Facts] : Prop :=
  ∀ (m : (ℓ : Loc Cert.Ffb.nD Cert.Ffb.τ Cert.Ffb.sig) → Buf (Elt Bits) ℓ) (g : Dev Cert.Ffb.nD → PrngReg), Pre_Ffb m →
    θ_run (Cert.Ffb.defs (F := Bits)) (onTc (τ := Cert.Ffb.τ) (Cert.Ffb.main (F := Bits))) ⟨m, fun _ => 0, g⟩ (fun r => (∀ c : Dev Cert.Ffb.nD,
      r.2.mem ((c.tc : Thread Cert.Ffb.nD Cert.Ffb.τ).loc Cert.Ffb.main_arg0) = m ((c.tc : Thread Cert.Ffb.nD Cert.Ffb.τ).loc Cert.Ffb.main_arg0)
      ∧ r.2.mem ((c.tc : Thread Cert.Ffb.nD Cert.Ffb.τ).loc Cert.Ffb.main_arg1) = m ((c.tc : Thread Cert.Ffb.nD Cert.Ffb.τ).loc Cert.Ffb.main_arg1)
      ∧ r.2.mem ((c.tc : Thread Cert.Ffb.nD Cert.Ffb.τ).loc Cert.Ffb.main_arg2) = m ((c.tc : Thread Cert.Ffb.nD Cert.Ffb.τ).loc Cert.Ffb.main_arg2)
      ∧ r.2.mem ((c.tc : Thread Cert.Ffb.nD Cert.Ffb.τ).loc Cert.Ffb.main_arg3) = m ((c.tc : Thread Cert.Ffb.nD Cert.Ffb.τ).loc Cert.Ffb.main_arg3)
      ∧ r.2.mem ((c.tc : Thread Cert.Ffb.nD Cert.Ffb.τ).loc Cert.Ffb.main_arg4) = m ((c.tc : Thread Cert.Ffb.nD Cert.Ffb.τ).loc Cert.Ffb.main_arg4)
      ∧ r.2.mem ((c.tc : Thread Cert.Ffb.nD Cert.Ffb.τ).loc Cert.Ffb.main_arg5) = m ((c.tc : Thread Cert.Ffb.nD Cert.Ffb.τ).loc Cert.Ffb.main_arg5))
      ∧ r.2.sem = fun _ => 0)

def quiescent_FfbIdeal [hFfbIdeal : Cert.FfbIdeal.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
      ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
      ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ r.2.sem = fun _ => 0)

def quiescent_FfbIdeal_pre_finite_ffn [hFfbIdeal : Cert.FfbIdeal.Facts] [hPre_finite_ffn : Cert.Pre_finite_ffn.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal_finite_ffn m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
      ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
      ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ r.2.sem = fun _ => 0)

def quiescent_FfbRefIdeal [hFfbRefIdeal : Cert.FfbRefIdeal.Facts] : Prop :=
  ∀ (m : (ℓ : Loc Cert.FfbRefIdeal.nD Cert.FfbRefIdeal.τ Cert.FfbRefIdeal.sig) → Buf (Elt Ideal) ℓ) (g : Dev Cert.FfbRefIdeal.nD → PrngReg), Pre_FfbRefIdeal m →
    θ_run (Cert.FfbRefIdeal.defs (F := Ideal)) (onTc (τ := Cert.FfbRefIdeal.τ) (Cert.FfbRefIdeal.main (F := Ideal))) ⟨m, fun _ => 0, g⟩ (fun r => (∀ c : Dev Cert.FfbRefIdeal.nD,
      r.2.mem ((c.tc : Thread Cert.FfbRefIdeal.nD Cert.FfbRefIdeal.τ).loc Cert.FfbRefIdeal.main_arg0) = m ((c.tc : Thread Cert.FfbRefIdeal.nD Cert.FfbRefIdeal.τ).loc Cert.FfbRefIdeal.main_arg0)
      ∧ r.2.mem ((c.tc : Thread Cert.FfbRefIdeal.nD Cert.FfbRefIdeal.τ).loc Cert.FfbRefIdeal.main_arg1) = m ((c.tc : Thread Cert.FfbRefIdeal.nD Cert.FfbRefIdeal.τ).loc Cert.FfbRefIdeal.main_arg1)
      ∧ r.2.mem ((c.tc : Thread Cert.FfbRefIdeal.nD Cert.FfbRefIdeal.τ).loc Cert.FfbRefIdeal.main_arg2) = m ((c.tc : Thread Cert.FfbRefIdeal.nD Cert.FfbRefIdeal.τ).loc Cert.FfbRefIdeal.main_arg2)
      ∧ r.2.mem ((c.tc : Thread Cert.FfbRefIdeal.nD Cert.FfbRefIdeal.τ).loc Cert.FfbRefIdeal.main_arg3) = m ((c.tc : Thread Cert.FfbRefIdeal.nD Cert.FfbRefIdeal.τ).loc Cert.FfbRefIdeal.main_arg3)
      ∧ r.2.mem ((c.tc : Thread Cert.FfbRefIdeal.nD Cert.FfbRefIdeal.τ).loc Cert.FfbRefIdeal.main_arg4) = m ((c.tc : Thread Cert.FfbRefIdeal.nD Cert.FfbRefIdeal.τ).loc Cert.FfbRefIdeal.main_arg4)
      ∧ r.2.mem ((c.tc : Thread Cert.FfbRefIdeal.nD Cert.FfbRefIdeal.τ).loc Cert.FfbRefIdeal.main_arg5) = m ((c.tc : Thread Cert.FfbRefIdeal.nD Cert.FfbRefIdeal.τ).loc Cert.FfbRefIdeal.main_arg5))
      ∧ r.2.sem = fun _ => 0)

def quiescent_FfbRefIdeal_pre_finite_ffn [hFfbRefIdeal : Cert.FfbRefIdeal.Facts] [hPre_finite_ffn : Cert.Pre_finite_ffn.Facts] : Prop :=
  ∀ (m : (ℓ : Loc Cert.FfbRefIdeal.nD Cert.FfbRefIdeal.τ Cert.FfbRefIdeal.sig) → Buf (Elt Ideal) ℓ) (g : Dev Cert.FfbRefIdeal.nD → PrngReg), Pre_FfbRefIdeal_finite_ffn m →
    θ_run (Cert.FfbRefIdeal.defs (F := Ideal)) (onTc (τ := Cert.FfbRefIdeal.τ) (Cert.FfbRefIdeal.main (F := Ideal))) ⟨m, fun _ => 0, g⟩ (fun r => (∀ c : Dev Cert.FfbRefIdeal.nD,
      r.2.mem ((c.tc : Thread Cert.FfbRefIdeal.nD Cert.FfbRefIdeal.τ).loc Cert.FfbRefIdeal.main_arg0) = m ((c.tc : Thread Cert.FfbRefIdeal.nD Cert.FfbRefIdeal.τ).loc Cert.FfbRefIdeal.main_arg0)
      ∧ r.2.mem ((c.tc : Thread Cert.FfbRefIdeal.nD Cert.FfbRefIdeal.τ).loc Cert.FfbRefIdeal.main_arg1) = m ((c.tc : Thread Cert.FfbRefIdeal.nD Cert.FfbRefIdeal.τ).loc Cert.FfbRefIdeal.main_arg1)
      ∧ r.2.mem ((c.tc : Thread Cert.FfbRefIdeal.nD Cert.FfbRefIdeal.τ).loc Cert.FfbRefIdeal.main_arg2) = m ((c.tc : Thread Cert.FfbRefIdeal.nD Cert.FfbRefIdeal.τ).loc Cert.FfbRefIdeal.main_arg2)
      ∧ r.2.mem ((c.tc : Thread Cert.FfbRefIdeal.nD Cert.FfbRefIdeal.τ).loc Cert.FfbRefIdeal.main_arg3) = m ((c.tc : Thread Cert.FfbRefIdeal.nD Cert.FfbRefIdeal.τ).loc Cert.FfbRefIdeal.main_arg3)
      ∧ r.2.mem ((c.tc : Thread Cert.FfbRefIdeal.nD Cert.FfbRefIdeal.τ).loc Cert.FfbRefIdeal.main_arg4) = m ((c.tc : Thread Cert.FfbRefIdeal.nD Cert.FfbRefIdeal.τ).loc Cert.FfbRefIdeal.main_arg4)
      ∧ r.2.mem ((c.tc : Thread Cert.FfbRefIdeal.nD Cert.FfbRefIdeal.τ).loc Cert.FfbRefIdeal.main_arg5) = m ((c.tc : Thread Cert.FfbRefIdeal.nD Cert.FfbRefIdeal.τ).loc Cert.FfbRefIdeal.main_arg5))
      ∧ r.2.sem = fun _ => 0)

def quiescent_WgA [hWgA : Cert.WgA.Facts] : Prop :=
  ∀ (m : (ℓ : Loc Cert.WgA.nD Cert.WgA.τ Cert.WgA.sig) → Buf (Elt Bits) ℓ) (g : Dev Cert.WgA.nD → PrngReg), Pre_WgA m →
    θ_run (Cert.WgA.defs (F := Bits)) (onTc (τ := Cert.WgA.τ) (Cert.WgA.main (F := Bits))) ⟨m, fun _ => 0, g⟩ (fun r => (∀ c : Dev Cert.WgA.nD,
      r.2.mem ((c.tc : Thread Cert.WgA.nD Cert.WgA.τ).loc Cert.WgA.main_arg0) = m ((c.tc : Thread Cert.WgA.nD Cert.WgA.τ).loc Cert.WgA.main_arg0)
      ∧ r.2.mem ((c.tc : Thread Cert.WgA.nD Cert.WgA.τ).loc Cert.WgA.main_arg1) = m ((c.tc : Thread Cert.WgA.nD Cert.WgA.τ).loc Cert.WgA.main_arg1))
      ∧ r.2.sem = fun _ => 0)

def quiescent_WgAIdeal [hWgAIdeal : Cert.WgAIdeal.Facts] : Prop :=
  ∀ (m : (ℓ : Loc Cert.WgAIdeal.nD Cert.WgAIdeal.τ Cert.WgAIdeal.sig) → Buf (Elt Ideal) ℓ) (g : Dev Cert.WgAIdeal.nD → PrngReg), Pre_WgAIdeal m →
    θ_run (Cert.WgAIdeal.defs (F := Ideal)) (onTc (τ := Cert.WgAIdeal.τ) (Cert.WgAIdeal.main (F := Ideal))) ⟨m, fun _ => 0, g⟩ (fun r => (∀ c : Dev Cert.WgAIdeal.nD,
      r.2.mem ((c.tc : Thread Cert.WgAIdeal.nD Cert.WgAIdeal.τ).loc Cert.WgAIdeal.main_arg0) = m ((c.tc : Thread Cert.WgAIdeal.nD Cert.WgAIdeal.τ).loc Cert.WgAIdeal.main_arg0)
      ∧ r.2.mem ((c.tc : Thread Cert.WgAIdeal.nD Cert.WgAIdeal.τ).loc Cert.WgAIdeal.main_arg1) = m ((c.tc : Thread Cert.WgAIdeal.nD Cert.WgAIdeal.τ).loc Cert.WgAIdeal.main_arg1))
      ∧ r.2.sem = fun _ => 0)

def quiescent_WgARefIdeal [hWgARefIdeal : Cert.WgARefIdeal.Facts] : Prop :=
  ∀ (m : (ℓ : Loc Cert.WgARefIdeal.nD Cert.WgARefIdeal.τ Cert.WgARefIdeal.sig) → Buf (Elt Ideal) ℓ) (g : Dev Cert.WgARefIdeal.nD → PrngReg), Pre_WgARefIdeal m →
    θ_run (Cert.WgARefIdeal.defs (F := Ideal)) (onTc (τ := Cert.WgARefIdeal.τ) (Cert.WgARefIdeal.main (F := Ideal))) ⟨m, fun _ => 0, g⟩ (fun r => (∀ c : Dev Cert.WgARefIdeal.nD,
      r.2.mem ((c.tc : Thread Cert.WgARefIdeal.nD Cert.WgARefIdeal.τ).loc Cert.WgARefIdeal.main_arg0) = m ((c.tc : Thread Cert.WgARefIdeal.nD Cert.WgARefIdeal.τ).loc Cert.WgARefIdeal.main_arg0)
      ∧ r.2.mem ((c.tc : Thread Cert.WgARefIdeal.nD Cert.WgARefIdeal.τ).loc Cert.WgARefIdeal.main_arg1) = m ((c.tc : Thread Cert.WgARefIdeal.nD Cert.WgARefIdeal.τ).loc Cert.WgARefIdeal.main_arg1))
      ∧ r.2.sem = fun _ => 0)

def quiescent_WgB [hWgB : Cert.WgB.Facts] : Prop :=
  ∀ (m : (ℓ : Loc Cert.WgB.nD Cert.WgB.τ Cert.WgB.sig) → Buf (Elt Bits) ℓ) (g : Dev Cert.WgB.nD → PrngReg), Pre_WgB m →
    θ_run (Cert.WgB.defs (F := Bits)) (onTc (τ := Cert.WgB.τ) (Cert.WgB.main (F := Bits))) ⟨m, fun _ => 0, g⟩ (fun r => (∀ c : Dev Cert.WgB.nD,
      r.2.mem ((c.tc : Thread Cert.WgB.nD Cert.WgB.τ).loc Cert.WgB.main_arg0) = m ((c.tc : Thread Cert.WgB.nD Cert.WgB.τ).loc Cert.WgB.main_arg0)
      ∧ r.2.mem ((c.tc : Thread Cert.WgB.nD Cert.WgB.τ).loc Cert.WgB.main_arg1) = m ((c.tc : Thread Cert.WgB.nD Cert.WgB.τ).loc Cert.WgB.main_arg1))
      ∧ r.2.sem = fun _ => 0)

def quiescent_WgBIdeal [hWgBIdeal : Cert.WgBIdeal.Facts] : Prop :=
  ∀ (m : (ℓ : Loc Cert.WgBIdeal.nD Cert.WgBIdeal.τ Cert.WgBIdeal.sig) → Buf (Elt Ideal) ℓ) (g : Dev Cert.WgBIdeal.nD → PrngReg), Pre_WgBIdeal m →
    θ_run (Cert.WgBIdeal.defs (F := Ideal)) (onTc (τ := Cert.WgBIdeal.τ) (Cert.WgBIdeal.main (F := Ideal))) ⟨m, fun _ => 0, g⟩ (fun r => (∀ c : Dev Cert.WgBIdeal.nD,
      r.2.mem ((c.tc : Thread Cert.WgBIdeal.nD Cert.WgBIdeal.τ).loc Cert.WgBIdeal.main_arg0) = m ((c.tc : Thread Cert.WgBIdeal.nD Cert.WgBIdeal.τ).loc Cert.WgBIdeal.main_arg0)
      ∧ r.2.mem ((c.tc : Thread Cert.WgBIdeal.nD Cert.WgBIdeal.τ).loc Cert.WgBIdeal.main_arg1) = m ((c.tc : Thread Cert.WgBIdeal.nD Cert.WgBIdeal.τ).loc Cert.WgBIdeal.main_arg1))
      ∧ r.2.sem = fun _ => 0)

def quiescent_WgBRefIdeal [hWgBRefIdeal : Cert.WgBRefIdeal.Facts] : Prop :=
  ∀ (m : (ℓ : Loc Cert.WgBRefIdeal.nD Cert.WgBRefIdeal.τ Cert.WgBRefIdeal.sig) → Buf (Elt Ideal) ℓ) (g : Dev Cert.WgBRefIdeal.nD → PrngReg), Pre_WgBRefIdeal m →
    θ_run (Cert.WgBRefIdeal.defs (F := Ideal)) (onTc (τ := Cert.WgBRefIdeal.τ) (Cert.WgBRefIdeal.main (F := Ideal))) ⟨m, fun _ => 0, g⟩ (fun r => (∀ c : Dev Cert.WgBRefIdeal.nD,
      r.2.mem ((c.tc : Thread Cert.WgBRefIdeal.nD Cert.WgBRefIdeal.τ).loc Cert.WgBRefIdeal.main_arg0) = m ((c.tc : Thread Cert.WgBRefIdeal.nD Cert.WgBRefIdeal.τ).loc Cert.WgBRefIdeal.main_arg0)
      ∧ r.2.mem ((c.tc : Thread Cert.WgBRefIdeal.nD Cert.WgBRefIdeal.τ).loc Cert.WgBRefIdeal.main_arg1) = m ((c.tc : Thread Cert.WgBRefIdeal.nD Cert.WgBRefIdeal.τ).loc Cert.WgBRefIdeal.main_arg1))
      ∧ r.2.sem = fun _ => 0)

def quiescent_WgC [hWgC : Cert.WgC.Facts] : Prop :=
  ∀ (m : (ℓ : Loc Cert.WgC.nD Cert.WgC.τ Cert.WgC.sig) → Buf (Elt Bits) ℓ) (g : Dev Cert.WgC.nD → PrngReg), Pre_WgC m →
    θ_run (Cert.WgC.defs (F := Bits)) (onTc (τ := Cert.WgC.τ) (Cert.WgC.main (F := Bits))) ⟨m, fun _ => 0, g⟩ (fun r => (∀ c : Dev Cert.WgC.nD,
      r.2.mem ((c.tc : Thread Cert.WgC.nD Cert.WgC.τ).loc Cert.WgC.main_arg0) = m ((c.tc : Thread Cert.WgC.nD Cert.WgC.τ).loc Cert.WgC.main_arg0)
      ∧ r.2.mem ((c.tc : Thread Cert.WgC.nD Cert.WgC.τ).loc Cert.WgC.main_arg1) = m ((c.tc : Thread Cert.WgC.nD Cert.WgC.τ).loc Cert.WgC.main_arg1))
      ∧ r.2.sem = fun _ => 0)

def quiescent_WgCIdeal [hWgCIdeal : Cert.WgCIdeal.Facts] : Prop :=
  ∀ (m : (ℓ : Loc Cert.WgCIdeal.nD Cert.WgCIdeal.τ Cert.WgCIdeal.sig) → Buf (Elt Ideal) ℓ) (g : Dev Cert.WgCIdeal.nD → PrngReg), Pre_WgCIdeal m →
    θ_run (Cert.WgCIdeal.defs (F := Ideal)) (onTc (τ := Cert.WgCIdeal.τ) (Cert.WgCIdeal.main (F := Ideal))) ⟨m, fun _ => 0, g⟩ (fun r => (∀ c : Dev Cert.WgCIdeal.nD,
      r.2.mem ((c.tc : Thread Cert.WgCIdeal.nD Cert.WgCIdeal.τ).loc Cert.WgCIdeal.main_arg0) = m ((c.tc : Thread Cert.WgCIdeal.nD Cert.WgCIdeal.τ).loc Cert.WgCIdeal.main_arg0)
      ∧ r.2.mem ((c.tc : Thread Cert.WgCIdeal.nD Cert.WgCIdeal.τ).loc Cert.WgCIdeal.main_arg1) = m ((c.tc : Thread Cert.WgCIdeal.nD Cert.WgCIdeal.τ).loc Cert.WgCIdeal.main_arg1))
      ∧ r.2.sem = fun _ => 0)

def quiescent_WgCRefIdeal [hWgCRefIdeal : Cert.WgCRefIdeal.Facts] : Prop :=
  ∀ (m : (ℓ : Loc Cert.WgCRefIdeal.nD Cert.WgCRefIdeal.τ Cert.WgCRefIdeal.sig) → Buf (Elt Ideal) ℓ) (g : Dev Cert.WgCRefIdeal.nD → PrngReg), Pre_WgCRefIdeal m →
    θ_run (Cert.WgCRefIdeal.defs (F := Ideal)) (onTc (τ := Cert.WgCRefIdeal.τ) (Cert.WgCRefIdeal.main (F := Ideal))) ⟨m, fun _ => 0, g⟩ (fun r => (∀ c : Dev Cert.WgCRefIdeal.nD,
      r.2.mem ((c.tc : Thread Cert.WgCRefIdeal.nD Cert.WgCRefIdeal.τ).loc Cert.WgCRefIdeal.main_arg0) = m ((c.tc : Thread Cert.WgCRefIdeal.nD Cert.WgCRefIdeal.τ).loc Cert.WgCRefIdeal.main_arg0)
      ∧ r.2.mem ((c.tc : Thread Cert.WgCRefIdeal.nD Cert.WgCRefIdeal.τ).loc Cert.WgCRefIdeal.main_arg1) = m ((c.tc : Thread Cert.WgCRefIdeal.nD Cert.WgCRefIdeal.τ).loc Cert.WgCRefIdeal.main_arg1))
      ∧ r.2.sem = fun _ => 0)

def quiescent_WgD [hWgD : Cert.WgD.Facts] : Prop :=
  ∀ (m : (ℓ : Loc Cert.WgD.nD Cert.WgD.τ Cert.WgD.sig) → Buf (Elt Bits) ℓ) (g : Dev Cert.WgD.nD → PrngReg), Pre_WgD m →
    θ_run (Cert.WgD.defs (F := Bits)) (onTc (τ := Cert.WgD.τ) (Cert.WgD.main (F := Bits))) ⟨m, fun _ => 0, g⟩ (fun r => (∀ c : Dev Cert.WgD.nD,
      r.2.mem ((c.tc : Thread Cert.WgD.nD Cert.WgD.τ).loc Cert.WgD.main_arg0) = m ((c.tc : Thread Cert.WgD.nD Cert.WgD.τ).loc Cert.WgD.main_arg0)
      ∧ r.2.mem ((c.tc : Thread Cert.WgD.nD Cert.WgD.τ).loc Cert.WgD.main_arg1) = m ((c.tc : Thread Cert.WgD.nD Cert.WgD.τ).loc Cert.WgD.main_arg1))
      ∧ r.2.sem = fun _ => 0)

def quiescent_WgDIdeal [hWgDIdeal : Cert.WgDIdeal.Facts] : Prop :=
  ∀ (m : (ℓ : Loc Cert.WgDIdeal.nD Cert.WgDIdeal.τ Cert.WgDIdeal.sig) → Buf (Elt Ideal) ℓ) (g : Dev Cert.WgDIdeal.nD → PrngReg), Pre_WgDIdeal m →
    θ_run (Cert.WgDIdeal.defs (F := Ideal)) (onTc (τ := Cert.WgDIdeal.τ) (Cert.WgDIdeal.main (F := Ideal))) ⟨m, fun _ => 0, g⟩ (fun r => (∀ c : Dev Cert.WgDIdeal.nD,
      r.2.mem ((c.tc : Thread Cert.WgDIdeal.nD Cert.WgDIdeal.τ).loc Cert.WgDIdeal.main_arg0) = m ((c.tc : Thread Cert.WgDIdeal.nD Cert.WgDIdeal.τ).loc Cert.WgDIdeal.main_arg0)
      ∧ r.2.mem ((c.tc : Thread Cert.WgDIdeal.nD Cert.WgDIdeal.τ).loc Cert.WgDIdeal.main_arg1) = m ((c.tc : Thread Cert.WgDIdeal.nD Cert.WgDIdeal.τ).loc Cert.WgDIdeal.main_arg1))
      ∧ r.2.sem = fun _ => 0)

def quiescent_WgDRefIdeal [hWgDRefIdeal : Cert.WgDRefIdeal.Facts] : Prop :=
  ∀ (m : (ℓ : Loc Cert.WgDRefIdeal.nD Cert.WgDRefIdeal.τ Cert.WgDRefIdeal.sig) → Buf (Elt Ideal) ℓ) (g : Dev Cert.WgDRefIdeal.nD → PrngReg), Pre_WgDRefIdeal m →
    θ_run (Cert.WgDRefIdeal.defs (F := Ideal)) (onTc (τ := Cert.WgDRefIdeal.τ) (Cert.WgDRefIdeal.main (F := Ideal))) ⟨m, fun _ => 0, g⟩ (fun r => (∀ c : Dev Cert.WgDRefIdeal.nD,
      r.2.mem ((c.tc : Thread Cert.WgDRefIdeal.nD Cert.WgDRefIdeal.τ).loc Cert.WgDRefIdeal.main_arg0) = m ((c.tc : Thread Cert.WgDRefIdeal.nD Cert.WgDRefIdeal.τ).loc Cert.WgDRefIdeal.main_arg0)
      ∧ r.2.mem ((c.tc : Thread Cert.WgDRefIdeal.nD Cert.WgDRefIdeal.τ).loc Cert.WgDRefIdeal.main_arg1) = m ((c.tc : Thread Cert.WgDRefIdeal.nD Cert.WgDRefIdeal.τ).loc Cert.WgDRefIdeal.main_arg1))
      ∧ r.2.sem = fun _ => 0)

def quiescent_WgE [hWgE : Cert.WgE.Facts] : Prop :=
  ∀ (m : (ℓ : Loc Cert.WgE.nD Cert.WgE.τ Cert.WgE.sig) → Buf (Elt Bits) ℓ) (g : Dev Cert.WgE.nD → PrngReg), Pre_WgE m →
    θ_run (Cert.WgE.defs (F := Bits)) (onTc (τ := Cert.WgE.τ) (Cert.WgE.main (F := Bits))) ⟨m, fun _ => 0, g⟩ (fun r => (∀ c : Dev Cert.WgE.nD,
      r.2.mem ((c.tc : Thread Cert.WgE.nD Cert.WgE.τ).loc Cert.WgE.main_arg0) = m ((c.tc : Thread Cert.WgE.nD Cert.WgE.τ).loc Cert.WgE.main_arg0)
      ∧ r.2.mem ((c.tc : Thread Cert.WgE.nD Cert.WgE.τ).loc Cert.WgE.main_arg1) = m ((c.tc : Thread Cert.WgE.nD Cert.WgE.τ).loc Cert.WgE.main_arg1))
      ∧ r.2.sem = fun _ => 0)

def quiescent_WgEIdeal [hWgEIdeal : Cert.WgEIdeal.Facts] : Prop :=
  ∀ (m : (ℓ : Loc Cert.WgEIdeal.nD Cert.WgEIdeal.τ Cert.WgEIdeal.sig) → Buf (Elt Ideal) ℓ) (g : Dev Cert.WgEIdeal.nD → PrngReg), Pre_WgEIdeal m →
    θ_run (Cert.WgEIdeal.defs (F := Ideal)) (onTc (τ := Cert.WgEIdeal.τ) (Cert.WgEIdeal.main (F := Ideal))) ⟨m, fun _ => 0, g⟩ (fun r => (∀ c : Dev Cert.WgEIdeal.nD,
      r.2.mem ((c.tc : Thread Cert.WgEIdeal.nD Cert.WgEIdeal.τ).loc Cert.WgEIdeal.main_arg0) = m ((c.tc : Thread Cert.WgEIdeal.nD Cert.WgEIdeal.τ).loc Cert.WgEIdeal.main_arg0)
      ∧ r.2.mem ((c.tc : Thread Cert.WgEIdeal.nD Cert.WgEIdeal.τ).loc Cert.WgEIdeal.main_arg1) = m ((c.tc : Thread Cert.WgEIdeal.nD Cert.WgEIdeal.τ).loc Cert.WgEIdeal.main_arg1))
      ∧ r.2.sem = fun _ => 0)

def quiescent_WgERefIdeal [hWgERefIdeal : Cert.WgERefIdeal.Facts] : Prop :=
  ∀ (m : (ℓ : Loc Cert.WgERefIdeal.nD Cert.WgERefIdeal.τ Cert.WgERefIdeal.sig) → Buf (Elt Ideal) ℓ) (g : Dev Cert.WgERefIdeal.nD → PrngReg), Pre_WgERefIdeal m →
    θ_run (Cert.WgERefIdeal.defs (F := Ideal)) (onTc (τ := Cert.WgERefIdeal.τ) (Cert.WgERefIdeal.main (F := Ideal))) ⟨m, fun _ => 0, g⟩ (fun r => (∀ c : Dev Cert.WgERefIdeal.nD,
      r.2.mem ((c.tc : Thread Cert.WgERefIdeal.nD Cert.WgERefIdeal.τ).loc Cert.WgERefIdeal.main_arg0) = m ((c.tc : Thread Cert.WgERefIdeal.nD Cert.WgERefIdeal.τ).loc Cert.WgERefIdeal.main_arg0)
      ∧ r.2.mem ((c.tc : Thread Cert.WgERefIdeal.nD Cert.WgERefIdeal.τ).loc Cert.WgERefIdeal.main_arg1) = m ((c.tc : Thread Cert.WgERefIdeal.nD Cert.WgERefIdeal.τ).loc Cert.WgERefIdeal.main_arg1))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4))
      ∧ r.2.sem = fun _ => 0)

def quiescent_InBx [hInBx : Cert.InBx.Facts] : Prop :=
  ∀ (m : (ℓ : Loc Cert.InBx.nD Cert.InBx.τ Cert.InBx.sig) → Buf (Elt Bits) ℓ) (g : Dev Cert.InBx.nD → PrngReg), Pre_InBx m →
    θ_run (Cert.InBx.defs (F := Bits)) (onTc (τ := Cert.InBx.τ) (Cert.InBx.main (F := Bits))) ⟨m, fun _ => 0, g⟩ (fun r => (∀ c : Dev Cert.InBx.nD,
      r.2.mem ((c.tc : Thread Cert.InBx.nD Cert.InBx.τ).loc Cert.InBx.main_arg0) = m ((c.tc : Thread Cert.InBx.nD Cert.InBx.τ).loc Cert.InBx.main_arg0)
      ∧ r.2.mem ((c.tc : Thread Cert.InBx.nD Cert.InBx.τ).loc Cert.InBx.main_arg1) = m ((c.tc : Thread Cert.InBx.nD Cert.InBx.τ).loc Cert.InBx.main_arg1)
      ∧ r.2.mem ((c.tc : Thread Cert.InBx.nD Cert.InBx.τ).loc Cert.InBx.main_arg2) = m ((c.tc : Thread Cert.InBx.nD Cert.InBx.τ).loc Cert.InBx.main_arg2)
      ∧ r.2.mem ((c.tc : Thread Cert.InBx.nD Cert.InBx.τ).loc Cert.InBx.main_arg3) = m ((c.tc : Thread Cert.InBx.nD Cert.InBx.τ).loc Cert.InBx.main_arg3)
      ∧ r.2.mem ((c.tc : Thread Cert.InBx.nD Cert.InBx.τ).loc Cert.InBx.main_arg4) = m ((c.tc : Thread Cert.InBx.nD Cert.InBx.τ).loc Cert.InBx.main_arg4))
      ∧ r.2.sem = fun _ => 0)

def quiescent_InBxIdeal [hInBxIdeal : Cert.InBxIdeal.Facts] : Prop :=
  ∀ (m : (ℓ : Loc Cert.InBxIdeal.nD Cert.InBxIdeal.τ Cert.InBxIdeal.sig) → Buf (Elt Ideal) ℓ) (g : Dev Cert.InBxIdeal.nD → PrngReg), Pre_InBxIdeal m →
    θ_run (Cert.InBxIdeal.defs (F := Ideal)) (onTc (τ := Cert.InBxIdeal.τ) (Cert.InBxIdeal.main (F := Ideal))) ⟨m, fun _ => 0, g⟩ (fun r => (∀ c : Dev Cert.InBxIdeal.nD,
      r.2.mem ((c.tc : Thread Cert.InBxIdeal.nD Cert.InBxIdeal.τ).loc Cert.InBxIdeal.main_arg0) = m ((c.tc : Thread Cert.InBxIdeal.nD Cert.InBxIdeal.τ).loc Cert.InBxIdeal.main_arg0)
      ∧ r.2.mem ((c.tc : Thread Cert.InBxIdeal.nD Cert.InBxIdeal.τ).loc Cert.InBxIdeal.main_arg1) = m ((c.tc : Thread Cert.InBxIdeal.nD Cert.InBxIdeal.τ).loc Cert.InBxIdeal.main_arg1)
      ∧ r.2.mem ((c.tc : Thread Cert.InBxIdeal.nD Cert.InBxIdeal.τ).loc Cert.InBxIdeal.main_arg2) = m ((c.tc : Thread Cert.InBxIdeal.nD Cert.InBxIdeal.τ).loc Cert.InBxIdeal.main_arg2)
      ∧ r.2.mem ((c.tc : Thread Cert.InBxIdeal.nD Cert.InBxIdeal.τ).loc Cert.InBxIdeal.main_arg3) = m ((c.tc : Thread Cert.InBxIdeal.nD Cert.InBxIdeal.τ).loc Cert.InBxIdeal.main_arg3)
      ∧ r.2.mem ((c.tc : Thread Cert.InBxIdeal.nD Cert.InBxIdeal.τ).loc Cert.InBxIdeal.main_arg4) = m ((c.tc : Thread Cert.InBxIdeal.nD Cert.InBxIdeal.τ).loc Cert.InBxIdeal.main_arg4))
      ∧ r.2.sem = fun _ => 0)

def quiescent_InBxIdeal_pre_finite_in [hInBxIdeal : Cert.InBxIdeal.Facts] [hPre_finite_in : Cert.Pre_finite_in.Facts] : Prop :=
  ∀ (m : (ℓ : Loc Cert.InBxIdeal.nD Cert.InBxIdeal.τ Cert.InBxIdeal.sig) → Buf (Elt Ideal) ℓ) (g : Dev Cert.InBxIdeal.nD → PrngReg), Pre_InBxIdeal_finite_in m →
    θ_run (Cert.InBxIdeal.defs (F := Ideal)) (onTc (τ := Cert.InBxIdeal.τ) (Cert.InBxIdeal.main (F := Ideal))) ⟨m, fun _ => 0, g⟩ (fun r => (∀ c : Dev Cert.InBxIdeal.nD,
      r.2.mem ((c.tc : Thread Cert.InBxIdeal.nD Cert.InBxIdeal.τ).loc Cert.InBxIdeal.main_arg0) = m ((c.tc : Thread Cert.InBxIdeal.nD Cert.InBxIdeal.τ).loc Cert.InBxIdeal.main_arg0)
      ∧ r.2.mem ((c.tc : Thread Cert.InBxIdeal.nD Cert.InBxIdeal.τ).loc Cert.InBxIdeal.main_arg1) = m ((c.tc : Thread Cert.InBxIdeal.nD Cert.InBxIdeal.τ).loc Cert.InBxIdeal.main_arg1)
      ∧ r.2.mem ((c.tc : Thread Cert.InBxIdeal.nD Cert.InBxIdeal.τ).loc Cert.InBxIdeal.main_arg2) = m ((c.tc : Thread Cert.InBxIdeal.nD Cert.InBxIdeal.τ).loc Cert.InBxIdeal.main_arg2)
      ∧ r.2.mem ((c.tc : Thread Cert.InBxIdeal.nD Cert.InBxIdeal.τ).loc Cert.InBxIdeal.main_arg3) = m ((c.tc : Thread Cert.InBxIdeal.nD Cert.InBxIdeal.τ).loc Cert.InBxIdeal.main_arg3)
      ∧ r.2.mem ((c.tc : Thread Cert.InBxIdeal.nD Cert.InBxIdeal.τ).loc Cert.InBxIdeal.main_arg4) = m ((c.tc : Thread Cert.InBxIdeal.nD Cert.InBxIdeal.τ).loc Cert.InBxIdeal.main_arg4))
      ∧ r.2.sem = fun _ => 0)

def quiescent_InBxRefIdeal [hInBxRefIdeal : Cert.InBxRefIdeal.Facts] : Prop :=
  ∀ (m : (ℓ : Loc Cert.InBxRefIdeal.nD Cert.InBxRefIdeal.τ Cert.InBxRefIdeal.sig) → Buf (Elt Ideal) ℓ) (g : Dev Cert.InBxRefIdeal.nD → PrngReg), Pre_InBxRefIdeal m →
    θ_run (Cert.InBxRefIdeal.defs (F := Ideal)) (onTc (τ := Cert.InBxRefIdeal.τ) (Cert.InBxRefIdeal.main (F := Ideal))) ⟨m, fun _ => 0, g⟩ (fun r => (∀ c : Dev Cert.InBxRefIdeal.nD,
      r.2.mem ((c.tc : Thread Cert.InBxRefIdeal.nD Cert.InBxRefIdeal.τ).loc Cert.InBxRefIdeal.main_arg0) = m ((c.tc : Thread Cert.InBxRefIdeal.nD Cert.InBxRefIdeal.τ).loc Cert.InBxRefIdeal.main_arg0)
      ∧ r.2.mem ((c.tc : Thread Cert.InBxRefIdeal.nD Cert.InBxRefIdeal.τ).loc Cert.InBxRefIdeal.main_arg1) = m ((c.tc : Thread Cert.InBxRefIdeal.nD Cert.InBxRefIdeal.τ).loc Cert.InBxRefIdeal.main_arg1)
      ∧ r.2.mem ((c.tc : Thread Cert.InBxRefIdeal.nD Cert.InBxRefIdeal.τ).loc Cert.InBxRefIdeal.main_arg2) = m ((c.tc : Thread Cert.InBxRefIdeal.nD Cert.InBxRefIdeal.τ).loc Cert.InBxRefIdeal.main_arg2)
      ∧ r.2.mem ((c.tc : Thread Cert.InBxRefIdeal.nD Cert.InBxRefIdeal.τ).loc Cert.InBxRefIdeal.main_arg3) = m ((c.tc : Thread Cert.InBxRefIdeal.nD Cert.InBxRefIdeal.τ).loc Cert.InBxRefIdeal.main_arg3)
      ∧ r.2.mem ((c.tc : Thread Cert.InBxRefIdeal.nD Cert.InBxRefIdeal.τ).loc Cert.InBxRefIdeal.main_arg4) = m ((c.tc : Thread Cert.InBxRefIdeal.nD Cert.InBxRefIdeal.τ).loc Cert.InBxRefIdeal.main_arg4))
      ∧ r.2.sem = fun _ => 0)

def quiescent_InBxRefIdeal_pre_finite_in [hInBxRefIdeal : Cert.InBxRefIdeal.Facts] [hPre_finite_in : Cert.Pre_finite_in.Facts] : Prop :=
  ∀ (m : (ℓ : Loc Cert.InBxRefIdeal.nD Cert.InBxRefIdeal.τ Cert.InBxRefIdeal.sig) → Buf (Elt Ideal) ℓ) (g : Dev Cert.InBxRefIdeal.nD → PrngReg), Pre_InBxRefIdeal_finite_in m →
    θ_run (Cert.InBxRefIdeal.defs (F := Ideal)) (onTc (τ := Cert.InBxRefIdeal.τ) (Cert.InBxRefIdeal.main (F := Ideal))) ⟨m, fun _ => 0, g⟩ (fun r => (∀ c : Dev Cert.InBxRefIdeal.nD,
      r.2.mem ((c.tc : Thread Cert.InBxRefIdeal.nD Cert.InBxRefIdeal.τ).loc Cert.InBxRefIdeal.main_arg0) = m ((c.tc : Thread Cert.InBxRefIdeal.nD Cert.InBxRefIdeal.τ).loc Cert.InBxRefIdeal.main_arg0)
      ∧ r.2.mem ((c.tc : Thread Cert.InBxRefIdeal.nD Cert.InBxRefIdeal.τ).loc Cert.InBxRefIdeal.main_arg1) = m ((c.tc : Thread Cert.InBxRefIdeal.nD Cert.InBxRefIdeal.τ).loc Cert.InBxRefIdeal.main_arg1)
      ∧ r.2.mem ((c.tc : Thread Cert.InBxRefIdeal.nD Cert.InBxRefIdeal.τ).loc Cert.InBxRefIdeal.main_arg2) = m ((c.tc : Thread Cert.InBxRefIdeal.nD Cert.InBxRefIdeal.τ).loc Cert.InBxRefIdeal.main_arg2)
      ∧ r.2.mem ((c.tc : Thread Cert.InBxRefIdeal.nD Cert.InBxRefIdeal.τ).loc Cert.InBxRefIdeal.main_arg3) = m ((c.tc : Thread Cert.InBxRefIdeal.nD Cert.InBxRefIdeal.τ).loc Cert.InBxRefIdeal.main_arg3)
      ∧ r.2.mem ((c.tc : Thread Cert.InBxRefIdeal.nD Cert.InBxRefIdeal.τ).loc Cert.InBxRefIdeal.main_arg4) = m ((c.tc : Thread Cert.InBxRefIdeal.nD Cert.InBxRefIdeal.τ).loc Cert.InBxRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def preserves_Ffb_FfbIdeal : Prop :=
  True

def algebraic_FfbIdeal_FfbRefIdeal_pre_finite_ffn [hFfbIdeal : Cert.FfbIdeal.Facts] [hFfbRefIdeal : Cert.FfbRefIdeal.Facts] [hPre_finite_ffn : Cert.Pre_finite_ffn.Facts] : Prop :=
  ∀ (m : (ℓ : Loc Cert.FfbIdeal.nD Cert.FfbIdeal.τ Cert.FfbIdeal.sig) → Buf (Elt Ideal) ℓ) (g : Dev Cert.FfbIdeal.nD → PrngReg)
    (m' : (ℓ : Loc Cert.FfbRefIdeal.nD Cert.FfbRefIdeal.τ Cert.FfbRefIdeal.sig) → Buf (Elt Ideal) ℓ) (g' : Dev Cert.FfbRefIdeal.nD → PrngReg), Pre_FfbIdeal_finite_ffn m →
    (∀ c : Dev Cert.FfbIdeal.nD,
      m' ((c.tc : Thread Cert.FfbRefIdeal.nD Cert.FfbRefIdeal.τ).loc Cert.FfbRefIdeal.main_arg0) = m ((c.tc : Thread Cert.FfbIdeal.nD Cert.FfbIdeal.τ).loc Cert.FfbIdeal.main_arg0)
      ∧ m' ((c.tc : Thread Cert.FfbRefIdeal.nD Cert.FfbRefIdeal.τ).loc Cert.FfbRefIdeal.main_arg1) = m ((c.tc : Thread Cert.FfbIdeal.nD Cert.FfbIdeal.τ).loc Cert.FfbIdeal.main_arg1)
      ∧ m' ((c.tc : Thread Cert.FfbRefIdeal.nD Cert.FfbRefIdeal.τ).loc Cert.FfbRefIdeal.main_arg2) = m ((c.tc : Thread Cert.FfbIdeal.nD Cert.FfbIdeal.τ).loc Cert.FfbIdeal.main_arg2)
      ∧ m' ((c.tc : Thread Cert.FfbRefIdeal.nD Cert.FfbRefIdeal.τ).loc Cert.FfbRefIdeal.main_arg3) = m ((c.tc : Thread Cert.FfbIdeal.nD Cert.FfbIdeal.τ).loc Cert.FfbIdeal.main_arg3)
      ∧ m' ((c.tc : Thread Cert.FfbRefIdeal.nD Cert.FfbRefIdeal.τ).loc Cert.FfbRefIdeal.main_arg4) = m ((c.tc : Thread Cert.FfbIdeal.nD Cert.FfbIdeal.τ).loc Cert.FfbIdeal.main_arg4)
      ∧ m' ((c.tc : Thread Cert.FfbRefIdeal.nD Cert.FfbRefIdeal.τ).loc Cert.FfbRefIdeal.main_arg5) = m ((c.tc : Thread Cert.FfbIdeal.nD Cert.FfbIdeal.τ).loc Cert.FfbIdeal.main_arg5)) →
    ∃ (v0 : (c : Dev Cert.FfbIdeal.nD) → Buf (Elt Ideal) ((c.tc : Thread Cert.FfbIdeal.nD Cert.FfbIdeal.τ).loc Cert.FfbIdeal.main_v23_0)) (v1 : (c : Dev Cert.FfbIdeal.nD) → Buf (Elt Ideal) ((c.tc : Thread Cert.FfbIdeal.nD Cert.FfbIdeal.τ).loc Cert.FfbIdeal.main_v23_1)) (v2 : (c : Dev Cert.FfbIdeal.nD) → Buf (Elt Ideal) ((c.tc : Thread Cert.FfbIdeal.nD Cert.FfbIdeal.τ).loc Cert.FfbIdeal.main_v23_2)) (v3 : (c : Dev Cert.FfbIdeal.nD) → Buf (Elt Ideal) ((c.tc : Thread Cert.FfbIdeal.nD Cert.FfbIdeal.τ).loc Cert.FfbIdeal.main_v23_3)) (v4 : (c : Dev Cert.FfbIdeal.nD) → Buf (Elt Ideal) ((c.tc : Thread Cert.FfbIdeal.nD Cert.FfbIdeal.τ).loc Cert.FfbIdeal.main_v23_4)),
      θ_run (Cert.FfbIdeal.defs (F := Ideal)) (onTc (τ := Cert.FfbIdeal.τ) (Cert.FfbIdeal.main (F := Ideal))) ⟨m, fun _ => 0, g⟩ (fun r => ∀ c : Dev Cert.FfbIdeal.nD,
          r.2.mem ((c.tc : Thread Cert.FfbIdeal.nD Cert.FfbIdeal.τ).loc Cert.FfbIdeal.main_v23_0) = v0 c
          ∧ r.2.mem ((c.tc : Thread Cert.FfbIdeal.nD Cert.FfbIdeal.τ).loc Cert.FfbIdeal.main_v23_1) = v1 c
          ∧ r.2.mem ((c.tc : Thread Cert.FfbIdeal.nD Cert.FfbIdeal.τ).loc Cert.FfbIdeal.main_v23_2) = v2 c
          ∧ r.2.mem ((c.tc : Thread Cert.FfbIdeal.nD Cert.FfbIdeal.τ).loc Cert.FfbIdeal.main_v23_3) = v3 c
          ∧ r.2.mem ((c.tc : Thread Cert.FfbIdeal.nD Cert.FfbIdeal.τ).loc Cert.FfbIdeal.main_v23_4) = v4 c
          ∧ r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
          ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
          ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
          ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
          ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
          ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ θ_run (Cert.FfbRefIdeal.defs (F := Ideal)) (onTc (τ := Cert.FfbRefIdeal.τ) (Cert.FfbRefIdeal.main (F := Ideal))) ⟨m', fun _ => 0, g'⟩ (fun r => ∀ c : Dev Cert.FfbRefIdeal.nD,
          r.2.mem ((c.tc : Thread Cert.FfbRefIdeal.nD Cert.FfbRefIdeal.τ).loc Cert.FfbRefIdeal.main_v48) = v0 c
          ∧ r.2.mem ((c.tc : Thread Cert.FfbRefIdeal.nD Cert.FfbRefIdeal.τ).loc Cert.FfbRefIdeal.main_v49) = v1 c
          ∧ r.2.mem ((c.tc : Thread Cert.FfbRefIdeal.nD Cert.FfbRefIdeal.τ).loc Cert.FfbRefIdeal.main_v50) = v2 c
          ∧ r.2.mem ((c.tc : Thread Cert.FfbRefIdeal.nD Cert.FfbRefIdeal.τ).loc Cert.FfbRefIdeal.main_v51) = v3 c
          ∧ r.2.mem ((c.tc : Thread Cert.FfbRefIdeal.nD Cert.FfbRefIdeal.τ).loc Cert.FfbRefIdeal.main_v52) = v4 c
          ∧ r.2.mem ((c.tc : Thread Cert.FfbRefIdeal.nD Cert.FfbRefIdeal.τ).loc Cert.FfbRefIdeal.main_arg0) = m' ((c.tc : Thread Cert.FfbRefIdeal.nD Cert.FfbRefIdeal.τ).loc Cert.FfbRefIdeal.main_arg0)
          ∧ r.2.mem ((c.tc : Thread Cert.FfbRefIdeal.nD Cert.FfbRefIdeal.τ).loc Cert.FfbRefIdeal.main_arg1) = m' ((c.tc : Thread Cert.FfbRefIdeal.nD Cert.FfbRefIdeal.τ).loc Cert.FfbRefIdeal.main_arg1)
          ∧ r.2.mem ((c.tc : Thread Cert.FfbRefIdeal.nD Cert.FfbRefIdeal.τ).loc Cert.FfbRefIdeal.main_arg2) = m' ((c.tc : Thread Cert.FfbRefIdeal.nD Cert.FfbRefIdeal.τ).loc Cert.FfbRefIdeal.main_arg2)
          ∧ r.2.mem ((c.tc : Thread Cert.FfbRefIdeal.nD Cert.FfbRefIdeal.τ).loc Cert.FfbRefIdeal.main_arg3) = m' ((c.tc : Thread Cert.FfbRefIdeal.nD Cert.FfbRefIdeal.τ).loc Cert.FfbRefIdeal.main_arg3)
          ∧ r.2.mem ((c.tc : Thread Cert.FfbRefIdeal.nD Cert.FfbRefIdeal.τ).loc Cert.FfbRefIdeal.main_arg4) = m' ((c.tc : Thread Cert.FfbRefIdeal.nD Cert.FfbRefIdeal.τ).loc Cert.FfbRefIdeal.main_arg4)
          ∧ r.2.mem ((c.tc : Thread Cert.FfbRefIdeal.nD Cert.FfbRefIdeal.τ).loc Cert.FfbRefIdeal.main_arg5) = m' ((c.tc : Thread Cert.FfbRefIdeal.nD Cert.FfbRefIdeal.τ).loc Cert.FfbRefIdeal.main_arg5))

def preserves_WgA_WgAIdeal : Prop :=
  True

def algebraic_WgAIdeal_WgARefIdeal [hWgAIdeal : Cert.WgAIdeal.Facts] [hWgARefIdeal : Cert.WgARefIdeal.Facts] : Prop :=
  ∀ (m : (ℓ : Loc Cert.WgAIdeal.nD Cert.WgAIdeal.τ Cert.WgAIdeal.sig) → Buf (Elt Ideal) ℓ) (g : Dev Cert.WgAIdeal.nD → PrngReg)
    (m' : (ℓ : Loc Cert.WgARefIdeal.nD Cert.WgARefIdeal.τ Cert.WgARefIdeal.sig) → Buf (Elt Ideal) ℓ) (g' : Dev Cert.WgARefIdeal.nD → PrngReg), Pre_WgAIdeal m →
    (∀ c : Dev Cert.WgAIdeal.nD,
      m' ((c.tc : Thread Cert.WgARefIdeal.nD Cert.WgARefIdeal.τ).loc Cert.WgARefIdeal.main_arg0) = m ((c.tc : Thread Cert.WgAIdeal.nD Cert.WgAIdeal.τ).loc Cert.WgAIdeal.main_arg0)
      ∧ m' ((c.tc : Thread Cert.WgARefIdeal.nD Cert.WgARefIdeal.τ).loc Cert.WgARefIdeal.main_arg1) = m ((c.tc : Thread Cert.WgAIdeal.nD Cert.WgAIdeal.τ).loc Cert.WgAIdeal.main_arg1)) →
    ∃ (v0 : (c : Dev Cert.WgAIdeal.nD) → Buf (Elt Ideal) ((c.tc : Thread Cert.WgAIdeal.nD Cert.WgAIdeal.τ).loc Cert.WgAIdeal.main_v0)),
      θ_run (Cert.WgAIdeal.defs (F := Ideal)) (onTc (τ := Cert.WgAIdeal.τ) (Cert.WgAIdeal.main (F := Ideal))) ⟨m, fun _ => 0, g⟩ (fun r => ∀ c : Dev Cert.WgAIdeal.nD,
          r.2.mem ((c.tc : Thread Cert.WgAIdeal.nD Cert.WgAIdeal.τ).loc Cert.WgAIdeal.main_v0) = v0 c
          ∧ r.2.mem ((c.tc : Thread Cert.WgAIdeal.nD Cert.WgAIdeal.τ).loc Cert.WgAIdeal.main_arg0) = m ((c.tc : Thread Cert.WgAIdeal.nD Cert.WgAIdeal.τ).loc Cert.WgAIdeal.main_arg0)
          ∧ r.2.mem ((c.tc : Thread Cert.WgAIdeal.nD Cert.WgAIdeal.τ).loc Cert.WgAIdeal.main_arg1) = m ((c.tc : Thread Cert.WgAIdeal.nD Cert.WgAIdeal.τ).loc Cert.WgAIdeal.main_arg1))
      ∧ θ_run (Cert.WgARefIdeal.defs (F := Ideal)) (onTc (τ := Cert.WgARefIdeal.τ) (Cert.WgARefIdeal.main (F := Ideal))) ⟨m', fun _ => 0, g'⟩ (fun r => ∀ c : Dev Cert.WgARefIdeal.nD,
          r.2.mem ((c.tc : Thread Cert.WgARefIdeal.nD Cert.WgARefIdeal.τ).loc Cert.WgARefIdeal.main_v6) = v0 c
          ∧ r.2.mem ((c.tc : Thread Cert.WgARefIdeal.nD Cert.WgARefIdeal.τ).loc Cert.WgARefIdeal.main_arg0) = m' ((c.tc : Thread Cert.WgARefIdeal.nD Cert.WgARefIdeal.τ).loc Cert.WgARefIdeal.main_arg0)
          ∧ r.2.mem ((c.tc : Thread Cert.WgARefIdeal.nD Cert.WgARefIdeal.τ).loc Cert.WgARefIdeal.main_arg1) = m' ((c.tc : Thread Cert.WgARefIdeal.nD Cert.WgARefIdeal.τ).loc Cert.WgARefIdeal.main_arg1))

def preserves_WgB_WgBIdeal : Prop :=
  True

def algebraic_WgBIdeal_WgBRefIdeal [hWgBIdeal : Cert.WgBIdeal.Facts] [hWgBRefIdeal : Cert.WgBRefIdeal.Facts] : Prop :=
  ∀ (m : (ℓ : Loc Cert.WgBIdeal.nD Cert.WgBIdeal.τ Cert.WgBIdeal.sig) → Buf (Elt Ideal) ℓ) (g : Dev Cert.WgBIdeal.nD → PrngReg)
    (m' : (ℓ : Loc Cert.WgBRefIdeal.nD Cert.WgBRefIdeal.τ Cert.WgBRefIdeal.sig) → Buf (Elt Ideal) ℓ) (g' : Dev Cert.WgBRefIdeal.nD → PrngReg), Pre_WgBIdeal m →
    (∀ c : Dev Cert.WgBIdeal.nD,
      m' ((c.tc : Thread Cert.WgBRefIdeal.nD Cert.WgBRefIdeal.τ).loc Cert.WgBRefIdeal.main_arg0) = m ((c.tc : Thread Cert.WgBIdeal.nD Cert.WgBIdeal.τ).loc Cert.WgBIdeal.main_arg0)
      ∧ m' ((c.tc : Thread Cert.WgBRefIdeal.nD Cert.WgBRefIdeal.τ).loc Cert.WgBRefIdeal.main_arg1) = m ((c.tc : Thread Cert.WgBIdeal.nD Cert.WgBIdeal.τ).loc Cert.WgBIdeal.main_arg1)) →
    ∃ (v0 : (c : Dev Cert.WgBIdeal.nD) → Buf (Elt Ideal) ((c.tc : Thread Cert.WgBIdeal.nD Cert.WgBIdeal.τ).loc Cert.WgBIdeal.main_v0)),
      θ_run (Cert.WgBIdeal.defs (F := Ideal)) (onTc (τ := Cert.WgBIdeal.τ) (Cert.WgBIdeal.main (F := Ideal))) ⟨m, fun _ => 0, g⟩ (fun r => ∀ c : Dev Cert.WgBIdeal.nD,
          r.2.mem ((c.tc : Thread Cert.WgBIdeal.nD Cert.WgBIdeal.τ).loc Cert.WgBIdeal.main_v0) = v0 c
          ∧ r.2.mem ((c.tc : Thread Cert.WgBIdeal.nD Cert.WgBIdeal.τ).loc Cert.WgBIdeal.main_arg0) = m ((c.tc : Thread Cert.WgBIdeal.nD Cert.WgBIdeal.τ).loc Cert.WgBIdeal.main_arg0)
          ∧ r.2.mem ((c.tc : Thread Cert.WgBIdeal.nD Cert.WgBIdeal.τ).loc Cert.WgBIdeal.main_arg1) = m ((c.tc : Thread Cert.WgBIdeal.nD Cert.WgBIdeal.τ).loc Cert.WgBIdeal.main_arg1))
      ∧ θ_run (Cert.WgBRefIdeal.defs (F := Ideal)) (onTc (τ := Cert.WgBRefIdeal.τ) (Cert.WgBRefIdeal.main (F := Ideal))) ⟨m', fun _ => 0, g'⟩ (fun r => ∀ c : Dev Cert.WgBRefIdeal.nD,
          r.2.mem ((c.tc : Thread Cert.WgBRefIdeal.nD Cert.WgBRefIdeal.τ).loc Cert.WgBRefIdeal.main_v5) = v0 c
          ∧ r.2.mem ((c.tc : Thread Cert.WgBRefIdeal.nD Cert.WgBRefIdeal.τ).loc Cert.WgBRefIdeal.main_arg0) = m' ((c.tc : Thread Cert.WgBRefIdeal.nD Cert.WgBRefIdeal.τ).loc Cert.WgBRefIdeal.main_arg0)
          ∧ r.2.mem ((c.tc : Thread Cert.WgBRefIdeal.nD Cert.WgBRefIdeal.τ).loc Cert.WgBRefIdeal.main_arg1) = m' ((c.tc : Thread Cert.WgBRefIdeal.nD Cert.WgBRefIdeal.τ).loc Cert.WgBRefIdeal.main_arg1))

def preserves_WgC_WgCIdeal : Prop :=
  True

def algebraic_WgCIdeal_WgCRefIdeal [hWgCIdeal : Cert.WgCIdeal.Facts] [hWgCRefIdeal : Cert.WgCRefIdeal.Facts] : Prop :=
  ∀ (m : (ℓ : Loc Cert.WgCIdeal.nD Cert.WgCIdeal.τ Cert.WgCIdeal.sig) → Buf (Elt Ideal) ℓ) (g : Dev Cert.WgCIdeal.nD → PrngReg)
    (m' : (ℓ : Loc Cert.WgCRefIdeal.nD Cert.WgCRefIdeal.τ Cert.WgCRefIdeal.sig) → Buf (Elt Ideal) ℓ) (g' : Dev Cert.WgCRefIdeal.nD → PrngReg), Pre_WgCIdeal m →
    (∀ c : Dev Cert.WgCIdeal.nD,
      m' ((c.tc : Thread Cert.WgCRefIdeal.nD Cert.WgCRefIdeal.τ).loc Cert.WgCRefIdeal.main_arg0) = m ((c.tc : Thread Cert.WgCIdeal.nD Cert.WgCIdeal.τ).loc Cert.WgCIdeal.main_arg0)
      ∧ m' ((c.tc : Thread Cert.WgCRefIdeal.nD Cert.WgCRefIdeal.τ).loc Cert.WgCRefIdeal.main_arg1) = m ((c.tc : Thread Cert.WgCIdeal.nD Cert.WgCIdeal.τ).loc Cert.WgCIdeal.main_arg1)) →
    ∃ (v0 : (c : Dev Cert.WgCIdeal.nD) → Buf (Elt Ideal) ((c.tc : Thread Cert.WgCIdeal.nD Cert.WgCIdeal.τ).loc Cert.WgCIdeal.main_v0)),
      θ_run (Cert.WgCIdeal.defs (F := Ideal)) (onTc (τ := Cert.WgCIdeal.τ) (Cert.WgCIdeal.main (F := Ideal))) ⟨m, fun _ => 0, g⟩ (fun r => ∀ c : Dev Cert.WgCIdeal.nD,
          r.2.mem ((c.tc : Thread Cert.WgCIdeal.nD Cert.WgCIdeal.τ).loc Cert.WgCIdeal.main_v0) = v0 c
          ∧ r.2.mem ((c.tc : Thread Cert.WgCIdeal.nD Cert.WgCIdeal.τ).loc Cert.WgCIdeal.main_arg0) = m ((c.tc : Thread Cert.WgCIdeal.nD Cert.WgCIdeal.τ).loc Cert.WgCIdeal.main_arg0)
          ∧ r.2.mem ((c.tc : Thread Cert.WgCIdeal.nD Cert.WgCIdeal.τ).loc Cert.WgCIdeal.main_arg1) = m ((c.tc : Thread Cert.WgCIdeal.nD Cert.WgCIdeal.τ).loc Cert.WgCIdeal.main_arg1))
      ∧ θ_run (Cert.WgCRefIdeal.defs (F := Ideal)) (onTc (τ := Cert.WgCRefIdeal.τ) (Cert.WgCRefIdeal.main (F := Ideal))) ⟨m', fun _ => 0, g'⟩ (fun r => ∀ c : Dev Cert.WgCRefIdeal.nD,
          r.2.mem ((c.tc : Thread Cert.WgCRefIdeal.nD Cert.WgCRefIdeal.τ).loc Cert.WgCRefIdeal.main_v6) = v0 c
          ∧ r.2.mem ((c.tc : Thread Cert.WgCRefIdeal.nD Cert.WgCRefIdeal.τ).loc Cert.WgCRefIdeal.main_arg0) = m' ((c.tc : Thread Cert.WgCRefIdeal.nD Cert.WgCRefIdeal.τ).loc Cert.WgCRefIdeal.main_arg0)
          ∧ r.2.mem ((c.tc : Thread Cert.WgCRefIdeal.nD Cert.WgCRefIdeal.τ).loc Cert.WgCRefIdeal.main_arg1) = m' ((c.tc : Thread Cert.WgCRefIdeal.nD Cert.WgCRefIdeal.τ).loc Cert.WgCRefIdeal.main_arg1))

def preserves_WgD_WgDIdeal : Prop :=
  True

def algebraic_WgDIdeal_WgDRefIdeal [hWgDIdeal : Cert.WgDIdeal.Facts] [hWgDRefIdeal : Cert.WgDRefIdeal.Facts] : Prop :=
  ∀ (m : (ℓ : Loc Cert.WgDIdeal.nD Cert.WgDIdeal.τ Cert.WgDIdeal.sig) → Buf (Elt Ideal) ℓ) (g : Dev Cert.WgDIdeal.nD → PrngReg)
    (m' : (ℓ : Loc Cert.WgDRefIdeal.nD Cert.WgDRefIdeal.τ Cert.WgDRefIdeal.sig) → Buf (Elt Ideal) ℓ) (g' : Dev Cert.WgDRefIdeal.nD → PrngReg), Pre_WgDIdeal m →
    (∀ c : Dev Cert.WgDIdeal.nD,
      m' ((c.tc : Thread Cert.WgDRefIdeal.nD Cert.WgDRefIdeal.τ).loc Cert.WgDRefIdeal.main_arg0) = m ((c.tc : Thread Cert.WgDIdeal.nD Cert.WgDIdeal.τ).loc Cert.WgDIdeal.main_arg0)
      ∧ m' ((c.tc : Thread Cert.WgDRefIdeal.nD Cert.WgDRefIdeal.τ).loc Cert.WgDRefIdeal.main_arg1) = m ((c.tc : Thread Cert.WgDIdeal.nD Cert.WgDIdeal.τ).loc Cert.WgDIdeal.main_arg1)) →
    ∃ (v0 : (c : Dev Cert.WgDIdeal.nD) → Buf (Elt Ideal) ((c.tc : Thread Cert.WgDIdeal.nD Cert.WgDIdeal.τ).loc Cert.WgDIdeal.main_v0)),
      θ_run (Cert.WgDIdeal.defs (F := Ideal)) (onTc (τ := Cert.WgDIdeal.τ) (Cert.WgDIdeal.main (F := Ideal))) ⟨m, fun _ => 0, g⟩ (fun r => ∀ c : Dev Cert.WgDIdeal.nD,
          r.2.mem ((c.tc : Thread Cert.WgDIdeal.nD Cert.WgDIdeal.τ).loc Cert.WgDIdeal.main_v0) = v0 c
          ∧ r.2.mem ((c.tc : Thread Cert.WgDIdeal.nD Cert.WgDIdeal.τ).loc Cert.WgDIdeal.main_arg0) = m ((c.tc : Thread Cert.WgDIdeal.nD Cert.WgDIdeal.τ).loc Cert.WgDIdeal.main_arg0)
          ∧ r.2.mem ((c.tc : Thread Cert.WgDIdeal.nD Cert.WgDIdeal.τ).loc Cert.WgDIdeal.main_arg1) = m ((c.tc : Thread Cert.WgDIdeal.nD Cert.WgDIdeal.τ).loc Cert.WgDIdeal.main_arg1))
      ∧ θ_run (Cert.WgDRefIdeal.defs (F := Ideal)) (onTc (τ := Cert.WgDRefIdeal.τ) (Cert.WgDRefIdeal.main (F := Ideal))) ⟨m', fun _ => 0, g'⟩ (fun r => ∀ c : Dev Cert.WgDRefIdeal.nD,
          r.2.mem ((c.tc : Thread Cert.WgDRefIdeal.nD Cert.WgDRefIdeal.τ).loc Cert.WgDRefIdeal.main_v5) = v0 c
          ∧ r.2.mem ((c.tc : Thread Cert.WgDRefIdeal.nD Cert.WgDRefIdeal.τ).loc Cert.WgDRefIdeal.main_arg0) = m' ((c.tc : Thread Cert.WgDRefIdeal.nD Cert.WgDRefIdeal.τ).loc Cert.WgDRefIdeal.main_arg0)
          ∧ r.2.mem ((c.tc : Thread Cert.WgDRefIdeal.nD Cert.WgDRefIdeal.τ).loc Cert.WgDRefIdeal.main_arg1) = m' ((c.tc : Thread Cert.WgDRefIdeal.nD Cert.WgDRefIdeal.τ).loc Cert.WgDRefIdeal.main_arg1))

def preserves_WgE_WgEIdeal : Prop :=
  True

def algebraic_WgEIdeal_WgERefIdeal [hWgEIdeal : Cert.WgEIdeal.Facts] [hWgERefIdeal : Cert.WgERefIdeal.Facts] : Prop :=
  ∀ (m : (ℓ : Loc Cert.WgEIdeal.nD Cert.WgEIdeal.τ Cert.WgEIdeal.sig) → Buf (Elt Ideal) ℓ) (g : Dev Cert.WgEIdeal.nD → PrngReg)
    (m' : (ℓ : Loc Cert.WgERefIdeal.nD Cert.WgERefIdeal.τ Cert.WgERefIdeal.sig) → Buf (Elt Ideal) ℓ) (g' : Dev Cert.WgERefIdeal.nD → PrngReg), Pre_WgEIdeal m →
    (∀ c : Dev Cert.WgEIdeal.nD,
      m' ((c.tc : Thread Cert.WgERefIdeal.nD Cert.WgERefIdeal.τ).loc Cert.WgERefIdeal.main_arg0) = m ((c.tc : Thread Cert.WgEIdeal.nD Cert.WgEIdeal.τ).loc Cert.WgEIdeal.main_arg0)
      ∧ m' ((c.tc : Thread Cert.WgERefIdeal.nD Cert.WgERefIdeal.τ).loc Cert.WgERefIdeal.main_arg1) = m ((c.tc : Thread Cert.WgEIdeal.nD Cert.WgEIdeal.τ).loc Cert.WgEIdeal.main_arg1)) →
    ∃ (v0 : (c : Dev Cert.WgEIdeal.nD) → Buf (Elt Ideal) ((c.tc : Thread Cert.WgEIdeal.nD Cert.WgEIdeal.τ).loc Cert.WgEIdeal.main_v0)),
      θ_run (Cert.WgEIdeal.defs (F := Ideal)) (onTc (τ := Cert.WgEIdeal.τ) (Cert.WgEIdeal.main (F := Ideal))) ⟨m, fun _ => 0, g⟩ (fun r => ∀ c : Dev Cert.WgEIdeal.nD,
          r.2.mem ((c.tc : Thread Cert.WgEIdeal.nD Cert.WgEIdeal.τ).loc Cert.WgEIdeal.main_v0) = v0 c
          ∧ r.2.mem ((c.tc : Thread Cert.WgEIdeal.nD Cert.WgEIdeal.τ).loc Cert.WgEIdeal.main_arg0) = m ((c.tc : Thread Cert.WgEIdeal.nD Cert.WgEIdeal.τ).loc Cert.WgEIdeal.main_arg0)
          ∧ r.2.mem ((c.tc : Thread Cert.WgEIdeal.nD Cert.WgEIdeal.τ).loc Cert.WgEIdeal.main_arg1) = m ((c.tc : Thread Cert.WgEIdeal.nD Cert.WgEIdeal.τ).loc Cert.WgEIdeal.main_arg1))
      ∧ θ_run (Cert.WgERefIdeal.defs (F := Ideal)) (onTc (τ := Cert.WgERefIdeal.τ) (Cert.WgERefIdeal.main (F := Ideal))) ⟨m', fun _ => 0, g'⟩ (fun r => ∀ c : Dev Cert.WgERefIdeal.nD,
          r.2.mem ((c.tc : Thread Cert.WgERefIdeal.nD Cert.WgERefIdeal.τ).loc Cert.WgERefIdeal.main_v5) = v0 c
          ∧ r.2.mem ((c.tc : Thread Cert.WgERefIdeal.nD Cert.WgERefIdeal.τ).loc Cert.WgERefIdeal.main_arg0) = m' ((c.tc : Thread Cert.WgERefIdeal.nD Cert.WgERefIdeal.τ).loc Cert.WgERefIdeal.main_arg0)
          ∧ r.2.mem ((c.tc : Thread Cert.WgERefIdeal.nD Cert.WgERefIdeal.τ).loc Cert.WgERefIdeal.main_arg1) = m' ((c.tc : Thread Cert.WgERefIdeal.nD Cert.WgERefIdeal.τ).loc Cert.WgERefIdeal.main_arg1))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)) →
    ∃ (v0 : (c : Dev Cert.FfnFIdeal.nD) → Buf (Elt Ideal) ((c.tc : Thread Cert.FfnFIdeal.nD Cert.FfnFIdeal.τ).loc Cert.FfnFIdeal.main_v6_0)) (v1 : (c : Dev Cert.FfnFIdeal.nD) → Buf (Elt Ideal) ((c.tc : Thread Cert.FfnFIdeal.nD Cert.FfnFIdeal.τ).loc Cert.FfnFIdeal.main_v6_1)) (v2 : (c : Dev Cert.FfnFIdeal.nD) → Buf (Elt Ideal) ((c.tc : Thread Cert.FfnFIdeal.nD Cert.FfnFIdeal.τ).loc Cert.FfnFIdeal.main_v6_2)) (v3 : (c : Dev Cert.FfnFIdeal.nD) → Buf (Elt Ideal) ((c.tc : Thread Cert.FfnFIdeal.nD Cert.FfnFIdeal.τ).loc Cert.FfnFIdeal.main_v6_3)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v6_0) = v0 c
          ∧ r.2.mem ((c.tc : Thread Cert.FfnFIdeal.nD Cert.FfnFIdeal.τ).loc Cert.FfnFIdeal.main_v6_1) = v1 c
          ∧ r.2.mem ((c.tc : Thread Cert.FfnFIdeal.nD Cert.FfnFIdeal.τ).loc Cert.FfnFIdeal.main_v6_2) = v2 c
          ∧ r.2.mem ((c.tc : Thread Cert.FfnFIdeal.nD Cert.FfnFIdeal.τ).loc Cert.FfnFIdeal.main_v6_3) = v3 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v18) = v0 c
          ∧ r.2.mem ((c.tc : Thread Cert.FfnFRefIdeal.nD Cert.FfnFRefIdeal.τ).loc Cert.FfnFRefIdeal.main_v19) = v1 c
          ∧ r.2.mem ((c.tc : Thread Cert.FfnFRefIdeal.nD Cert.FfnFRefIdeal.τ).loc Cert.FfnFRefIdeal.main_v20) = v2 c
          ∧ r.2.mem ((c.tc : Thread Cert.FfnFRefIdeal.nD Cert.FfnFRefIdeal.τ).loc Cert.FfnFRefIdeal.main_v21) = v3 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4))

def preserves_InBx_InBxIdeal : Prop :=
  True

def algebraic_InBxIdeal_InBxRefIdeal_pre_finite_in [hInBxIdeal : Cert.InBxIdeal.Facts] [hInBxRefIdeal : Cert.InBxRefIdeal.Facts] [hPre_finite_in : Cert.Pre_finite_in.Facts] : Prop :=
  ∀ (m : (ℓ : Loc Cert.InBxIdeal.nD Cert.InBxIdeal.τ Cert.InBxIdeal.sig) → Buf (Elt Ideal) ℓ) (g : Dev Cert.InBxIdeal.nD → PrngReg)
    (m' : (ℓ : Loc Cert.InBxRefIdeal.nD Cert.InBxRefIdeal.τ Cert.InBxRefIdeal.sig) → Buf (Elt Ideal) ℓ) (g' : Dev Cert.InBxRefIdeal.nD → PrngReg), Pre_InBxIdeal_finite_in m →
    (∀ c : Dev Cert.InBxIdeal.nD,
      m' ((c.tc : Thread Cert.InBxRefIdeal.nD Cert.InBxRefIdeal.τ).loc Cert.InBxRefIdeal.main_arg0) = m ((c.tc : Thread Cert.InBxIdeal.nD Cert.InBxIdeal.τ).loc Cert.InBxIdeal.main_arg0)
      ∧ m' ((c.tc : Thread Cert.InBxRefIdeal.nD Cert.InBxRefIdeal.τ).loc Cert.InBxRefIdeal.main_arg1) = m ((c.tc : Thread Cert.InBxIdeal.nD Cert.InBxIdeal.τ).loc Cert.InBxIdeal.main_arg1)
      ∧ m' ((c.tc : Thread Cert.InBxRefIdeal.nD Cert.InBxRefIdeal.τ).loc Cert.InBxRefIdeal.main_arg2) = m ((c.tc : Thread Cert.InBxIdeal.nD Cert.InBxIdeal.τ).loc Cert.InBxIdeal.main_arg2)
      ∧ m' ((c.tc : Thread Cert.InBxRefIdeal.nD Cert.InBxRefIdeal.τ).loc Cert.InBxRefIdeal.main_arg3) = m ((c.tc : Thread Cert.InBxIdeal.nD Cert.InBxIdeal.τ).loc Cert.InBxIdeal.main_arg3)
      ∧ m' ((c.tc : Thread Cert.InBxRefIdeal.nD Cert.InBxRefIdeal.τ).loc Cert.InBxRefIdeal.main_arg4) = m ((c.tc : Thread Cert.InBxIdeal.nD Cert.InBxIdeal.τ).loc Cert.InBxIdeal.main_arg4)) →
    ∃ (v0 : (c : Dev Cert.InBxIdeal.nD) → Buf (Elt Ideal) ((c.tc : Thread Cert.InBxIdeal.nD Cert.InBxIdeal.τ).loc Cert.InBxIdeal.main_v3_0)) (v1 : (c : Dev Cert.InBxIdeal.nD) → Buf (Elt Ideal) ((c.tc : Thread Cert.InBxIdeal.nD Cert.InBxIdeal.τ).loc Cert.InBxIdeal.main_v3_1)),
      θ_run (Cert.InBxIdeal.defs (F := Ideal)) (onTc (τ := Cert.InBxIdeal.τ) (Cert.InBxIdeal.main (F := Ideal))) ⟨m, fun _ => 0, g⟩ (fun r => ∀ c : Dev Cert.InBxIdeal.nD,
          r.2.mem ((c.tc : Thread Cert.InBxIdeal.nD Cert.InBxIdeal.τ).loc Cert.InBxIdeal.main_v3_0) = v0 c
          ∧ r.2.mem ((c.tc : Thread Cert.InBxIdeal.nD Cert.InBxIdeal.τ).loc Cert.InBxIdeal.main_v3_1) = v1 c
          ∧ r.2.mem ((c.tc : Thread Cert.InBxIdeal.nD Cert.InBxIdeal.τ).loc Cert.InBxIdeal.main_arg0) = m ((c.tc : Thread Cert.InBxIdeal.nD Cert.InBxIdeal.τ).loc Cert.InBxIdeal.main_arg0)
          ∧ r.2.mem ((c.tc : Thread Cert.InBxIdeal.nD Cert.InBxIdeal.τ).loc Cert.InBxIdeal.main_arg1) = m ((c.tc : Thread Cert.InBxIdeal.nD Cert.InBxIdeal.τ).loc Cert.InBxIdeal.main_arg1)
          ∧ r.2.mem ((c.tc : Thread Cert.InBxIdeal.nD Cert.InBxIdeal.τ).loc Cert.InBxIdeal.main_arg2) = m ((c.tc : Thread Cert.InBxIdeal.nD Cert.InBxIdeal.τ).loc Cert.InBxIdeal.main_arg2)
          ∧ r.2.mem ((c.tc : Thread Cert.InBxIdeal.nD Cert.InBxIdeal.τ).loc Cert.InBxIdeal.main_arg3) = m ((c.tc : Thread Cert.InBxIdeal.nD Cert.InBxIdeal.τ).loc Cert.InBxIdeal.main_arg3)
          ∧ r.2.mem ((c.tc : Thread Cert.InBxIdeal.nD Cert.InBxIdeal.τ).loc Cert.InBxIdeal.main_arg4) = m ((c.tc : Thread Cert.InBxIdeal.nD Cert.InBxIdeal.τ).loc Cert.InBxIdeal.main_arg4))
      ∧ θ_run (Cert.InBxRefIdeal.defs (F := Ideal)) (onTc (τ := Cert.InBxRefIdeal.τ) (Cert.InBxRefIdeal.main (F := Ideal))) ⟨m', fun _ => 0, g'⟩ (fun r => ∀ c : Dev Cert.InBxRefIdeal.nD,
          r.2.mem ((c.tc : Thread Cert.InBxRefIdeal.nD Cert.InBxRefIdeal.τ).loc Cert.InBxRefIdeal.main_v39) = v0 c
          ∧ r.2.mem ((c.tc : Thread Cert.InBxRefIdeal.nD Cert.InBxRefIdeal.τ).loc Cert.InBxRefIdeal.main_v40) = v1 c
          ∧ r.2.mem ((c.tc : Thread Cert.InBxRefIdeal.nD Cert.InBxRefIdeal.τ).loc Cert.InBxRefIdeal.main_arg0) = m' ((c.tc : Thread Cert.InBxRefIdeal.nD Cert.InBxRefIdeal.τ).loc Cert.InBxRefIdeal.main_arg0)
          ∧ r.2.mem ((c.tc : Thread Cert.InBxRefIdeal.nD Cert.InBxRefIdeal.τ).loc Cert.InBxRefIdeal.main_arg1) = m' ((c.tc : Thread Cert.InBxRefIdeal.nD Cert.InBxRefIdeal.τ).loc Cert.InBxRefIdeal.main_arg1)
          ∧ r.2.mem ((c.tc : Thread Cert.InBxRefIdeal.nD Cert.InBxRefIdeal.τ).loc Cert.InBxRefIdeal.main_arg2) = m' ((c.tc : Thread Cert.InBxRefIdeal.nD Cert.InBxRefIdeal.τ).loc Cert.InBxRefIdeal.main_arg2)
          ∧ r.2.mem ((c.tc : Thread Cert.InBxRefIdeal.nD Cert.InBxRefIdeal.τ).loc Cert.InBxRefIdeal.main_arg3) = m' ((c.tc : Thread Cert.InBxRefIdeal.nD Cert.InBxRefIdeal.τ).loc Cert.InBxRefIdeal.main_arg3)
          ∧ r.2.mem ((c.tc : Thread Cert.InBxRefIdeal.nD Cert.InBxRefIdeal.τ).loc Cert.InBxRefIdeal.main_arg4) = m' ((c.tc : Thread Cert.InBxRefIdeal.nD Cert.InBxRefIdeal.τ).loc Cert.InBxRefIdeal.main_arg4))

def preserves_Sgu_SguIdeal : Prop :=
  IdealRules.named_const.Statement Cert.SguIdeal.κ "cubic" .f32 0x3D372713#32 ((8943 / 200000 : ℝ) : EReal)
  ∧ IdealRules.named_const.Statement Cert.SguIdeal.κ "cubic3" .f32 0x3E095D4F#32 ((26829 / 200000 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v12_0)) (v1 : (c : Dev Cert.SguIdeal.nD) → Buf (Elt Ideal) ((c.tc : Thread Cert.SguIdeal.nD Cert.SguIdeal.τ).loc Cert.SguIdeal.main_v12_1)) (v2 : (c : Dev Cert.SguIdeal.nD) → Buf (Elt Ideal) ((c.tc : Thread Cert.SguIdeal.nD Cert.SguIdeal.τ).loc Cert.SguIdeal.main_v12_2)) (v3 : (c : Dev Cert.SguIdeal.nD) → Buf (Elt Ideal) ((c.tc : Thread Cert.SguIdeal.nD Cert.SguIdeal.τ).loc Cert.SguIdeal.main_v12_3)) (v4 : (c : Dev Cert.SguIdeal.nD) → Buf (Elt Ideal) ((c.tc : Thread Cert.SguIdeal.nD Cert.SguIdeal.τ).loc Cert.SguIdeal.main_v12_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v12_0) = v0 c
          ∧ r.2.mem ((c.tc : Thread Cert.SguIdeal.nD Cert.SguIdeal.τ).loc Cert.SguIdeal.main_v12_1) = v1 c
          ∧ r.2.mem ((c.tc : Thread Cert.SguIdeal.nD Cert.SguIdeal.τ).loc Cert.SguIdeal.main_v12_2) = v2 c
          ∧ r.2.mem ((c.tc : Thread Cert.SguIdeal.nD Cert.SguIdeal.τ).loc Cert.SguIdeal.main_v12_3) = v3 c
          ∧ r.2.mem ((c.tc : Thread Cert.SguIdeal.nD Cert.SguIdeal.τ).loc Cert.SguIdeal.main_v12_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v201) = v0 c
          ∧ r.2.mem ((c.tc : Thread Cert.SguRefIdeal.nD Cert.SguRefIdeal.τ).loc Cert.SguRefIdeal.main_v136) = v1 c
          ∧ r.2.mem ((c.tc : Thread Cert.SguRefIdeal.nD Cert.SguRefIdeal.τ).loc Cert.SguRefIdeal.main_v200) = v2 c
          ∧ r.2.mem ((c.tc : Thread Cert.SguRefIdeal.nD Cert.SguRefIdeal.τ).loc Cert.SguRefIdeal.main_v202) = v3 c
          ∧ r.2.mem ((c.tc : Thread Cert.SguRefIdeal.nD Cert.SguRefIdeal.τ).loc Cert.SguRefIdeal.main_v203) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_2)) (v3 : (c : Dev Cert.PleIdeal.nD) → Buf (Elt Ideal) ((c.tc : Thread Cert.PleIdeal.nD Cert.PleIdeal.τ).loc Cert.PleIdeal.main_v5_3)) (v4 : (c : Dev Cert.PleIdeal.nD) → Buf (Elt Ideal) ((c.tc : Thread Cert.PleIdeal.nD Cert.PleIdeal.τ).loc Cert.PleIdeal.main_v5_4)) (v5 : (c : Dev Cert.PleIdeal.nD) → Buf (Elt Ideal) ((c.tc : Thread Cert.PleIdeal.nD Cert.PleIdeal.τ).loc Cert.PleIdeal.main_v5_5)) (v6 : (c : Dev Cert.PleIdeal.nD) → Buf (Elt Ideal) ((c.tc : Thread Cert.PleIdeal.nD Cert.PleIdeal.τ).loc Cert.PleIdeal.main_v5_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_2) = v2 c
          ∧ r.2.mem ((c.tc : Thread Cert.PleIdeal.nD Cert.PleIdeal.τ).loc Cert.PleIdeal.main_v5_3) = v3 c
          ∧ r.2.mem ((c.tc : Thread Cert.PleIdeal.nD Cert.PleIdeal.τ).loc Cert.PleIdeal.main_v5_4) = v4 c
          ∧ r.2.mem ((c.tc : Thread Cert.PleIdeal.nD Cert.PleIdeal.τ).loc Cert.PleIdeal.main_v5_5) = v5 c
          ∧ r.2.mem ((c.tc : Thread Cert.PleIdeal.nD Cert.PleIdeal.τ).loc Cert.PleIdeal.main_v5_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v104) = v0 c
          ∧ r.2.mem ((c.tc : Thread Cert.PleRefIdeal.nD Cert.PleRefIdeal.τ).loc Cert.PleRefIdeal.main_v105) = v1 c
          ∧ r.2.mem ((c.tc : Thread Cert.PleRefIdeal.nD Cert.PleRefIdeal.τ).loc Cert.PleRefIdeal.main_v106) = v2 c
          ∧ r.2.mem ((c.tc : Thread Cert.PleRefIdeal.nD Cert.PleRefIdeal.τ).loc Cert.PleRefIdeal.main_v107) = v3 c
          ∧ r.2.mem ((c.tc : Thread Cert.PleRefIdeal.nD Cert.PleRefIdeal.τ).loc Cert.PleRefIdeal.main_v108) = v4 c
          ∧ r.2.mem ((c.tc : Thread Cert.PleRefIdeal.nD Cert.PleRefIdeal.τ).loc Cert.PleRefIdeal.main_v109) = v5 c
          ∧ r.2.mem ((c.tc : Thread Cert.PleRefIdeal.nD Cert.PleRefIdeal.τ).loc Cert.PleRefIdeal.main_v110) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def Claim : Prop :=
  ∃ (hFfb : Cert.Ffb.Facts) (hFfbIdeal : Cert.FfbIdeal.Facts) (hFfbRefIdeal : Cert.FfbRefIdeal.Facts) (hWgA : Cert.WgA.Facts) (hWgAIdeal : Cert.WgAIdeal.Facts) (hWgARefIdeal : Cert.WgARefIdeal.Facts) (hWgB : Cert.WgB.Facts) (hWgBIdeal : Cert.WgBIdeal.Facts) (hWgBRefIdeal : Cert.WgBRefIdeal.Facts) (hWgC : Cert.WgC.Facts) (hWgCIdeal : Cert.WgCIdeal.Facts) (hWgCRefIdeal : Cert.WgCRefIdeal.Facts) (hWgD : Cert.WgD.Facts) (hWgDIdeal : Cert.WgDIdeal.Facts) (hWgDRefIdeal : Cert.WgDRefIdeal.Facts) (hWgE : Cert.WgE.Facts) (hWgEIdeal : Cert.WgEIdeal.Facts) (hWgERefIdeal : Cert.WgERefIdeal.Facts) (hFfnF : Cert.FfnF.Facts) (hFfnFIdeal : Cert.FfnFIdeal.Facts) (hFfnFRefIdeal : Cert.FfnFRefIdeal.Facts) (hInBx : Cert.InBx.Facts) (hInBxIdeal : Cert.InBxIdeal.Facts) (hInBxRefIdeal : Cert.InBxRefIdeal.Facts) (hSgu : Cert.Sgu.Facts) (hSguIdeal : Cert.SguIdeal.Facts) (hSguRefIdeal : Cert.SguRefIdeal.Facts) (hPle : Cert.Ple.Facts) (hPleIdeal : Cert.PleIdeal.Facts) (hPleRefIdeal : Cert.PleRefIdeal.Facts) (hPre_finite_ffn : Cert.Pre_finite_ffn.Facts) (hPre_finite_in : Cert.Pre_finite_in.Facts) (hPre_finite_sgu : Cert.Pre_finite_sgu.Facts) (hPre_finite_ple : Cert.Pre_finite_ple.Facts),
    quiescent_Ffb (hFfb := hFfb)
    ∧ quiescent_FfbIdeal (hFfbIdeal := hFfbIdeal)
    ∧ quiescent_FfbIdeal_pre_finite_ffn (hFfbIdeal := hFfbIdeal) (hPre_finite_ffn := hPre_finite_ffn)
    ∧ quiescent_FfbRefIdeal (hFfbRefIdeal := hFfbRefIdeal)
    ∧ quiescent_FfbRefIdeal_pre_finite_ffn (hFfbRefIdeal := hFfbRefIdeal) (hPre_finite_ffn := hPre_finite_ffn)
    ∧ quiescent_WgA (hWgA := hWgA)
    ∧ quiescent_WgAIdeal (hWgAIdeal := hWgAIdeal)
    ∧ quiescent_WgARefIdeal (hWgARefIdeal := hWgARefIdeal)
    ∧ quiescent_WgB (hWgB := hWgB)
    ∧ quiescent_WgBIdeal (hWgBIdeal := hWgBIdeal)
    ∧ quiescent_WgBRefIdeal (hWgBRefIdeal := hWgBRefIdeal)
    ∧ quiescent_WgC (hWgC := hWgC)
    ∧ quiescent_WgCIdeal (hWgCIdeal := hWgCIdeal)
    ∧ quiescent_WgCRefIdeal (hWgCRefIdeal := hWgCRefIdeal)
    ∧ quiescent_WgD (hWgD := hWgD)
    ∧ quiescent_WgDIdeal (hWgDIdeal := hWgDIdeal)
    ∧ quiescent_WgDRefIdeal (hWgDRefIdeal := hWgDRefIdeal)
    ∧ quiescent_WgE (hWgE := hWgE)
    ∧ quiescent_WgEIdeal (hWgEIdeal := hWgEIdeal)
    ∧ quiescent_WgERefIdeal (hWgERefIdeal := hWgERefIdeal)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_InBx (hInBx := hInBx)
    ∧ quiescent_InBxIdeal (hInBxIdeal := hInBxIdeal)
    ∧ quiescent_InBxIdeal_pre_finite_in (hInBxIdeal := hInBxIdeal) (hPre_finite_in := hPre_finite_in)
    ∧ quiescent_InBxRefIdeal (hInBxRefIdeal := hInBxRefIdeal)
    ∧ quiescent_InBxRefIdeal_pre_finite_in (hInBxRefIdeal := hInBxRefIdeal) (hPre_finite_in := hPre_finite_in)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ preserves_Ffb_FfbIdeal
    ∧ algebraic_FfbIdeal_FfbRefIdeal_pre_finite_ffn (hFfbIdeal := hFfbIdeal) (hFfbRefIdeal := hFfbRefIdeal) (hPre_finite_ffn := hPre_finite_ffn)
    ∧ preserves_WgA_WgAIdeal
    ∧ algebraic_WgAIdeal_WgARefIdeal (hWgAIdeal := hWgAIdeal) (hWgARefIdeal := hWgARefIdeal)
    ∧ preserves_WgB_WgBIdeal
    ∧ algebraic_WgBIdeal_WgBRefIdeal (hWgBIdeal := hWgBIdeal) (hWgBRefIdeal := hWgBRefIdeal)
    ∧ preserves_WgC_WgCIdeal
    ∧ algebraic_WgCIdeal_WgCRefIdeal (hWgCIdeal := hWgCIdeal) (hWgCRefIdeal := hWgCRefIdeal)
    ∧ preserves_WgD_WgDIdeal
    ∧ algebraic_WgDIdeal_WgDRefIdeal (hWgDIdeal := hWgDIdeal) (hWgDRefIdeal := hWgDRefIdeal)
    ∧ preserves_WgE_WgEIdeal
    ∧ algebraic_WgEIdeal_WgERefIdeal (hWgEIdeal := hWgEIdeal) (hWgERefIdeal := hWgERefIdeal)
    ∧ preserves_FfnF_FfnFIdeal
    ∧ algebraic_FfnFIdeal_FfnFRefIdeal (hFfnFIdeal := hFfnFIdeal) (hFfnFRefIdeal := hFfnFRefIdeal)
    ∧ preserves_InBx_InBxIdeal
    ∧ algebraic_InBxIdeal_InBxRefIdeal_pre_finite_in (hInBxIdeal := hInBxIdeal) (hInBxRefIdeal := hInBxRefIdeal) (hPre_finite_in := hPre_finite_in)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Ple_PleIdeal
    ∧ algebraic_PleIdeal_PleRefIdeal_pre_finite_ple (hPleIdeal := hPleIdeal) (hPleRefIdeal := hPleRefIdeal) (hPre_finite_ple := hPre_finite_ple)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_in.lean ====
abbrev S8192x1024 : Shape := ⟨2, ![8192, 1024]⟩
abbrev S8192x2816 : Shape := ⟨2, ![8192, 2816]⟩
abbrev S1024 : Shape := ⟨1, ![1024]⟩
abbrev S1024x2816 : Shape := ⟨2, ![1024, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg4 : FVec F S1024x2816 .f32) (main_v4 : IVec S_ 1) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : FVec F S1024x2816 .f32 := Host.absf main_arg4
  let main_cst_6 : FVec F S_ .f32 := constant S_ .f32 0x7F800000#32
  let main_v18 : FVec F S1024x2816 .f32 := broadcastInDim S1024x2816 ![] bcast_S_S1024x2816 main_cst_6
  let main_v19 : IVec S1024x2816 1 := cmpf .olt main_v17 main_v18
  let main_c_7 : IVec S_ 1 := constantI S_ 1 1#1
  let main_v20 : IVec S_ 1 := (fun x v => Host.reduce IntOp.andi x v reducesTo_S1024x2816_S_d0_1 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S8192x1024 .f32) (main_arg1 : FVec F S8192x2816 .bf16) (main_arg2 : FVec F S8192x1024 .f32) (main_arg3 : FVec F S1024 .f32) (main_arg4 : FVec F S1024x2816 .f32) : IVec S_ 1 :=
  let main_v0 : FVec F S8192x2816 .f32 := (extf .f32 · bitsLt_bf16_f32) main_arg1
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x2816 .f32 := Host.absf main_v0
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_v4 main_v8 main_v12 main_v15 main_c_5
-- ==== Pre_finite_ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_arg6 : FVec F S1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x256 .f32) (main_arg2 : FVec F S8192x1024 .f32) (main_arg3 : FVec F S1024 .f32) (main_arg4 : FVec F S1024x1024 .f32) (main_arg5 : FVec F S256x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_v3 main_v7 main_v11 main_v15
-- ==== Pre_finite_sgu.lean ====
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v3 : IVec S_ 1) (main_v7 : IVec S_ 1) (main_v11 : IVec S_ 1) (main_v15 : IVec S_ 1) : IVec S_ 1 :=
  let main_v16 : FVec F S256 .f32 := Host.absf main_arg4
  let main_cst_6 : FVec F S_ .f32 := constant S_ .f32 0x7F800000#32
  let main_v17 : FVec F S256 .f32 := broadcastInDim S256 ![] bcast_S_S256 main_cst_6
  let main_v18 : IVec S256 1 := cmpf .olt main_v16 main_v17
  let main_c_7 : IVec S_ 1 := constantI S_ 1 1#1
  let main_v19 : IVec S_ 1 := (fun x v => Host.reduce IntOp.andi x v reducesTo_S256_S_d0 h_S_) main_v18 main_c_7
  let main_v20 : FVec F S256 .f32 := Host.absf main_arg5
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x512 .f32) (main_arg1 : FVec F S8192x256 .f32) (main_arg2 : FVec F S4x128x128 .f32) (main_arg3 : FVec F S4x128 .f32) (main_arg4 : FVec F S256 .f32) (main_arg5 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S4x128x128 .f32 := Host.absf main_arg2
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_v8 main_v9
  let main_c_3 : IVec S_ 1 := constantI S_ 1 1#1
  let main_v11 : IVec S_ 1 := (fun x v => Host.reduce IntOp.andi x v reducesTo_S4x128x128_S_d0_1_2 h_S_) main_v10 main_c_3
  let main_v12 : FVec F S4x128 .f32 := Host.absf main_arg3
  let main_cst_4 : FVec F S_ .f32 := constant S_ .f32 0x7F800000#32
  let main_v13 : FVec F S4x128 .f32 := broadcastInDim S4x128 ![] bcast_S_S4x128 main_cst_4
  let main_v14 : IVec S4x128 1 := cmpf .olt main_v12 main_v13
  let main_c_5 : IVec S_ 1 := constantI S_ 1 1#1
  let main_v15 : IVec S_ 1 := (fun x v => Host.reduce IntOp.andi x v reducesTo_S4x128_S_d0_1 h_S_) main_v14 main_c_5
  fn_part1 (F := F) main_arg4 main_arg5 main_v3 main_v7 main_v11 main_v15
-- ==== Ffb.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩

abbrev nBuf : Space → Nat
  | .hbm => 37
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S1024x2816, .bf16⟩
  | .hbm, ⟨27, _⟩ => ⟨S2816x1024, .bf16⟩
  | .hbm, ⟨28, _⟩ => ⟨S1024x2816, .bf16⟩
  | .hbm, ⟨29, _⟩ => ⟨S2816x1024, .bf16⟩
  | .hbm, ⟨30, _⟩ => ⟨S1x1024, .f32⟩
  | .hbm, ⟨31, _⟩ => ⟨S2816x1024, .bf16⟩
  | .hbm, ⟨32, _⟩ => ⟨S8192x1024, .f32⟩
  | .hbm, ⟨33, _⟩ => ⟨S8192x2816, .bf16⟩
  | .hbm, ⟨34, _⟩ => ⟨S8192x2816, .bf16⟩
  | .hbm, ⟨35, _⟩ => ⟨S8192x2816, .bf16⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfbRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x2816, .bf16⟩
  | .hbm, ⟨80, _⟩ => ⟨S8192x2816, .bf16⟩
  | .hbm, ⟨81, _⟩ => ⟨S8192x2816, .bf16⟩
  | .hbm, ⟨82, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== WgA.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgAIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgARefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgB.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgC.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgCIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgCRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgD.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgDIdeal.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgDRefIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S_, .f32⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgE.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgERefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnF.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S2816x1024, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S2816x1024, .bf16⟩
  | .hbm, ⟨11, _⟩ => ⟨S8192x1024, .f32⟩
  | .hbm, ⟨12, _⟩ => ⟨S8192x2816, .bf16⟩
  | .hbm, ⟨13, _⟩ => ⟨S8192x2816, .bf16⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== InBx.lean ====
abbrev S8192x1024 : Shape := ⟨2, ![8192, 1024]⟩
abbrev S8192x2816 : Shape := ⟨2, ![8192, 2816]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBxRefIdeal.lean ====
abbrev S8192x1024 : Shape := ⟨2, ![8192, 1024]⟩
abbrev S8192x2816 : Shape := ⟨2, ![8192, 2816]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Sgu.lean ====
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S256 : Shape := ⟨1, ![256]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 32
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S4x128x128, .f32⟩
  | .hbm, ⟨3, _⟩ => ⟨S4x128, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S4x128x128, .f32⟩
  | .hbm, ⟨19, _⟩ => ⟨S4x128x128, .f32⟩
  | .hbm, ⟨20, _⟩ => ⟨S4x128x128, .bf16⟩
  | .hbm, ⟨21, _⟩ => ⟨S4x128x128, .bf16⟩
  | .hbm, ⟨22, _⟩ => ⟨S128x4, .f32⟩
  | .hbm, ⟨23, _⟩ => ⟨S128x4x64, .f32⟩
  | .hbm, ⟨24, _⟩ => ⟨S128x256, .f32⟩
  | .hbm, ⟨25, _⟩ => ⟨S1x256, .f32⟩
  | .hbm, ⟨26, _⟩ => ⟨S1x256, .f32⟩
  | .hbm, ⟨27, _⟩ => ⟨S8192x512, .bf16⟩
  | .hbm, ⟨28, _⟩ => ⟨S4x128x128, .f32⟩
  | .hbm, ⟨29, _⟩ => ⟨S128x128, .f32⟩
  | .hbm, ⟨30, _⟩ => ⟨S1x256, .f32⟩
  | .hbm, ⟨31, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S4x128x128, .bf16⟩
  | .local _ .vmem, ⟨5, _⟩ => ⟨S4x128x128, .bf16⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S512x512, .bf16⟩
  | .local _ .vmem, ⟨10, _⟩ => ⟨S512x512, .bf16⟩
  | .local _ .vmem, ⟨11, _⟩ => ⟨S4x128x128, .f32⟩
  | .local _ .vmem, ⟨12, _⟩ => ⟨S128x128, .f32⟩
  | .local _ .vmem, ⟨13, _⟩ => ⟨S1x256, .f32⟩
  | .local _ .vmem, ⟨14, _⟩ => ⟨S1x256, .f32⟩
  | .local _ .vmem, ⟨15, _⟩ => ⟨S128x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v504 : BitVec 1 := Scalar.cmpi .eq arg0 c15_i32
  let v505 : BitVec 32 := Scalar.extui v504
  let c0_i32_313 : BitVec 32 := 0#32
  let v506 : BitVec 1 := Scalar.cmpi .ne v505 c0_i32_313
  v506

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== SguRefIdeal.lean ====
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 274
  | .vmem => 0
  | .smem => 0
  | _ => 0

abbrev hbmTy0_0 (i : Nat) : BufTy := match i % 128 with
  | 0 => ⟨S8192x512, .f32⟩
  | 1 => ⟨S8192x256, .f32⟩
  | 2 => ⟨S4x128x128, .f32⟩
  | 3 => ⟨S4x128, .f32⟩
  | 4 => ⟨S256, .f32⟩
  | 5 => ⟨S256, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S_, .f32⟩
  | 53 => ⟨S8192x256, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S_, .f32⟩
  | 60 => ⟨S8192x256, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S_, .f32⟩
  | 67 => ⟨S8192x256, .f32⟩
  | 68 => ⟨S8192x256, .f32⟩
  | 69 => ⟨S8192x256, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x256, .f32⟩
  | 89 => ⟨S8192x256, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S8192x256, .f32⟩
  | 100 => ⟨S1x256, .f32⟩
  | 101 => ⟨S8192x256, .f32⟩
  | 102 => ⟨S8192x256, .f32⟩
  | 103 => ⟨S64x128x4x64, .f32⟩
  | 104 => ⟨S_, .f32⟩
  | 105 => ⟨S128x128, .f32⟩
  | 106 => ⟨S128x128, .i32⟩
  | 107 => ⟨S_, .i32⟩
  | 108 => ⟨S128x128, .i32⟩
  | 109 => ⟨S128x128, .i32⟩
  | 110 => ⟨S128x128, .i32⟩
  | 111 => ⟨S128x128, .i1⟩
  | 112 => ⟨S_, .f32⟩
  | 113 => ⟨S128x128, .f32⟩
  | 114 => ⟨S128x128, .f32⟩
  | 115 => ⟨S1x128x128, .f32⟩
  | 116 => ⟨S4x128x128, .f32⟩
  | 117 => ⟨S4x128x128, .f32⟩
  | 118 => ⟨S4x64x64x128, .f32⟩
  | 119 => ⟨S64x128x4x64, .f32⟩
  | 120 => ⟨S128x4, .f32⟩
  | 121 => ⟨S1x128x4x1, .f32⟩
  | 122 => ⟨S64x128x4x64, .f32⟩
  | 123 => ⟨S64x128x4x64, .f32⟩
  | 124 => ⟨S8192x256, .f32⟩
  | 125 => ⟨S8192x256, .f32⟩
  | 126 => ⟨S8192x256, .f32⟩
  | 127 => ⟨S_, .f32⟩
  | _ => ⟨S8192x512, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x256, .f32⟩
  | 14 => ⟨S8192x256, .f32⟩
  | 15 => ⟨S1x256, .f32⟩
  | 16 => ⟨S8192x256, .f32⟩
  | 17 => ⟨S8192x256, .f32⟩
  | 18 => ⟨S8192x256, .f32⟩
  | 19 => ⟨S_, .f32⟩
  | 20 => ⟨S256, .f32⟩
  | 21 => ⟨S1x256, .f32⟩
  | 22 => ⟨S8192x256, .f32⟩
  | 23 => ⟨S8192x256, .f32⟩
  | 24 => ⟨S_, .f32⟩
  | 25 => ⟨S256, .f32⟩
  | 26 => ⟨S8192x256, .f32⟩
  | 27 => ⟨S_, .f32⟩
  | 28 => ⟨S8192, .f32⟩
  | 29 => ⟨S8192x1, .f32⟩
  | 30 => ⟨S8192x256, .f32⟩
  | 31 => ⟨S8192x256, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S64x128x4x64, .f32⟩
  | 46 => ⟨S_, .f32⟩
  | 47 => ⟨S128x4, .f32⟩
  | 48 => ⟨S1x128x4x1, .f32⟩
  | 49 => ⟨S_, .f32⟩
  | 50 => ⟨S128x4, .f32⟩
  | 51 => ⟨S4x128, .f32⟩
  | 52 => ⟨S4x64x64x128, .f32⟩
  | 53 => ⟨S4x128x128, .f32⟩
  | 54 => ⟨S4x64x64x128, .f32⟩
  | 55 => ⟨S64x128x4x64, .f32⟩
  | 56 => ⟨S4x128x128, .f32⟩
  | 57 => ⟨S4x128x128, .f32⟩
  | 58 => ⟨S8192x256, .f32⟩
  | 59 => ⟨S8192x256, .f32⟩
  | 60 => ⟨S_, .f32⟩
  | 61 => ⟨S256, .f32⟩
  | 62 => ⟨S1x256, .f32⟩
  | 63 => ⟨S8192x256, .f32⟩
  | 64 => ⟨S8192x256, .f32⟩
  | 65 => ⟨S_, .f32⟩
  | 66 => ⟨S256, .f32⟩
  | 67 => ⟨S8192x256, .f32⟩
  | 68 => ⟨S_, .f32⟩
  | 69 => ⟨S8192, .f32⟩
  | 70 => ⟨S8192x1, .f32⟩
  | 71 => ⟨S8192x256, .f32⟩
  | 72 => ⟨S8192x256, .f32⟩
  | 73 => ⟨S8192x1, .f32⟩
  | 74 => ⟨S8192x256, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192, .f32⟩
  | 83 => ⟨S8192x256, .f32⟩
  | 84 => ⟨S8192x256, .f32⟩
  | 85 => ⟨S8192x256, .f32⟩
  | 86 => ⟨S_, .f32⟩
  | 87 => ⟨S8192, .f32⟩
  | 88 => ⟨S8192x1, .f32⟩
  | 89 => ⟨S8192x256, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192, .f32⟩
  | 96 => ⟨S8192x256, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_2 (i : Nat) : BufTy := match i % 128 with
  | 0 => ⟨S8192x256, .f32⟩
  | 1 => ⟨S_, .f32⟩
  | 2 => ⟨S8192x256, .f32⟩
  | 3 => ⟨S8192x256, .f32⟩
  | 4 => ⟨S8192x256, .f32⟩
  | 5 => ⟨S8192x256, .f32⟩
  | 6 => ⟨S_, .f32⟩
  | 7 => ⟨S8192x512, .f32⟩
  | 8 => ⟨S_, .f32⟩
  | 9 => ⟨S8192x512, .f32⟩
  | 10 => ⟨S8192x512, .f32⟩
  | 11 => ⟨S128x4, .f32⟩
  | 12 => ⟨S_, .i32⟩
  | 13 => ⟨S_, .f32⟩
  | 14 => ⟨S128x128, .f32⟩
  | 15 => ⟨S8192x512, .bf16⟩
  | 16 => ⟨S1x256, .f32⟩
  | 17 => ⟨S1x256, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_22 : Ref sig .tc := ⟨.hbm, 104, rfl⟩
abbrev main_v75 : Ref sig .tc := ⟨.hbm, 105, rfl⟩
abbrev main_call0_v0 : Ref sig .tc := ⟨.hbm, 106, rfl⟩
abbrev main_call0_c : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_cst : Ref sig .tc := ⟨.hbm, 112, rfl⟩
abbrev main_call0_v5 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_23 : Ref sig .tc := ⟨.hbm, 127, rfl⟩
abbrev main_v89 : Ref sig .tc := ⟨.hbm, 128, rfl⟩
abbrev main_v90 : Ref sig .tc := ⟨.hbm, 129, rfl⟩
abbrev main_cst_24 : Ref sig .tc := ⟨.hbm, 130, rfl⟩
abbrev main_v91 : Ref sig .tc := ⟨.hbm, 131, rfl⟩
abbrev main_v92 : Ref sig .tc := ⟨.hbm, 132, rfl⟩
abbrev main_cst_25 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_26 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_27 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_28 : Ref sig .tc := ⟨.hbm, 152, rfl⟩
abbrev main_v109 : Ref sig .tc := ⟨.hbm, 153, rfl⟩
abbrev main_v110 : Ref sig .tc := ⟨.hbm, 154, rfl⟩
abbrev main_cst_29 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_30 : Ref sig .tc := ⟨.hbm, 161, rfl⟩
abbrev main_v116 : Ref sig .tc := ⟨.hbm, 162, rfl⟩
abbrev main_v117 : Ref sig .tc := ⟨.hbm, 163, rfl⟩
abbrev main_cst_31 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_32 : Ref sig .tc := ⟨.hbm, 174, rfl⟩
abbrev main_v127 : Ref sig .tc := ⟨.hbm, 175, rfl⟩
abbrev main_v128 : Ref sig .tc := ⟨.hbm, 176, rfl⟩
abbrev main_cst_33 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_34 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_35 : Ref sig .tc := ⟨.hbm, 193, rfl⟩
abbrev main_v143 : Ref sig .tc := ⟨.hbm, 194, rfl⟩
abbrev main_v144 : Ref sig .tc := ⟨.hbm, 195, rfl⟩
abbrev main_cst_36 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_37 : Ref sig .tc := ⟨.hbm, 203, rfl⟩
abbrev main_v151 : Ref sig .tc := ⟨.hbm, 204, rfl⟩
abbrev main_v152 : Ref sig .tc := ⟨.hbm, 205, rfl⟩
abbrev main_cst_38 : Ref sig .tc := ⟨.hbm, 206, rfl⟩
abbrev main_v153 : Ref sig .tc := ⟨.hbm, 207, rfl⟩
abbrev main_v154 : Ref sig .tc := ⟨.hbm, 208, rfl⟩
abbrev main_cst_39 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_40 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_41 : Ref sig .tc := ⟨.hbm, 219, rfl⟩
abbrev main_v163 : Ref sig .tc := ⟨.hbm, 220, rfl⟩
abbrev main_v164 : Ref sig .tc := ⟨.hbm, 221, rfl⟩
abbrev main_cst_42 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_43 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_44 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_45 : Ref sig .tc := ⟨.hbm, 236, rfl⟩
abbrev main_v176 : Ref sig .tc := ⟨.hbm, 237, rfl⟩
abbrev main_v177 : Ref sig .tc := ⟨.hbm, 238, rfl⟩
abbrev main_cst_46 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst_47 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_48 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_cst_49 : Ref sig .tc := ⟨.hbm, 254, rfl⟩
abbrev main_v190 : Ref sig .tc := ⟨.hbm, 255, rfl⟩
abbrev main_v191 : Ref sig .tc := ⟨.hbm, 256, rfl⟩
abbrev main_cst_50 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_51 : Ref sig .tc := ⟨.hbm, 262, rfl⟩
abbrev main_v196 : Ref sig .tc := ⟨.hbm, 263, rfl⟩
abbrev main_cst_52 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_c : Ref sig .tc := ⟨.hbm, 268, rfl⟩
abbrev main_call1_v0 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1024x256, .bf16⟩
  | .hbm, ⟨11, _⟩ => ⟨S1x1024, .f32⟩
  | .hbm, ⟨12, _⟩ => ⟨S1x128, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1024x256, .bf16⟩
  | .local _ .vmem, ⟨9, _⟩ => ⟨S1x1024, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1024, .f32⟩
  | 4 => ⟨S1024x1024, .f32⟩
  | 5 => ⟨S256x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S1x128, .f32⟩
  | 13 => ⟨S8192x1024, .f32⟩
  | 14 => ⟨S8192x1024, .bf16⟩
  | 15 => ⟨S8192x1024, .bf16⟩
  | 16 => ⟨S8192x1024, .bf16⟩
  | 17 => ⟨S1x1024, .f32⟩
  | 18 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_26 : Ref sig .tc := ⟨.hbm, 130, rfl⟩
abbrev main_v96 : Ref sig .tc := ⟨.hbm, 131, rfl⟩
abbrev main_v97 : Ref sig .tc := ⟨.hbm, 132, rfl⟩
abbrev main_cst_27 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩

abbrev nD : Nat := 1
abbrev τ : Topo := Topo.v7x

variable {F : FTy → Type} [FloatOps F]
-- ==== Proof.Lift.lean ====
/- Extended reals that are finite, computed with as reals: sums, quotients, the reciprocal square root, the logistic
   function, the literals of the kernels; and what a test of finiteness over a whole array says entry by entry. -/
module

public import Idealize.ShloMosaic.Lib.Pointwise
public import Idealize.ShloMosaic.Lib.IdealHost
public import Idealize.ShloMosaic.PureOps.Ideal
public import Idealize.ShloMosaic.Lib.ValueIdx
public import Idealize.ShloMosaic.Lib.StableHlo
public import Idealize.ShloMosaic.Lib.ReduceAll

@[expose] public section

noncomputable section

open Idealize.ShloMosaic

namespace Cert.Lift

/-- The `1e-6` of the two normalisations, as its f32 literal. -/
def eps : ℝ := 8796093 / 2 ^ 43

theorem eps_pos : 0 < eps := by unfold eps; positivity

theorem lit_eps : Ideal.ofBits .f32 0x358637BD#32 = ((eps : ℝ) : EReal) := by
  simp [Ideal.ofBits, Ideal.ieee, eps, -EReal.coe_mul]; norm_num

theorem lit_1024 : Ideal.ofBits .f32 0x44800000#32 = ((1024 : ℝ) : EReal) := by
  simp [Ideal.ofBits, Ideal.ieee, -EReal.coe_mul]; norm_num

theorem lit_256 : Ideal.ofBits .f32 0x43800000#32 = ((256 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem one_eq : (1 : EReal) = ((1 : ℝ) : EReal) := rfl

theorem zero_eq : (0 : EReal) = ((0 : ℝ) : EReal) := rfl

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe {y : ℝ} (h : y ≠ 0) (x : ℝ) : Ideal.div (x : EReal) (y : EReal) = ((x / y : ℝ) : EReal) := by
  rw [Ideal.div_coe h, ← EReal.coe_mul]; congr 1; ring

theorem div_1024 (x : ℝ) : Ideal.div (x : EReal) ((1024 : ℝ) : EReal) = ((x / 1024 : ℝ) : EReal) := div_coe (by norm_num) x

theorem div_256 (x : ℝ) : Ideal.div (x : EReal) ((256 : ℝ) : EReal) = ((x / 256 : ℝ) : EReal) := div_coe (by norm_num) x

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The mean square of a row, plus `eps`. -/
def msq {n : ℕ} (N : ℝ) (h : Fin n → ℝ) : ℝ := (∑ i, h i * h i) / N + eps

theorem msq_pos {n : ℕ} {N : ℝ} (hN : 0 < N) (h : Fin n → ℝ) : 0 < msq N h := by
  unfold msq
  have h0 : 0 ≤ ∑ i, h i * h i := Finset.sum_nonneg fun i _ => mul_self_nonneg (h i)
  have := eps_pos
  positivity

/-- The reciprocal root of the mean square of a row. -/
def rinv {n : ℕ} (N : ℝ) (h : Fin n → ℝ) : ℝ := (Real.sqrt (msq N h))⁻¹

theorem rinv_mul_self {n : ℕ} {N : ℝ} (hN : 0 < N) (h : Fin n → ℝ) : rinv N h * rinv N h = (msq N h)⁻¹ := by
  unfold rinv
  rw [← mul_inv, Real.mul_self_sqrt (msq_pos hN h).le]

theorem rsqrt_msq {n : ℕ} {N : ℝ} (hN : 0 < N) (h : Fin n → ℝ) :
    Ideal.rsqrt (((∑ i, h i * h i) / N + eps : ℝ) : EReal) = ((rinv N h : ℝ) : EReal) :=
  rsqrt_pos (msq_pos hN h)

theorem div_msq {n : ℕ} {N : ℝ} (hN : 0 < N) (h : Fin n → ℝ) (x : ℝ) :
    Ideal.div (x : EReal) (((∑ i, h i * h i) / N + eps : ℝ) : EReal) = ((x / msq N h : ℝ) : EReal) :=
  div_coe (msq_pos hN h).ne' x

/-- The logistic function. -/
def logi (x : ℝ) : ℝ := (1 + Real.exp (-x))⁻¹

theorem logistic_eq (x : ℝ) : Ideal.logistic (x : EReal) = ((logi x : ℝ) : EReal) := Ideal.logistic_coe x

theorem host_logistic (x : ℝ) : Ideal.div ((1 : ℝ) : EReal) (((1 : ℝ) : EReal) + Ideal.exp (-(x : EReal))) = ((logi x : ℝ) : EReal) := by
  rw [← EReal.coe_neg, Ideal.exp_coe, ← EReal.coe_add, div_coe (by positivity)]
  unfold logi
  rw [one_div]

/-! ## A test of finiteness -/

theorem lt_top_of_abs {x : EReal} (h : max x (-x) < ⊤) : x = ((x.toReal : ℝ) : EReal) := by
  refine (EReal.coe_toReal ?_ ?_).symm
  · rintro rfl; simp at h
  · rintro rfl; simp at h

theorem lit_inf : Ideal.ofBits .f32 0x7F800000#32 = (⊤ : EReal) := by
  simp [Ideal.ofBits, Ideal.ieee]

/-- An array whose every magnitude was found below infinity has real entries. -/
theorem real_of_all {s t u w : Shape} {axes : List (Fin s.rank)} [Subsingleton t.Idx] (x : FVec Ideal s .f32)
    (dims : Fin w.rank → Fin s.rank) (hb : w.BroadcastsInDim s dims) (init : IVec u 1) (h : s.ReducesTo axes t) (hu : 0 < u.numel) (j : t.Idx)
    (e : Host.reduce IntOp.andi (cmpf .olt (Host.absf x) (broadcastInDim s dims hb (constant (F := Ideal) w .f32 0x7F800000#32))) init h hu j = 1#1)
    (i : s.Idx) : x i = (((x i : EReal).toReal : ℝ) : EReal) := by
  have h1 := Host.reduce_andi_all _ _ _ _ j e i
  have h2 : Ideal.cmp .olt (max (x i : EReal) (-(x i : EReal))) (Ideal.ofBits .f32 0x7F800000#32) = 1#1 := h1
  rw [lit_inf] at h2
  refine lt_top_of_abs ?_
  by_contra hn
  simp [Ideal.cmp, hn] at h2

end Cert.Lift

end
-- ==== Proof.Strips.lean ====
/- The three strips of columns the feed-forward kernels work on: loads and stores of a strip, and sums taken strip by strip. -/
module

public import Idealize.ShloMosaic.Lib.Pointwise
public import Idealize.ShloMosaic.Lib.ValueIdx
public import Idealize.ShloMosaic.PureOps.Ideal
public import Idealize.ShloMosaic.Lib.Pipeline.ValueKit.Acc
public import Idealize.ShloMosaic.Lib.Pipeline.ValueKit.Tiles

@[expose] public section

noncomputable section

open Idealize.ShloMosaic

namespace Cert.Ffn

/-- The strips are 1024, 1024 and 768 wide. -/
def c0 (j : Fin 1024) : Fin 2816 := ⟨j.val, by omega⟩
def c1 (j : Fin 1024) : Fin 2816 := ⟨1024 + j.val, by omega⟩
def c2 (j : Fin 768) : Fin 2816 := ⟨2048 + j.val, by omega⟩

theorem sum_strips {M : Type} [AddCommMonoid M] (f : Fin 2816 → M) : ∑ j, f j = ∑ j, f (c0 j) + ∑ j, f (c1 j) + ∑ j, f (c2 j) := by
  show ∑ j : Fin (1024 + 1024 + 768), f j = _
  rw [Fin.sum_univ_add, Fin.sum_univ_add]
  rfl

/-- A load of a block of rows `o0, o0 + 1, …` and columns `o1, o1 + 1, …`. -/
theorem ld_at {n0 n1 : ℕ} {e : EltTy} (X : (⟨2, ![n0, n1]⟩ : Shape).Idx → Elt Ideal e) (o0 o1 s0 s1 : ℕ)
    (inb : ∀ b, (![o0, o1] : Fin 2 → ℕ) b + (![s0, s1] : Fin 2 → ℕ) b ≤ (⟨2, ![n0, n1]⟩ : Shape).size b) (r : Fin s0) (k : Fin s1) (r' : Fin n0) (k' : Fin n1)
    (hr : r'.val = o0 + r.val) (hk : k'.val = o1 + k.val) :
    View.ld X (Rect.unit ![o0, o1] ![s0, s1] inb) (ix2 r k) = X (ix2 r' k') :=
  View.ld_unit_apply_of X _ _ inb _ _ fun b => by
    match b with
    | ⟨0, _⟩ => exact hr
    | ⟨1, _⟩ => exact hk

/-- Three stores side by side, read back: one function of the whole block. -/
theorem canon_strips {R : ℕ}
    (i0 : ∀ b, (![0, 0] : Fin 2 → ℕ) b + (![R, 1024] : Fin 2 → ℕ) b ≤ (⟨2, ![R, 2816]⟩ : Shape).size b)
    (i1 : ∀ b, (![0, 1024] : Fin 2 → ℕ) b + (![R, 1024] : Fin 2 → ℕ) b ≤ (⟨2, ![R, 2816]⟩ : Shape).size b)
    (i2 : ∀ b, (![0, 2048] : Fin 2 → ℕ) b + (![R, 768] : Fin 2 → ℕ) b ≤ (⟨2, ![R, 2816]⟩ : Shape).size b)
    (p0 p1 : (⟨2, ![R, 1024]⟩ : Shape).Idx → EReal) (p2 : (⟨2, ![R, 768]⟩ : Shape).Idx → EReal) (f : Fin R → Fin 2816 → EReal)
    (h0 : ∀ r j, p0 (ix2 r j) = f r (c0 j)) (h1 : ∀ r j, p1 (ix2 r j) = f r (c1 j)) (h2 : ∀ r j, p2 (ix2 r j) = f r (c2 j)) (r : Fin R) (k : Fin 2816) :
    (View.canon (Val := Elt Ideal) (e := .bf16) (s := (⟨2, ![R, 2816]⟩ : Shape)) [⟨Rect.unit ![0, 2048] ![R, 768] i2, p2⟩,
      ⟨Rect.unit ![0, 1024] ![R, 1024] i1, p1⟩, ⟨Rect.unit ![0, 0] ![R, 1024] i0, p0⟩] (ix2 r k) : EReal) = f r k := by
  refine View.canon_eq_of_allAt _ _ _ ?_ ?_
  · by_cases h : k.val < 1024
    · exact ⟨_, List.mem_cons_of_mem _ (List.mem_cons_of_mem _ List.mem_cons_self), (Rect.mem_set_unit (inb := i0)).mpr fun b => by
        match b with
        | ⟨0, _⟩ => exact ⟨Nat.zero_le _, by show r.val < 0 + R; omega⟩
        | ⟨1, _⟩ => exact ⟨Nat.zero_le _, by show k.val < 0 + 1024; omega⟩⟩
    · by_cases h' : k.val < 2048
      · exact ⟨_, List.mem_cons_of_mem _ List.mem_cons_self, (Rect.mem_set_unit (inb := i1)).mpr fun b => by
          match b with
          | ⟨0, _⟩ => exact ⟨Nat.zero_le _, by show r.val < 0 + R; omega⟩
          | ⟨1, _⟩ => exact ⟨by show 1024 ≤ k.val; omega, by show k.val < 1024 + 1024; omega⟩⟩
      · exact ⟨_, List.mem_cons_self, (Rect.mem_set_unit (inb := i2)).mpr fun b => by
          match b with
          | ⟨0, _⟩ => exact ⟨Nat.zero_le _, by show r.val < 0 + R; omega⟩
          | ⟨1, _⟩ => exact ⟨by show 2048 ≤ k.val; omega, by show k.val < 2048 + 768; omega⟩⟩
  · refine View.allAt_cons_unit _ _ _ _ _ (fun x hx => ?_) (View.allAt_cons_unit _ _ _ _ _ (fun x hx => ?_)
      (View.allAt_cons_unit _ _ _ _ _ (fun x hx => ?_) (View.allAt_nil _ _)))
    · refine ((congrArg p2 (eq_ix2 x)).trans (h2 (x 0) (x 1))).trans ?_
      have e0 : r.val = 0 + (x 0).val := hx 0
      have e1 : k.val = 2048 + (x 1).val := hx 1
      exact congrArg₂ f (Fin.ext (by omega)) (Fin.ext (by show 2048 + (x 1).val = _; omega))
    · refine ((congrArg p1 (eq_ix2 x)).trans (h1 (x 0) (x 1))).trans ?_
      have e0 : r.val = 0 + (x 0).val := hx 0
      have e1 : k.val = 1024 + (x 1).val := hx 1
      exact congrArg₂ f (Fin.ext (by omega)) (Fin.ext (by show 1024 + (x 1).val = _; omega))
    · refine ((congrArg p0 (eq_ix2 x)).trans (h0 (x 0) (x 1))).trans ?_
      have e0 : r.val = 0 + (x 0).val := hx 0
      have e1 : k.val = 0 + (x 1).val := hx 1
      exact congrArg₂ f (Fin.ext (by omega)) (Fin.ext (by show (x 1).val = _; omega))

end Cert.Ffn

end
-- ==== Proof.FfnSpec.lean ====
/- The backward pass of a gated feed-forward layer under an RMS normalisation, as functions of real arrays: for every row the
   values that the layer computes and their derivatives. Both the kernel and the reference are read against these. -/
module

public import proofs.«01_k».proof.Proof.Lift
public import proofs.«01_k».proof.Proof.Strips

@[expose] public section

noncomputable section

open Idealize.ShloMosaic Cert.Lift

namespace Cert.Ffn

/-- The derivative `d` of the layer's result, the layer's input `h`, the gain `g` and the three weights. -/
structure Args where
  d : Fin 8192 → Fin 1024 → ℝ
  h : Fin 8192 → Fin 1024 → ℝ
  g : Fin 1024 → ℝ
  wg : Fin 1024 → Fin 2816 → ℝ
  wu : Fin 1024 → Fin 2816 → ℝ
  wd : Fin 2816 → Fin 1024 → ℝ

/-- `x * sigma(x)` times `u`. -/
def actS (x u : ℝ) : ℝ := x * logi x * u
/-- The derivative of `actS` in `u`, times `a`. -/
def dupS (a x : ℝ) : ℝ := a * (x * logi x)
/-- The derivative of `actS` in `x`, times `a`. -/
def dgateS (a x u : ℝ) : ℝ := a * u * (logi x * (1 + x * (1 - logi x)))

variable (a : Args) (i : Fin 8192)

def r : ℝ := rinv 1024 (a.h i)
def nrm (k : Fin 1024) : ℝ := a.h i k * r a i
def gate (j : Fin 2816) : ℝ := ∑ k, nrm a i k * a.g k * a.wg k j
def up (j : Fin 2816) : ℝ := ∑ k, nrm a i k * a.g k * a.wu k j
def dact (j : Fin 2816) : ℝ := ∑ k, a.d i k * a.wd j k
def act (j : Fin 2816) : ℝ := actS (gate a i j) (up a i j)
def dup (j : Fin 2816) : ℝ := dupS (dact a i j) (gate a i j)
def dgate (j : Fin 2816) : ℝ := dgateS (dact a i j) (gate a i j) (up a i j)
/-- The derivative at the normalised row times the gain. -/
def dhn (k : Fin 1024) : ℝ := ∑ j, dgate a i j * a.wg k j + ∑ j, dup a i j * a.wu k j
/-- The derivative at the input: what passes by the layer, and what comes back through the normalisation. -/
def dh (k : Fin 1024) : ℝ :=
  a.d i k + r a i * (dhn a i k * a.g k - nrm a i k * ((∑ l, dhn a i l * a.g l * nrm a i l) / 1024))
/-- The derivative at the gain. -/
def dgain (k : Fin 1024) : ℝ := ∑ i, dhn a i k * nrm a i k

/-- The derivative at the normalised row, strip by strip. -/
theorem dhn_strips (k : Fin 1024) : dhn a i k =
    0 + (∑ j, dgate a i (c0 j) * a.wg k (c0 j) + ∑ j, dup a i (c0 j) * a.wu k (c0 j))
      + (∑ j, dgate a i (c1 j) * a.wg k (c1 j) + ∑ j, dup a i (c1 j) * a.wu k (c1 j))
      + (∑ j, dgate a i (c2 j) * a.wg k (c2 j) + ∑ j, dup a i (c2 j) * a.wu k (c2 j)) := by
  unfold dhn
  rw [sum_strips, sum_strips]
  ring

end Cert.Ffn

end
-- ==== Proof.FfbPay.lean ====
/- What the payloads of the feed-forward backward kernel compute on finite entries. The kernel works on three strips of
   columns with the same operations; the payloads of each strip are read into the same real functions. -/
module

public import proofs.«01_k».proof.Proof.Gen.FfbIdeal.Skeleton
public import proofs.«01_k».proof.Proof.FfnSpec

@[expose] public section

set_option maxRecDepth 16384

noncomputable section

open Idealize.ShloMosaic Cert.Lift Cert.Ffn

namespace Cert.FfbIdeal.Pay

open Cert.FfbIdeal Cert.FfbIdeal.Gen

variable (x0 : Vec Ideal S256x1024 .f32) (w : Vec Ideal S1024x1024 .bf16) (g u : Vec Ideal S256x1024 .bf16)
  (w' : Vec Ideal S768x1024 .bf16) (g' u' : Vec Ideal S256x768 .bf16)

/-! ## `act`, `dup` and `dgate`, strip by strip -/

theorem act0 (r : Fin 256) (j : Fin 1024) {G U : ℝ} (hg : g (ix2 r j) = (G : EReal)) (hu : u (ix2 r j) = (U : EReal)) :
    k0_pay10 (F := Ideal) g u (ix2 r j) = ((actS G U : ℝ) : EReal) := by
  pointwise [k0_pay12, k0_pay11, k0_pay10, k0_pay9, k0_pay8, k0_pay7, k0_pay6, k0_pay4, k0_pay2]
  simp only [hg, hu, logistic_eq, ← EReal.coe_mul]
  rfl

theorem dup0 (r : Fin 256) (j : Fin 1024) {G : ℝ} {D W : Fin 1024 → ℝ} (hx : ∀ k, x0 (ix2 r k) = (D k : EReal))
    (hw : ∀ k, w (ix2 j k) = (W k : EReal)) (hg : g (ix2 r j) = (G : EReal)) :
    k0_pay11 (F := Ideal) x0 w g (ix2 r j) = ((dupS (∑ k, D k * W k) G : ℝ) : EReal) := by
  pointwise [k0_pay12, k0_pay11, k0_pay10, k0_pay9, k0_pay8, k0_pay7, k0_pay6, k0_pay4, k0_pay2]
  simp only [hx, hw, hg, logistic_eq, zero_add, sum_coe, ← EReal.coe_mul]
  rfl

theorem dgate0 (r : Fin 256) (j : Fin 1024) {G U : ℝ} {D W : Fin 1024 → ℝ} (hx : ∀ k, x0 (ix2 r k) = (D k : EReal))
    (hw : ∀ k, w (ix2 j k) = (W k : EReal)) (hg : g (ix2 r j) = (G : EReal)) (hu : u (ix2 r j) = (U : EReal)) :
    k0_pay12 (F := Ideal) x0 w g u (ix2 r j) = ((dgateS (∑ k, D k * W k) G U : ℝ) : EReal) := by
  pointwise [k0_pay12, k0_pay11, k0_pay10, k0_pay9, k0_pay8, k0_pay7, k0_pay6, k0_pay4, k0_pay2]
  simp only [hx, hw, hg, hu, logistic_eq, zero_add, one_eq, sum_coe, ← EReal.coe_mul, ← EReal.coe_add, ← EReal.coe_sub]
  congr 1
  unfold dgateS
  ring

theorem act1 (r : Fin 256) (j : Fin 1024) {G U : ℝ} (hg : g (ix2 r j) = (G : EReal)) (hu : u (ix2 r j) = (U : EReal)) :
    k0_pay19 (F := Ideal) g u (ix2 r j) = ((actS G U : ℝ) : EReal) := by
  pointwise [k0_pay21, k0_pay20, k0_pay19, k0_pay18, k0_pay17, k0_pay16, k0_pay15, k0_pay5, k0_pay2]
  simp only [hg, hu, logistic_eq, ← EReal.coe_mul]
  rfl

theorem dup1 (r : Fin 256) (j : Fin 1024) {G : ℝ} {D W : Fin 1024 → ℝ} (hx : ∀ k, x0 (ix2 r k) = (D k : EReal))
    (hw : ∀ k, w (ix2 j k) = (W k : EReal)) (hg : g (ix2 r j) = (G : EReal)) :
    k0_pay20 (F := Ideal) (k0_pay5 x0 w) g (ix2 r j) = ((dupS (∑ k, D k * W k) G : ℝ) : EReal) := by
  pointwise [k0_pay21, k0_pay20, k0_pay19, k0_pay18, k0_pay17, k0_pay16, k0_pay15, k0_pay5, k0_pay2]
  simp only [hx, hw, hg, logistic_eq, zero_add, sum_coe, ← EReal.coe_mul]
  rfl

theorem dgate1 (r : Fin 256) (j : Fin 1024) {G U : ℝ} {D W : Fin 1024 → ℝ} (hx : ∀ k, x0 (ix2 r k) = (D k : EReal))
    (hw : ∀ k, w (ix2 j k) = (W k : EReal)) (hg : g (ix2 r j) = (G : EReal)) (hu : u (ix2 r j) = (U : EReal)) :
    k0_pay21 (F := Ideal) (k0_pay5 x0 w) g u (ix2 r j) = ((dgateS (∑ k, D k * W k) G U : ℝ) : EReal) := by
  pointwise [k0_pay21, k0_pay20, k0_pay19, k0_pay18, k0_pay17, k0_pay16, k0_pay15, k0_pay5, k0_pay2]
  simp only [hx, hw, hg, hu, logistic_eq, zero_add, one_eq, sum_coe, ← EReal.coe_mul, ← EReal.coe_add, ← EReal.coe_sub]
  congr 1
  unfold dgateS
  ring

theorem act2 (r : Fin 256) (j : Fin 768) {G U : ℝ} (hg : g' (ix2 r j) = (G : EReal)) (hu : u' (ix2 r j) = (U : EReal)) :
    k0_pay27 (F := Ideal) g' u' (ix2 r j) = ((actS G U : ℝ) : EReal) := by
  pointwise [k0_pay29, k0_pay28, k0_pay27, k0_pay26, k0_pay25, k0_pay24, k0_pay23, k0_pay14, k0_pay2]
  simp only [hg, hu, logistic_eq, ← EReal.coe_mul]
  rfl

theorem dup2 (r : Fin 256) (j : Fin 768) {G : ℝ} {D W : Fin 1024 → ℝ} (hx : ∀ k, x0 (ix2 r k) = (D k : EReal))
    (hw : ∀ k, w' (ix2 j k) = (W k : EReal)) (hg : g' (ix2 r j) = (G : EReal)) :
    k0_pay28 (F := Ideal) (k0_pay14 (k0_pay2 x0) w') g' (ix2 r j) = ((dupS (∑ k, D k * W k) G : ℝ) : EReal) := by
  pointwise [k0_pay29, k0_pay28, k0_pay27, k0_pay26, k0_pay25, k0_pay24, k0_pay23, k0_pay14, k0_pay2]
  simp only [hx, hw, hg, logistic_eq, zero_add, sum_coe, ← EReal.coe_mul]
  rfl

theorem dgate2 (r : Fin 256) (j : Fin 768) {G U : ℝ} {D W : Fin 1024 → ℝ} (hx : ∀ k, x0 (ix2 r k) = (D k : EReal))
    (hw : ∀ k, w' (ix2 j k) = (W k : EReal)) (hg : g' (ix2 r j) = (G : EReal)) (hu : u' (ix2 r j) = (U : EReal)) :
    k0_pay29 (F := Ideal) (k0_pay14 (k0_pay2 x0) w') g' u' (ix2 r j) = ((dgateS (∑ k, D k * W k) G U : ℝ) : EReal) := by
  pointwise [k0_pay29, k0_pay28, k0_pay27, k0_pay26, k0_pay25, k0_pay24, k0_pay23, k0_pay14, k0_pay2]
  simp only [hx, hw, hg, hu, logistic_eq, zero_add, one_eq, sum_coe, ← EReal.coe_mul, ← EReal.coe_add, ← EReal.coe_sub]
  congr 1
  unfold dgateS
  ring

/-! ## The derivative at the normalised row: a sum of two products for every strip -/

theorem zero3 (r : Fin 256) (k : Fin 1024) : k0_pay3 (F := Ideal) (ix2 r k) = ((0 : ℝ) : EReal) := by
  pointwise [k0_pay3]
  rfl

theorem add0 (v5 : Vec Ideal S256x1024 .f32) (a b : Vec Ideal S256x1024 .bf16) (p q : Vec Ideal S1024x1024 .bf16) (r : Fin 256) (k : Fin 1024)
    {S : ℝ} {A B P Q : Fin 1024 → ℝ} (h5 : v5 (ix2 r k) = (S : EReal)) (ha : ∀ j, a (ix2 r j) = (A j : EReal)) (hb : ∀ j, b (ix2 r j) = (B j : EReal))
    (hp : ∀ j, p (ix2 j k) = (P j : EReal)) (hq : ∀ j, q (ix2 j k) = (Q j : EReal)) :
    k0_pay13 (F := Ideal) v5 a b p q (ix2 r k) = ((S + (∑ j, B j * P j + ∑ j, A j * Q j) : ℝ) : EReal) := by
  pointwise [k0_pay13]
  simp only [h5, ha, hb, hp, hq, zero_add, sum_coe, ← EReal.coe_mul, ← EReal.coe_add]

theorem add1 (v5 : Vec Ideal S256x1024 .f32) (a b : Vec Ideal S256x1024 .bf16) (p q : Vec Ideal S1024x1024 .bf16) (r : Fin 256) (k : Fin 1024)
    {S : ℝ} {A B P Q : Fin 1024 → ℝ} (h5 : v5 (ix2 r k) = (S : EReal)) (ha : ∀ j, a (ix2 r j) = (A j : EReal)) (hb : ∀ j, b (ix2 r j) = (B j : EReal))
    (hp : ∀ j, p (ix2 j k) = (P j : EReal)) (hq : ∀ j, q (ix2 j k) = (Q j : EReal)) :
    k0_pay22 (F := Ideal) v5 a b p q (ix2 r k) = ((S + (∑ j, B j * P j + ∑ j, A j * Q j) : ℝ) : EReal) := by
  pointwise [k0_pay22]
  simp only [h5, ha, hb, hp, hq, zero_add, sum_coe, ← EReal.coe_mul, ← EReal.coe_add]

theorem add2 (v5 : Vec Ideal S256x1024 .f32) (a b : Vec Ideal S256x768 .bf16) (p q : Vec Ideal S768x1024 .bf16) (r : Fin 256) (k : Fin 1024)
    {S : ℝ} {A B P Q : Fin 768 → ℝ} (h5 : v5 (ix2 r k) = (S : EReal)) (ha : ∀ j, a (ix2 r j) = (A j : EReal)) (hb : ∀ j, b (ix2 r j) = (B j : EReal))
    (hp : ∀ j, p (ix2 j k) = (P j : EReal)) (hq : ∀ j, q (ix2 j k) = (Q j : EReal)) :
    k0_pay31 (F := Ideal) v5 a b (k0_pay30 p) q (ix2 r k) = ((S + (∑ j, B j * P j + ∑ j, A j * Q j) : ℝ) : EReal) := by
  pointwise [k0_pay31, k0_pay30]
  simp only [h5, ha, hb, hp, hq, zero_add, sum_coe, ← EReal.coe_mul, ← EReal.coe_add]

/-! ## The normalisation -/

theorem pay32_coe (x1 : Vec Ideal S256x1024 .f32) (r : Fin 256) {H : Fin 1024 → ℝ} (hh : ∀ k, x1 (ix2 r k) = (H k : EReal)) (z : Fin 1) :
    k0_pay32 (F := Ideal) x1 (ix2 r z) = ((rinv 1024 H : ℝ) : EReal) := by
  pointwise [k0_pay32]
  simp only [hh, zero_add, lit_1024, lit_eps, sum_coe, ← EReal.coe_mul, div_1024, ← EReal.coe_add]
  exact rsqrt_msq (by norm_num) H

theorem pay33_coe (x1 : Vec Ideal S256x1024 .f32) (r : Fin 256) (k : Fin 1024) {H : Fin 1024 → ℝ} (hh : ∀ k, x1 (ix2 r k) = (H k : EReal)) :
    k0_pay33 (F := Ideal) x1 (ix2 r k) = ((H k * rinv 1024 H : ℝ) : EReal) := by
  pointwise [k0_pay33]
  simp only [hh, pay32_coe x1 r hh, ← EReal.coe_mul]

/-- The last two payloads take the operands of the last strip's sum; here that sum is one array. -/
theorem pay35_coe (x0 : Vec Ideal S256x1024 .f32) (v78 : Vec Ideal S256x1024 .f32) (a b : Vec Ideal S256x768 .bf16) (p q : Vec Ideal S768x1024 .bf16)
    (x1 : Vec Ideal S256x1024 .f32) (x4 : Vec Ideal S1x1024 .f32) (r : Fin 256) (k : Fin 1024) {D H E Γ : Fin 1024 → ℝ}
    (h0 : ∀ k, x0 (ix2 r k) = (D k : EReal)) (h1 : ∀ k, x1 (ix2 r k) = (H k : EReal)) (h4 : ∀ k, x4 (ix2 0 k) = (Γ k : EReal))
    (hE : ∀ k, k0_pay31 (F := Ideal) v78 a b (k0_pay30 p) q (ix2 r k) = (E k : EReal)) :
    k0_pay35 (F := Ideal) x0 v78 a b (k0_pay30 p) q x1 x4 (ix2 r k)
      = ((D k + rinv 1024 H * (E k * Γ k - H k * rinv 1024 H * ((∑ l, E l * Γ l * (H l * rinv 1024 H)) / 1024)) : ℝ) : EReal) := by
  pointwise [k0_pay35]
  simp only [hE, h0, h4, pay32_coe x1 r h1, pay33_coe x1 r _ h1, zero_add, lit_1024, sum_coe, ← EReal.coe_mul, div_1024, ← EReal.coe_add, ← EReal.coe_sub]

theorem pay34_coe (v78 : Vec Ideal S256x1024 .f32) (a b : Vec Ideal S256x768 .bf16) (p q : Vec Ideal S768x1024 .bf16)
    (x1 : Vec Ideal S256x1024 .f32) (acc : Vec Ideal S1x1024 .f32) (k : Fin 1024) {H E : Fin 256 → Fin 1024 → ℝ}
    (h1 : ∀ r k, x1 (ix2 r k) = (H r k : EReal))
    (hE : ∀ r k, k0_pay31 (F := Ideal) v78 a b (k0_pay30 p) q (ix2 r k) = (E r k : EReal)) :
    k0_pay34 (F := Ideal) v78 a b (k0_pay30 p) q x1 acc (ix2 0 k)
      = (acc (ix2 0 k) : EReal) + ((∑ r, E r k * (H r k * rinv 1024 (H r)) : ℝ) : EReal) := by
  pointwise [k0_pay34]
  simp only [hE, fun r => pay33_coe x1 r k (h1 r), zero_add, sum_coe, ← EReal.coe_mul]

end Cert.FfbIdeal.Pay

end
-- ==== Proof.FfbRef.lean ====
/- The results of the reference for the feed-forward backward pass, on finite arguments. -/
module

public import proofs.«01_k».proof.Proof.Gen.FfbRefIdeal.Read
public import proofs.«01_k».proof.Proof.FfnSpec

@[expose] public section

set_option maxRecDepth 16384

noncomputable section

open Idealize.ShloMosaic Cert.Lift Cert.Ffn

namespace Cert.Ffn

/-- The six argument arrays hold the reals of `a`. -/
structure Reads (a : Args) (x0 x1 : (⟨2, ![8192, 1024]⟩ : Shape).Idx → EReal) (x2 : (⟨1, ![1024]⟩ : Shape).Idx → EReal)
    (x3 x4 : (⟨2, ![1024, 2816]⟩ : Shape).Idx → EReal) (x5 : (⟨2, ![2816, 1024]⟩ : Shape).Idx → EReal) : Prop where
  h : ∀ i k, x0 (ix2 i k) = (a.h i k : EReal)
  d : ∀ i k, x1 (ix2 i k) = (a.d i k : EReal)
  g : ∀ k, x2 (ix1 k) = (a.g k : EReal)
  wg : ∀ k j, x3 (ix2 k j) = (a.wg k j : EReal)
  wu : ∀ k j, x4 (ix2 k j) = (a.wu k j : EReal)
  wd : ∀ j k, x5 (ix2 j k) = (a.wd j k : EReal)

/-- The derivative at the input as the reference takes it through the normalisation. -/
theorem dh_ref (a : Args) (i : Fin 8192) (k : Fin 1024) :
    a.d i k + (dhn a i k * a.g k * r a i + a.h i k * ((∑ l, a.h i l * (dhn a i l * a.g l)) * (-(1 / 2) * (r a i / msq 1024 (a.h i))) / 1024)
        + (∑ l, a.h i l * (dhn a i l * a.g l)) * (-(1 / 2) * (r a i / msq 1024 (a.h i))) / 1024 * a.h i k) = dh a i k := by
  have hr : (msq 1024 (a.h i))⁻¹ = r a i * r a i := (rinv_mul_self (by norm_num) (a.h i)).symm
  have hs : ∑ l, dhn a i l * a.g l * nrm a i l = (∑ l, a.h i l * (dhn a i l * a.g l)) * r a i := by
    rw [Finset.sum_mul]
    exact Finset.sum_congr rfl fun l _ => by unfold nrm; ring
  unfold dh
  rw [hs, div_eq_mul_inv (r a i), hr]
  unfold nrm
  ring

end Cert.Ffn

namespace Cert.FfbRefIdeal.Sum

open Cert.FfbRefIdeal Cert.FfbRefIdeal.Read

variable {a : Args} {x0 x1 : (⟨S8192x1024, .f32⟩ : BufTy).Contents (Elt Ideal)} {x2 : (⟨S1024, .f32⟩ : BufTy).Contents (Elt Ideal)}
  {x3 x4 : (⟨S1024x2816, .f32⟩ : BufTy).Contents (Elt Ideal)} {x5 : (⟨S2816x1024, .f32⟩ : BufTy).Contents (Elt Ideal)}
  (H : Reads a x0 x1 x2 x3 x4 x5) (i : Fin 8192)
include H

theorem r_eq (z : Fin 1) : (val_main_v7 x0 (ix2 i z) : EReal) = ((r a i : ℝ) : EReal) := by
  pointwise [val_main_v7, val_main_v6, val_main_v5, val_main_cst_1, val_main_v4, val_main_v3, val_main_cst_0, val_main_v2, val_main_v1, val_main_cst, val_main_v0]
  simp only [H.h, zero_add, lit_1024, lit_eps, div_1024, sum_coe, ← EReal.coe_mul, ← EReal.coe_add, ← EReal.coe_sub, ← EReal.coe_neg]
  exact rsqrt_msq (by norm_num) _

theorem v10_eq (z : Fin 1) : (val_main_v10 x0 (ix2 i z) : EReal) = ((-(1 / 2) * (r a i / msq 1024 (a.h i)) : ℝ) : EReal) := by
  pointwise [val_main_v10, val_main_v9, val_main_cst_2, val_main_v8, val_main_v6, val_main_v5, val_main_cst_1, val_main_v4, val_main_v3, val_main_cst_0, val_main_v2, val_main_v1, val_main_cst, val_main_v0]
  simp only [H.h, r_eq H, zero_add, lit_1024, lit_eps, lit_neg_half, div_1024, sum_coe, ← EReal.coe_mul, ← EReal.coe_add, ← EReal.coe_sub, ← EReal.coe_neg]
  rw [div_msq (by norm_num) (a.h i), ← EReal.coe_mul]

theorem nrm_eq (k : Fin 1024) : (val_main_v12 x0 (ix2 i k) : EReal) = ((nrm a i k : ℝ) : EReal) := by
  pointwise [val_main_v12, val_main_v11]
  simp only [H.h, r_eq H, ← EReal.coe_mul]
  rfl

theorem gate_eq (j : Fin 2816) : (val_main_v16 x0 x2 x3 (ix2 i j) : EReal) = ((gate a i j : ℝ) : EReal) := by
  pointwise [val_main_v16, val_main_v15, val_main_v14, val_main_v13]
  simp only [H.g, H.wg, nrm_eq H, zero_add, sum_coe, ← EReal.coe_mul, ← EReal.coe_add, ← EReal.coe_sub, ← EReal.coe_neg]
  rfl

theorem up_eq (j : Fin 2816) : (val_main_v17 x0 x2 x4 (ix2 i j) : EReal) = ((up a i j : ℝ) : EReal) := by
  pointwise [val_main_v17, val_main_v15, val_main_v14, val_main_v13]
  simp only [H.g, H.wu, nrm_eq H, zero_add, sum_coe, ← EReal.coe_mul, ← EReal.coe_add, ← EReal.coe_sub, ← EReal.coe_neg]
  rfl

theorem sig_eq (j : Fin 2816) : (val_main_v18_2 x0 x2 x3 (ix2 i j) : EReal) = ((logi (gate a i j) : ℝ) : EReal) := by
  pointwise [val_main_v18_2, val_main_call0_v4, val_main_call0_cst_0, val_main_call0_v3, val_main_call0_v2, val_main_call0_cst, val_main_call0_v1, val_main_call0_v0]
  simp only [gate_eq H, one_eq, host_logistic]

theorem dsig_eq (j : Fin 2816) : (val_main_v18_1 x0 x2 x3 (ix2 i j) : EReal) = ((logi (gate a i j) * (1 - logi (gate a i j)) : ℝ) : EReal) := by
  pointwise [val_main_v18_1, val_main_call0_v7, val_main_call0_v6, val_main_call0_cst_1]
  simp only [sig_eq H, one_eq, sum_coe, ← EReal.coe_mul, ← EReal.coe_add, ← EReal.coe_sub, ← EReal.coe_neg]

theorem act_eq (j : Fin 2816) : (val_main_v19 x0 x2 x3 x4 (ix2 i j) : EReal) = ((act a i j : ℝ) : EReal) := by
  pointwise [val_main_v19, val_main_v18_0]
  simp only [sig_eq H, gate_eq H, up_eq H, sum_coe, ← EReal.coe_mul, ← EReal.coe_add, ← EReal.coe_sub, ← EReal.coe_neg]
  rfl

theorem dact_eq (j : Fin 2816) : (val_main_v21 x1 x5 (ix2 i j) : EReal) = ((dact a i j : ℝ) : EReal) := by
  pointwise [val_main_v21]
  simp only [H.d, H.wd, zero_add, sum_coe, ← EReal.coe_mul, ← EReal.coe_add, ← EReal.coe_sub, ← EReal.coe_neg]
  rfl

theorem dup_eq (j : Fin 2816) : (val_main_v22 x0 x1 x2 x3 x5 (ix2 i j) : EReal) = ((dup a i j : ℝ) : EReal) := by
  pointwise [val_main_v22, val_main_v18_0]
  simp only [sig_eq H, gate_eq H, dact_eq H, sum_coe, ← EReal.coe_mul, ← EReal.coe_add, ← EReal.coe_sub, ← EReal.coe_neg]
  congr 1
  unfold dup dupS
  ring

theorem dgate_eq (j : Fin 2816) : (val_main_v24 x0 x1 x2 x3 x4 x5 (ix2 i j) : EReal) = ((dgate a i j : ℝ) : EReal) := by
  pointwise [val_main_v24, val_main_call1_v2, val_main_call1_v1, val_main_call1_v0, val_main_v23]
  simp only [sig_eq H, dsig_eq H, gate_eq H, up_eq H, dact_eq H, sum_coe, ← EReal.coe_mul, ← EReal.coe_add, ← EReal.coe_sub, ← EReal.coe_neg]
  congr 1
  unfold dgate dgateS
  ring

theorem dhn_eq (k : Fin 1024) : (val_main_v27 x0 x1 x2 x3 x4 x5 (ix2 i k) : EReal) = ((dhn a i k : ℝ) : EReal) := by
  pointwise [val_main_v27, val_main_v26, val_main_v25]
  simp only [H.wg, H.wu, dup_eq H, dgate_eq H, zero_add, sum_coe, ← EReal.coe_mul, ← EReal.coe_add, ← EReal.coe_sub, ← EReal.coe_neg]
  congr 1
  exact add_comm _ _

theorem v43_eq (k : Fin 1024) : (val_main_v43 x0 x1 x2 x3 x4 x5 (ix2 i k) : EReal) = (((∑ l, a.h i l * (dhn a i l * a.g l)) * (-(1 / 2) * (r a i / msq 1024 (a.h i))) / 1024 : ℝ) : EReal) := by
  pointwise [val_main_v43, val_main_v42, val_main_cst_7, val_main_v41, val_main_v40, val_main_cst_6, val_main_v39, val_main_v36, val_main_v35, val_main_cst_5, val_main_v34, val_main_v32, val_main_v31, val_main_v13]
  simp only [H.h, H.g, dhn_eq H, v10_eq H, zero_add, lit_1024, div_1024, Finset.univ_unique, Finset.sum_singleton, sum_coe, ← EReal.coe_mul, ← EReal.coe_add, ← EReal.coe_sub, ← EReal.coe_neg]

theorem dh_eq (k : Fin 1024) : (val_main_v48 x0 x1 x2 x3 x4 x5 (ix2 i k) : EReal) = ((dh a i k : ℝ) : EReal) := by
  pointwise [val_main_v48, val_main_v47, val_main_v46, val_main_v45, val_main_v44, val_main_v38, val_main_v37, val_main_v32, val_main_v31, val_main_v13]
  simp only [H.h, H.d, H.g, r_eq H, dhn_eq H, v43_eq H, sum_coe, ← EReal.coe_mul, ← EReal.coe_add, ← EReal.coe_sub, ← EReal.coe_neg]
  rw [dh_ref]

theorem dgain_eq (k : Fin 1024) (z : Fin 1) : (val_main_v52 x0 x1 x2 x3 x4 x5 (ix2 z k) : EReal) = ((dgain a k : ℝ) : EReal) := by
  pointwise [val_main_v52, val_main_v33, val_main_cst_4, val_main_v30, val_main_v29, val_main_cst_3, val_main_v28]
  simp only [nrm_eq H, dhn_eq H, zero_add, Finset.univ_unique, Finset.sum_singleton, sum_coe, ← EReal.coe_mul, ← EReal.coe_add, ← EReal.coe_sub, ← EReal.coe_neg]
  congr 1
  exact Finset.sum_congr rfl fun i _ => mul_comm _ _

end Cert.FfbRefIdeal.Sum

end
-- ==== Proof.BlockSums.lean ====
/- Sums over a long axis taken block by block. -/
module

public import Idealize.ShloMosaic.Lib.Pointwise
public import Idealize.ShloMosaic.PureOps.Ideal
public import Idealize.ShloMosaic.Lib.Pipeline.Value
public import Idealize.ShloMosaic.Lib.ValueIdx

@[expose] public section

noncomputable section

namespace Cert.BlockSums

open Idealize.ShloMosaic

/-- Row `T * s + r` of an axis of `N = J * T` rows, for a block number `s` below `J`; row zero for a number that is none. -/
def rowAt {N : ℕ} (T : ℕ) (hN : 0 < N) (s : ℕ) (r : Fin T) : Fin N :=
  if h : T * s + r.val < N then ⟨T * s + r.val, h⟩ else ⟨0, hN⟩

theorem rowAt_val {N T J : ℕ} (hJ : J * T = N) (hN : 0 < N) (s : ℕ) (hs : s < J) (r : Fin T) :
    (rowAt (N := N) T hN s r).val = T * s + r.val := by
  have hr := r.isLt
  have hlt : T * s + r.val < N := by
    calc T * s + r.val < T * s + T := by omega
      _ = (s + 1) * T := by ring
      _ ≤ J * T := Nat.mul_le_mul_right T (by omega)
      _ = N := hJ
  unfold rowAt
  rw [dif_pos hlt]

/-- Adding up the `J` blocks of `T` entries each adds up the whole axis. -/
theorem sum_blocks {M : Type*} [AddCommMonoid M] {N : ℕ} (J T : ℕ) (hJ : J * T = N) (hN : 0 < N) (f : Fin N → M) :
    ∑ s ∈ Finset.range J, ∑ r : Fin T, f (rowAt T hN s r) = ∑ k : Fin N, f k := by
  rw [Fin.sum_univ_tiles J T hJ f, ← Fin.sum_univ_eq_sum_range (fun s => ∑ r : Fin T, f (rowAt T hN s r)) J]
  refine Finset.sum_congr rfl fun s _ => Finset.sum_congr rfl fun r _ => congrArg f (Fin.ext ?_)
  rw [rowAt_val hJ hN s.val s.isLt r]
  exact congrArg (· + r.val) (mul_comm T s.val)

/-- A running sum that starts afresh at every multiple of `J` and takes one more addend at every other point holds, after
point `n`, the addends of its strip up to `n`. -/
theorem running_sum {N J : ℕ} (hJ : 0 < J) (S : (n : ℕ) → n < N → EReal) (e : ℕ → ℕ → EReal)
    (hfresh : ∀ n h, n % J = 0 → S n h = e (n / J) 0)
    (hstep : ∀ n (h : n + 1 < N), (n + 1) % J ≠ 0 → S (n + 1) h = S n (Nat.lt_of_succ_lt h) + e ((n + 1) / J) ((n + 1) % J)) :
    ∀ n h, S n h = ∑ s ∈ Finset.range (n % J + 1), e (n / J) s := by
  intro n
  induction n with
  | zero => intro h; rw [hfresh 0 h (Nat.zero_mod _), Nat.zero_mod, Finset.sum_range_one]
  | succ n ih =>
    intro h
    by_cases h0 : (n + 1) % J = 0
    · rw [hfresh _ h h0, h0, Finset.sum_range_one]
    · obtain ⟨e1, e2⟩ : (n + 1) % J = n % J + 1 ∧ (n + 1) / J = n / J := by
        have hd : (n + 1) / J = n / J := by
          rw [Nat.succ_div, if_neg (fun hd => h0 (Nat.mod_eq_zero_of_dvd hd)), add_zero]
        have m1 := Nat.div_add_mod (n + 1) J
        have m2 := Nat.div_add_mod n J
        rw [hd] at m1
        exact ⟨by omega, hd⟩
      rw [hstep _ h h0, ih, e1, e2, ← Finset.sum_range_succ]

end Cert.BlockSums

end
-- ==== Proof.FfbKernel.lean ====
/- The results of the feed-forward backward kernel, on finite arguments: every grid point works on 256 rows and writes
   their derivatives; the gain's derivative is added up over the points. -/
module

public import proofs.«01_k».proof.Proof.Gen.FfbIdeal.Value
public import proofs.«01_k».proof.Proof.FfbPay
public import proofs.«01_k».proof.Proof.FfbRef
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Cert.Lift Cert.Ffn Cert.BlockSums

namespace Cert.FfbIdeal.Sum

open Cert.FfbIdeal Cert.FfbIdeal.Gen Cert.FfbIdeal.Value Cert.FfbIdeal.Pay

variable (m : (ℓ : Loc nD τ sig) → Buf (Elt Ideal) ℓ)

/-- The argument arrays on device `c` hold the reals of `a`. -/
abbrev Holds (a : Args) (c : Dev nD) : Prop :=
  Reads a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m} {a : Args} {c : Dev nD} (H : Holds m a c)

/-! ## What the host hands to the kernel -/

theorem dev_loc (b : Ref sig .tc) : m (c, Proc.tc.devRef b) = m ((c : Thread nD τ).loc b) := rfl

section
include H

theorem host_v14 (i : Fin 8192) (j : Fin 2816) : (V m c main_v14 (ix2 i j) : EReal) = ((gate a i j : ℝ) : EReal) := by
  unfold V hostOps0
  after_results
  pointwise []
  simp only [dev_loc, H.h, lit_1024, lit_eps, div_1024, ← EReal.coe_add, rsqrt_msq (n := 1024) (N := 1024) (by norm_num), H.g, H.wg, zero_add, sum_coe, ← EReal.coe_mul]
  rfl

theorem host_v16 (i : Fin 8192) (j : Fin 2816) : (V m c main_v16 (ix2 i j) : EReal) = ((up a i j : ℝ) : EReal) := by
  unfold V hostOps0
  after_results
  pointwise []
  simp only [dev_loc, H.h, lit_1024, lit_eps, div_1024, ← EReal.coe_add, rsqrt_msq (n := 1024) (N := 1024) (by norm_num), H.g, H.wu, zero_add, sum_coe, ← EReal.coe_mul]
  rfl

theorem host_v18 (j : Fin 2816) (k : Fin 1024) : (V m c main_v18 (ix2 j k) : EReal) = ((a.wg k j : ℝ) : EReal) := by
  unfold V hostOps0
  after_results
  pointwise []
  simp only [dev_loc, H.wg]

theorem host_v20 (j : Fin 2816) (k : Fin 1024) : (V m c main_v20 (ix2 j k) : EReal) = ((a.wu k j : ℝ) : EReal) := by
  unfold V hostOps0
  after_results
  pointwise []
  simp only [dev_loc, H.wu]

theorem host_v21 (z : Fin 1) (k : Fin 1024) : (V m c main_v21 (ix2 z k) : EReal) = ((a.g k : ℝ) : EReal) := by
  unfold V hostOps0
  after_results
  pointwise []
  simp only [dev_loc, H.g]

theorem host_v22 (j : Fin 2816) (k : Fin 1024) : (V m c main_v22 (ix2 j k) : EReal) = ((a.wd j k : ℝ) : EReal) := by
  unfold V hostOps0
  after_results
  pointwise []
  simp only [dev_loc, H.wd]

end

/-! ## The blocks of a grid point -/

/-- Row `r` of the rows that point `t` works on. -/
def row (t : ℕ) (r : Fin 256) : Fin 8192 := rowAt (N := 8192) 256 (by decide) t r

theorem row_val {t : ℕ} (ht : t < 32) (r : Fin 256) : (row t r).val = 256 * t + r.val :=
  rowAt_val (J := 32) (by norm_num) _ _ ht r

theorem lt_N (t : Fin cfg0.N) : t.val < 32 := lt_of_lt_of_eq t.isLt N_0

theorem index_rows : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) :=
  (by decide +kernel : ∀ t : Fin grid0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0))

theorem index_whole : ∀ t : Fin cfg0.N, (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) ∧ (win0_7.index t (0 : Fin 2) = 0 ∧ win0_7.index t (1 : Fin 2) = 0) ∧ (win0_12.index t (0 : Fin 2) = 0 ∧ win0_12.index t (1 : Fin 2) = 0) :=
  (by decide +kernel : ∀ t : Fin grid0.N, (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) ∧ (win0_7.index t (0 : Fin 2) = 0 ∧ win0_7.index t (1 : Fin 2) = 0) ∧ (win0_12.index t (0 : Fin 2) = 0 ∧ win0_12.index t (1 : Fin 2) = 0))

section
include H

theorem blk0 (t : Fin cfg0.N) (r : Fin 256) (k : Fin 1024) :
    ((iblk m c 0 t : Vec Ideal S256x1024 .f32) (ix2 r k) : EReal) = ((a.d (row t.val r) k : ℝ) : EReal) := by
  have hN := lt_N t
  unfold iblk
  rw [View.read_apply]
  refine (congrArg (V m c main_arg1) (?_ : _ = ix2 (row t.val r) k)).trans (H.d (row t.val r) k)
  funext b
  apply Fin.ext
  match b with
  | ⟨0, _⟩ => show win0_0.index t 0 * 256 + 1 * r.val = (row t.val r).val; rw [(index_rows t).1.1, row_val hN]; omega
  | ⟨1, _⟩ => show win0_0.index t 1 * 1024 + 1 * k.val = k.val; rw [(index_rows t).1.2]; omega

theorem blk1 (t : Fin cfg0.N) (r : Fin 256) (k : Fin 1024) :
    ((iblk m c 1 t : Vec Ideal S256x1024 .f32) (ix2 r k) : EReal) = ((a.h (row t.val r) k : ℝ) : EReal) := by
  have hN := lt_N t
  unfold iblk
  rw [View.read_apply]
  refine (congrArg (V m c main_arg0) (?_ : _ = ix2 (row t.val r) k)).trans (H.h (row t.val r) k)
  funext b
  apply Fin.ext
  match b with
  | ⟨0, _⟩ => show win0_1.index t 0 * 256 + 1 * r.val = (row t.val r).val; rw [(index_rows t).2.1.1, row_val hN]; omega
  | ⟨1, _⟩ => show win0_1.index t 1 * 1024 + 1 * k.val = k.val; rw [(index_rows t).2.1.2]; omega

theorem blk2 (t : Fin cfg0.N) (r : Fin 256) (k : Fin 2816) :
    ((iblk m c 2 t : Vec Ideal S256x2816 .bf16) (ix2 r k) : EReal) = ((gate a (row t.val r) k : ℝ) : EReal) := by
  have hN := lt_N t
  unfold iblk
  rw [View.read_apply]
  refine (congrArg (V m c main_v14) (?_ : _ = ix2 (row t.val r) k)).trans (host_v14 H (row t.val r) k)
  funext b
  apply Fin.ext
  match b with
  | ⟨0, _⟩ => show win0_2.index t 0 * 256 + 1 * r.val = (row t.val r).val; rw [(index_rows t).2.2.1.1, row_val hN]; omega
  | ⟨1, _⟩ => show win0_2.index t 1 * 2816 + 1 * k.val = k.val; rw [(index_rows t).2.2.1.2]; omega

theorem blk3 (t : Fin cfg0.N) (r : Fin 256) (k : Fin 2816) :
    ((iblk m c 3 t : Vec Ideal S256x2816 .bf16) (ix2 r k) : EReal) = ((up a (row t.val r) k : ℝ) : EReal) := by
  have hN := lt_N t
  unfold iblk
  rw [View.read_apply]
  refine (congrArg (V m c main_v16) (?_ : _ = ix2 (row t.val r) k)).trans (host_v16 H (row t.val r) k)
  funext b
  apply Fin.ext
  match b with
  | ⟨0, _⟩ => show win0_3.index t 0 * 256 + 1 * r.val = (row t.val r).val; rw [(index_rows t).2.2.2.1.1, row_val hN]; omega
  | ⟨1, _⟩ => show win0_3.index t 1 * 2816 + 1 * k.val = k.val; rw [(index_rows t).2.2.2.1.2]; omega

theorem blk4 (t : Fin cfg0.N) (r : Fin 1) (k : Fin 1024) :
    ((iblk m c 4 t : Vec Ideal S1x1024 .f32) (ix2 r k) : EReal) = ((a.g k : ℝ) : EReal) := by
  have hN := lt_N t
  unfold iblk
  rw [View.read_apply]
  refine (congrArg (V m c main_v21) (?_ : _ = ix2 r k)).trans (host_v21 H r k)
  funext b
  apply Fin.ext
  match b with
  | ⟨0, _⟩ => show win0_4.index t 0 * 1 + 1 * r.val = r.val; rw [(index_whole t).1.1]; omega
  | ⟨1, _⟩ => show win0_4.index t 1 * 1024 + 1 * k.val = k.val; rw [(index_whole t).1.2]; omega

theorem blk5 (t : Fin cfg0.N) (r : Fin 2816) (k : Fin 1024) :
    ((iblk m c 5 t : Vec Ideal S2816x1024 .bf16) (ix2 r k) : EReal) = ((a.wd r k : ℝ) : EReal) := by
  have hN := lt_N t
  unfold iblk
  rw [View.read_apply]
  refine (congrArg (V m c main_v22) (?_ : _ = ix2 r k)).trans (host_v22 H r k)
  funext b
  apply Fin.ext
  match b with
  | ⟨0, _⟩ => show win0_5.index t 0 * 2816 + 1 * r.val = r.val; rw [(index_whole t).2.1.1]; omega
  | ⟨1, _⟩ => show win0_5.index t 1 * 1024 + 1 * k.val = k.val; rw [(index_whole t).2.1.2]; omega

theorem blk6 (t : Fin cfg0.N) (r : Fin 2816) (k : Fin 1024) :
    ((iblk m c 6 t : Vec Ideal S2816x1024 .bf16) (ix2 r k) : EReal) = ((a.wg k r : ℝ) : EReal) := by
  have hN := lt_N t
  unfold iblk
  rw [View.read_apply]
  refine (congrArg (V m c main_v18) (?_ : _ = ix2 r k)).trans (host_v18 H r k)
  funext b
  apply Fin.ext
  match b with
  | ⟨0, _⟩ => show win0_6.index t 0 * 2816 + 1 * r.val = r.val; rw [(index_whole t).2.2.1.1]; omega
  | ⟨1, _⟩ => show win0_6.index t 1 * 1024 + 1 * k.val = k.val; rw [(index_whole t).2.2.1.2]; omega

theorem blk7 (t : Fin cfg0.N) (r : Fin 2816) (k : Fin 1024) :
    ((iblk m c 7 t : Vec Ideal S2816x1024 .bf16) (ix2 r k) : EReal) = ((a.wu k r : ℝ) : EReal) := by
  have hN := lt_N t
  unfold iblk
  rw [View.read_apply]
  refine (congrArg (V m c main_v20) (?_ : _ = ix2 r k)).trans (host_v20 H r k)
  funext b
  apply Fin.ext
  match b with
  | ⟨0, _⟩ => show win0_7.index t 0 * 2816 + 1 * r.val = r.val; rw [(index_whole t).2.2.2.1.1]; omega
  | ⟨1, _⟩ => show win0_7.index t 1 * 1024 + 1 * k.val = k.val; rw [(index_whole t).2.2.2.1.2]; omega

end

section
include H

theorem ld2_0 (t : Fin cfg0.N) (r : Fin 256) (k : Fin 1024) :
    (View.ld (Val := Elt Ideal) (iblk m c 2 t : Vec Ideal S256x2816 .bf16) (Rect.unit ![0, 0] ![256, 1024] inb_S256x2816_S256x1024_0_0) (ix2 r k) : EReal) = ((gate a (row t.val r) (c0 k) : ℝ) : EReal) :=
  (ld_at (iblk m c 2 t : Vec Ideal S256x2816 .bf16) 0 0 _ _ _ r k r (c0 k) (by simp) (by simp [c0])).trans (blk2 H t _ _)

theorem ld3_0 (t : Fin cfg0.N) (r : Fin 256) (k : Fin 1024) :
    (View.ld (Val := Elt Ideal) (iblk m c 3 t : Vec Ideal S256x2816 .bf16) (Rect.unit ![0, 0] ![256, 1024] inb_S256x2816_S256x1024_0_0) (ix2 r k) : EReal) = ((up a (row t.val r) (c0 k) : ℝ) : EReal) :=
  (ld_at (iblk m c 3 t : Vec Ideal S256x2816 .bf16) 0 0 _ _ _ r k r (c0 k) (by simp) (by simp [c0])).trans (blk3 H t _ _)

theorem ld5_0 (t : Fin cfg0.N) (r : Fin 1024) (k : Fin 1024) :
    (View.ld (Val := Elt Ideal) (iblk m c 5 t : Vec Ideal S2816x1024 .bf16) (Rect.unit ![0, 0] ![1024, 1024] inb_S2816x1024_S1024x1024_0_0) (ix2 r k) : EReal) = ((a.wd (c0 r) k : ℝ) : EReal) :=
  (ld_at (iblk m c 5 t : Vec Ideal S2816x1024 .bf16) 0 0 _ _ _ r k (c0 r) k (by simp [c0]) (by simp)).trans (blk5 H t _ _)

theorem ld6_0 (t : Fin cfg0.N) (r : Fin 1024) (k : Fin 1024) :
    (View.ld (Val := Elt Ideal) (iblk m c 6 t : Vec Ideal S2816x1024 .bf16) (Rect.unit ![0, 0] ![1024, 1024] inb_S2816x1024_S1024x1024_0_0) (ix2 r k) : EReal) = ((a.wg k (c0 r) : ℝ) : EReal) :=
  (ld_at (iblk m c 6 t : Vec Ideal S2816x1024 .bf16) 0 0 _ _ _ r k (c0 r) k (by simp [c0]) (by simp)).trans (blk6 H t _ _)

theorem ld7_0 (t : Fin cfg0.N) (r : Fin 1024) (k : Fin 1024) :
    (View.ld (Val := Elt Ideal) (iblk m c 7 t : Vec Ideal S2816x1024 .bf16) (Rect.unit ![0, 0] ![1024, 1024] inb_S2816x1024_S1024x1024_0_0) (ix2 r k) : EReal) = ((a.wu k (c0 r) : ℝ) : EReal) :=
  (ld_at (iblk m c 7 t : Vec Ideal S2816x1024 .bf16) 0 0 _ _ _ r k (c0 r) k (by simp [c0]) (by simp)).trans (blk7 H t _ _)

theorem ld2_1 (t : Fin cfg0.N) (r : Fin 256) (k : Fin 1024) :
    (View.ld (Val := Elt Ideal) (iblk m c 2 t : Vec Ideal S256x2816 .bf16) (Rect.unit ![0, 1024] ![256, 1024] inb_S256x2816_S256x1024_0_1024) (ix2 r k) : EReal) = ((gate a (row t.val r) (c1 k) : ℝ) : EReal) :=
  (ld_at (iblk m c 2 t : Vec Ideal S256x2816 .bf16) 0 1024 _ _ _ r k r (c1 k) (by simp) rfl).trans (blk2 H t _ _)

theorem ld3_1 (t : Fin cfg0.N) (r : Fin 256) (k : Fin 1024) :
    (View.ld (Val := Elt Ideal) (iblk m c 3 t : Vec Ideal S256x2816 .bf16) (Rect.unit ![0, 1024] ![256, 1024] inb_S256x2816_S256x1024_0_1024) (ix2 r k) : EReal) = ((up a (row t.val r) (c1 k) : ℝ) : EReal) :=
  (ld_at (iblk m c 3 t : Vec Ideal S256x2816 .bf16) 0 1024 _ _ _ r k r (c1 k) (by simp) rfl).trans (blk3 H t _ _)

theorem ld5_1 (t : Fin cfg0.N) (r : Fin 1024) (k : Fin 1024) :
    (View.ld (Val := Elt Ideal) (iblk m c 5 t : Vec Ideal S2816x1024 .bf16) (Rect.unit ![1024, 0] ![1024, 1024] inb_S2816x1024_S1024x1024_1024_0) (ix2 r k) : EReal) = ((a.wd (c1 r) k : ℝ) : EReal) :=
  (ld_at (iblk m c 5 t : Vec Ideal S2816x1024 .bf16) 1024 0 _ _ _ r k (c1 r) k rfl (by simp)).trans (blk5 H t _ _)

theorem ld6_1 (t : Fin cfg0.N) (r : Fin 1024) (k : Fin 1024) :
    (View.ld (Val := Elt Ideal) (iblk m c 6 t : Vec Ideal S2816x1024 .bf16) (Rect.unit ![1024, 0] ![1024, 1024] inb_S2816x1024_S1024x1024_1024_0) (ix2 r k) : EReal) = ((a.wg k (c1 r) : ℝ) : EReal) :=
  (ld_at (iblk m c 6 t : Vec Ideal S2816x1024 .bf16) 1024 0 _ _ _ r k (c1 r) k rfl (by simp)).trans (blk6 H t _ _)

theorem ld7_1 (t : Fin cfg0.N) (r : Fin 1024) (k : Fin 1024) :
    (View.ld (Val := Elt Ideal) (iblk m c 7 t : Vec Ideal S2816x1024 .bf16) (Rect.unit ![1024, 0] ![1024, 1024] inb_S2816x1024_S1024x1024_1024_0) (ix2 r k) : EReal) = ((a.wu k (c1 r) : ℝ) : EReal) :=
  (ld_at (iblk m c 7 t : Vec Ideal S2816x1024 .bf16) 1024 0 _ _ _ r k (c1 r) k rfl (by simp)).trans (blk7 H t _ _)

theorem ld2_2 (t : Fin cfg0.N) (r : Fin 256) (k : Fin 768) :
    (View.ld (Val := Elt Ideal) (iblk m c 2 t : Vec Ideal S256x2816 .bf16) (Rect.unit ![0, 2048] ![256, 768] inb_S256x2816_S256x768_0_2048) (ix2 r k) : EReal) = ((gate a (row t.val r) (c2 k) : ℝ) : EReal) :=
  (ld_at (iblk m c 2 t : Vec Ideal S256x2816 .bf16) 0 2048 _ _ _ r k r (c2 k) (by simp) rfl).trans (blk2 H t _ _)

theorem ld3_2 (t : Fin cfg0.N) (r : Fin 256) (k : Fin 768) :
    (View.ld (Val := Elt Ideal) (iblk m c 3 t : Vec Ideal S256x2816 .bf16) (Rect.unit ![0, 2048] ![256, 768] inb_S256x2816_S256x768_0_2048) (ix2 r k) : EReal) = ((up a (row t.val r) (c2 k) : ℝ) : EReal) :=
  (ld_at (iblk m c 3 t : Vec Ideal S256x2816 .bf16) 0 2048 _ _ _ r k r (c2 k) (by simp) rfl).trans (blk3 H t _ _)

theorem ld5_2 (t : Fin cfg0.N) (r : Fin 768) (k : Fin 1024) :
    (View.ld (Val := Elt Ideal) (iblk m c 5 t : Vec Ideal S2816x1024 .bf16) (Rect.unit ![2048, 0] ![768, 1024] inb_S2816x1024_S768x1024_2048_0) (ix2 r k) : EReal) = ((a.wd (c2 r) k : ℝ) : EReal) :=
  (ld_at (iblk m c 5 t : Vec Ideal S2816x1024 .bf16) 2048 0 _ _ _ r k (c2 r) k rfl (by simp)).trans (blk5 H t _ _)

theorem ld6_2 (t : Fin cfg0.N) (r : Fin 768) (k : Fin 1024) :
    (View.ld (Val := Elt Ideal) (iblk m c 6 t : Vec Ideal S2816x1024 .bf16) (Rect.unit ![2048, 0] ![768, 1024] inb_S2816x1024_S768x1024_2048_0) (ix2 r k) : EReal) = ((a.wg k (c2 r) : ℝ) : EReal) :=
  (ld_at (iblk m c 6 t : Vec Ideal S2816x1024 .bf16) 2048 0 _ _ _ r k (c2 r) k rfl (by simp)).trans (blk6 H t _ _)

theorem ld7_2 (t : Fin cfg0.N) (r : Fin 768) (k : Fin 1024) :
    (View.ld (Val := Elt Ideal) (iblk m c 7 t : Vec Ideal S2816x1024 .bf16) (Rect.unit ![2048, 0] ![768, 1024] inb_S2816x1024_S768x1024_2048_0) (ix2 r k) : EReal) = ((a.wu k (c2 r) : ℝ) : EReal) :=
  (ld_at (iblk m c 7 t : Vec Ideal S2816x1024 .bf16) 2048 0 _ _ _ r k (c2 r) k rfl (by simp)).trans (blk7 H t _ _)

theorem dup_s0 (t : Fin cfg0.N) (r : Fin 256) (j : Fin 1024) :
    (((k0_pay11 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0))) : Vec Ideal S256x1024 .bf16) (ix2 r j) : EReal) = ((dup a (row t.val r) (c0 j) : ℝ) : EReal) :=
  dup0 _ _ _ r j (fun k => blk0 H t r k) (fun k => ld5_0 H t j k) (ld2_0 H t r j)

theorem dgate_s0 (t : Fin cfg0.N) (r : Fin 256) (j : Fin 1024) :
    (((k0_pay12 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0)) (View.ld (iblk m c 3 t) (Rect.unit ![0, 0] ![256, 1024] inb_S256x2816_S256x1024_0_0))) : Vec Ideal S256x1024 .bf16) (ix2 r j) : EReal) = ((dgate a (row t.val r) (c0 j) : ℝ) : EReal) :=
  dgate0 _ _ _ _ r j (fun k => blk0 H t r k) (fun k => ld5_0 H t j k) (ld2_0 H t r j) (ld3_0 H t r j)

theorem dup_s1 (t : Fin cfg0.N) (r : Fin 256) (j : Fin 1024) :
    (((k0_pay20 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024))) : Vec Ideal S256x1024 .bf16) (ix2 r j) : EReal) = ((dup a (row t.val r) (c1 j) : ℝ) : EReal) :=
  dup1 _ _ _ r j (fun k => blk0 H t r k) (fun k => ld5_1 H t j k) (ld2_1 H t r j)

theorem dgate_s1 (t : Fin cfg0.N) (r : Fin 256) (j : Fin 1024) :
    (((k0_pay21 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024)) (View.ld (iblk m c 3 t) (Rect.unit ![0, 1024] ![256, 1024] inb_S256x2816_S256x1024_0_1024))) : Vec Ideal S256x1024 .bf16) (ix2 r j) : EReal) = ((dgate a (row t.val r) (c1 j) : ℝ) : EReal) :=
  dgate1 _ _ _ _ r j (fun k => blk0 H t r k) (fun k => ld5_1 H t j k) (ld2_1 H t r j) (ld3_1 H t r j)

theorem dup_s2 (t : Fin cfg0.N) (r : Fin 256) (j : Fin 768) :
    (((k0_pay28 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048))) : Vec Ideal S256x768 .bf16) (ix2 r j) : EReal) = ((dup a (row t.val r) (c2 j) : ℝ) : EReal) :=
  dup2 _ _ _ r j (fun k => blk0 H t r k) (fun k => ld5_2 H t j k) (ld2_2 H t r j)

theorem dgate_s2 (t : Fin cfg0.N) (r : Fin 256) (j : Fin 768) :
    (((k0_pay29 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048)) (View.ld (iblk m c 3 t) (Rect.unit ![0, 2048] ![256, 768] inb_S256x2816_S256x768_0_2048))) : Vec Ideal S256x768 .bf16) (ix2 r j) : EReal) = ((dgate a (row t.val r) (c2 j) : ℝ) : EReal) :=
  dgate2 _ _ _ _ r j (fun k => blk0 H t r k) (fun k => ld5_2 H t j k) (ld2_2 H t r j) (ld3_2 H t r j)

/-- The derivative at the normalised rows of a point. -/
theorem dhn_blk (t : Fin cfg0.N) (r : Fin 256) (k : Fin 1024) :
    (k0_pay31 (F := Ideal) (k0_pay22 (F := Ideal) (k0_pay13 (F := Ideal) k0_pay3 (k0_pay11 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0))) (k0_pay12 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0)) (View.ld (iblk m c 3 t) (Rect.unit ![0, 0] ![256, 1024] inb_S256x2816_S256x1024_0_0))) (View.ld (iblk m c 6 t) (Rect.unit ![0, 0] ![1024, 1024] inb_S2816x1024_S1024x1024_0_0)) (View.ld (iblk m c 7 t) (Rect.unit ![0, 0] ![1024, 1024] inb_S2816x1024_S1024x1024_0_0))) (k0_pay20 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024))) (k0_pay21 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024)) (View.ld (iblk m c 3 t) (Rect.unit ![0, 1024] ![256, 1024] inb_S256x2816_S256x1024_0_1024))) (View.ld (iblk m c 6 t) (Rect.unit ![1024, 0] ![1024, 1024] inb_S2816x1024_S1024x1024_1024_0)) (View.ld (iblk m c 7 t) (Rect.unit ![1024, 0] ![1024, 1024] inb_S2816x1024_S1024x1024_1024_0))) (k0_pay28 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048))) (k0_pay29 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048)) (View.ld (iblk m c 3 t) (Rect.unit ![0, 2048] ![256, 768] inb_S256x2816_S256x768_0_2048))) (k0_pay30 (View.ld (iblk m c 6 t) (Rect.unit ![2048, 0] ![768, 1024] inb_S2816x1024_S768x1024_2048_0))) (View.ld (iblk m c 7 t) (Rect.unit ![2048, 0] ![768, 1024] inb_S2816x1024_S768x1024_2048_0)) (ix2 r k) : EReal) = ((dhn a (row t.val r) k : ℝ) : EReal) := by
  rw [dhn_strips]
  exact add2 _ _ _ _ _ r k (add1 _ _ _ _ _ r k (add0 _ _ _ _ _ r k (zero3 r k)
      (dup_s0 H t r) (dgate_s0 H t r) (fun j => ld6_0 H t j k) (fun j => ld7_0 H t j k))
      (dup_s1 H t r) (dgate_s1 H t r) (fun j => ld6_1 H t j k) (fun j => ld7_1 H t j k))
      (dup_s2 H t r) (dgate_s2 H t r) (fun j => ld6_2 H t j k) (fun j => ld7_2 H t j k)

/-- The derivative at the input, for the rows of a point. -/
theorem out8 (t : Fin cfg0.N) (r : Fin 256) (k : Fin 1024) :
    ((outsAt0 m c t.val t.isLt).1 (ix2 r k) : EReal) = ((dh a (row t.val r) k : ℝ) : EReal) := by
  by_cases h : t.val % 32 = 0
  · rw [outsAt0_A m c t h]
    frame_out
    exact pay35_coe _ _ _ _ _ _ _ _ r k (fun k => blk0 H t r k) (fun k => blk1 H t r k) (fun k => blk4 H t 0 k) (fun k => dhn_blk H t r k)
  · rw [outsAt0_B m c t h]
    frame_out
    exact pay35_coe _ _ _ _ _ _ _ _ r k (fun k => blk0 H t r k) (fun k => blk1 H t r k) (fun k => blk4 H t 0 k) (fun k => dhn_blk H t r k)

/-- What one point adds to the gain's derivative. -/
theorem step12 (t : Fin cfg0.N) (acc : Vec Ideal S1x1024 .f32) (k : Fin 1024) :
    k0_pay34 (F := Ideal) (k0_pay22 (F := Ideal) (k0_pay13 (F := Ideal) k0_pay3 (k0_pay11 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0))) (k0_pay12 (iblk m c 0 t) (View.ld (iblk m c 5 t) (Rect.unit ![0, 0] ![1024, 1024] inb_S2816x1024_S1024x1024_0_0)) (View.ld (iblk m c 2 t) (Rect.unit ![0, 0] ![256, 1024] inb_S256x2816_S256x1024_0_0)) (View.ld (iblk m c 3 t) (Rect.unit ![0, 0] ![256, 1024] inb_S256x2816_S256x1024_0_0))) (View.ld (iblk m c 6 t) (Rect.unit ![0, 0] ![1024, 1024] inb_S2816x1024_S1024x1024_0_0)) (View.ld (iblk m c 7 t) (Rect.unit ![0, 0] ![1024, 1024] inb_S2816x1024_S1024x1024_0_0))) (k0_pay20 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024))) (k0_pay21 (k0_pay5 (iblk m c 0 t) (View.ld (iblk m c 5 t) (Rect.unit ![1024, 0] ![1024, 1024] inb_S2816x1024_S1024x1024_1024_0))) (View.ld (iblk m c 2 t) (Rect.unit ![0, 1024] ![256, 1024] inb_S256x2816_S256x1024_0_1024)) (View.ld (iblk m c 3 t) (Rect.unit ![0, 1024] ![256, 1024] inb_S256x2816_S256x1024_0_1024))) (View.ld (iblk m c 6 t) (Rect.unit ![1024, 0] ![1024, 1024] inb_S2816x1024_S1024x1024_1024_0)) (View.ld (iblk m c 7 t) (Rect.unit ![1024, 0] ![1024, 1024] inb_S2816x1024_S1024x1024_1024_0))) (k0_pay28 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048))) (k0_pay29 (k0_pay14 (k0_pay2 (iblk m c 0 t)) (View.ld (iblk m c 5 t) (Rect.unit ![2048, 0] ![768, 1024] inb_S2816x1024_S768x1024_2048_0))) (View.ld (iblk m c 2 t) (Rect.unit ![0, 2048] ![256, 768] inb_S256x2816_S256x768_0_2048)) (View.ld (iblk m c 3 t) (Rect.unit ![0, 2048] ![256, 768] inb_S256x2816_S256x768_0_2048))) (k0_pay30 (View.ld (iblk m c 6 t) (Rect.unit ![2048, 0] ![768, 1024] inb_S2816x1024_S768x1024_2048_0))) (View.ld (iblk m c 7 t) (Rect.unit ![2048, 0] ![768, 1024] inb_S2816x1024_S768x1024_2048_0)) (iblk m c 1 t) acc (ix2 0 k)
      = (acc (ix2 0 k) : EReal) + ((∑ r, dhn a (row t.val r) k * nrm a (row t.val r) k : ℝ) : EReal) :=
  pay34_coe _ _ _ _ _ _ _ k (fun r k => blk1 H t r k) (fun r k => dhn_blk H t r k)

end

section
include H

theorem out9 (t : Fin cfg0.N) (r : Fin 256) (k : Fin 2816) :
    ((outsAt0 m c t.val t.isLt).2.1 (ix2 r k) : EReal) = ((act a (row t.val r) k : ℝ) : EReal) := by
  by_cases h : t.val % 32 = 0
  · rw [outsAt0_A m c t h]
    frame_out
    exact canon_strips _ _ _ _ _ _ (fun r k => ((act a (row t.val r) k : ℝ) : EReal)) (fun r j => act0 _ _ r j (ld2_0 H t r j) (ld3_0 H t r j)) (fun r j => act1 _ _ r j (ld2_1 H t r j) (ld3_1 H t r j)) (fun r j => act2 _ _ r j (ld2_2 H t r j) (ld3_2 H t r j)) r k
  · rw [outsAt0_B m c t h]
    frame_out
    exact canon_strips _ _ _ _ _ _ (fun r k => ((act a (row t.val r) k : ℝ) : EReal)) (fun r j => act0 _ _ r j (ld2_0 H t r j) (ld3_0 H t r j)) (fun r j => act1 _ _ r j (ld2_1 H t r j) (ld3_1 H t r j)) (fun r j => act2 _ _ r j (ld2_2 H t r j) (ld3_2 H t r j)) r k

theorem out10 (t : Fin cfg0.N) (r : Fin 256) (k : Fin 2816) :
    ((outsAt0 m c t.val t.isLt).2.2.1 (ix2 r k) : EReal) = ((dgate a (row t.val r) k : ℝ) : EReal) := by
  by_cases h : t.val % 32 = 0
  · rw [outsAt0_A m c t h]
    frame_out
    exact canon_strips _ _ _ _ _ _ (fun r k => ((dgate a (row t.val r) k : ℝ) : EReal)) (dgate_s0 H t) (dgate_s1 H t) (dgate_s2 H t) r k
  · rw [outsAt0_B m c t h]
    frame_out
    exact canon_strips _ _ _ _ _ _ (fun r k => ((dgate a (row t.val r) k : ℝ) : EReal)) (dgate_s0 H t) (dgate_s1 H t) (dgate_s2 H t) r k

theorem out11 (t : Fin cfg0.N) (r : Fin 256) (k : Fin 2816) :
    ((outsAt0 m c t.val t.isLt).2.2.2.1 (ix2 r k) : EReal) = ((dup a (row t.val r) k : ℝ) : EReal) := by
  by_cases h : t.val % 32 = 0
  · rw [outsAt0_A m c t h]
    frame_out
    exact canon_strips _ _ _ _ _ _ (fun r k => ((dup a (row t.val r) k : ℝ) : EReal)) (dup_s0 H t) (dup_s1 H t) (dup_s2 H t) r k
  · rw [outsAt0_B m c t h]
    frame_out
    exact canon_strips _ _ _ _ _ _ (fun r k => ((dup a (row t.val r) k : ℝ) : EReal)) (dup_s0 H t) (dup_s1 H t) (dup_s2 H t) r k

/-- The gain's derivative as the last point leaves it. -/
theorem out12 (t : Fin cfg0.N) (ht : t.val = 31) (k : Fin 1024) :
    ((outsAt0 m c t.val t.isLt).2.2.2.2 (ix2 0 k) : EReal) = ((dgain a k : ℝ) : EReal) := by
  have hz : k0_pay1 (F := Ideal) (ix2 0 k) = (0 : EReal) := by pointwise [k0_pay1]
  have key : ∀ (n : ℕ) (h : n < cfg0.N), ((outsAt0 m c n h).2.2.2.2 (ix2 0 k) : EReal)
      = ((∑ s ∈ Finset.range (n + 1), ∑ r, dhn a (row s r) k * nrm a (row s r) k : ℝ) : EReal) := by
    intro n
    induction n with
    | zero =>
      intro h
      rw [outsAt0_A m c ⟨0, h⟩ rfl]
      frame_out
      refine (step12 H ⟨0, h⟩ _ k).trans ?_
      rw [hz, zero_add, Finset.sum_range_one]
    | succ n ih =>
      intro h
      have hn : n + 1 < 32 := lt_of_lt_of_eq h N_0
      rw [outsAt0_B m c ⟨n + 1, h⟩ (by show ¬(n + 1) % 32 = 0; omega)]
      frame_out
      refine (step12 H ⟨n + 1, h⟩ _ k).trans ?_
      rw [Finset.sum_range_succ, EReal.coe_add]
      exact congrArg (· + _) (ih (by omega))
  rw [key, ht]
  congr 1
  exact sum_blocks 32 256 (by norm_num) (by decide) fun i => dhn a i k * nrm a i k

end

/-! ## The result arrays -/

theorem flush8 : ∀ t : Fin cfg0.N, (cfg0.win 8).flush t = true :=
  (by decide +kernel : ∀ t : Fin grid0.N, win0_8.flush t = true)

include H in
theorem arr8 : (dats m 0 c).arrAt 8 cfg0.N = fun i => (((dh a (i 0) (i 1) : ℝ) : EReal) : Elt Ideal .f32) := by
  have hN : cfg0.N = 32 := N_0
  funext i
  obtain ⟨t, r, hr⟩ : ∃ (t : Fin cfg0.N) (r : Fin 256), i 0 = row t.val r := by
    have h0 : (i 0).val < 8192 := (i 0).isLt
    refine ⟨⟨(i 0).val / 256, by omega⟩, ⟨(i 0).val % 256, by omega⟩, Fin.ext ?_⟩
    rw [row_val (by show (i 0).val / 256 < 32; omega)]
    show (i 0).val = 256 * ((i 0).val / 256) + (i 0).val % 256
    omega
  have hi : ((cfg0.win 8).blk t).view.emb (ix2 r (i 1)) = i := by
    funext b
    apply Fin.ext
    match b with
    | ⟨0, _⟩ => show win0_8.index t 0 * 256 + 1 * r.val = (i 0).val; rw [(index_rows t).2.2.2.2.1.1, hr, row_val (lt_N t)]; omega
    | ⟨1, _⟩ => show win0_8.index t 1 * 1024 + 1 * (i 1).val = (i 1).val; rw [(index_rows t).2.2.2.2.1.2]; omega
  have hb := congrFun (blocks8 m c t (flush8 t)) (ix2 r (i 1))
  rw [View.read_apply, hi, flushed8] at hb
  refine hb.trans ?_
  show (outsAt0 m c t.val t.isLt).1 (ix2 r (i 1)) = _
  rw [hr]
  exact out8 H t r (i 1)

theorem flush9 : ∀ t : Fin cfg0.N, (cfg0.win 9).flush t = true :=
  (by decide +kernel : ∀ t : Fin grid0.N, win0_9.flush t = true)

include H in
theorem arr9 : (dats m 0 c).arrAt 9 cfg0.N = fun i => (((act a (i 0) (i 1) : ℝ) : EReal) : Elt Ideal .bf16) := by
  have hN : cfg0.N = 32 := N_0
  funext i
  obtain ⟨t, r, hr⟩ : ∃ (t : Fin cfg0.N) (r : Fin 256), i 0 = row t.val r := by
    have h0 : (i 0).val < 8192 := (i 0).isLt
    refine ⟨⟨(i 0).val / 256, by omega⟩, ⟨(i 0).val % 256, by omega⟩, Fin.ext ?_⟩
    rw [row_val (by show (i 0).val / 256 < 32; omega)]
    show (i 0).val = 256 * ((i 0).val / 256) + (i 0).val % 256
    omega
  have hi : ((cfg0.win 9).blk t).view.emb (ix2 r (i 1)) = i := by
    funext b
    apply Fin.ext
    match b with
    | ⟨0, _⟩ => show win0_9.index t 0 * 256 + 1 * r.val = (i 0).val; rw [(index_rows t).2.2.2.2.2.1.1, hr, row_val (lt_N t)]; omega
    | ⟨1, _⟩ => show win0_9.index t 1 * 2816 + 1 * (i 1).val = (i 1).val; rw [(index_rows t).2.2.2.2.2.1.2]; omega
  have hb := congrFun (blocks9 m c t (flush9 t)) (ix2 r (i 1))
  rw [View.read_apply, hi, flushed9] at hb
  refine hb.trans ?_
  show (outsAt0 m c t.val t.isLt).2.1 (ix2 r (i 1)) = _
  rw [hr]
  exact out9 H t r (i 1)

theorem flush10 : ∀ t : Fin cfg0.N, (cfg0.win 10).flush t = true :=
  (by decide +kernel : ∀ t : Fin grid0.N, win0_10.flush t = true)

include H in
theorem arr10 : (dats m 0 c).arrAt 10 cfg0.N = fun i => (((dgate a (i 0) (i 1) : ℝ) : EReal) : Elt Ideal .bf16) := by
  have hN : cfg0.N = 32 := N_0
  funext i
  obtain ⟨t, r, hr⟩ : ∃ (t : Fin cfg0.N) (r : Fin 256), i 0 = row t.val r := by
    have h0 : (i 0).val < 8192 := (i 0).isLt
    refine ⟨⟨(i 0).val / 256, by omega⟩, ⟨(i 0).val % 256, by omega⟩, Fin.ext ?_⟩
    rw [row_val (by show (i 0).val / 256 < 32; omega)]
    show (i 0).val = 256 * ((i 0).val / 256) + (i 0).val % 256
    omega
  have hi : ((cfg0.win 10).blk t).view.emb (ix2 r (i 1)) = i := by
    funext b
    apply Fin.ext
    match b with
    | ⟨0, _⟩ => show win0_10.index t 0 * 256 + 1 * r.val = (i 0).val; rw [(index_rows t).2.2.2.2.2.2.1.1, hr, row_val (lt_N t)]; omega
    | ⟨1, _⟩ => show win0_10.index t 1 * 2816 + 1 * (i 1).val = (i 1).val; rw [(index_rows t).2.2.2.2.2.2.1.2]; omega
  have hb := congrFun (blocks10 m c t (flush10 t)) (ix2 r (i 1))
  rw [View.read_apply, hi, flushed10] at hb
  refine hb.trans ?_
  show (outsAt0 m c t.val t.isLt).2.2.1 (ix2 r (i 1)) = _
  rw [hr]
  exact out10 H t r (i 1)

theorem flush11 : ∀ t : Fin cfg0.N, (cfg0.win 11).flush t = true :=
  (by decide +kernel : ∀ t : Fin grid0.N, win0_11.flush t = true)

include H in
theorem arr11 : (dats m 0 c).arrAt 11 cfg0.N = fun i => (((dup a (i 0) (i 1) : ℝ) : EReal) : Elt Ideal .bf16) := by
  have hN : cfg0.N = 32 := N_0
  funext i
  obtain ⟨t, r, hr⟩ : ∃ (t : Fin cfg0.N) (r : Fin 256), i 0 = row t.val r := by
    have h0 : (i 0).val < 8192 := (i 0).isLt
    refine ⟨⟨(i 0).val / 256, by omega⟩, ⟨(i 0).val % 256, by omega⟩, Fin.ext ?_⟩
    rw [row_val (by show (i 0).val / 256 < 32; omega)]
    show (i 0).val = 256 * ((i 0).val / 256) + (i 0).val % 256
    omega
  have hi : ((cfg0.win 11).blk t).view.emb (ix2 r (i 1)) = i := by
    funext b
    apply Fin.ext
    match b with
    | ⟨0, _⟩ => show win0_11.index t 0 * 256 + 1 * r.val = (i 0).val; rw [(index_rows t).2.2.2.2.2.2.2.1, hr, row_val (lt_N t)]; omega
    | ⟨1, _⟩ => show win0_11.index t 1 * 2816 + 1 * (i 1).val = (i 1).val; rw [(index_rows t).2.2.2.2.2.2.2.2]; omega
  have hb := congrFun (blocks11 m c t (flush11 t)) (ix2 r (i 1))
  rw [View.read_apply, hi, flushed11] at hb
  refine hb.trans ?_
  show (outsAt0 m c t.val t.isLt).2.2.2.1 (ix2 r (i 1)) = _
  rw [hr]
  exact out11 H t r (i 1)

include H in
theorem arr12 : (dats m 0 c).arrAt 12 cfg0.N = fun i => (((dgain a (i 1) : ℝ) : EReal) : Elt Ideal .f32) := by
  have hN : cfg0.N = 32 := N_0
  funext i
  obtain ⟨t, ht⟩ : ∃ t : Fin cfg0.N, t.val = 31 := ⟨⟨31, by omega⟩, rfl⟩
  have hf : (cfg0.win 12).flush t = true :=
    (by decide +kernel : ∀ t : Fin grid0.N, t.val = 31 → win0_12.flush t = true) t ht
  have h0 : (i 0).val = 0 := by have h : (i 0).val < 1 := (i 0).isLt; omega
  have hi : ((cfg0.win 12).blk t).view.emb (ix2 0 (i 1)) = i := by
    funext b
    apply Fin.ext
    match b with
    | ⟨0, _⟩ => show win0_12.index t 0 * 1 + 1 * 0 = (i 0).val; rw [(index_whole t).2.2.2.2.1, h0]
    | ⟨1, _⟩ => show win0_12.index t 1 * 1024 + 1 * (i 1).val = (i 1).val; rw [(index_whole t).2.2.2.2.2]; omega
  have hd : ∀ t t' : Fin cfg0.N, (cfg0.win 12).flush t = true → (cfg0.win 12).flush t' = true → t ≠ t' →
      Disjoint ((cfg0.win 12).blk t).view.set ((cfg0.win 12).blk t').view.set := by
    intro t t' h h' hne
    have hl : ∀ t : Fin cfg0.N, (cfg0.win 12).flush t = true → t.val = 31 :=
      (by decide +kernel : ∀ t : Fin grid0.N, win0_12.flush t = true → t.val = 31)
    exact absurd (Fin.ext ((hl t h).trans (hl t' h').symm)) hne
  have hb := congrFun ((dats m 0 c).read_blk_arrAt_eq_flushed 12 hd cfg0.N t t.isLt hf) (ix2 0 (i 1))
  rw [View.read_apply, hi, flushed12] at hb
  refine hb.trans ?_
  show (outsAt0 m c t.val t.isLt).2.2.2.2 (ix2 0 (i 1)) = _
  exact out12 H t ht (i 1)

end Cert.FfbIdeal.Sum

end
-- ==== Proof.Ffb.lean ====
/- The feed-forward backward kernel and its reference leave the same arrays, on finite arguments. -/
module

public import proofs.«01_k».proof.Defs
public import proofs.«01_k».proof.Proof.FfbKernel
public import proofs.«01_k».proof.Proof.Gen.FfbRefIdeal.Run
public import proofs.«01_k».proof.Proof.Gen.Pre_finite_ffn

@[expose] public section

set_option maxRecDepth 16384

noncomputable section

open Idealize.ShloMosaic Idealize.ShloMosaic.TcCoe Idealize.SL.Sem Cert.Lift Cert.Ffn

namespace Cert.Ffn

instance : Subsingleton (⟨0, ![]⟩ : Shape).Idx := ⟨fun _ _ => funext fun a => a.elim0⟩

/-- The real parts of the argument arrays. -/
def Args.of (x0 x1 : (⟨2, ![8192, 1024]⟩ : Shape).Idx → EReal) (x2 : (⟨1, ![1024]⟩ : Shape).Idx → EReal)
    (x3 x4 : (⟨2, ![1024, 2816]⟩ : Shape).Idx → EReal) (x5 : (⟨2, ![2816, 1024]⟩ : Shape).Idx → EReal) : Args where
  h i k := (x0 (ix2 i k)).toReal
  d i k := (x1 (ix2 i k)).toReal
  g k := (x2 (ix1 k)).toReal
  wg k j := (x3 (ix2 k j)).toReal
  wu k j := (x4 (ix2 k j)).toReal
  wd j k := (x5 (ix2 j k)).toReal

/-- Arrays that pass the test of finiteness hold their real parts. -/
theorem reads_of_finite [Cert.Pre_finite_ffn.Facts] (x0 x1 : FVec Ideal ⟨2, ![8192, 1024]⟩ .f32) (x2 : FVec Ideal ⟨1, ![1024]⟩ .f32)
    (x3 x4 : FVec Ideal ⟨2, ![1024, 2816]⟩ .f32) (x5 : FVec Ideal ⟨2, ![2816, 1024]⟩ .f32)
    (e : Cert.Pre_finite_ffn.fn (F := Ideal) x0 x1 x2 x3 x4 x5 = fun _ => 1#1) : Reads (Args.of x0 x1 x2 x3 x4 x5) x0 x1 x2 x3 x4 x5 := by
  have e := congrFun e (fun a => a.elim0)
  unfold Cert.Pre_finite_ffn.fn Cert.Pre_finite_ffn.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun _ _ => real_of_all x0 _ _ _ _ _ _ e0 _, fun _ _ => real_of_all x1 _ _ _ _ _ _ e1 _, fun _ => real_of_all x2 _ _ _ _ _ _ e2 _,
    fun _ _ => real_of_all x3 _ _ _ _ _ _ e3 _, fun _ _ => real_of_all x4 _ _ _ _ _ _ e4 _, fun _ _ => real_of_all x5 _ _ _ _ _ _ e5 _⟩

theorem Reads.of_eq {a : Args} {x0 x1 y0 y1 : (⟨2, ![8192, 1024]⟩ : Shape).Idx → EReal} {x2 y2 : (⟨1, ![1024]⟩ : Shape).Idx → EReal}
    {x3 x4 y3 y4 : (⟨2, ![1024, 2816]⟩ : Shape).Idx → EReal} {x5 y5 : (⟨2, ![2816, 1024]⟩ : Shape).Idx → EReal}
    (H : Reads a x0 x1 x2 x3 x4 x5) (h0 : y0 = x0) (h1 : y1 = x1) (h2 : y2 = x2) (h3 : y3 = x3) (h4 : y4 = x4) (h5 : y5 = x5) :
    Reads a y0 y1 y2 y3 y4 y5 := by
  subst h0 h1 h2 h3 h4 h5
  exact H

end Cert.Ffn

namespace Cert.FfbRefIdeal.Sum

open Cert.FfbRefIdeal Cert.FfbRefIdeal.Read

variable {a : Args} {x0 x1 : (⟨S8192x1024, .f32⟩ : BufTy).Contents (Elt Ideal)} {x2 : (⟨S1024, .f32⟩ : BufTy).Contents (Elt Ideal)}
  {x3 x4 : (⟨S1024x2816, .f32⟩ : BufTy).Contents (Elt Ideal)} {x5 : (⟨S2816x1024, .f32⟩ : BufTy).Contents (Elt Ideal)}
  (H : Reads a x0 x1 x2 x3 x4 x5)
include H

theorem v48_eq : val_main_v48 (F := Ideal) x0 x1 x2 x3 x4 x5 = fun i => (((dh a (i 0) (i 1) : ℝ) : EReal) : Elt Ideal .f32) :=
  funext fun i => (congrArg _ (eq_ix2 i)).trans (dh_eq H (i 0) (i 1))

theorem v49_eq : val_main_v49 (F := Ideal) x0 x2 x3 x4 = fun i => (((act a (i 0) (i 1) : ℝ) : EReal) : Elt Ideal .bf16) :=
  funext fun i => (congrArg (val_main_v19 (F := Ideal) x0 x2 x3 x4) (eq_ix2 i)).trans (act_eq H (i 0) (i 1))

theorem v50_eq : val_main_v50 (F := Ideal) x0 x1 x2 x3 x4 x5 = fun i => (((dgate a (i 0) (i 1) : ℝ) : EReal) : Elt Ideal .bf16) :=
  funext fun i => (congrArg (val_main_v24 (F := Ideal) x0 x1 x2 x3 x4 x5) (eq_ix2 i)).trans (dgate_eq H (i 0) (i 1))

theorem v51_eq : val_main_v51 (F := Ideal) x0 x1 x2 x3 x5 = fun i => (((dup a (i 0) (i 1) : ℝ) : EReal) : Elt Ideal .bf16) :=
  funext fun i => (congrArg (val_main_v22 (F := Ideal) x0 x1 x2 x3 x5) (eq_ix2 i)).trans (dup_eq H (i 0) (i 1))

theorem v52_eq : val_main_v52 (F := Ideal) x0 x1 x2 x3 x4 x5 = fun i => (((dgain a (i 1) : ℝ) : EReal) : Elt Ideal .f32) :=
  funext fun i => (congrArg _ (eq_ix2 i)).trans (dgain_eq H (i 1) (i 0))

end Cert.FfbRefIdeal.Sum

namespace Cert.FfbIdeal

theorem value_agrees : algebraic_FfbIdeal_FfbRefIdeal_pre_finite_ffn (hFfbIdeal := Cert.FfbIdeal.Gen.facts)
    (hFfbRefIdeal := Cert.FfbRefIdeal.Gen.facts) (hPre_finite_ffn := Cert.Pre_finite_ffn.Gen.facts) := by
  letI := Cert.Pre_finite_ffn.Gen.facts
  intro m ρ m' ρ' hpre hagree
  have H := fun c => reads_of_finite _ _ _ _ _ _ (hpre c)
  refine ⟨_, _, _, _, _, Cert.FfbIdeal.Value.run_blocks (F := Ideal) m ρ, ?_⟩
  refine (θ_run Cert.FfbRefIdeal.defs _ _).mono (fun r h c => ?_) (Cert.FfbRefIdeal.Value.run (F := Ideal) m' ρ')
  obtain ⟨g0, g1, g2, g3, g4, g5⟩ := hagree c
  obtain ⟨r0, r1, r2, r3, r4, kept⟩ := h c
  have H' := (H c).of_eq g0 g1 g2 g3 g4 g5
  clear g0 g1 g2 g3 g4 g5 h
  refine ⟨?_, ?_, ?_, ?_, ?_, kept⟩
  · exact r0.trans ((Cert.FfbRefIdeal.Read.val_main_v48_eq m' c).trans ((Cert.FfbRefIdeal.Sum.v48_eq H').trans (Cert.FfbIdeal.Sum.arr8 (H c)).symm))
  · exact r1.trans ((Cert.FfbRefIdeal.Read.val_main_v49_eq _ _ _ _).trans ((Cert.FfbRefIdeal.Sum.v49_eq H').trans (Cert.FfbIdeal.Sum.arr9 (H c)).symm))
  · exact r2.trans ((Cert.FfbRefIdeal.Read.val_main_v50_eq m' c).trans ((Cert.FfbRefIdeal.Sum.v50_eq H').trans (Cert.FfbIdeal.Sum.arr10 (H c)).symm))
  · exact r3.trans ((Cert.FfbRefIdeal.Read.val_main_v51_eq _ _ _ _ _).trans ((Cert.FfbRefIdeal.Sum.v51_eq H').trans (Cert.FfbIdeal.Sum.arr11 (H c)).symm))
  · exact r4.trans ((Cert.FfbRefIdeal.Read.val_main_v52_eq m' c).trans ((Cert.FfbRefIdeal.Sum.v52_eq H').trans (Cert.FfbIdeal.Sum.arr12 (H c)).symm))

end Cert.FfbIdeal

end
-- ==== Proof.WgA.lean ====
/- The gradient of a gate, up or input weight: one grid point adds one block of 1024 rows into the strip of columns it works on. -/
module

public import proofs.«01_k».proof.Defs
public import proofs.«01_k».proof.Proof.Gen.WgAIdeal.Value
public import proofs.«01_k».proof.Proof.Gen.WgARefIdeal.Read
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.WgAIdeal.Sum

open Cert.WgAIdeal Cert.WgAIdeal.Gen Cert.WgAIdeal.Value Cert.BlockSums

variable (m : (ℓ : Loc nD τ sig) → Buf (Elt Ideal) ℓ) (c : Dev nD)

/-- The two arguments, entry by entry. -/
abbrev argA (k : Fin 8192) (i : Fin 2816) : EReal := m ((c : Thread nD τ).loc main_arg0) (ix2 k i)
abbrev argB (k : Fin 8192) (j : Fin 1024) : EReal := m ((c : Thread nD τ).loc main_arg1) (ix2 k j)

/-- Row `r` of block `s` of the rows, and column `i` of strip `q` of the columns. -/
abbrev rowOf (s : ℕ) (r : Fin 1024) : Fin 8192 := rowAt 1024 (by decide) s r
abbrev colOf (q : ℕ) (i : Fin 1408) : Fin 2816 := rowAt 1408 (by decide) q i

/-- What the block of rows `s` adds to one entry of strip `q`. -/
abbrev addend (i : Fin 1408) (j : Fin 1024) (q s : ℕ) : EReal :=
  ∑ r : Fin 1024, argA m c (rowOf s r) (colOf q i) * argB m c (rowOf s r) j

theorem index0 (t : Fin cfg0.N) : win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8) t

theorem index1 (t : Fin cfg0.N) : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t

theorem index2 (t : Fin cfg0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem flush_last (t : Fin cfg0.N) (h : t.val % 8 = 7) : (cfg0.win 2).flush t = true :=
  (by decide +kernel : ∀ t : Fin grid0.N, t.val % 8 = 7 → (cfg0.win 2).flush t = true) t h

theorem last_of_flush (t : Fin cfg0.N) (h : (cfg0.win 2).flush t = true) : t.val % 8 = 7 :=
  (by decide +kernel : ∀ t : Fin grid0.N, (cfg0.win 2).flush t = true → t.val % 8 = 7) t h

theorem lt_N (t : Fin cfg0.N) : t.val < 16 := lt_of_lt_of_eq t.isLt N_0

theorem block0 (t : Fin cfg0.N) (r : Fin 1024) (i : Fin 1408) :
    ((iblk m c 0 t : Vec Ideal S1024x1408 .bf16) (ix2 r i) : EReal) = argA m c (rowOf (t.val % 8) r) (colOf (t.val / 8) i) := by
  have hN := lt_N t
  unfold iblk
  rw [View.read_apply]
  refine congrArg (m ((c : Thread nD τ).loc main_arg0)) (?_ : _ = ix2 (rowOf (t.val % 8) r) (colOf (t.val / 8) i))
  funext b
  apply Fin.ext
  match b with
  | ⟨0, _⟩ => show win0_0.index t 0 * 1024 + 1 * r.val = (rowOf (t.val % 8) r).val
              rw [(index0 t).1, rowAt_val (J := 8) (by norm_num) _ _ (by omega)]; omega
  | ⟨1, _⟩ => show win0_0.index t 1 * 1408 + 1 * i.val = (colOf (t.val / 8) i).val
              rw [(index0 t).2, rowAt_val (J := 2) (by norm_num) _ _ (by omega)]; omega

theorem block1 (t : Fin cfg0.N) (r : Fin 1024) (j : Fin 1024) :
    ((iblk m c 1 t : Vec Ideal S1024x1024 .bf16) (ix2 r j) : EReal) = argB m c (rowOf (t.val % 8) r) j := by
  have hN := lt_N t
  unfold iblk
  rw [View.read_apply]
  refine congrArg (m ((c : Thread nD τ).loc main_arg1)) (?_ : _ = ix2 (rowOf (t.val % 8) r) j)
  funext b
  apply Fin.ext
  match b with
  | ⟨0, _⟩ => show win0_1.index t 0 * 1024 + 1 * r.val = (rowOf (t.val % 8) r).val
              rw [(index1 t).1, rowAt_val (J := 8) (by norm_num) _ _ (by omega)]; omega
  | ⟨1, _⟩ => show win0_1.index t 1 * 1024 + 1 * j.val = j.val
              rw [(index1 t).2]; omega

/-- One grid point adds one addend. -/
theorem step_apply (t : Fin cfg0.N) (acc : Vec Ideal S1408x1024 .f32) (i : Fin 1408) (j : Fin 1024) :
    (k0_pay2 (F := Ideal) acc (iblk m c 0 t) (iblk m c 1 t) (ix2 i j) : EReal)
      = acc (ix2 i j) + addend m c i j (t.val / 8) (t.val % 8) := by
  pointwise [k0_pay2]
  simp only [block0, block1]

theorem acc_fresh (t : Fin cfg0.N) (h : t.val % 8 = 0) (i : Fin 1408) (j : Fin 1024) :
    ((outsAt0 m c t.val t.isLt).2 (ix2 i j) : EReal) = addend m c i j (t.val / 8) 0 := by
  rw [outsAt0_A m c t h (by omega)]
  frame_out
  refine (step_apply m c t _ i j).trans ?_
  rw [h]
  pointwise [k0_pay1]

theorem acc_step (n : ℕ) (h : n + 1 < cfg0.N) (h0 : (n + 1) % 8 ≠ 0) (i : Fin 1408) (j : Fin 1024) :
    ((outsAt0 m c (n + 1) h).2 (ix2 i j) : EReal)
      = (outsAt0 m c n (Nat.lt_of_succ_lt h)).2 (ix2 i j) + addend m c i j ((n + 1) / 8) ((n + 1) % 8) := by
  by_cases h7 : (n + 1) % 8 = 7
  · rw [outsAt0_C m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))
  · rw [outsAt0_B m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))

/-- What the accumulator holds after a grid point. -/
theorem acc_apply (n : ℕ) (h : n < cfg0.N) (i : Fin 1408) (j : Fin 1024) :
    ((outsAt0 m c n h).2 (ix2 i j) : EReal) = ∑ s ∈ Finset.range (n % 8 + 1), addend m c i j (n / 8) s :=
  running_sum (by norm_num) (fun n h => (outsAt0 m c n h).2 (ix2 i j)) (addend m c i j)
    (fun n h h0 => acc_fresh m c ⟨n, h⟩ h0 i j) (fun n h h0 => acc_step m c n h h0 i j) n h

/-- The last point of a strip writes what the accumulator holds. -/
theorem out_acc (t : Fin cfg0.N) (h : t.val % 8 = 7) (i : Fin 1408) (j : Fin 1024) :
    ((outsAt0 m c t.val t.isLt).1 (ix2 i j) : EReal) = (outsAt0 m c t.val t.isLt).2 (ix2 i j) := by
  rw [outsAt0_C m c t (by omega) h]
  frame_out
  rfl

/-- The result array holds the product of the transposed first argument with the second. -/
theorem result_apply : (dats m 0 c).arrAt 2 cfg0.N
    = fun i => ((∑ k : Fin 8192, argA m c k (i 0) * argB m c k (i 1) : EReal) : Elt Ideal .bf16) := by
  have hN : cfg0.N = 16 := N_0
  funext i
  obtain ⟨t, r, hr, ht⟩ : ∃ (t : Fin cfg0.N) (r : Fin 1408), i 0 = colOf (t.val / 8) r ∧ t.val % 8 = 7 := by
    have h0 : (i 0).val < 2816 := (i 0).isLt
    refine ⟨⟨8 * ((i 0).val / 1408) + 7, by omega⟩, ⟨(i 0).val % 1408, by omega⟩, Fin.ext ?_, by show (8 * ((i 0).val / 1408) + 7) % 8 = 7; omega⟩
    have hq : (8 * ((i 0).val / 1408) + 7) / 8 = (i 0).val / 1408 := by omega
    show (i 0).val = (colOf ((8 * ((i 0).val / 1408) + 7) / 8) _).val
    rw [hq, rowAt_val (J := 2) (by norm_num) _ _ (by omega)]
    show (i 0).val = 1408 * ((i 0).val / 1408) + (i 0).val % 1408
    omega
  have hlt := lt_N t
  have hi : ((cfg0.win 2).blk t).view.emb (ix2 r (i 1)) = i := by
    funext b
    apply Fin.ext
    match b with
    | ⟨0, _⟩ => show win0_2.index t 0 * 1408 + 1 * r.val = (i 0).val
                rw [(index2 t).1, hr, rowAt_val (J := 2) (by norm_num) _ _ (by omega)]; omega
    | ⟨1, _⟩ => show win0_2.index t 1 * 1024 + 1 * (i 1).val = (i 1).val; rw [(index2 t).2]; omega
  have hd : ∀ t t' : Fin cfg0.N, (cfg0.win 2).flush t = true → (cfg0.win 2).flush t' = true → t ≠ t' →
      Disjoint ((cfg0.win 2).blk t).view.set ((cfg0.win 2).blk t').view.set := by
    intro t t' h h' hne
    refine (cfg0.win 2).disjoint_blk fun he => hne (Fin.ext ?_)
    have e : win0_2.index t (0 : Fin 2) = win0_2.index t' (0 : Fin 2) := congrFun he 0
    rw [(index2 t).1, (index2 t').1] at e
    have := last_of_flush t h
    have := last_of_flush t' h'
    omega
  have hb := congrFun ((dats m 0 c).read_blk_arrAt_eq_flushed 2 hd cfg0.N t t.isLt (flush_last t ht)) (ix2 r (i 1))
  rw [View.read_apply, hi, flushed2] at hb
  refine hb.trans ?_
  show (outsAt0 m c t.val t.isLt).1 (ix2 r (i 1)) = _
  refine (out_acc m c t ht r (i 1)).trans ((acc_apply m c t.val t.isLt r (i 1)).trans ?_)
  rw [ht, hr]
  exact sum_blocks 8 1024 (by norm_num) (by decide) (fun k => argA m c k (colOf (t.val / 8) r) * argB m c k (i 1))

end Cert.WgAIdeal.Sum

namespace Cert.WgARefIdeal.Sum

open Cert.WgARefIdeal Cert.WgARefIdeal.Gen Cert.WgARefIdeal.Read

/-- The reference's result at an entry. -/
theorem result_apply (x0 : (⟨S8192x2816, .bf16⟩ : BufTy).Contents (Elt Ideal)) (x1 : (⟨S8192x1024, .bf16⟩ : BufTy).Contents (Elt Ideal))
    (i : Fin 2816) (j : Fin 1024) :
    val_main_v6 (F := Ideal) x0 x1 (ix2 i j) = ∑ k : Fin 8192, x1 (ix2 k j) * x0 (ix2 k i) := by
  rw [val_main_v6_apply, val_main_v5_apply, val_main_v4_apply]
  refine Finset.sum_congr rfl fun k _ => congrArg₂ (· * ·) (congrArg x1 ?_) (congrArg x0 ?_) <;>
    exact eq_ix2 _

end Cert.WgARefIdeal.Sum

namespace Cert.WgAIdeal

/-- The kernel's gradient is the reference's. -/
theorem value_agrees : algebraic_WgAIdeal_WgARefIdeal (hWgAIdeal := Cert.WgAIdeal.Gen.facts) (hWgARefIdeal := Cert.WgARefIdeal.Gen.facts) := by
  intro m ρ m' ρ' _ hagree
  refine ⟨_, Cert.WgAIdeal.Value.run_blocks (F := Ideal) m ρ, ?_⟩
  refine (θ_run Cert.WgARefIdeal.defs _ _).mono (fun _ h c => ⟨?_, (h c).2⟩) (Cert.WgARefIdeal.Value.run (F := Ideal) m' ρ')
  refine (h c).1.trans ?_
  rw [(hagree c).1, (hagree c).2, Sum.result_apply m c]
  funext i
  rw [eq_ix2 i]
  exact (Cert.WgARefIdeal.Sum.result_apply _ _ (i 0) (i 1)).trans (Finset.sum_congr rfl fun k _ => mul_comm _ _)

end Cert.WgAIdeal

end
-- ==== Proof.WgB.lean ====
/- The gradient of the down weight: one grid point adds one block of 1024 rows into the strip of columns it works on. -/
module

public import proofs.«01_k».proof.Defs
public import proofs.«01_k».proof.Proof.Gen.WgBIdeal.Value
public import proofs.«01_k».proof.Proof.Gen.WgBRefIdeal.Read
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.WgBIdeal.Sum

open Cert.WgBIdeal Cert.WgBIdeal.Gen Cert.WgBIdeal.Value Cert.BlockSums

variable (m : (ℓ : Loc nD τ sig) → Buf (Elt Ideal) ℓ) (c : Dev nD)

/-- The two arguments, entry by entry. -/
abbrev argA (k : Fin 8192) (i : Fin 2816) : EReal := m ((c : Thread nD τ).loc main_arg0) (ix2 k i)
abbrev argB (k : Fin 8192) (j : Fin 1024) : EReal := m ((c : Thread nD τ).loc main_arg1) (ix2 k j)

/-- Row `r` of block `s` of the rows, and column `i` of strip `q` of the columns. -/
abbrev rowOf (s : ℕ) (r : Fin 1024) : Fin 8192 := rowAt 1024 (by decide) s r
abbrev colOf (q : ℕ) (i : Fin 1408) : Fin 2816 := rowAt 1408 (by decide) q i

/-- What the block of rows `s` adds to one entry of strip `q`. -/
abbrev addend (i : Fin 1408) (j : Fin 1024) (q s : ℕ) : EReal :=
  ∑ r : Fin 1024, argA m c (rowOf s r) (colOf q i) * argB m c (rowOf s r) j

theorem index0 (t : Fin cfg0.N) : win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8) t

theorem index1 (t : Fin cfg0.N) : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t

theorem index2 (t : Fin cfg0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem flush_last (t : Fin cfg0.N) (h : t.val % 8 = 7) : (cfg0.win 2).flush t = true :=
  (by decide +kernel : ∀ t : Fin grid0.N, t.val % 8 = 7 → (cfg0.win 2).flush t = true) t h

theorem last_of_flush (t : Fin cfg0.N) (h : (cfg0.win 2).flush t = true) : t.val % 8 = 7 :=
  (by decide +kernel : ∀ t : Fin grid0.N, (cfg0.win 2).flush t = true → t.val % 8 = 7) t h

theorem lt_N (t : Fin cfg0.N) : t.val < 16 := lt_of_lt_of_eq t.isLt N_0

theorem block0 (t : Fin cfg0.N) (r : Fin 1024) (i : Fin 1408) :
    ((iblk m c 0 t : Vec Ideal S1024x1408 .bf16) (ix2 r i) : EReal) = argA m c (rowOf (t.val % 8) r) (colOf (t.val / 8) i) := by
  have hN := lt_N t
  unfold iblk
  rw [View.read_apply]
  refine congrArg (m ((c : Thread nD τ).loc main_arg0)) (?_ : _ = ix2 (rowOf (t.val % 8) r) (colOf (t.val / 8) i))
  funext b
  apply Fin.ext
  match b with
  | ⟨0, _⟩ => show win0_0.index t 0 * 1024 + 1 * r.val = (rowOf (t.val % 8) r).val
              rw [(index0 t).1, rowAt_val (J := 8) (by norm_num) _ _ (by omega)]; omega
  | ⟨1, _⟩ => show win0_0.index t 1 * 1408 + 1 * i.val = (colOf (t.val / 8) i).val
              rw [(index0 t).2, rowAt_val (J := 2) (by norm_num) _ _ (by omega)]; omega

theorem block1 (t : Fin cfg0.N) (r : Fin 1024) (j : Fin 1024) :
    ((iblk m c 1 t : Vec Ideal S1024x1024 .f32) (ix2 r j) : EReal) = argB m c (rowOf (t.val % 8) r) j := by
  have hN := lt_N t
  unfold iblk
  rw [View.read_apply]
  refine congrArg (m ((c : Thread nD τ).loc main_arg1)) (?_ : _ = ix2 (rowOf (t.val % 8) r) j)
  funext b
  apply Fin.ext
  match b with
  | ⟨0, _⟩ => show win0_1.index t 0 * 1024 + 1 * r.val = (rowOf (t.val % 8) r).val
              rw [(index1 t).1, rowAt_val (J := 8) (by norm_num) _ _ (by omega)]; omega
  | ⟨1, _⟩ => show win0_1.index t 1 * 1024 + 1 * j.val = j.val
              rw [(index1 t).2]; omega

/-- One grid point adds one addend. -/
theorem step_apply (t : Fin cfg0.N) (acc : Vec Ideal S1408x1024 .f32) (i : Fin 1408) (j : Fin 1024) :
    (k0_pay2 (F := Ideal) acc (iblk m c 0 t) (iblk m c 1 t) (ix2 i j) : EReal)
      = acc (ix2 i j) + addend m c i j (t.val / 8) (t.val % 8) := by
  pointwise [k0_pay2]
  simp only [block0, block1]

theorem acc_fresh (t : Fin cfg0.N) (h : t.val % 8 = 0) (i : Fin 1408) (j : Fin 1024) :
    ((outsAt0 m c t.val t.isLt).2 (ix2 i j) : EReal) = addend m c i j (t.val / 8) 0 := by
  rw [outsAt0_A m c t h (by omega)]
  frame_out
  refine (step_apply m c t _ i j).trans ?_
  rw [h]
  pointwise [k0_pay1]

theorem acc_step (n : ℕ) (h : n + 1 < cfg0.N) (h0 : (n + 1) % 8 ≠ 0) (i : Fin 1408) (j : Fin 1024) :
    ((outsAt0 m c (n + 1) h).2 (ix2 i j) : EReal)
      = (outsAt0 m c n (Nat.lt_of_succ_lt h)).2 (ix2 i j) + addend m c i j ((n + 1) / 8) ((n + 1) % 8) := by
  by_cases h7 : (n + 1) % 8 = 7
  · rw [outsAt0_C m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))
  · rw [outsAt0_B m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))

/-- What the accumulator holds after a grid point. -/
theorem acc_apply (n : ℕ) (h : n < cfg0.N) (i : Fin 1408) (j : Fin 1024) :
    ((outsAt0 m c n h).2 (ix2 i j) : EReal) = ∑ s ∈ Finset.range (n % 8 + 1), addend m c i j (n / 8) s :=
  running_sum (by norm_num) (fun n h => (outsAt0 m c n h).2 (ix2 i j)) (addend m c i j)
    (fun n h h0 => acc_fresh m c ⟨n, h⟩ h0 i j) (fun n h h0 => acc_step m c n h h0 i j) n h

/-- The last point of a strip writes what the accumulator holds. -/
theorem out_acc (t : Fin cfg0.N) (h : t.val % 8 = 7) (i : Fin 1408) (j : Fin 1024) :
    ((outsAt0 m c t.val t.isLt).1 (ix2 i j) : EReal) = (outsAt0 m c t.val t.isLt).2 (ix2 i j) := by
  rw [outsAt0_C m c t (by omega) h]
  frame_out
  rfl

/-- The result array holds the product of the transposed first argument with the second. -/
theorem result_apply : (dats m 0 c).arrAt 2 cfg0.N
    = fun i => ((∑ k : Fin 8192, argA m c k (i 0) * argB m c k (i 1) : EReal) : Elt Ideal .bf16) := by
  have hN : cfg0.N = 16 := N_0
  funext i
  obtain ⟨t, r, hr, ht⟩ : ∃ (t : Fin cfg0.N) (r : Fin 1408), i 0 = colOf (t.val / 8) r ∧ t.val % 8 = 7 := by
    have h0 : (i 0).val < 2816 := (i 0).isLt
    refine ⟨⟨8 * ((i 0).val / 1408) + 7, by omega⟩, ⟨(i 0).val % 1408, by omega⟩, Fin.ext ?_, by show (8 * ((i 0).val / 1408) + 7) % 8 = 7; omega⟩
    have hq : (8 * ((i 0).val / 1408) + 7) / 8 = (i 0).val / 1408 := by omega
    show (i 0).val = (colOf ((8 * ((i 0).val / 1408) + 7) / 8) _).val
    rw [hq, rowAt_val (J := 2) (by norm_num) _ _ (by omega)]
    show (i 0).val = 1408 * ((i 0).val / 1408) + (i 0).val % 1408
    omega
  have hlt := lt_N t
  have hi : ((cfg0.win 2).blk t).view.emb (ix2 r (i 1)) = i := by
    funext b
    apply Fin.ext
    match b with
    | ⟨0, _⟩ => show win0_2.index t 0 * 1408 + 1 * r.val = (i 0).val
                rw [(index2 t).1, hr, rowAt_val (J := 2) (by norm_num) _ _ (by omega)]; omega
    | ⟨1, _⟩ => show win0_2.index t 1 * 1024 + 1 * (i 1).val = (i 1).val; rw [(index2 t).2]; omega
  have hd : ∀ t t' : Fin cfg0.N, (cfg0.win 2).flush t = true → (cfg0.win 2).flush t' = true → t ≠ t' →
      Disjoint ((cfg0.win 2).blk t).view.set ((cfg0.win 2).blk t').view.set := by
    intro t t' h h' hne
    refine (cfg0.win 2).disjoint_blk fun he => hne (Fin.ext ?_)
    have e : win0_2.index t (0 : Fin 2) = win0_2.index t' (0 : Fin 2) := congrFun he 0
    rw [(index2 t).1, (index2 t').1] at e
    have := last_of_flush t h
    have := last_of_flush t' h'
    omega
  have hb := congrFun ((dats m 0 c).read_blk_arrAt_eq_flushed 2 hd cfg0.N t t.isLt (flush_last t ht)) (ix2 r (i 1))
  rw [View.read_apply, hi, flushed2] at hb
  refine hb.trans ?_
  show (outsAt0 m c t.val t.isLt).1 (ix2 r (i 1)) = _
  refine (out_acc m c t ht r (i 1)).trans ((acc_apply m c t.val t.isLt r (i 1)).trans ?_)
  rw [ht, hr]
  exact sum_blocks 8 1024 (by norm_num) (by decide) (fun k => argA m c k (colOf (t.val / 8) r) * argB m c k (i 1))

end Cert.WgBIdeal.Sum

namespace Cert.WgBRefIdeal.Sum

open Cert.WgBRefIdeal Cert.WgBRefIdeal.Gen Cert.WgBRefIdeal.Read

/-- The reference's result at an entry. -/
theorem result_apply (x0 : (⟨S8192x2816, .bf16⟩ : BufTy).Contents (Elt Ideal)) (x1 : (⟨S8192x1024, .f32⟩ : BufTy).Contents (Elt Ideal))
    (i : Fin 2816) (j : Fin 1024) :
    val_main_v5 (F := Ideal) x0 x1 (ix2 i j) = ∑ k : Fin 8192, x1 (ix2 k j) * x0 (ix2 k i) := by
  rw [val_main_v5_apply, val_main_v4_apply, val_main_v3_apply]
  refine Finset.sum_congr rfl fun k _ => congrArg₂ (· * ·) (congrArg x1 ?_) (congrArg x0 ?_) <;>
    exact eq_ix2 _

end Cert.WgBRefIdeal.Sum

namespace Cert.WgBIdeal

/-- The kernel's gradient is the reference's. -/
theorem value_agrees : algebraic_WgBIdeal_WgBRefIdeal (hWgBIdeal := Cert.WgBIdeal.Gen.facts) (hWgBRefIdeal := Cert.WgBRefIdeal.Gen.facts) := by
  intro m ρ m' ρ' _ hagree
  refine ⟨_, Cert.WgBIdeal.Value.run_blocks (F := Ideal) m ρ, ?_⟩
  refine (θ_run Cert.WgBRefIdeal.defs _ _).mono (fun _ h c => ⟨?_, (h c).2⟩) (Cert.WgBRefIdeal.Value.run (F := Ideal) m' ρ')
  refine (h c).1.trans ?_
  rw [(hagree c).1, (hagree c).2, Sum.result_apply m c]
  funext i
  rw [eq_ix2 i]
  exact (Cert.WgBRefIdeal.Sum.result_apply _ _ (i 0) (i 1)).trans (Finset.sum_congr rfl fun k _ => mul_comm _ _)

end Cert.WgBIdeal

end
-- ==== Proof.WgC.lean ====
/- The gradient of the per-layer gate weight: one grid point adds one block of 1024 rows into the strip of columns it works on. -/
module

public import proofs.«01_k».proof.Defs
public import proofs.«01_k».proof.Proof.Gen.WgCIdeal.Value
public import proofs.«01_k».proof.Proof.Gen.WgCRefIdeal.Read
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.WgCIdeal.Sum

open Cert.WgCIdeal Cert.WgCIdeal.Gen Cert.WgCIdeal.Value Cert.BlockSums

variable (m : (ℓ : Loc nD τ sig) → Buf (Elt Ideal) ℓ) (c : Dev nD)

/-- The two arguments, entry by entry. -/
abbrev argA (k : Fin 8192) (i : Fin 1024) : EReal := m ((c : Thread nD τ).loc main_arg0) (ix2 k i)
abbrev argB (k : Fin 8192) (j : Fin 1024) : EReal := m ((c : Thread nD τ).loc main_arg1) (ix2 k j)

/-- Row `r` of block `s` of the rows, and column `i` of strip `q` of the columns. -/
abbrev rowOf (s : ℕ) (r : Fin 1024) : Fin 8192 := rowAt 1024 (by decide) s r
abbrev colOf (q : ℕ) (i : Fin 1024) : Fin 1024 := rowAt 1024 (by decide) q i

/-- What the block of rows `s` adds to one entry of strip `q`. -/
abbrev addend (i : Fin 1024) (j : Fin 1024) (q s : ℕ) : EReal :=
  ∑ r : Fin 1024, argA m c (rowOf s r) (colOf q i) * argB m c (rowOf s r) j

theorem index0 (t : Fin cfg0.N) : win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8) t

theorem index1 (t : Fin cfg0.N) : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t

theorem index2 (t : Fin cfg0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem flush_last (t : Fin cfg0.N) (h : t.val % 8 = 7) : (cfg0.win 2).flush t = true :=
  (by decide +kernel : ∀ t : Fin grid0.N, t.val % 8 = 7 → (cfg0.win 2).flush t = true) t h

theorem last_of_flush (t : Fin cfg0.N) (h : (cfg0.win 2).flush t = true) : t.val % 8 = 7 :=
  (by decide +kernel : ∀ t : Fin grid0.N, (cfg0.win 2).flush t = true → t.val % 8 = 7) t h

theorem lt_N (t : Fin cfg0.N) : t.val < 8 := lt_of_lt_of_eq t.isLt N_0

theorem block0 (t : Fin cfg0.N) (r : Fin 1024) (i : Fin 1024) :
    ((iblk m c 0 t : Vec Ideal S1024x1024 .bf16) (ix2 r i) : EReal) = argA m c (rowOf (t.val % 8) r) (colOf (t.val / 8) i) := by
  have hN := lt_N t
  unfold iblk
  rw [View.read_apply]
  refine congrArg (m ((c : Thread nD τ).loc main_arg0)) (?_ : _ = ix2 (rowOf (t.val % 8) r) (colOf (t.val / 8) i))
  funext b
  apply Fin.ext
  match b with
  | ⟨0, _⟩ => show win0_0.index t 0 * 1024 + 1 * r.val = (rowOf (t.val % 8) r).val
              rw [(index0 t).1, rowAt_val (J := 8) (by norm_num) _ _ (by omega)]; omega
  | ⟨1, _⟩ => show win0_0.index t 1 * 1024 + 1 * i.val = (colOf (t.val / 8) i).val
              rw [(index0 t).2, rowAt_val (J := 1) (by norm_num) _ _ (by omega)]; omega

theorem block1 (t : Fin cfg0.N) (r : Fin 1024) (j : Fin 1024) :
    ((iblk m c 1 t : Vec Ideal S1024x1024 .bf16) (ix2 r j) : EReal) = argB m c (rowOf (t.val % 8) r) j := by
  have hN := lt_N t
  unfold iblk
  rw [View.read_apply]
  refine congrArg (m ((c : Thread nD τ).loc main_arg1)) (?_ : _ = ix2 (rowOf (t.val % 8) r) j)
  funext b
  apply Fin.ext
  match b with
  | ⟨0, _⟩ => show win0_1.index t 0 * 1024 + 1 * r.val = (rowOf (t.val % 8) r).val
              rw [(index1 t).1, rowAt_val (J := 8) (by norm_num) _ _ (by omega)]; omega
  | ⟨1, _⟩ => show win0_1.index t 1 * 1024 + 1 * j.val = j.val
              rw [(index1 t).2]; omega

/-- One grid point adds one addend. -/
theorem step_apply (t : Fin cfg0.N) (acc : Vec Ideal S1024x1024 .f32) (i : Fin 1024) (j : Fin 1024) :
    (k0_pay2 (F := Ideal) acc (iblk m c 0 t) (iblk m c 1 t) (ix2 i j) : EReal)
      = acc (ix2 i j) + addend m c i j (t.val / 8) (t.val % 8) := by
  pointwise [k0_pay2]
  simp only [block0, block1]

theorem acc_fresh (t : Fin cfg0.N) (h : t.val % 8 = 0) (i : Fin 1024) (j : Fin 1024) :
    ((outsAt0 m c t.val t.isLt).2 (ix2 i j) : EReal) = addend m c i j (t.val / 8) 0 := by
  rw [outsAt0_A m c t h (by omega)]
  frame_out
  refine (step_apply m c t _ i j).trans ?_
  rw [h]
  pointwise [k0_pay1]

theorem acc_step (n : ℕ) (h : n + 1 < cfg0.N) (h0 : (n + 1) % 8 ≠ 0) (i : Fin 1024) (j : Fin 1024) :
    ((outsAt0 m c (n + 1) h).2 (ix2 i j) : EReal)
      = (outsAt0 m c n (Nat.lt_of_succ_lt h)).2 (ix2 i j) + addend m c i j ((n + 1) / 8) ((n + 1) % 8) := by
  by_cases h7 : (n + 1) % 8 = 7
  · rw [outsAt0_C m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))
  · rw [outsAt0_B m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))

/-- What the accumulator holds after a grid point. -/
theorem acc_apply (n : ℕ) (h : n < cfg0.N) (i : Fin 1024) (j : Fin 1024) :
    ((outsAt0 m c n h).2 (ix2 i j) : EReal) = ∑ s ∈ Finset.range (n % 8 + 1), addend m c i j (n / 8) s :=
  running_sum (by norm_num) (fun n h => (outsAt0 m c n h).2 (ix2 i j)) (addend m c i j)
    (fun n h h0 => acc_fresh m c ⟨n, h⟩ h0 i j) (fun n h h0 => acc_step m c n h h0 i j) n h

/-- The last point of a strip writes what the accumulator holds. -/
theorem out_acc (t : Fin cfg0.N) (h : t.val % 8 = 7) (i : Fin 1024) (j : Fin 1024) :
    ((outsAt0 m c t.val t.isLt).1 (ix2 i j) : EReal) = (outsAt0 m c t.val t.isLt).2 (ix2 i j) := by
  rw [outsAt0_C m c t (by omega) h]
  frame_out
  rfl

/-- The result array holds the product of the transposed first argument with the second. -/
theorem result_apply : (dats m 0 c).arrAt 2 cfg0.N
    = fun i => ((∑ k : Fin 8192, argA m c k (i 0) * argB m c k (i 1) : EReal) : Elt Ideal .bf16) := by
  have hN : cfg0.N = 8 := N_0
  funext i
  obtain ⟨t, r, hr, ht⟩ : ∃ (t : Fin cfg0.N) (r : Fin 1024), i 0 = colOf (t.val / 8) r ∧ t.val % 8 = 7 := by
    have h0 : (i 0).val < 1024 := (i 0).isLt
    refine ⟨⟨8 * ((i 0).val / 1024) + 7, by omega⟩, ⟨(i 0).val % 1024, by omega⟩, Fin.ext ?_, by show (8 * ((i 0).val / 1024) + 7) % 8 = 7; omega⟩
    have hq : (8 * ((i 0).val / 1024) + 7) / 8 = (i 0).val / 1024 := by omega
    show (i 0).val = (colOf ((8 * ((i 0).val / 1024) + 7) / 8) _).val
    rw [hq, rowAt_val (J := 1) (by norm_num) _ _ (by omega)]
    show (i 0).val = 1024 * ((i 0).val / 1024) + (i 0).val % 1024
    omega
  have hlt := lt_N t
  have hi : ((cfg0.win 2).blk t).view.emb (ix2 r (i 1)) = i := by
    funext b
    apply Fin.ext
    match b with
    | ⟨0, _⟩ => show win0_2.index t 0 * 1024 + 1 * r.val = (i 0).val
                rw [(index2 t).1, hr, rowAt_val (J := 1) (by norm_num) _ _ (by omega)]; omega
    | ⟨1, _⟩ => show win0_2.index t 1 * 1024 + 1 * (i 1).val = (i 1).val; rw [(index2 t).2]; omega
  have hd : ∀ t t' : Fin cfg0.N, (cfg0.win 2).flush t = true → (cfg0.win 2).flush t' = true → t ≠ t' →
      Disjoint ((cfg0.win 2).blk t).view.set ((cfg0.win 2).blk t').view.set := by
    intro t t' h h' hne
    refine (cfg0.win 2).disjoint_blk fun he => hne (Fin.ext ?_)
    have e : win0_2.index t (0 : Fin 2) = win0_2.index t' (0 : Fin 2) := congrFun he 0
    rw [(index2 t).1, (index2 t').1] at e
    have := last_of_flush t h
    have := last_of_flush t' h'
    omega
  have hb := congrFun ((dats m 0 c).read_blk_arrAt_eq_flushed 2 hd cfg0.N t t.isLt (flush_last t ht)) (ix2 r (i 1))
  rw [View.read_apply, hi, flushed2] at hb
  refine hb.trans ?_
  show (outsAt0 m c t.val t.isLt).1 (ix2 r (i 1)) = _
  refine (out_acc m c t ht r (i 1)).trans ((acc_apply m c t.val t.isLt r (i 1)).trans ?_)
  rw [ht, hr]
  exact sum_blocks 8 1024 (by norm_num) (by decide) (fun k => argA m c k (colOf (t.val / 8) r) * argB m c k (i 1))

end Cert.WgCIdeal.Sum

namespace Cert.WgCRefIdeal.Sum

open Cert.WgCRefIdeal Cert.WgCRefIdeal.Gen Cert.WgCRefIdeal.Read

/-- The reference's result at an entry. -/
theorem result_apply (x0 : (⟨S8192x1024, .bf16⟩ : BufTy).Contents (Elt Ideal)) (x1 : (⟨S8192x1024, .bf16⟩ : BufTy).Contents (Elt Ideal))
    (i : Fin 1024) (j : Fin 1024) :
    val_main_v6 (F := Ideal) x0 x1 (ix2 i j) = ∑ k : Fin 8192, x1 (ix2 k j) * x0 (ix2 k i) := by
  rw [val_main_v6_apply, val_main_v5_apply, val_main_v4_apply]
  refine Finset.sum_congr rfl fun k _ => congrArg₂ (· * ·) (congrArg x1 ?_) (congrArg x0 ?_) <;>
    exact eq_ix2 _

end Cert.WgCRefIdeal.Sum

namespace Cert.WgCIdeal

/-- The kernel's gradient is the reference's. -/
theorem value_agrees : algebraic_WgCIdeal_WgCRefIdeal (hWgCIdeal := Cert.WgCIdeal.Gen.facts) (hWgCRefIdeal := Cert.WgCRefIdeal.Gen.facts) := by
  intro m ρ m' ρ' _ hagree
  refine ⟨_, Cert.WgCIdeal.Value.run_blocks (F := Ideal) m ρ, ?_⟩
  refine (θ_run Cert.WgCRefIdeal.defs _ _).mono (fun _ h c => ⟨?_, (h c).2⟩) (Cert.WgCRefIdeal.Value.run (F := Ideal) m' ρ')
  refine (h c).1.trans ?_
  rw [(hagree c).1, (hagree c).2, Sum.result_apply m c]
  funext i
  rw [eq_ix2 i]
  exact (Cert.WgCRefIdeal.Sum.result_apply _ _ (i 0) (i 1)).trans (Finset.sum_congr rfl fun k _ => mul_comm _ _)

end Cert.WgCIdeal

end
-- ==== Proof.WgD.lean ====
/- The gradient of the per-layer projection weight: one grid point adds one block of 1024 rows into the strip of columns it works on. -/
module

public import proofs.«01_k».proof.Defs
public import proofs.«01_k».proof.Proof.Gen.WgDIdeal.Value
public import proofs.«01_k».proof.Proof.Gen.WgDRefIdeal.Read
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.WgDIdeal.Sum

open Cert.WgDIdeal Cert.WgDIdeal.Gen Cert.WgDIdeal.Value Cert.BlockSums

variable (m : (ℓ : Loc nD τ sig) → Buf (Elt Ideal) ℓ) (c : Dev nD)

/-- The two arguments, entry by entry. -/
abbrev argA (k : Fin 8192) (i : Fin 1024) : EReal := m ((c : Thread nD τ).loc main_arg0) (ix2 k i)
abbrev argB (k : Fin 8192) (j : Fin 256) : EReal := m ((c : Thread nD τ).loc main_arg1) (ix2 k j)

/-- Row `r` of block `s` of the rows, and column `i` of strip `q` of the columns. -/
abbrev rowOf (s : ℕ) (r : Fin 1024) : Fin 8192 := rowAt 1024 (by decide) s r
abbrev colOf (q : ℕ) (i : Fin 1024) : Fin 1024 := rowAt 1024 (by decide) q i

/-- What the block of rows `s` adds to one entry of strip `q`. -/
abbrev addend (i : Fin 1024) (j : Fin 256) (q s : ℕ) : EReal :=
  ∑ r : Fin 1024, argA m c (rowOf s r) (colOf q i) * argB m c (rowOf s r) j

theorem index0 (t : Fin cfg0.N) : win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8) t

theorem index1 (t : Fin cfg0.N) : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t

theorem index2 (t : Fin cfg0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem flush_last (t : Fin cfg0.N) (h : t.val % 8 = 7) : (cfg0.win 2).flush t = true :=
  (by decide +kernel : ∀ t : Fin grid0.N, t.val % 8 = 7 → (cfg0.win 2).flush t = true) t h

theorem last_of_flush (t : Fin cfg0.N) (h : (cfg0.win 2).flush t = true) : t.val % 8 = 7 :=
  (by decide +kernel : ∀ t : Fin grid0.N, (cfg0.win 2).flush t = true → t.val % 8 = 7) t h

theorem lt_N (t : Fin cfg0.N) : t.val < 8 := lt_of_lt_of_eq t.isLt N_0

theorem block0 (t : Fin cfg0.N) (r : Fin 1024) (i : Fin 1024) :
    ((iblk m c 0 t : Vec Ideal S1024x1024 .bf16) (ix2 r i) : EReal) = argA m c (rowOf (t.val % 8) r) (colOf (t.val / 8) i) := by
  have hN := lt_N t
  unfold iblk
  rw [View.read_apply]
  refine congrArg (m ((c : Thread nD τ).loc main_arg0)) (?_ : _ = ix2 (rowOf (t.val % 8) r) (colOf (t.val / 8) i))
  funext b
  apply Fin.ext
  match b with
  | ⟨0, _⟩ => show win0_0.index t 0 * 1024 + 1 * r.val = (rowOf (t.val % 8) r).val
              rw [(index0 t).1, rowAt_val (J := 8) (by norm_num) _ _ (by omega)]; omega
  | ⟨1, _⟩ => show win0_0.index t 1 * 1024 + 1 * i.val = (colOf (t.val / 8) i).val
              rw [(index0 t).2, rowAt_val (J := 1) (by norm_num) _ _ (by omega)]; omega

theorem block1 (t : Fin cfg0.N) (r : Fin 1024) (j : Fin 256) :
    ((iblk m c 1 t : Vec Ideal S1024x256 .f32) (ix2 r j) : EReal) = argB m c (rowOf (t.val % 8) r) j := by
  have hN := lt_N t
  unfold iblk
  rw [View.read_apply]
  refine congrArg (m ((c : Thread nD τ).loc main_arg1)) (?_ : _ = ix2 (rowOf (t.val % 8) r) j)
  funext b
  apply Fin.ext
  match b with
  | ⟨0, _⟩ => show win0_1.index t 0 * 1024 + 1 * r.val = (rowOf (t.val % 8) r).val
              rw [(index1 t).1, rowAt_val (J := 8) (by norm_num) _ _ (by omega)]; omega
  | ⟨1, _⟩ => show win0_1.index t 1 * 256 + 1 * j.val = j.val
              rw [(index1 t).2]; omega

/-- One grid point adds one addend. -/
theorem step_apply (t : Fin cfg0.N) (acc : Vec Ideal S1024x256 .f32) (i : Fin 1024) (j : Fin 256) :
    (k0_pay2 (F := Ideal) acc (iblk m c 0 t) (iblk m c 1 t) (ix2 i j) : EReal)
      = acc (ix2 i j) + addend m c i j (t.val / 8) (t.val % 8) := by
  pointwise [k0_pay2]
  simp only [block0, block1]

theorem acc_fresh (t : Fin cfg0.N) (h : t.val % 8 = 0) (i : Fin 1024) (j : Fin 256) :
    ((outsAt0 m c t.val t.isLt).2 (ix2 i j) : EReal) = addend m c i j (t.val / 8) 0 := by
  rw [outsAt0_A m c t h (by omega)]
  frame_out
  refine (step_apply m c t _ i j).trans ?_
  rw [h]
  pointwise [k0_pay1]

theorem acc_step (n : ℕ) (h : n + 1 < cfg0.N) (h0 : (n + 1) % 8 ≠ 0) (i : Fin 1024) (j : Fin 256) :
    ((outsAt0 m c (n + 1) h).2 (ix2 i j) : EReal)
      = (outsAt0 m c n (Nat.lt_of_succ_lt h)).2 (ix2 i j) + addend m c i j ((n + 1) / 8) ((n + 1) % 8) := by
  by_cases h7 : (n + 1) % 8 = 7
  · rw [outsAt0_C m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))
  · rw [outsAt0_B m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))

/-- What the accumulator holds after a grid point. -/
theorem acc_apply (n : ℕ) (h : n < cfg0.N) (i : Fin 1024) (j : Fin 256) :
    ((outsAt0 m c n h).2 (ix2 i j) : EReal) = ∑ s ∈ Finset.range (n % 8 + 1), addend m c i j (n / 8) s :=
  running_sum (by norm_num) (fun n h => (outsAt0 m c n h).2 (ix2 i j)) (addend m c i j)
    (fun n h h0 => acc_fresh m c ⟨n, h⟩ h0 i j) (fun n h h0 => acc_step m c n h h0 i j) n h

/-- The last point of a strip writes what the accumulator holds. -/
theorem out_acc (t : Fin cfg0.N) (h : t.val % 8 = 7) (i : Fin 1024) (j : Fin 256) :
    ((outsAt0 m c t.val t.isLt).1 (ix2 i j) : EReal) = (outsAt0 m c t.val t.isLt).2 (ix2 i j) := by
  rw [outsAt0_C m c t (by omega) h]
  frame_out
  rfl

/-- The result array holds the product of the transposed first argument with the second. -/
theorem result_apply : (dats m 0 c).arrAt 2 cfg0.N
    = fun i => ((∑ k : Fin 8192, argA m c k (i 0) * argB m c k (i 1) : EReal) : Elt Ideal .bf16) := by
  have hN : cfg0.N = 8 := N_0
  funext i
  obtain ⟨t, r, hr, ht⟩ : ∃ (t : Fin cfg0.N) (r : Fin 1024), i 0 = colOf (t.val / 8) r ∧ t.val % 8 = 7 := by
    have h0 : (i 0).val < 1024 := (i 0).isLt
    refine ⟨⟨8 * ((i 0).val / 1024) + 7, by omega⟩, ⟨(i 0).val % 1024, by omega⟩, Fin.ext ?_, by show (8 * ((i 0).val / 1024) + 7) % 8 = 7; omega⟩
    have hq : (8 * ((i 0).val / 1024) + 7) / 8 = (i 0).val / 1024 := by omega
    show (i 0).val = (colOf ((8 * ((i 0).val / 1024) + 7) / 8) _).val
    rw [hq, rowAt_val (J := 1) (by norm_num) _ _ (by omega)]
    show (i 0).val = 1024 * ((i 0).val / 1024) + (i 0).val % 1024
    omega
  have hlt := lt_N t
  have hi : ((cfg0.win 2).blk t).view.emb (ix2 r (i 1)) = i := by
    funext b
    apply Fin.ext
    match b with
    | ⟨0, _⟩ => show win0_2.index t 0 * 1024 + 1 * r.val = (i 0).val
                rw [(index2 t).1, hr, rowAt_val (J := 1) (by norm_num) _ _ (by omega)]; omega
    | ⟨1, _⟩ => show win0_2.index t 1 * 256 + 1 * (i 1).val = (i 1).val; rw [(index2 t).2]; omega
  have hd : ∀ t t' : Fin cfg0.N, (cfg0.win 2).flush t = true → (cfg0.win 2).flush t' = true → t ≠ t' →
      Disjoint ((cfg0.win 2).blk t).view.set ((cfg0.win 2).blk t').view.set := by
    intro t t' h h' hne
    refine (cfg0.win 2).disjoint_blk fun he => hne (Fin.ext ?_)
    have e : win0_2.index t (0 : Fin 2) = win0_2.index t' (0 : Fin 2) := congrFun he 0
    rw [(index2 t).1, (index2 t').1] at e
    have := last_of_flush t h
    have := last_of_flush t' h'
    omega
  have hb := congrFun ((dats m 0 c).read_blk_arrAt_eq_flushed 2 hd cfg0.N t t.isLt (flush_last t ht)) (ix2 r (i 1))
  rw [View.read_apply, hi, flushed2] at hb
  refine hb.trans ?_
  show (outsAt0 m c t.val t.isLt).1 (ix2 r (i 1)) = _
  refine (out_acc m c t ht r (i 1)).trans ((acc_apply m c t.val t.isLt r (i 1)).trans ?_)
  rw [ht, hr]
  exact sum_blocks 8 1024 (by norm_num) (by decide) (fun k => argA m c k (colOf (t.val / 8) r) * argB m c k (i 1))

end Cert.WgDIdeal.Sum

namespace Cert.WgDRefIdeal.Sum

open Cert.WgDRefIdeal Cert.WgDRefIdeal.Gen Cert.WgDRefIdeal.Read

/-- The reference's result at an entry. -/
theorem result_apply (x0 : (⟨S8192x1024, .bf16⟩ : BufTy).Contents (Elt Ideal)) (x1 : (⟨S8192x256, .f32⟩ : BufTy).Contents (Elt Ideal))
    (i : Fin 1024) (j : Fin 256) :
    val_main_v5 (F := Ideal) x0 x1 (ix2 i j) = ∑ k : Fin 8192, x1 (ix2 k j) * x0 (ix2 k i) := by
  rw [val_main_v5_apply, val_main_v4_apply, val_main_v3_apply]
  refine Finset.sum_congr rfl fun k _ => congrArg₂ (· * ·) (congrArg x1 ?_) (congrArg x0 ?_) <;>
    exact eq_ix2 _

end Cert.WgDRefIdeal.Sum

namespace Cert.WgDIdeal

/-- The kernel's gradient is the reference's. -/
theorem value_agrees : algebraic_WgDIdeal_WgDRefIdeal (hWgDIdeal := Cert.WgDIdeal.Gen.facts) (hWgDRefIdeal := Cert.WgDRefIdeal.Gen.facts) := by
  intro m ρ m' ρ' _ hagree
  refine ⟨_, Cert.WgDIdeal.Value.run_blocks (F := Ideal) m ρ, ?_⟩
  refine (θ_run Cert.WgDRefIdeal.defs _ _).mono (fun _ h c => ⟨?_, (h c).2⟩) (Cert.WgDRefIdeal.Value.run (F := Ideal) m' ρ')
  refine (h c).1.trans ?_
  rw [(hagree c).1, (hagree c).2, Sum.result_apply m c]
  funext i
  rw [eq_ix2 i]
  exact (Cert.WgDRefIdeal.Sum.result_apply _ _ (i 0) (i 1)).trans (Finset.sum_congr rfl fun k _ => mul_comm _ _)

end Cert.WgDIdeal

end
-- ==== Proof.WgE.lean ====
/- The gradient of the output weight: one grid point adds one block of 1024 rows into the strip of columns it works on. -/
module

public import proofs.«01_k».proof.Defs
public import proofs.«01_k».proof.Proof.Gen.WgEIdeal.Value
public import proofs.«01_k».proof.Proof.Gen.WgERefIdeal.Read
public import proofs.«01_k».proof.Proof.BlockSums
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.WgEIdeal.Sum

open Cert.WgEIdeal Cert.WgEIdeal.Gen Cert.WgEIdeal.Value Cert.BlockSums

variable (m : (ℓ : Loc nD τ sig) → Buf (Elt Ideal) ℓ) (c : Dev nD)

/-- The two arguments, entry by entry. -/
abbrev argA (k : Fin 8192) (i : Fin 1024) : EReal := m ((c : Thread nD τ).loc main_arg0) (ix2 k i)
abbrev argB (k : Fin 8192) (j : Fin 1024) : EReal := m ((c : Thread nD τ).loc main_arg1) (ix2 k j)

/-- Row `r` of block `s` of the rows, and column `i` of strip `q` of the columns. -/
abbrev rowOf (s : ℕ) (r : Fin 1024) : Fin 8192 := rowAt 1024 (by decide) s r
abbrev colOf (q : ℕ) (i : Fin 1024) : Fin 1024 := rowAt 1024 (by decide) q i

/-- What the block of rows `s` adds to one entry of strip `q`. -/
abbrev addend (i : Fin 1024) (j : Fin 1024) (q s : ℕ) : EReal :=
  ∑ r : Fin 1024, argA m c (rowOf s r) (colOf q i) * argB m c (rowOf s r) j

theorem index0 (t : Fin cfg0.N) : win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8) t

theorem index1 (t : Fin cfg0.N) : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t

theorem index2 (t : Fin cfg0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem flush_last (t : Fin cfg0.N) (h : t.val % 8 = 7) : (cfg0.win 2).flush t = true :=
  (by decide +kernel : ∀ t : Fin grid0.N, t.val % 8 = 7 → (cfg0.win 2).flush t = true) t h

theorem last_of_flush (t : Fin cfg0.N) (h : (cfg0.win 2).flush t = true) : t.val % 8 = 7 :=
  (by decide +kernel : ∀ t : Fin grid0.N, (cfg0.win 2).flush t = true → t.val % 8 = 7) t h

theorem lt_N (t : Fin cfg0.N) : t.val < 8 := lt_of_lt_of_eq t.isLt N_0

theorem block0 (t : Fin cfg0.N) (r : Fin 1024) (i : Fin 1024) :
    ((iblk m c 0 t : Vec Ideal S1024x1024 .bf16) (ix2 r i) : EReal) = argA m c (rowOf (t.val % 8) r) (colOf (t.val / 8) i) := by
  have hN := lt_N t
  unfold iblk
  rw [View.read_apply]
  refine congrArg (m ((c : Thread nD τ).loc main_arg0)) (?_ : _ = ix2 (rowOf (t.val % 8) r) (colOf (t.val / 8) i))
  funext b
  apply Fin.ext
  match b with
  | ⟨0, _⟩ => show win0_0.index t 0 * 1024 + 1 * r.val = (rowOf (t.val % 8) r).val
              rw [(index0 t).1, rowAt_val (J := 8) (by norm_num) _ _ (by omega)]; omega
  | ⟨1, _⟩ => show win0_0.index t 1 * 1024 + 1 * i.val = (colOf (t.val / 8) i).val
              rw [(index0 t).2, rowAt_val (J := 1) (by norm_num) _ _ (by omega)]; omega

theorem block1 (t : Fin cfg0.N) (r : Fin 1024) (j : Fin 1024) :
    ((iblk m c 1 t : Vec Ideal S1024x1024 .f32) (ix2 r j) : EReal) = argB m c (rowOf (t.val % 8) r) j := by
  have hN := lt_N t
  unfold iblk
  rw [View.read_apply]
  refine congrArg (m ((c : Thread nD τ).loc main_arg1)) (?_ : _ = ix2 (rowOf (t.val % 8) r) j)
  funext b
  apply Fin.ext
  match b with
  | ⟨0, _⟩ => show win0_1.index t 0 * 1024 + 1 * r.val = (rowOf (t.val % 8) r).val
              rw [(index1 t).1, rowAt_val (J := 8) (by norm_num) _ _ (by omega)]; omega
  | ⟨1, _⟩ => show win0_1.index t 1 * 1024 + 1 * j.val = j.val
              rw [(index1 t).2]; omega

/-- One grid point adds one addend. -/
theorem step_apply (t : Fin cfg0.N) (acc : Vec Ideal S1024x1024 .f32) (i : Fin 1024) (j : Fin 1024) :
    (k0_pay2 (F := Ideal) acc (iblk m c 0 t) (iblk m c 1 t) (ix2 i j) : EReal)
      = acc (ix2 i j) + addend m c i j (t.val / 8) (t.val % 8) := by
  pointwise [k0_pay2]
  simp only [block0, block1]

theorem acc_fresh (t : Fin cfg0.N) (h : t.val % 8 = 0) (i : Fin 1024) (j : Fin 1024) :
    ((outsAt0 m c t.val t.isLt).2 (ix2 i j) : EReal) = addend m c i j (t.val / 8) 0 := by
  rw [outsAt0_A m c t h (by omega)]
  frame_out
  refine (step_apply m c t _ i j).trans ?_
  rw [h]
  pointwise [k0_pay1]

theorem acc_step (n : ℕ) (h : n + 1 < cfg0.N) (h0 : (n + 1) % 8 ≠ 0) (i : Fin 1024) (j : Fin 1024) :
    ((outsAt0 m c (n + 1) h).2 (ix2 i j) : EReal)
      = (outsAt0 m c n (Nat.lt_of_succ_lt h)).2 (ix2 i j) + addend m c i j ((n + 1) / 8) ((n + 1) % 8) := by
  by_cases h7 : (n + 1) % 8 = 7
  · rw [outsAt0_C m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))
  · rw [outsAt0_B m c ⟨n + 1, h⟩ h0 h7]
    frame_out
    refine (step_apply m c ⟨n + 1, h⟩ _ i j).trans ?_
    exact congrArg (fun x : EReal => x + addend m c i j ((n + 1) / 8) ((n + 1) % 8))
      (congrFun ((Memref.isWhole_whole cc0_scratch0).read_unread (outsAt0 m c n (Nat.lt_of_succ_lt h)).2) (ix2 i j))

/-- What the accumulator holds after a grid point. -/
theorem acc_apply (n : ℕ) (h : n < cfg0.N) (i : Fin 1024) (j : Fin 1024) :
    ((outsAt0 m c n h).2 (ix2 i j) : EReal) = ∑ s ∈ Finset.range (n % 8 + 1), addend m c i j (n / 8) s :=
  running_sum (by norm_num) (fun n h => (outsAt0 m c n h).2 (ix2 i j)) (addend m c i j)
    (fun n h h0 => acc_fresh m c ⟨n, h⟩ h0 i j) (fun n h h0 => acc_step m c n h h0 i j) n h

/-- The last point of a strip writes what the accumulator holds. -/
theorem out_acc (t : Fin cfg0.N) (h : t.val % 8 = 7) (i : Fin 1024) (j : Fin 1024) :
    ((outsAt0 m c t.val t.isLt).1 (ix2 i j) : EReal) = (outsAt0 m c t.val t.isLt).2 (ix2 i j) := by
  rw [outsAt0_C m c t (by omega) h]
  frame_out
  rfl

/-- The result array holds the product of the transposed first argument with the second. -/
theorem result_apply : (dats m 0 c).arrAt 2 cfg0.N
    = fun i => ((∑ k : Fin 8192, argA m c k (i 0) * argB m c k (i 1) : EReal) : Elt Ideal .bf16) := by
  have hN : cfg0.N = 8 := N_0
  funext i
  obtain ⟨t, r, hr, ht⟩ : ∃ (t : Fin cfg0.N) (r : Fin 1024), i 0 = colOf (t.val / 8) r ∧ t.val % 8 = 7 := by
    have h0 : (i 0).val < 1024 := (i 0).isLt
    refine ⟨⟨8 * ((i 0).val / 1024) + 7, by omega⟩, ⟨(i 0).val % 1024, by omega⟩, Fin.ext ?_, by show (8 * ((i 0).val / 1024) + 7) % 8 = 7; omega⟩
    have hq : (8 * ((i 0).val / 1024) + 7) / 8 = (i 0).val / 1024 := by omega
    show (i 0).val = (colOf ((8 * ((i 0).val / 1024) + 7) / 8) _).val
    rw [hq, rowAt_val (J := 1) (by norm_num) _ _ (by omega)]
    show (i 0).val = 1024 * ((i 0).val / 1024) + (i 0).val % 1024
    omega
  have hlt := lt_N t
  have hi : ((cfg0.win 2).blk t).view.emb (ix2 r (i 1)) = i := by
    funext b
    apply Fin.ext
    match b with
    | ⟨0, _⟩ => show win0_2.index t 0 * 1024 + 1 * r.val = (i 0).val
                rw [(index2 t).1, hr, rowAt_val (J := 1) (by norm_num) _ _ (by omega)]; omega
    | ⟨1, _⟩ => show win0_2.index t 1 * 1024 + 1 * (i 1).val = (i 1).val; rw [(index2 t).2]; omega
  have hd : ∀ t t' : Fin cfg0.N, (cfg0.win 2).flush t = true → (cfg0.win 2).flush t' = true → t ≠ t' →
      Disjoint ((cfg0.win 2).blk t).view.set ((cfg0.win 2).blk t').view.set := by
    intro t t' h h' hne
    refine (cfg0.win 2).disjoint_blk fun he => hne (Fin.ext ?_)
    have e : win0_2.index t (0 : Fin 2) = win0_2.index t' (0 : Fin 2) := congrFun he 0
    rw [(index2 t).1, (index2 t').1] at e
    have := last_of_flush t h
    have := last_of_flush t' h'
    omega
  have hb := congrFun ((dats m 0 c).read_blk_arrAt_eq_flushed 2 hd cfg0.N t t.isLt (flush_last t ht)) (ix2 r (i 1))
  rw [View.read_apply, hi, flushed2] at hb
  refine hb.trans ?_
  show (outsAt0 m c t.val t.isLt).1 (ix2 r (i 1)) = _
  refine (out_acc m c t ht r (i 1)).trans ((acc_apply m c t.val t.isLt r (i 1)).trans ?_)
  rw [ht, hr]
  exact sum_blocks 8 1024 (by norm_num) (by decide) (fun k => argA m c k (colOf (t.val / 8) r) * argB m c k (i 1))

end Cert.WgEIdeal.Sum

namespace Cert.WgERefIdeal.Sum

open Cert.WgERefIdeal Cert.WgERefIdeal.Gen Cert.WgERefIdeal.Read

/-- The reference's result at an entry. -/
theorem result_apply (x0 : (⟨S8192x1024, .bf16⟩ : BufTy).Contents (Elt Ideal)) (x1 : (⟨S8192x1024, .f32⟩ : BufTy).Contents (Elt Ideal))
    (i : Fin 1024) (j : Fin 1024) :
    val_main_v5 (F := Ideal) x0 x1 (ix2 i j) = ∑ k : Fin 8192, x1 (ix2 k j) * x0 (ix2 k i) := by
  rw [val_main_v5_apply, val_main_v4_apply, val_main_v3_apply]
  refine Finset.sum_congr rfl fun k _ => congrArg₂ (· * ·) (congrArg x1 ?_) (congrArg x0 ?_) <;>
    exact eq_ix2 _

end Cert.WgERefIdeal.Sum

namespace Cert.WgEIdeal

/-- The kernel's gradient is the reference's. -/
theorem value_agrees : algebraic_WgEIdeal_WgERefIdeal (hWgEIdeal := Cert.WgEIdeal.Gen.facts) (hWgERefIdeal := Cert.WgERefIdeal.Gen.facts) := by
  intro m ρ m' ρ' _ hagree
  refine ⟨_, Cert.WgEIdeal.Value.run_blocks (F := Ideal) m ρ, ?_⟩
  refine (θ_run Cert.WgERefIdeal.defs _ _).mono (fun _ h c => ⟨?_, (h c).2⟩) (Cert.WgERefIdeal.Value.run (F := Ideal) m' ρ')
  refine (h c).1.trans ?_
  rw [(hagree c).1, (hagree c).2, Sum.result_apply m c]
  funext i
  rw [eq_ix2 i]
  exact (Cert.WgERefIdeal.Sum.result_apply _ _ (i 0) (i 1)).trans (Finset.sum_congr rfl fun k _ => mul_comm _ _)

end Cert.WgEIdeal

end
-- ==== Proof.FfnF.lean ====
/- The feed-forward layer: every grid point works on 512 rows, and the reference's sums over all the columns are taken strip
   by strip. Nothing here needs the arguments to be finite. -/
module

public import proofs.«01_k».proof.Defs
public import proofs.«01_k».proof.Proof.Gen.FfnFIdeal.Value
public import proofs.«01_k».proof.Proof.Gen.FfnFRefIdeal.Run
public import proofs.«01_k».proof.Proof.Gen.FfnFRefIdeal.Read
public import proofs.«01_k».proof.Proof.Strips
public import proofs.«01_k».proof.Proof.BlockSums
public import Idealize.ShloMosaic.Lib.Tactic

@[expose] public section

set_option maxRecDepth 16384

noncomputable section

open Idealize.ShloMosaic Idealize.ShloMosaic.TcCoe Idealize.SL.Sem Cert.BlockSums Cert.Ffn

namespace Cert.FfnLayer

/-- An entry of a normalised row, times its gain. -/
def nrm (h : Fin 1024 → EReal) (g : Fin 1024 → EReal) (k : Fin 1024) : EReal :=
  h k * Ideal.rsqrt (Ideal.div (∑ l, h l * h l) (Ideal.ofBits .f32 0x44800000#32) + Ideal.ofBits .f32 0x358637BD#32) * g k

/-- `x * sigma(x) * u`. -/
def act (x u : EReal) : EReal := x * Ideal.logistic x * u

/-- The product of a normalised row with a column. -/
def proj (h g : Fin 1024 → EReal) (w : Fin 1024 → EReal) : EReal := ∑ k, nrm h g k * w k

/-- The layer's result at one entry. -/
def layer (h g : Fin 1024 → EReal) (wg wu : Fin 1024 → Fin 2816 → EReal) (wd : Fin 2816 → EReal) (x : EReal) : EReal :=
  x + ∑ j, act (proj h g fun k => wg k j) (proj h g fun k => wu k j) * wd j

end Cert.FfnLayer

open Cert.FfnLayer

namespace Cert.FfnFIdeal.Pay

open Cert.FfnFIdeal Cert.FfnFIdeal.Gen

variable (x : Vec Ideal S512x1024 .f32) (g : Vec Ideal S1x1024 .f32) (w : Vec Ideal S1024x1024 .bf16) (w' : Vec Ideal S768x1024 .bf16)

/-- A row of a block. -/
abbrev rowB {n m : ℕ} (x : (⟨2, ![n, m]⟩ : Shape).Idx → EReal) (r : Fin n) : Fin m → EReal := fun k => x (ix2 r k)

theorem hn (r : Fin 512) (k : Fin 1024) : (k0_pay2 (F := Ideal) x g (ix2 r k) : EReal) = nrm (rowB x r) (rowB g 0) k := by
  pointwise [k0_pay2]
  rfl

theorem gate0 (r : Fin 512) (j : Fin 1024) : (k0_pay3 (F := Ideal) x g w (ix2 r j) : EReal) = proj (rowB x r) (rowB g 0) (rowB w j) := by
  pointwise [k0_pay3]
  simp only [zero_add, hn]
  rfl

theorem up0 (r : Fin 512) (j : Fin 1024) : (k0_pay4 (F := Ideal) x g w (ix2 r j) : EReal) = proj (rowB x r) (rowB g 0) (rowB w j) := by
  pointwise [k0_pay4]
  simp only [zero_add, hn]
  rfl

theorem gate1 (r : Fin 512) (j : Fin 1024) : (k0_pay5 (F := Ideal) x g w (ix2 r j) : EReal) = proj (rowB x r) (rowB g 0) (rowB w j) := by
  pointwise [k0_pay5]
  simp only [zero_add, hn]
  rfl

theorem up1 (r : Fin 512) (j : Fin 1024) : (k0_pay6 (F := Ideal) x g w (ix2 r j) : EReal) = proj (rowB x r) (rowB g 0) (rowB w j) := by
  pointwise [k0_pay6]
  simp only [zero_add, hn]
  rfl

theorem gate2 (r : Fin 512) (j : Fin 768) : (k0_pay9 (F := Ideal) (k0_pay2 x g) w' (ix2 r j) : EReal) = proj (rowB x r) (rowB g 0) (rowB w' j) := by
  pointwise [k0_pay9]
  simp only [zero_add, hn]
  rfl

theorem up2 (r : Fin 512) (j : Fin 768) : (k0_pay10 (F := Ideal) (k0_pay2 x g) w' (ix2 r j) : EReal) = proj (rowB x r) (rowB g 0) (rowB w' j) := by
  pointwise [k0_pay10]
  simp only [zero_add, hn]
  rfl

/-- The input plus the first two strips' part of the product. -/
theorem part01 (a0 a1 b0 b1 : FVec Ideal S512x1024 .f32) (d0 d1 : Vec Ideal S1024x1024 .bf16) (r : Fin 512) (k : Fin 1024) :
    (k0_pay13 (F := Ideal) x a0 b0 a1 b1 d0 d1 (ix2 r k) : EReal)
      = (x (ix2 r k) : EReal) + ∑ j : Fin 1024, act (a0 (ix2 r j)) (b0 (ix2 r j)) * d0 (ix2 j k)
        + ∑ j : Fin 1024, act (a1 (ix2 r j)) (b1 (ix2 r j)) * d1 (ix2 j k) := by
  pointwise [k0_pay13]
  rfl

theorem act2 (hn : FVec Ideal S512x1024 .bf16) (a b : Vec Ideal S768x1024 .bf16) (r : Fin 512) (j : Fin 768) :
    (k0_pay16 (F := Ideal) hn a b (ix2 r j) : EReal) = act (k0_pay9 (F := Ideal) hn a (ix2 r j)) (k0_pay10 (F := Ideal) hn b (ix2 r j)) := by
  pointwise [k0_pay16]
  rfl

theorem part2 (y : FVec Ideal S512x1024 .f32) (a : FVec Ideal S512x768 .bf16) (d : Vec Ideal S768x1024 .bf16) (r : Fin 512) (k : Fin 1024) :
    (k0_pay1 (F := Ideal) y a d (ix2 r k) : EReal) = (y (ix2 r k) : EReal) + ∑ j : Fin 768, a (ix2 r j) * d (ix2 j k) := by
  pointwise [k0_pay1]

theorem cut7 (r : Fin 512) (j : Fin 1024) : (k0_pay7 (F := Ideal) x g w (ix2 r j) : EReal) = k0_pay3 (F := Ideal) x g w (ix2 r j) := by
  pointwise [k0_pay7]

theorem cut8 (r : Fin 512) (j : Fin 1024) : (k0_pay8 (F := Ideal) x g w (ix2 r j) : EReal) = k0_pay4 (F := Ideal) x g w (ix2 r j) := by
  pointwise [k0_pay8]

theorem cut11 (y : FVec Ideal S512x1024 .f32) (r : Fin 512) (j : Fin 1024) : (k0_pay11 (F := Ideal) y (ix2 r j) : EReal) = y (ix2 r j) := by
  pointwise [k0_pay11]

theorem cut12 (y : FVec Ideal S512x1024 .f32) (r : Fin 512) (j : Fin 1024) : (k0_pay12 (F := Ideal) y (ix2 r j) : EReal) = y (ix2 r j) := by
  pointwise [k0_pay12]

theorem cut14 (y : FVec Ideal S512x1024 .bf16) (r : Fin 512) (j : Fin 768) : (k0_pay14 (F := Ideal) y w' (ix2 r j) : EReal) = k0_pay9 (F := Ideal) y w' (ix2 r j) := by
  pointwise [k0_pay14]

theorem cut15 (y : FVec Ideal S512x1024 .bf16) (r : Fin 512) (j : Fin 768) : (k0_pay15 (F := Ideal) y w' (ix2 r j) : EReal) = k0_pay10 (F := Ideal) y w' (ix2 r j) := by
  pointwise [k0_pay15]

end Cert.FfnFIdeal.Pay

namespace Cert.FfnFIdeal.Sum

open Cert.FfnFIdeal Cert.FfnFIdeal.Gen Cert.FfnFIdeal.Value Cert.FfnFIdeal.Pay

variable (m : (ℓ : Loc nD τ sig) → Buf (Elt Ideal) ℓ) (c : Dev nD)

/-! ## The arguments, and what the host hands to the kernel -/

abbrev aH (i : Fin 8192) (k : Fin 1024) : EReal := m ((c : Thread nD τ).loc main_arg0) (ix2 i k)
abbrev aG (k : Fin 1024) : EReal := m ((c : Thread nD τ).loc main_arg1) (ix1 k)
abbrev aWg (k : Fin 1024) (j : Fin 2816) : EReal := m ((c : Thread nD τ).loc main_arg2) (ix2 k j)
abbrev aWu (k : Fin 1024) (j : Fin 2816) : EReal := m ((c : Thread nD τ).loc main_arg3) (ix2 k j)
abbrev aWd (j : Fin 2816) (k : Fin 1024) : EReal := m ((c : Thread nD τ).loc main_arg4) (ix2 j k)

theorem dev_loc (b : Ref sig .tc) : m (c, Proc.tc.devRef b) = m ((c : Thread nD τ).loc b) := rfl

theorem host_v1 (j : Fin 2816) (k : Fin 1024) : (V m c main_v1 (ix2 j k) : EReal) = aWg m c k j := by
  unfold V hostOps0
  after_results
  pointwise []

theorem host_v3 (j : Fin 2816) (k : Fin 1024) : (V m c main_v3 (ix2 j k) : EReal) = aWu m c k j := by
  unfold V hostOps0
  after_results
  pointwise []

theorem host_v4 (z : Fin 1) (k : Fin 1024) : (V m c main_v4 (ix2 z k) : EReal) = aG m c k := by
  unfold V hostOps0
  after_results
  pointwise []

theorem host_v5 (j : Fin 2816) (k : Fin 1024) : (V m c main_v5 (ix2 j k) : EReal) = aWd m c j k := by
  unfold V hostOps0
  after_results
  pointwise []

/-! ## The blocks of a grid point -/

def row (t : ℕ) (r : Fin 512) : Fin 8192 := rowAt (N := 8192) 512 (by decide) t r

theorem row_val {t : ℕ} (ht : t < 16) (r : Fin 512) : (row t r).val = 512 * t + r.val :=
  rowAt_val (J := 16) (by norm_num) _ _ ht r

theorem lt_N (t : Fin cfg0.N) : t.val < 16 := lt_of_lt_of_eq t.isLt N_0

theorem index_rows : ∀ t : Fin cfg0.N, (win0_0.index t (0 : Fin 2) = t.val ∧ win0_0.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

theorem index_whole : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem flushes : ∀ t : Fin cfg0.N, (cfg0.win 5).flush t = true ∧ (cfg0.win 6).flush t = true ∧ (cfg0.win 7).flush t = true ∧ (cfg0.win 8).flush t = true :=
  (by decide +kernel : ∀ t : Fin grid0.N, win0_5.flush t = true ∧ win0_6.flush t = true ∧ win0_7.flush t = true ∧ win0_8.flush t = true)

variable (t : Fin cfg0.N)

theorem blk0 (r : Fin 512) (k : Fin 1024) :
    ((iblk m c 0 t : Vec Ideal S512x1024 .f32) (ix2 r k) : EReal) = aH m c (row t.val r) k := by
  have hN := lt_N t
  unfold iblk
  rw [View.read_apply]
  refine (congrArg (V m c main_arg0) (?_ : _ = ix2 (row t.val r) k)).trans (rfl)
  funext b
  apply Fin.ext
  match b with
  | ⟨0, _⟩ => show win0_0.index t 0 * 512 + 1 * r.val = (row t.val r).val; rw [(index_rows t).1.1, row_val hN]; omega
  | ⟨1, _⟩ => show win0_0.index t 1 * 1024 + 1 * k.val = k.val; rw [(index_rows t).1.2]; omega

theorem blk1 (r : Fin 1) (k : Fin 1024) :
    ((iblk m c 1 t : Vec Ideal S1x1024 .f32) (ix2 r k) : EReal) = aG m c k := by
  have hN := lt_N t
  unfold iblk
  rw [View.read_apply]
  refine (congrArg (V m c main_v4) (?_ : _ = ix2 r k)).trans (host_v4 m c r k)
  funext b
  apply Fin.ext
  match b with
  | ⟨0, _⟩ => show win0_1.index t 0 * 1 + 1 * r.val = r.val; rw [(index_whole t).1.1]; omega
  | ⟨1, _⟩ => show win0_1.index t 1 * 1024 + 1 * k.val = k.val; rw [(index_whole t).1.2]; omega

theorem blk2 (r : Fin 2816) (k : Fin 1024) :
    ((iblk m c 2 t : Vec Ideal S2816x1024 .bf16) (ix2 r k) : EReal) = aWg m c k r := by
  have hN := lt_N t
  unfold iblk
  rw [View.read_apply]
  refine (congrArg (V m c main_v1) (?_ : _ = ix2 r k)).trans (host_v1 m c r k)
  funext b
  apply Fin.ext
  match b with
  | ⟨0, _⟩ => show win0_2.index t 0 * 2816 + 1 * r.val = r.val; rw [(index_whole t).2.1.1]; omega
  | ⟨1, _⟩ => show win0_2.index t 1 * 1024 + 1 * k.val = k.val; rw [(index_whole t).2.1.2]; omega

theorem blk3 (r : Fin 2816) (k : Fin 1024) :
    ((iblk m c 3 t : Vec Ideal S2816x1024 .bf16) (ix2 r k) : EReal) = aWu m c k r := by
  have hN := lt_N t
  unfold iblk
  rw [View.read_apply]
  refine (congrArg (V m c main_v3) (?_ : _ = ix2 r k)).trans (host_v3 m c r k)
  funext b
  apply Fin.ext
  match b with
  | ⟨0, _⟩ => show win0_3.index t 0 * 2816 + 1 * r.val = r.val; rw [(index_whole t).2.2.1.1]; omega
  | ⟨1, _⟩ => show win0_3.index t 1 * 1024 + 1 * k.val = k.val; rw [(index_whole t).2.2.1.2]; omega

theorem blk4 (r : Fin 2816) (k : Fin 1024) :
    ((iblk m c 4 t : Vec Ideal S2816x1024 .bf16) (ix2 r k) : EReal) = aWd m c r k := by
  have hN := lt_N t
  unfold iblk
  rw [View.read_apply]
  refine (congrArg (V m c main_v5) (?_ : _ = ix2 r k)).trans (host_v5 m c r k)
  funext b
  apply Fin.ext
  match b with
  | ⟨0, _⟩ => show win0_4.index t 0 * 2816 + 1 * r.val = r.val; rw [(index_whole t).2.2.2.1]; omega
  | ⟨1, _⟩ => show win0_4.index t 1 * 1024 + 1 * k.val = k.val; rw [(index_whole t).2.2.2.2]; omega

theorem ld2_0 (r : Fin 1024) (k : Fin 1024) :
    (View.ld (Val := Elt Ideal) (iblk m c 2 t : Vec Ideal S2816x1024 .bf16) (Rect.unit ![0, 0] ![1024, 1024] inb_S2816x1024_S1024x1024_0_0) (ix2 r k) : EReal) = aWg m c k (c0 r) :=
  (ld_at (iblk m c 2 t : Vec Ideal S2816x1024 .bf16) 0 0 _ _ _ r k (c0 r) k (by simp [c0]) (by simp)).trans (blk2 m c t _ _)

theorem ld2_1 (r : Fin 1024) (k : Fin 1024) :
    (View.ld (Val := Elt Ideal) (iblk m c 2 t : Vec Ideal S2816x1024 .bf16) (Rect.unit ![1024, 0] ![1024, 1024] inb_S2816x1024_S1024x1024_1024_0) (ix2 r k) : EReal) = aWg m c k (c1 r) :=
  (ld_at (iblk m c 2 t : Vec Ideal S2816x1024 .bf16) 1024 0 _ _ _ r k (c1 r) k rfl (by simp)).trans (blk2 m c t _ _)

theorem ld2_2 (r : Fin 768) (k : Fin 1024) :
    (View.ld (Val := Elt Ideal) (iblk m c 2 t : Vec Ideal S2816x1024 .bf16) (Rect.unit ![2048, 0] ![768, 1024] inb_S2816x1024_S768x1024_2048_0) (ix2 r k) : EReal) = aWg m c k (c2 r) :=
  (ld_at (iblk m c 2 t : Vec Ideal S2816x1024 .bf16) 2048 0 _ _ _ r k (c2 r) k rfl (by simp)).trans (blk2 m c t _ _)

theorem ld3_0 (r : Fin 1024) (k : Fin 1024) :
    (View.ld (Val := Elt Ideal) (iblk m c 3 t : Vec Ideal S2816x1024 .bf16) (Rect.unit ![0, 0] ![1024, 1024] inb_S2816x1024_S1024x1024_0_0) (ix2 r k) : EReal) = aWu m c k (c0 r) :=
  (ld_at (iblk m c 3 t : Vec Ideal S2816x1024 .bf16) 0 0 _ _ _ r k (c0 r) k (by simp [c0]) (by simp)).trans (blk3 m c t _ _)

theorem ld3_1 (r : Fin 1024) (k : Fin 1024) :
    (View.ld (Val := Elt Ideal) (iblk m c 3 t : Vec Ideal S2816x1024 .bf16) (Rect.unit ![1024, 0] ![1024, 1024] inb_S2816x1024_S1024x1024_1024_0) (ix2 r k) : EReal) = aWu m c k (c1 r) :=
  (ld_at (iblk m c 3 t : Vec Ideal S2816x1024 .bf16) 1024 0 _ _ _ r k (c1 r) k rfl (by simp)).trans (blk3 m c t _ _)

theorem ld3_2 (r : Fin 768) (k : Fin 1024) :
    (View.ld (Val := Elt Ideal) (iblk m c 3 t : Vec Ideal S2816x1024 .bf16) (Rect.unit ![2048, 0] ![768, 1024] inb_S2816x1024_S768x1024_2048_0) (ix2 r k) : EReal) = aWu m c k (c2 r) :=
  (ld_at (iblk m c 3 t : Vec Ideal S2816x1024 .bf16) 2048 0 _ _ _ r k (c2 r) k rfl (by simp)).trans (blk3 m c t _ _)

theorem ld4_0 (r : Fin 1024) (k : Fin 1024) :
    (View.ld (Val := Elt Ideal) (iblk m c 4 t : Vec Ideal S2816x1024 .bf16) (Rect.unit ![0, 0] ![1024, 1024] inb_S2816x1024_S1024x1024_0_0) (ix2 r k) : EReal) = aWd m c (c0 r) k :=
  (ld_at (iblk m c 4 t : Vec Ideal S2816x1024 .bf16) 0 0 _ _ _ r k (c0 r) k (by simp [c0]) (by simp)).trans (blk4 m c t _ _)

theorem ld4_1 (r : Fin 1024) (k : Fin 1024) :
    (View.ld (Val := Elt Ideal) (iblk m c 4 t : Vec Ideal S2816x1024 .bf16) (Rect.unit ![1024, 0] ![1024, 1024] inb_S2816x1024_S1024x1024_1024_0) (ix2 r k) : EReal) = aWd m c (c1 r) k :=
  (ld_at (iblk m c 4 t : Vec Ideal S2816x1024 .bf16) 1024 0 _ _ _ r k (c1 r) k rfl (by simp)).trans (blk4 m c t _ _)

theorem ld4_2 (r : Fin 768) (k : Fin 1024) :
    (View.ld (Val := Elt Ideal) (iblk m c 4 t : Vec Ideal S2816x1024 .bf16) (Rect.unit ![2048, 0] ![768, 1024] inb_S2816x1024_S768x1024_2048_0) (ix2 r k) : EReal) = aWd m c (c2 r) k :=
  (ld_at (iblk m c 4 t : Vec Ideal S2816x1024 .bf16) 2048 0 _ _ _ r k (c2 r) k rfl (by simp)).trans (blk4 m c t _ _)

/-! ## The values, entry by entry -/

/-- The layer's four results. -/
def hnS (i : Fin 8192) (k : Fin 1024) : EReal := nrm (aH m c i) (aG m c) k
def gateS (i : Fin 8192) (j : Fin 2816) : EReal := proj (aH m c i) (aG m c) fun k => aWg m c k j
def upS (i : Fin 8192) (j : Fin 2816) : EReal := proj (aH m c i) (aG m c) fun k => aWu m c k j
def outS (i : Fin 8192) (k : Fin 1024) : EReal := aH m c i k + ∑ j, act (gateS m c i j) (upS m c i j) * aWd m c j k

theorem rowB_h (r : Fin 512) : rowB (iblk m c 0 t : Vec Ideal S512x1024 .f32) r = aH m c (row t.val r) := funext fun k => blk0 m c t r k

theorem rowB_g : rowB (iblk m c 1 t : Vec Ideal S1x1024 .f32) 0 = aG m c := funext fun k => blk1 m c t 0 k

theorem gate_s0 (r : Fin 512) (j : Fin 1024) :
    ((k0_pay3 (iblk m c 0 t) (iblk m c 1 t) (View.ld (iblk m c 2 t) (Rect.unit ![0, 0] ![1024, 1024] inb_S2816x1024_S1024x1024_0_0)) : FVec Ideal S512x1024 .f32) (ix2 r j) : EReal) = gateS m c (row t.val r) (c0 j) :=
  (gate0 _ _ _ r j).trans (congr (congrArg₂ proj (rowB_h m c t r) (rowB_g m c t)) (funext fun k => ld2_0 m c t j k))

theorem up_s0 (r : Fin 512) (j : Fin 1024) :
    ((k0_pay4 (iblk m c 0 t) (iblk m c 1 t) (View.ld (iblk m c 3 t) (Rect.unit ![0, 0] ![1024, 1024] inb_S2816x1024_S1024x1024_0_0)) : FVec Ideal S512x1024 .f32) (ix2 r j) : EReal) = upS m c (row t.val r) (c0 j) :=
  (up0 _ _ _ r j).trans (congr (congrArg₂ proj (rowB_h m c t r) (rowB_g m c t)) (funext fun k => ld3_0 m c t j k))

theorem gate_s1 (r : Fin 512) (j : Fin 1024) :
    ((k0_pay5 (iblk m c 0 t) (iblk m c 1 t) (View.ld (iblk m c 2 t) (Rect.unit ![1024, 0] ![1024, 1024] inb_S2816x1024_S1024x1024_1024_0)) : FVec Ideal S512x1024 .f32) (ix2 r j) : EReal) = gateS m c (row t.val r) (c1 j) :=
  (gate1 _ _ _ r j).trans (congr (congrArg₂ proj (rowB_h m c t r) (rowB_g m c t)) (funext fun k => ld2_1 m c t j k))

theorem up_s1 (r : Fin 512) (j : Fin 1024) :
    ((k0_pay6 (iblk m c 0 t) (iblk m c 1 t) (View.ld (iblk m c 3 t) (Rect.unit ![1024, 0] ![1024, 1024] inb_S2816x1024_S1024x1024_1024_0)) : FVec Ideal S512x1024 .f32) (ix2 r j) : EReal) = upS m c (row t.val r) (c1 j) :=
  (up1 _ _ _ r j).trans (congr (congrArg₂ proj (rowB_h m c t r) (rowB_g m c t)) (funext fun k => ld3_1 m c t j k))

theorem gate_s2 (r : Fin 512) (j : Fin 768) :
    ((k0_pay9 (k0_pay2 (iblk m c 0 t) (iblk m c 1 t)) (View.ld (iblk m c 2 t) (Rect.unit ![2048, 0] ![768, 1024] inb_S2816x1024_S768x1024_2048_0)) : FVec Ideal S512x768 .f32) (ix2 r j) : EReal) = gateS m c (row t.val r) (c2 j) :=
  (gate2 _ _ _ r j).trans (congr (congrArg₂ proj (rowB_h m c t r) (rowB_g m c t)) (funext fun k => ld2_2 m c t j k))

theorem up_s2 (r : Fin 512) (j : Fin 768) :
    ((k0_pay10 (k0_pay2 (iblk m c 0 t) (iblk m c 1 t)) (View.ld (iblk m c 3 t) (Rect.unit ![2048, 0] ![768, 1024] inb_S2816x1024_S768x1024_2048_0)) : FVec Ideal S512x768 .f32) (ix2 r j) : EReal) = upS m c (row t.val r) (c2 j) :=
  (up2 _ _ _ r j).trans (congr (congrArg₂ proj (rowB_h m c t r) (rowB_g m c t)) (funext fun k => ld3_2 m c t j k))

theorem out8 (r : Fin 512) (k : Fin 1024) : ((outsAt0 m c t).2.2.2 (ix2 r k) : EReal) = hnS m c (row t.val r) k := by
  unfold outsAt0
  frame_out
  exact (hn _ _ r k).trans (congrArg₂ (fun h g => nrm h g k) (rowB_h m c t r) (rowB_g m c t))

theorem out6 (r : Fin 512) (k : Fin 2816) : ((outsAt0 m c t).2.1 (ix2 r k) : EReal) = gateS m c (row t.val r) k := by
  unfold outsAt0
  frame_out
  exact canon_strips _ _ _ _ _ _ (gateS m c <| row t.val ·) (fun r j => (cut7 _ _ _ r j).trans (gate_s0 m c t r j))
    (fun r j => (cut11 _ r j).trans (gate_s1 m c t r j)) (fun r j => (cut14 _ _ r j).trans (gate_s2 m c t r j)) r k

theorem out7 (r : Fin 512) (k : Fin 2816) : ((outsAt0 m c t).2.2.1 (ix2 r k) : EReal) = upS m c (row t.val r) k := by
  unfold outsAt0
  frame_out
  exact canon_strips _ _ _ _ _ _ (upS m c <| row t.val ·) (fun r j => (cut8 _ _ _ r j).trans (up_s0 m c t r j))
    (fun r j => (cut12 _ r j).trans (up_s1 m c t r j)) (fun r j => (cut15 _ _ r j).trans (up_s2 m c t r j)) r k

theorem out5 (r : Fin 512) (k : Fin 1024) : ((outsAt0 m c t).1 (ix2 r k) : EReal) = outS m c (row t.val r) k := by
  unfold outsAt0
  frame_out
  refine (part2 _ _ _ r k).trans ?_
  unfold outS
  rw [sum_strips, ← add_assoc, ← add_assoc]
  refine congrArg₂ (· + ·) ((part01 _ _ _ _ _ _ _ r k).trans (congrArg₂ (· + ·) (congrArg₂ (· + ·) (blk0 m c t r k) ?_) ?_)) ?_
  · exact Finset.sum_congr rfl fun j _ => congrArg₂ (· * ·) (congrArg₂ act (gate_s0 m c t r j) (up_s0 m c t r j)) (ld4_0 m c t j k)
  · exact Finset.sum_congr rfl fun j _ => congrArg₂ (· * ·) (congrArg₂ act (gate_s1 m c t r j) (up_s1 m c t r j)) (ld4_1 m c t j k)
  · exact Finset.sum_congr rfl fun j _ => congrArg₂ (· * ·) ((act2 _ _ _ r j).trans (congrArg₂ act (gate_s2 m c t r j) (up_s2 m c t r j))) (ld4_2 m c t j k)

/-! ## The result arrays -/

/-- Every row is a row of some point. -/
theorem row_of (i : Fin 8192) : ∃ (t : Fin cfg0.N) (r : Fin 512), i = row t.val r := by
  have hN : cfg0.N = 16 := N_0
  refine ⟨⟨i.val / 512, by omega⟩, ⟨i.val % 512, by omega⟩, Fin.ext ?_⟩
  rw [row_val (by show i.val / 512 < 16; omega)]
  show i.val = 512 * (i.val / 512) + i.val % 512
  omega

theorem arr5 : (dats m 0 c).arrAt 5 cfg0.N = fun i => ((outS m c (i 0) (i 1) : EReal) : Elt Ideal .f32) := by
  funext i
  obtain ⟨t, r, hr⟩ := row_of (i 0)
  have hi : ((cfg0.win 5).blk t).view.emb (ix2 r (i 1)) = i := by
    funext b
    apply Fin.ext
    match b with
    | ⟨0, _⟩ => show win0_5.index t 0 * 512 + 1 * r.val = (i 0).val; rw [(index_rows t).2.1.1, hr, row_val (lt_N t)]; omega
    | ⟨1, _⟩ => show win0_5.index t 1 * 1024 + 1 * (i 1).val = (i 1).val; rw [(index_rows t).2.1.2]; omega
  have hb := congrFun (blocks5 m c t (flushes t).1) (ix2 r (i 1))
  rw [View.read_apply, hi, flushed5] at hb
  refine hb.trans ?_
  show (outsAt0 m c t).1 (ix2 r (i 1)) = _
  rw [hr]
  exact out5 m c t r (i 1)

theorem arr6 : (dats m 0 c).arrAt 6 cfg0.N = fun i => ((gateS m c (i 0) (i 1) : EReal) : Elt Ideal .bf16) := by
  funext i
  obtain ⟨t, r, hr⟩ := row_of (i 0)
  have hi : ((cfg0.win 6).blk t).view.emb (ix2 r (i 1)) = i := by
    funext b
    apply Fin.ext
    match b with
    | ⟨0, _⟩ => show win0_6.index t 0 * 512 + 1 * r.val = (i 0).val; rw [(index_rows t).2.2.1.1, hr, row_val (lt_N t)]; omega
    | ⟨1, _⟩ => show win0_6.index t 1 * 2816 + 1 * (i 1).val = (i 1).val; rw [(index_rows t).2.2.1.2]; omega
  have hb := congrFun (blocks6 m c t (flushes t).2.1) (ix2 r (i 1))
  rw [View.read_apply, hi, flushed6] at hb
  refine hb.trans ?_
  show (outsAt0 m c t).2.1 (ix2 r (i 1)) = _
  rw [hr]
  exact out6 m c t r (i 1)

theorem arr7 : (dats m 0 c).arrAt 7 cfg0.N = fun i => ((upS m c (i 0) (i 1) : EReal) : Elt Ideal .bf16) := by
  funext i
  obtain ⟨t, r, hr⟩ := row_of (i 0)
  have hi : ((cfg0.win 7).blk t).view.emb (ix2 r (i 1)) = i := by
    funext b
    apply Fin.ext
    match b with
    | ⟨0, _⟩ => show win0_7.index t 0 * 512 + 1 * r.val = (i 0).val; rw [(index_rows t).2.2.2.1.1, hr, row_val (lt_N t)]; omega
    | ⟨1, _⟩ => show win0_7.index t 1 * 2816 + 1 * (i 1).val = (i 1).val; rw [(index_rows t).2.2.2.1.2]; omega
  have hb := congrFun (blocks7 m c t (flushes t).2.2.1) (ix2 r (i 1))
  rw [View.read_apply, hi, flushed7] at hb
  refine hb.trans ?_
  show (outsAt0 m c t).2.2.1 (ix2 r (i 1)) = _
  rw [hr]
  exact out7 m c t r (i 1)

theorem arr8 : (dats m 0 c).arrAt 8 cfg0.N = fun i => ((hnS m c (i 0) (i 1) : EReal) : Elt Ideal .bf16) := by
  funext i
  obtain ⟨t, r, hr⟩ := row_of (i 0)
  have hi : ((cfg0.win 8).blk t).view.emb (ix2 r (i 1)) = i := by
    funext b
    apply Fin.ext
    match b with
    | ⟨0, _⟩ => show win0_8.index t 0 * 512 + 1 * r.val = (i 0).val; rw [(index_rows t).2.2.2.2.1, hr, row_val (lt_N t)]; omega
    | ⟨1, _⟩ => show win0_8.index t 1 * 1024 + 1 * (i 1).val = (i 1).val; rw [(index_rows t).2.2.2.2.2]; omega
  have hb := congrFun (blocks8 m c t (flushes t).2.2.2) (ix2 r (i 1))
  rw [View.read_apply, hi, flushed8] at hb
  refine hb.trans ?_
  show (outsAt0 m c t).2.2.2 (ix2 r (i 1)) = _
  rw [hr]
  exact out8 m c t r (i 1)

end Cert.FfnFIdeal.Sum

namespace Cert.FfnFRefIdeal.Sum

open Cert.FfnFRefIdeal Cert.FfnFRefIdeal.Read

variable (x0 : (⟨S8192x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal)) (i : Fin 8192)

theorem hn_eq (k : Fin 1024) : (val_main_v12 (F := Ideal) x0 x1 (ix2 i k) : EReal) = nrm (fun k => x0 (ix2 i k)) (fun k => x1 (ix1 k)) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem gate_eq (j : Fin 2816) : (val_main_v13 (F := Ideal) x0 x1 x2 (ix2 i j) : EReal) = proj (fun k => x0 (ix2 i k)) (fun k => x1 (ix1 k)) (fun k => x2 (ix2 k j)) := by
  pointwise [val_main_v13]
  simp only [hn_eq]
  rfl

theorem up_eq (j : Fin 2816) : (val_main_v14 (F := Ideal) x0 x1 x3 (ix2 i j) : EReal) = proj (fun k => x0 (ix2 i k)) (fun k => x1 (ix1 k)) (fun k => x3 (ix2 k j)) := by
  pointwise [val_main_v14]
  simp only [hn_eq]
  rfl

theorem act_eq (j : Fin 2816) : (val_main_v16 (F := Ideal) x0 x1 x2 x3 (ix2 i j) : EReal)
    = act (val_main_v13 (F := Ideal) x0 x1 x2 (ix2 i j)) (val_main_v14 (F := Ideal) x0 x1 x3 (ix2 i j)) := by
  pointwise [val_main_v16, val_main_v15, val_main_call0_v5, val_main_call0_v4, val_main_call0_cst_0, val_main_call0_v3, val_main_call0_v2, val_main_call0_cst, val_main_call0_v1, val_main_call0_v0]
  rfl

theorem out_eq (k : Fin 1024) : (val_main_v18 (F := Ideal) x0 x1 x2 x3 x4 (ix2 i k) : EReal)
    = (x0 (ix2 i k) : EReal) + ∑ j, act (proj (fun k => x0 (ix2 i k)) (fun k => x1 (ix1 k)) (fun k => x2 (ix2 k j)))
        (proj (fun k => x0 (ix2 i k)) (fun k => x1 (ix1 k)) (fun k => x3 (ix2 k j))) * x4 (ix2 j k) := by
  pointwise [val_main_v18, val_main_v17]
  simp only [act_eq, gate_eq, up_eq]

end Cert.FfnFRefIdeal.Sum

namespace Cert.FfnFIdeal

open Cert.FfnFIdeal.Sum

theorem value_agrees : algebraic_FfnFIdeal_FfnFRefIdeal (hFfnFIdeal := Cert.FfnFIdeal.Gen.facts)
    (hFfnFRefIdeal := Cert.FfnFRefIdeal.Gen.facts) := by
  intro m ρ m' ρ' _ hagree
  refine ⟨_, _, _, _, Cert.FfnFIdeal.Value.run_blocks (F := Ideal) m ρ, ?_⟩
  refine (θ_run Cert.FfnFRefIdeal.defs _ _).mono (fun r h c => ?_) (Cert.FfnFRefIdeal.Value.run (F := Ideal) m' ρ')
  obtain ⟨g0, g1, g2, g3, g4⟩ := hagree c
  obtain ⟨r0, r1, r2, r3, kept⟩ := h c
  clear h
  refine ⟨?_, ?_, ?_, ?_, kept⟩
  · refine r0.trans ((Cert.FfnFRefIdeal.Read.val_main_v18_eq _ _ _ _ _).trans (Eq.trans ?_ (arr5 m c).symm))
    rw [g0, g1, g2, g3, g4]
    exact funext fun i => (congrArg _ (eq_ix2 i)).trans (Cert.FfnFRefIdeal.Sum.out_eq _ _ _ _ _ (i 0) (i 1))
  · refine r1.trans ((Cert.FfnFRefIdeal.Read.val_main_v19_eq _ _ _).trans (Eq.trans ?_ (arr6 m c).symm))
    rw [g0, g1, g2]
    exact funext fun i => (congrArg (Cert.FfnFRefIdeal.Read.val_main_v13 (F := Ideal) _ _ _) (eq_ix2 i)).trans (Cert.FfnFRefIdeal.Sum.gate_eq _ _ _ (i 0) (i 1))
  · refine r2.trans ((Cert.FfnFRefIdeal.Read.val_main_v20_eq _ _ _).trans (Eq.trans ?_ (arr7 m c).symm))
    rw [g0, g1, g3]
    exact funext fun i => (congrArg (Cert.FfnFRefIdeal.Read.val_main_v14 (F := Ideal) _ _ _) (eq_ix2 i)).trans (Cert.FfnFRefIdeal.Sum.up_eq _ _ _ (i 0) (i 1))
  · refine r3.trans ((Cert.FfnFRefIdeal.Read.val_main_v21_eq _ _).trans (Eq.trans ?_ (arr8 m c).symm))
    rw [g0, g1]
    exact funext fun i => (congrArg (Cert.FfnFRefIdeal.Read.val_main_v12 (F := Ideal) _ _) (eq_ix2 i)).trans (Cert.FfnFRefIdeal.Sum.hn_eq _ _ (i 0) (i 1))

end Cert.FfnFIdeal

end
-- ==== Proof.InBx.lean ====
/- The input projection's backward pass on finite arguments: the derivative comes back through the product and the
   normalisation, 512 rows at a time; the gain's derivative is added up over the points. -/
module

public import proofs.«01_k».proof.Defs
public import proofs.«01_k».proof.Proof.Gen.InBxIdeal.Value
public import proofs.«01_k».proof.Proof.Gen.InBxRefIdeal.Run
public import proofs.«01_k».proof.Proof.Gen.InBxRefIdeal.Read
public import proofs.«01_k».proof.Proof.Gen.Pre_finite_in
public import proofs.«01_k».proof.Proof.Lift
public import proofs.«01_k».proof.Proof.BlockSums
public import Idealize.ShloMosaic.Lib.Pointwise
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Cert.BlockSums Cert.Lift

namespace Cert.InProj

/-- The derivative `p` of the projection and `d` of what passes by it, the input `x`, the gain `g` and the weight. -/
structure Args where
  x : Fin 8192 → Fin 1024 → ℝ
  p : Fin 8192 → Fin 2816 → ℝ
  d : Fin 8192 → Fin 1024 → ℝ
  g : Fin 1024 → ℝ
  w : Fin 1024 → Fin 2816 → ℝ

variable (a : Args) (i : Fin 8192)

def r : ℝ := rinv 1024 (a.x i)
def nrm (k : Fin 1024) : ℝ := a.x i k * r a i
/-- The derivative at the normalised row times the gain. -/
def dhn (k : Fin 1024) : ℝ := ∑ j, a.p i j * a.w k j
/-- The derivative at the input. -/
def dx (k : Fin 1024) : ℝ :=
  a.d i k + r a i * (dhn a i k * a.g k - nrm a i k * ((∑ l, dhn a i l * a.g l * nrm a i l) / 1024))
/-- The derivative at the gain. -/
def dgain (k : Fin 1024) : ℝ := ∑ i, dhn a i k * nrm a i k

/-- The derivative at the input as the reference takes it through the normalisation. -/
theorem dx_ref (k : Fin 1024) :
    a.d i k + (dhn a i k * a.g k * r a i + a.x i k * ((∑ l, a.x i l * (dhn a i l * a.g l)) * (-(1 / 2) * (r a i / msq 1024 (a.x i))) / 1024)
        + (∑ l, a.x i l * (dhn a i l * a.g l)) * (-(1 / 2) * (r a i / msq 1024 (a.x i))) / 1024 * a.x i k) = dx a i k := by
  have hr : (msq 1024 (a.x i))⁻¹ = r a i * r a i := (rinv_mul_self (by norm_num) (a.x i)).symm
  have hs : ∑ l, dhn a i l * a.g l * nrm a i l = (∑ l, a.x i l * (dhn a i l * a.g l)) * r a i := by
    rw [Finset.sum_mul]
    exact Finset.sum_congr rfl fun l _ => by unfold nrm; ring
  unfold dx
  rw [hs, div_eq_mul_inv (r a i), hr]
  unfold nrm
  ring

/-- The five argument arrays hold the reals of `a`. -/
structure Reads (a : Args) (x0 : (⟨2, ![8192, 1024]⟩ : Shape).Idx → EReal) (x1 : (⟨2, ![8192, 2816]⟩ : Shape).Idx → EReal)
    (x2 : (⟨2, ![8192, 1024]⟩ : Shape).Idx → EReal) (x3 : (⟨1, ![1024]⟩ : Shape).Idx → EReal)
    (x4 : (⟨2, ![1024, 2816]⟩ : Shape).Idx → EReal) : Prop where
  x : ∀ i k, x0 (ix2 i k) = (a.x i k : EReal)
  p : ∀ i j, x1 (ix2 i j) = (a.p i j : EReal)
  d : ∀ i k, x2 (ix2 i k) = (a.d i k : EReal)
  g : ∀ k, x3 (ix1 k) = (a.g k : EReal)
  w : ∀ k j, x4 (ix2 k j) = (a.w k j : EReal)

/-- The real parts of the argument arrays. -/
def Args.of (x0 : (⟨2, ![8192, 1024]⟩ : Shape).Idx → EReal) (x1 : (⟨2, ![8192, 2816]⟩ : Shape).Idx → EReal)
    (x2 : (⟨2, ![8192, 1024]⟩ : Shape).Idx → EReal) (x3 : (⟨1, ![1024]⟩ : Shape).Idx → EReal)
    (x4 : (⟨2, ![1024, 2816]⟩ : Shape).Idx → EReal) : Args where
  x i k := (x0 (ix2 i k)).toReal
  p i j := (x1 (ix2 i j)).toReal
  d i k := (x2 (ix2 i k)).toReal
  g k := (x3 (ix1 k)).toReal
  w k j := (x4 (ix2 k j)).toReal

theorem Reads.of_eq {a : Args} {x0 x2 y0 y2 : (⟨2, ![8192, 1024]⟩ : Shape).Idx → EReal} {x1 y1 : (⟨2, ![8192, 2816]⟩ : Shape).Idx → EReal}
    {x3 y3 : (⟨1, ![1024]⟩ : Shape).Idx → EReal} {x4 y4 : (⟨2, ![1024, 2816]⟩ : Shape).Idx → EReal}
    (H : Reads a x0 x1 x2 x3 x4) (h0 : y0 = x0) (h1 : y1 = x1) (h2 : y2 = x2) (h3 : y3 = x3) (h4 : y4 = x4) : Reads a y0 y1 y2 y3 y4 := by
  subst h0 h1 h2 h3 h4
  exact H

instance : Subsingleton (⟨0, ![]⟩ : Shape).Idx := ⟨fun _ _ => funext fun a => a.elim0⟩

/-- Arrays that pass the test of finiteness hold their real parts. -/
theorem reads_of_finite [Cert.Pre_finite_in.Facts] (x0 : FVec Ideal ⟨2, ![8192, 1024]⟩ .f32) (x1 : FVec Ideal ⟨2, ![8192, 2816]⟩ .bf16)
    (x2 : FVec Ideal ⟨2, ![8192, 1024]⟩ .f32) (x3 : FVec Ideal ⟨1, ![1024]⟩ .f32) (x4 : FVec Ideal ⟨2, ![1024, 2816]⟩ .f32)
    (e : Cert.Pre_finite_in.fn (F := Ideal) x0 x1 x2 x3 x4 = fun _ => 1#1) : Reads (Args.of x0 x1 x2 x3 x4) x0 x1 x2 x3 x4 := by
  have e := congrFun e (fun a => a.elim0)
  unfold Cert.Pre_finite_in.fn Cert.Pre_finite_in.fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun _ _ => real_of_all x0 _ _ _ _ _ _ e0 _, fun _ _ => real_of_all (extf .f32 x1 Pre_finite_in.Facts.bitsLt_bf16_f32) _ _ _ _ _ _ e1 _,
    fun _ _ => real_of_all x2 _ _ _ _ _ _ e2 _, fun _ => real_of_all x3 _ _ _ _ _ _ e3 _, fun _ _ => real_of_all x4 _ _ _ _ _ _ e4 _⟩

end Cert.InProj

open Cert.InProj

namespace Cert.InBxIdeal.Pay

open Cert.InBxIdeal Cert.InBxIdeal.Gen

variable {x : Vec Ideal S512x1024 .f32} {H : Fin 1024 → ℝ} (r : Fin 512) (hx : ∀ k, x (ix2 r k) = (H k : EReal))

include hx in
theorem rinv_coe (z : Fin 1) : (k0_pay4 (F := Ideal) x (ix2 r z) : EReal) = ((rinv 1024 H : ℝ) : EReal) := by
  pointwise [k0_pay4]
  simp only [hx, zero_add, lit_1024, lit_eps, sum_coe, ← EReal.coe_mul, div_1024, ← EReal.coe_add]
  exact rsqrt_msq (by norm_num) H

include hx in
theorem nrm_coe (k : Fin 1024) : (k0_pay5 (F := Ideal) x (ix2 r k) : EReal) = ((H k * rinv 1024 H : ℝ) : EReal) := by
  pointwise [k0_pay5]
  simp only [hx, rinv_coe r hx, ← EReal.coe_mul]

theorem dot_coe (p : Vec Ideal S512x2816 .bf16) (w : Vec Ideal S2816x1024 .bf16) (k : Fin 1024) {P W : Fin 2816 → ℝ}
    (hp : ∀ j, p (ix2 r j) = (P j : EReal)) (hw : ∀ j, w (ix2 j k) = (W j : EReal)) :
    (k0_pay3 (F := Ideal) p w (ix2 r k) : EReal) = ((∑ j, P j * W j : ℝ) : EReal) := by
  pointwise [k0_pay3]
  simp only [hp, hw, zero_add, sum_coe, ← EReal.coe_mul]

theorem gain_coe (p : Vec Ideal S512x2816 .bf16) (w : Vec Ideal S2816x1024 .bf16) (x : Vec Ideal S512x1024 .f32) (acc : Vec Ideal S1x1024 .f32) (k : Fin 1024)
    {X E : Fin 512 → Fin 1024 → ℝ} (hx : ∀ r k, x (ix2 r k) = (X r k : EReal)) (hE : ∀ r k, k0_pay3 (F := Ideal) p w (ix2 r k) = (E r k : EReal)) :
    (k0_pay6 (F := Ideal) p w x acc (ix2 0 k) : EReal) = (acc (ix2 0 k) : EReal) + ((∑ r, E r k * (X r k * rinv 1024 (X r)) : ℝ) : EReal) := by
  pointwise [k0_pay6]
  simp only [hE, fun r => nrm_coe r (hx r) k, zero_add, sum_coe, ← EReal.coe_mul]

include hx in
theorem dx_coe (p : Vec Ideal S512x2816 .bf16) (w : Vec Ideal S2816x1024 .bf16) (g : Vec Ideal S1x1024 .f32) (d : Vec Ideal S512x1024 .f32) (k : Fin 1024)
    {E D Γ : Fin 1024 → ℝ} (hd : ∀ k, d (ix2 r k) = (D k : EReal)) (hg : ∀ k, g (ix2 0 k) = (Γ k : EReal))
    (hE : ∀ k, k0_pay3 (F := Ideal) p w (ix2 r k) = (E k : EReal)) :
    (k0_pay1 (F := Ideal) (k0_pay4 x) (k0_pay5 x) d (k0_pay7 p w g) (k0_pay8 p w x g) k0_pay9 (ix2 r k) : EReal)
      = ((D k + rinv 1024 H * (E k * Γ k - H k * rinv 1024 H * ((∑ l, E l * Γ l * (H l * rinv 1024 H)) / 1024)) : ℝ) : EReal) := by
  pointwise [k0_pay1, k0_pay7, k0_pay8, k0_pay9]
  simp only [hE, hd, hg, nrm_coe r hx, rinv_coe r hx, zero_add, lit_1024, sum_coe, ← EReal.coe_mul, div_1024, ← EReal.coe_add, ← EReal.coe_sub]

end Cert.InBxIdeal.Pay

namespace Cert.InBxIdeal.Sum

open Cert.InBxIdeal Cert.InBxIdeal.Gen Cert.InBxIdeal.Value Cert.InBxIdeal.Pay

variable (m : (ℓ : Loc nD τ sig) → Buf (Elt Ideal) ℓ)

/-- The argument arrays on device `c` hold the reals of `a`. -/
abbrev Holds (a : Args) (c : Dev nD) : Prop :=
  Reads a (m ((c : Thread nD τ).loc main_arg0)) (m ((c : Thread nD τ).loc main_arg1)) (m ((c : Thread nD τ).loc main_arg2))
    (m ((c : Thread nD τ).loc main_arg3)) (m ((c : Thread nD τ).loc main_arg4))

variable {m} {a : Args} {c : Dev nD} (H : Holds m a c)

theorem dev_loc (b : Ref sig .tc) : m (c, Proc.tc.devRef b) = m ((c : Thread nD τ).loc b) := rfl

include H in
theorem host_v1 (j : Fin 2816) (k : Fin 1024) : (V m c main_v1 (ix2 j k) : EReal) = ((a.w k j : ℝ) : EReal) := by
  unfold V hostOps0
  after_results
  pointwise []
  exact H.w k j

include H in
theorem host_v2 (z : Fin 1) (k : Fin 1024) : (V m c main_v2 (ix2 z k) : EReal) = ((a.g k : ℝ) : EReal) := by
  unfold V hostOps0
  after_results
  pointwise []
  exact H.g k

/-! ## The blocks of a grid point -/

def row (t : ℕ) (r : Fin 512) : Fin 8192 := rowAt (N := 8192) 512 (by decide) t r

theorem row_val {t : ℕ} (ht : t < 16) (r : Fin 512) : (row t r).val = 512 * t + r.val :=
  rowAt_val (J := 16) (by norm_num) _ _ ht r

theorem lt_N (t : Fin cfg0.N) : t.val < 16 := lt_of_lt_of_eq t.isLt N_0

theorem index_rows : ∀ t : Fin cfg0.N, (win0_0.index t (0 : Fin 2) = t.val ∧ win0_0.index t (1 : Fin 2) = 0)
    ∧ (win0_2.index t (0 : Fin 2) = t.val ∧ win0_2.index t (1 : Fin 2) = 0) ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem index_whole : ∀ t : Fin cfg0.N, (win0_1.index t (0 : Fin 2) = 0 ∧ win0_1.index t (1 : Fin 2) = 0)
    ∧ (win0_3.index t (0 : Fin 2) = 0 ∧ win0_3.index t (1 : Fin 2) = 0) ∧ (win0_6.index t (0 : Fin 2) = 0 ∧ win0_6.index t (1 : Fin 2) = 0) :=
  (by decide +kernel : ∀ t : Fin grid0.N, _)

theorem flush5 : ∀ t : Fin cfg0.N, (cfg0.win 5).flush t = true :=
  (by decide +kernel : ∀ t : Fin grid0.N, win0_5.flush t = true)

theorem flush6 : ∀ t : Fin cfg0.N, (cfg0.win 6).flush t = true ↔ t.val = 15 :=
  (by decide +kernel : ∀ t : Fin grid0.N, win0_6.flush t = true ↔ t.val = 15)

section
include H

theorem blk0 (t : Fin cfg0.N) (r : Fin 512) (k : Fin 2816) :
    ((iblk m c 0 t : Vec Ideal S512x2816 .bf16) (ix2 r k) : EReal) = ((a.p (row t.val r) k : ℝ) : EReal) := by
  have hN := lt_N t
  unfold iblk
  rw [View.read_apply]
  refine (congrArg (V m c main_arg1) (?_ : _ = ix2 (row t.val r) k)).trans (H.p (row t.val r) k)
  funext b
  apply Fin.ext
  match b with
  | ⟨0, _⟩ => show win0_0.index t 0 * 512 + 1 * r.val = (row t.val r).val; rw [(index_rows t).1.1, row_val hN]; omega
  | ⟨1, _⟩ => show win0_0.index t 1 * 2816 + 1 * k.val = k.val; rw [(index_rows t).1.2]; omega

theorem blk1 (t : Fin cfg0.N) (r : Fin 2816) (k : Fin 1024) :
    ((iblk m c 1 t : Vec Ideal S2816x1024 .bf16) (ix2 r k) : EReal) = ((a.w k r : ℝ) : EReal) := by
  have hN := lt_N t
  unfold iblk
  rw [View.read_apply]
  refine (congrArg (V m c main_v1) (?_ : _ = ix2 r k)).trans (host_v1 H r k)
  funext b
  apply Fin.ext
  match b with
  | ⟨0, _⟩ => show win0_1.index t 0 * 2816 + 1 * r.val = r.val; rw [(index_whole t).1.1]; omega
  | ⟨1, _⟩ => show win0_1.index t 1 * 1024 + 1 * k.val = k.val; rw [(index_whole t).1.2]; omega

theorem blk2 (t : Fin cfg0.N) (r : Fin 512) (k : Fin 1024) :
    ((iblk m c 2 t : Vec Ideal S512x1024 .f32) (ix2 r k) : EReal) = ((a.x (row t.val r) k : ℝ) : EReal) := by
  have hN := lt_N t
  unfold iblk
  rw [View.read_apply]
  refine (congrArg (V m c main_arg0) (?_ : _ = ix2 (row t.val r) k)).trans (H.x (row t.val r) k)
  funext b
  apply Fin.ext
  match b with
  | ⟨0, _⟩ => show win0_2.index t 0 * 512 + 1 * r.val = (row t.val r).val; rw [(index_rows t).2.1.1, row_val hN]; omega
  | ⟨1, _⟩ => show win0_2.index t 1 * 1024 + 1 * k.val = k.val; rw [(index_rows t).2.1.2]; omega

theorem blk3 (t : Fin cfg0.N) (r : Fin 1) (k : Fin 1024) :
    ((iblk m c 3 t : Vec Ideal S1x1024 .f32) (ix2 r k) : EReal) = ((a.g k : ℝ) : EReal) := by
  have hN := lt_N t
  unfold iblk
  rw [View.read_apply]
  refine (congrArg (V m c main_v2) (?_ : _ = ix2 r k)).trans (host_v2 H r k)
  funext b
  apply Fin.ext
  match b with
  | ⟨0, _⟩ => show win0_3.index t 0 * 1 + 1 * r.val = r.val; rw [(index_whole t).2.1.1]; omega
  | ⟨1, _⟩ => show win0_3.index t 1 * 1024 + 1 * k.val = k.val; rw [(index_whole t).2.1.2]; omega

theorem blk4 (t : Fin cfg0.N) (r : Fin 512) (k : Fin 1024) :
    ((iblk m c 4 t : Vec Ideal S512x1024 .f32) (ix2 r k) : EReal) = ((a.d (row t.val r) k : ℝ) : EReal) := by
  have hN := lt_N t
  unfold iblk
  rw [View.read_apply]
  refine (congrArg (V m c main_arg2) (?_ : _ = ix2 (row t.val r) k)).trans (H.d (row t.val r) k)
  funext b
  apply Fin.ext
  match b with
  | ⟨0, _⟩ => show win0_4.index t 0 * 512 + 1 * r.val = (row t.val r).val; rw [(index_rows t).2.2.1.1, row_val hN]; omega
  | ⟨1, _⟩ => show win0_4.index t 1 * 1024 + 1 * k.val = k.val; rw [(index_rows t).2.2.1.2]; omega

/-- The derivative at the normalised rows of a point. -/
theorem dhn_blk (t : Fin cfg0.N) (r : Fin 512) (k : Fin 1024) :
    (k0_pay3 (F := Ideal) (iblk m c 0 t) (iblk m c 1 t) (ix2 r k) : EReal) = ((dhn a (row t.val r) k : ℝ) : EReal) :=
  dot_coe r _ _ k (fun j => blk0 H t r j) (fun j => blk1 H t j k)

/-- The derivative at the input, for the rows of a point. -/
theorem out5 (t : Fin cfg0.N) (r : Fin 512) (k : Fin 1024) :
    ((outsAt0 m c t.val t.isLt).1 (ix2 r k) : EReal) = ((dx a (row t.val r) k : ℝ) : EReal) := by
  by_cases h : t.val % 16 = 0
  · rw [outsAt0_A m c t h]
    frame_out
    exact dx_coe r (blk2 H t r) _ _ _ _ k (blk4 H t r) (blk3 H t 0) (dhn_blk H t r)
  · rw [outsAt0_B m c t h]
    frame_out
    exact dx_coe r (blk2 H t r) _ _ _ _ k (blk4 H t r) (blk3 H t 0) (dhn_blk H t r)

/-- The gain's derivative as the last point leaves it. -/
theorem out6 (t : Fin cfg0.N) (ht : t.val = 15) (k : Fin 1024) :
    ((outsAt0 m c t.val t.isLt).2 (ix2 0 k) : EReal) = ((dgain a k : ℝ) : EReal) := by
  have hz : k0_pay2 (F := Ideal) (ix2 0 k) = (0 : EReal) := by pointwise [k0_pay2]
  have key : ∀ (n : ℕ) (h : n < cfg0.N), ((outsAt0 m c n h).2 (ix2 0 k) : EReal)
      = ((∑ s ∈ Finset.range (n + 1), ∑ r, dhn a (row s r) k * nrm a (row s r) k : ℝ) : EReal) := by
    intro n
    induction n with
    | zero =>
      intro h
      rw [outsAt0_A m c ⟨0, h⟩ rfl]
      frame_out
      refine (gain_coe _ _ _ _ k (blk2 H ⟨0, h⟩) (dhn_blk H ⟨0, h⟩)).trans ?_
      rw [hz, zero_add, Finset.sum_range_one]
      rfl
    | succ n ih =>
      intro h
      have hn : n + 1 < 16 := lt_of_lt_of_eq h N_0
      rw [outsAt0_B m c ⟨n + 1, h⟩ (by show ¬(n + 1) % 16 = 0; omega)]
      frame_out
      refine (gain_coe _ _ _ _ k (blk2 H ⟨n + 1, h⟩) (dhn_blk H ⟨n + 1, h⟩)).trans ?_
      rw [Finset.sum_range_succ, EReal.coe_add]
      exact congrArg (· + _) (ih (by omega))
  rw [key, ht]
  congr 1
  exact sum_blocks 16 512 (by norm_num) (by decide) fun i => dhn a i k * nrm a i k

/-! ## The result arrays -/

theorem arr5 : (dats m 0 c).arrAt 5 cfg0.N = fun i => (((dx a (i 0) (i 1) : ℝ) : EReal) : Elt Ideal .f32) := by
  have hN : cfg0.N = 16 := N_0
  funext i
  obtain ⟨t, r, hr⟩ : ∃ (t : Fin cfg0.N) (r : Fin 512), i 0 = row t.val r := by
    have h0 : (i 0).val < 8192 := (i 0).isLt
    refine ⟨⟨(i 0).val / 512, by omega⟩, ⟨(i 0).val % 512, by omega⟩, Fin.ext ?_⟩
    rw [row_val (by show (i 0).val / 512 < 16; omega)]
    show (i 0).val = 512 * ((i 0).val / 512) + (i 0).val % 512
    omega
  have hi : ((cfg0.win 5).blk t).view.emb (ix2 r (i 1)) = i := by
    funext b
    apply Fin.ext
    match b with
    | ⟨0, _⟩ => show win0_5.index t 0 * 512 + 1 * r.val = (i 0).val; rw [(index_rows t).2.2.2.1, hr, row_val (lt_N t)]; omega
    | ⟨1, _⟩ => show win0_5.index t 1 * 1024 + 1 * (i 1).val = (i 1).val; rw [(index_rows t).2.2.2.2]; omega
  have hb := congrFun (blocks5 m c t (flush5 t)) (ix2 r (i 1))
  rw [View.read_apply, hi, flushed5] at hb
  refine hb.trans ?_
  show (outsAt0 m c t.val t.isLt).1 (ix2 r (i 1)) = _
  rw [hr]
  exact out5 H t r (i 1)

theorem arr6 : (dats m 0 c).arrAt 6 cfg0.N = fun i => (((dgain a (i 1) : ℝ) : EReal) : Elt Ideal .f32) := by
  have hN : cfg0.N = 16 := N_0
  funext i
  obtain ⟨t, ht⟩ : ∃ t : Fin cfg0.N, t.val = 15 := ⟨⟨15, by omega⟩, rfl⟩
  have h0 : (i 0).val = 0 := by have h : (i 0).val < 1 := (i 0).isLt; omega
  have hi : ((cfg0.win 6).blk t).view.emb (ix2 0 (i 1)) = i := by
    funext b
    apply Fin.ext
    match b with
    | ⟨0, _⟩ => show win0_6.index t 0 * 1 + 1 * 0 = (i 0).val; rw [(index_whole t).2.2.1, h0]
    | ⟨1, _⟩ => show win0_6.index t 1 * 1024 + 1 * (i 1).val = (i 1).val; rw [(index_whole t).2.2.2]; omega
  have hd : ∀ t t' : Fin cfg0.N, (cfg0.win 6).flush t = true → (cfg0.win 6).flush t' = true → t ≠ t' →
      Disjoint ((cfg0.win 6).blk t).view.set ((cfg0.win 6).blk t').view.set := fun t t' h h' hne =>
    absurd (Fin.ext (((flush6 t).mp h).trans ((flush6 t').mp h').symm)) hne
  have hb := congrFun ((dats m 0 c).read_blk_arrAt_eq_flushed 6 hd cfg0.N t t.isLt ((flush6 t).mpr ht)) (ix2 0 (i 1))
  rw [View.read_apply, hi, flushed6] at hb
  refine hb.trans ?_
  show (outsAt0 m c t.val t.isLt).2 (ix2 0 (i 1)) = _
  exact out6 H t ht (i 1)

end

end Cert.InBxIdeal.Sum

namespace Cert.InBxRefIdeal.Sum

open Cert.InBxRefIdeal Cert.InBxRefIdeal.Read

variable {a : Args} {x0 : (⟨S8192x1024, .f32⟩ : BufTy).Contents (Elt Ideal)} {x1 : (⟨S8192x2816, .bf16⟩ : BufTy).Contents (Elt Ideal)}
  {x2 : (⟨S8192x1024, .f32⟩ : BufTy).Contents (Elt Ideal)} {x3 : (⟨S1024, .f32⟩ : BufTy).Contents (Elt Ideal)} {x4 : (⟨S1024x2816, .f32⟩ : BufTy).Contents (Elt Ideal)}
  (H : Reads a x0 x1 x2 x3 x4) (i : Fin 8192)
include H

theorem r_eq (z : Fin 1) : (val_main_v7 (F := Ideal) x0 (ix2 i z) : EReal) = ((r a i : ℝ) : EReal) := by
  pointwise [val_main_v7, val_main_v6, val_main_v5, val_main_cst_1, val_main_v4, val_main_v3, val_main_cst_0, val_main_v2, val_main_v1, val_main_cst, val_main_v0]
  simp only [H.x, zero_add, lit_1024, lit_eps, div_1024, sum_coe, ← EReal.coe_mul, ← EReal.coe_add, ← EReal.coe_sub, ← EReal.coe_neg]
  exact rsqrt_msq (by norm_num) _

theorem v10_eq (z : Fin 1) : (val_main_v10 (F := Ideal) x0 (ix2 i z) : EReal) = ((-(1 / 2) * (r a i / msq 1024 (a.x i)) : ℝ) : EReal) := by
  pointwise [val_main_v10, val_main_v9, val_main_cst_2, val_main_v8, val_main_v6, val_main_v5, val_main_cst_1, val_main_v4, val_main_v3, val_main_cst_0, val_main_v2, val_main_v1, val_main_cst, val_main_v0]
  simp only [H.x, r_eq H, zero_add, lit_1024, lit_eps, lit_neg_half, div_1024, sum_coe, ← EReal.coe_mul, ← EReal.coe_add, ← EReal.coe_sub, ← EReal.coe_neg]
  rw [div_msq (by norm_num) (a.x i), ← EReal.coe_mul]

theorem nrm_eq (k : Fin 1024) : (val_main_v12 (F := Ideal) x0 (ix2 i k) : EReal) = ((nrm a i k : ℝ) : EReal) := by
  pointwise [val_main_v12, val_main_v11]
  simp only [H.x, r_eq H, ← EReal.coe_mul]
  rfl

theorem dhn_eq (k : Fin 1024) : (val_main_v18 (F := Ideal) x1 x4 (ix2 i k) : EReal) = ((dhn a i k : ℝ) : EReal) := by
  pointwise [val_main_v18, val_main_v17]
  simp only [H.p, H.w, zero_add, sum_coe, ← EReal.coe_mul]
  rfl

theorem v34_eq (k : Fin 1024) : (val_main_v34 (F := Ideal) x0 x1 x3 x4 (ix2 i k) : EReal) = (((∑ l, a.x i l * (dhn a i l * a.g l)) * (-(1 / 2) * (r a i / msq 1024 (a.x i))) / 1024 : ℝ) : EReal) := by
  pointwise [val_main_v34, val_main_v33, val_main_cst_7, val_main_v32, val_main_v31, val_main_cst_6, val_main_v30, val_main_v27, val_main_v26, val_main_cst_5, val_main_v25, val_main_v23, val_main_v22, val_main_v13]
  simp only [H.x, H.g, dhn_eq H, v10_eq H, zero_add, lit_1024, div_1024, Finset.univ_unique, Finset.sum_singleton, sum_coe, ← EReal.coe_mul, ← EReal.coe_add, ← EReal.coe_sub, ← EReal.coe_neg]

theorem dx_eq (k : Fin 1024) : (val_main_v39 (F := Ideal) x0 x1 x2 x3 x4 (ix2 i k) : EReal) = ((dx a i k : ℝ) : EReal) := by
  pointwise [val_main_v39, val_main_v38, val_main_v37, val_main_v36, val_main_v35, val_main_v29, val_main_v28, val_main_v23, val_main_v22, val_main_v13]
  simp only [H.x, H.d, H.g, r_eq H, dhn_eq H, v34_eq H, sum_coe, ← EReal.coe_mul, ← EReal.coe_add, ← EReal.coe_sub, ← EReal.coe_neg]
  rw [dx_ref]

theorem dgain_eq (k : Fin 1024) (z : Fin 1) : (val_main_v40 (F := Ideal) x0 x1 x4 (ix2 z k) : EReal) = ((dgain a k : ℝ) : EReal) := by
  pointwise [val_main_v40, val_main_v24, val_main_cst_4, val_main_v21, val_main_v20, val_main_cst_3, val_main_v19]
  simp only [nrm_eq H, dhn_eq H, zero_add, Finset.univ_unique, Finset.sum_singleton, sum_coe, ← EReal.coe_mul, ← EReal.coe_add, ← EReal.coe_sub, ← EReal.coe_neg]
  congr 1
  exact Finset.sum_congr rfl fun i _ => mul_comm _ _

theorem v39_eq : val_main_v39 (F := Ideal) x0 x1 x2 x3 x4 = fun i => (((dx a (i 0) (i 1) : ℝ) : EReal) : Elt Ideal .f32) :=
  funext fun i => (congrArg _ (eq_ix2 i)).trans (dx_eq H (i 0) (i 1))

theorem v40_eq : val_main_v40 (F := Ideal) x0 x1 x4 = fun i => (((dgain a (i 1) : ℝ) : EReal) : Elt Ideal .f32) :=
  funext fun i => (congrArg _ (eq_ix2 i)).trans (dgain_eq H (i 1) (i 0))

end Cert.InBxRefIdeal.Sum

namespace Cert.InBxIdeal

theorem value_agrees : algebraic_InBxIdeal_InBxRefIdeal_pre_finite_in (hInBxIdeal := Cert.InBxIdeal.Gen.facts)
    (hInBxRefIdeal := Cert.InBxRefIdeal.Gen.facts) (hPre_finite_in := Cert.Pre_finite_in.Gen.facts) := by
  letI := Cert.Pre_finite_in.Gen.facts
  intro m ρ m' ρ' hpre hagree
  have H := fun c => reads_of_finite _ _ _ _ _ (hpre c)
  refine ⟨_, _, Cert.InBxIdeal.Value.run_blocks (F := Ideal) m ρ, ?_⟩
  refine (θ_run Cert.InBxRefIdeal.defs _ _).mono (fun r h c => ?_) (Cert.InBxRefIdeal.Value.run (F := Ideal) m' ρ')
  obtain ⟨g0, g1, g2, g3, g4⟩ := hagree c
  obtain ⟨r0, r1, kept⟩ := h c
  have H' := (H c).of_eq g0 g1 g2 g3 g4
  clear g0 g1 g2 g3 g4 h
  refine ⟨?_, ?_, kept⟩
  · exact r0.trans ((Cert.InBxRefIdeal.Read.val_main_v39_eq m' c).trans ((Cert.InBxRefIdeal.Sum.v39_eq H').trans (Cert.InBxIdeal.Sum.arr5 (H c)).symm))
  · exact r1.trans ((Cert.InBxRefIdeal.Read.val_main_v40_eq _ _ _).trans ((Cert.InBxRefIdeal.Sum.v40_eq H').trans (Cert.InBxIdeal.Sum.arr6 (H c)).symm))

end Cert.InBxIdeal

end
-- ==== Proof.SguSpec.lean ====
/- The backward pass of the spatial gating unit, entry by entry over the reals. Rows come as 64 chunks of 128; within a
   chunk, each of the 4 groups of 64 lanes mixes the rows by its own lower triangular weight. -/
module

public import proofs.«01_k».proof.Proof.Lift
public import proofs.«01_k».proof.Proof.BlockSums

@[expose] public section

noncomputable section

open Idealize.ShloMosaic Cert.Lift

namespace Cert.Sgu

/-! ## The activation -/

def kap : ℝ := 8943 / 200000
/-- The root of `2/π` as the f32 literal has it. -/
def root : ℝ := 13386282 / 2 ^ 24
def th (x : ℝ) : ℝ := Real.tanh (root * (x + kap * x * x * x))
def gelu (x : ℝ) : ℝ := 1 / 2 * x * (1 + th x)
/-- Its derivative. -/
def gelud (x : ℝ) : ℝ := 1 / 2 * (1 + th x) + 1 / 2 * x * (1 - th x * th x) * root * (1 + 3 * kap * x * x)

/-! ## The two normalisations of a row of 256 -/

def mean (f : Fin 256 → ℝ) : ℝ := (∑ k, f k) / 256
def cen (f : Fin 256 → ℝ) (k : Fin 256) : ℝ := f k - mean f
def rs (f : Fin 256 → ℝ) : ℝ := rinv 256 (cen f)
def hat (f : Fin 256 → ℝ) (k : Fin 256) : ℝ := cen f k * rs f
/-- The derivative `e` taken back through the normalisation with the mean taken off. -/
def hatb (f e : Fin 256 → ℝ) (k : Fin 256) : ℝ := rs f * (e k - mean e - hat f k * mean fun l => e l * hat f l)

def nrm (y : Fin 256 → ℝ) (k : Fin 256) : ℝ := y k * rinv 256 y
/-- The derivative `e` taken back through the normalisation by the root of the mean square. -/
def nrmb (y e : Fin 256 → ℝ) (k : Fin 256) : ℝ := rinv 256 y * (e k - nrm y k * mean fun l => e l * nrm y l)

theorem mean_cen (f : Fin 256 → ℝ) : ∑ k, cen f k = 0 := by
  unfold cen mean
  rw [Finset.sum_sub_distrib, Finset.sum_const, Finset.card_univ, Fintype.card_fin, nsmul_eq_mul]
  push_cast
  ring

/-- The same derivative the way the chain rule writes it. -/
theorem nrmb_chain (y e : Fin 256 → ℝ) (k : Fin 256) :
    e k * rinv 256 y + y k * ((∑ l, y l * e l) * (-(1 / 2) * (rinv 256 y / msq 256 y)) / 256)
      + (∑ l, y l * e l) * (-(1 / 2) * (rinv 256 y / msq 256 y)) / 256 * y k = nrmb y e k := by
  have hr : (msq 256 y)⁻¹ = rinv 256 y * rinv 256 y := (rinv_mul_self (by norm_num) y).symm
  have hs : ∑ l, e l * nrm y l = (∑ l, y l * e l) * rinv 256 y := by
    rw [Finset.sum_mul]
    exact Finset.sum_congr rfl fun l _ => by unfold nrm; ring
  unfold nrmb mean
  rw [hs, div_eq_mul_inv (rinv 256 y), hr]
  unfold nrm
  ring

theorem hatb_chain (f e : Fin 256 → ℝ) (k : Fin 256) :
    (e k * rs f + (∑ l, cen f l * e l) * (-(1 / 2) * (rs f / msq 256 (cen f))) / 256 * (2 * cen f k))
      + (∑ l, -(e l * rs f) + ∑ l, -((∑ l, cen f l * e l) * (-(1 / 2) * (rs f / msq 256 (cen f))) / 256 * (2 * cen f l))) / 256
      = hatb f e k := by
  have hr : (msq 256 (cen f))⁻¹ = rs f * rs f := (rinv_mul_self (by norm_num) (cen f)).symm
  have hs : ∑ l, e l * hat f l = (∑ l, cen f l * e l) * rs f := by
    rw [Finset.sum_mul]
    exact Finset.sum_congr rfl fun l _ => by unfold hat; ring
  have h2 : ∑ l, -((∑ l, cen f l * e l) * (-(1 / 2) * (rs f / msq 256 (cen f))) / 256 * (2 * cen f l)) = 0 := by
    rw [Finset.sum_neg_distrib, ← Finset.mul_sum, ← Finset.mul_sum, mean_cen]
    ring
  rw [h2, Finset.sum_neg_distrib, ← Finset.sum_mul]
  unfold hatb mean
  rw [hs, div_eq_mul_inv (rs f), hr]
  unfold hat
  ring

/-! ## The mixing of the rows of a chunk -/

/-- The group of a lane, and a lane of a group. -/
def hd (k : Fin 256) : Fin 4 := ⟨k.val / 64, by omega⟩
def ln (h : Fin 4) (l : Fin 64) : Fin 256 := ⟨64 * h.val + l.val, by omega⟩

/-- What goes in: the two halves `u` and `v`, the derivative `d` at the result, the lower triangular weights `w`, the bias
`b`, and the gains of the two normalisations. -/
structure Args where
  u : Fin 64 → Fin 128 → Fin 256 → ℝ
  v : Fin 64 → Fin 128 → Fin 256 → ℝ
  d : Fin 64 → Fin 128 → Fin 256 → ℝ
  w : Fin 4 → Fin 128 → Fin 128 → ℝ
  b : Fin 4 → Fin 128 → ℝ
  gs : Fin 256 → ℝ
  ga : Fin 256 → ℝ

variable (a : Args) (q : Fin 64)

def ug (i : Fin 128) (k : Fin 256) : ℝ := gelu (a.u q i k)
def vg (i : Fin 128) (k : Fin 256) : ℝ := gelu (a.v q i k)
def vh (i : Fin 128) : Fin 256 → ℝ := hat (vg a q i)
def vn (i : Fin 128) (k : Fin 256) : ℝ := vh a q i k * a.gs k
def mixed (i : Fin 128) (k : Fin 256) : ℝ := ∑ j, a.w (hd k) i j * vn a q j k + a.b (hd k) i
def y (i : Fin 128) (k : Fin 256) : ℝ := ug a q i k * mixed a q i k
def dy (i : Fin 128) : Fin 256 → ℝ := nrmb (y a q i) fun k => a.d q i k * a.ga k
def dmix (i : Fin 128) (k : Fin 256) : ℝ := dy a q i k * ug a q i k
def dvn (j : Fin 128) (k : Fin 256) : ℝ := ∑ i, a.w (hd k) i j * dmix a q i k
def dvg (i : Fin 128) : Fin 256 → ℝ := hatb (vg a q i) fun k => dvn a q i k * a.gs k
/-- The derivatives at `u`, at `v`, at the gain after the mixing and at the one before it. -/
def du (i : Fin 128) (k : Fin 256) : ℝ := dy a q i k * mixed a q i k * gelud (a.u q i k)
def dv (i : Fin 128) (k : Fin 256) : ℝ := dvg a q i k * gelud (a.v q i k)
def dga (k : Fin 256) : ℝ := ∑ q, ∑ i, a.d q i k * nrm (y a q i) k
def dgs (k : Fin 256) : ℝ := ∑ q, ∑ i, dvn a q i k * vh a q i k
/-- The derivatives at a weight and at the bias: one chunk's part, and the sum. -/
def dwq (h : Fin 4) (i j : Fin 128) : ℝ := ∑ l, dmix a q i (ln h l) * vn a q j (ln h l)
def dw (h : Fin 4) (i j : Fin 128) : ℝ := if j ≤ i then ∑ q, dwq a q h i j else 0
def db (i : Fin 128) (h : Fin 4) : ℝ := ∑ q, ∑ l, dmix a q i (ln h l)

/-! ## Rows and chunks -/

/-- Row `i` of chunk `q`, of all 64 and of the 4 of a block. -/
def rw64 (q : Fin 64) (i : Fin 128) : Fin 8192 := ⟨128 * q.val + i.val, by omega⟩
def rw4 (q : Fin 4) (i : Fin 128) : Fin 512 := ⟨128 * q.val + i.val, by omega⟩

theorem sum_rows {M : Type} [AddCommMonoid M] (f : Fin 8192 → M) : ∑ r, f r = ∑ q, ∑ i, f (rw64 q i) := by
  rw [Fin.sum_univ_tiles 64 128 (by norm_num) f]
  exact Finset.sum_congr rfl fun q _ => Finset.sum_congr rfl fun i _ => congrArg f (Fin.ext (by show q.val * 128 + i.val = 128 * q.val + i.val; omega))

theorem sum_rows4 {M : Type} [AddCommMonoid M] (f : Fin 512 → M) : ∑ r, f r = ∑ q, ∑ i, f (rw4 q i) := by
  rw [Fin.sum_univ_tiles 4 128 (by norm_num) f]
  exact Finset.sum_congr rfl fun q _ => Finset.sum_congr rfl fun i _ => congrArg f (Fin.ext (by show q.val * 128 + i.val = 128 * q.val + i.val; omega))

theorem row64 (r : Fin 8192) : ∃ q i, r = rw64 q i :=
  ⟨⟨r.val / 128, by omega⟩, ⟨r.val % 128, by omega⟩, Fin.ext (by show r.val = 128 * (r.val / 128) + r.val % 128; omega)⟩

theorem row4 (r : Fin 512) : ∃ q i, r = rw4 q i :=
  ⟨⟨r.val / 128, by omega⟩, ⟨r.val % 128, by omega⟩, Fin.ext (by show r.val = 128 * (r.val / 128) + r.val % 128; omega)⟩

theorem hd_ln (h : Fin 4) (l : Fin 64) : hd (ln h l) = h := Fin.ext (by show (64 * h.val + l.val) / 64 = h.val; omega)

theorem lane (k : Fin 256) : ∃ h l, k = ln h l :=
  ⟨hd k, ⟨k.val % 64, by omega⟩, Fin.ext (by show k.val = 64 * (k.val / 64) + k.val % 64; omega)⟩

theorem sum_lanes {M : Type} [AddCommMonoid M] (f : Fin 256 → M) : ∑ k, f k = ∑ h, ∑ l, f (ln h l) := by
  rw [Fin.sum_univ_tiles 4 64 (by norm_num) f]
  exact Finset.sum_congr rfl fun q _ => Finset.sum_congr rfl fun i _ => congrArg f (Fin.ext (by show q.val * 64 + i.val = 64 * q.val + i.val; omega))

end Cert.Sgu

end
-- ==== Proof.SguFin.lean ====
/- The argument arrays of the gating unit's backward pass and the reals they hold. -/
module

public import proofs.«01_k».proof.Proof.SguSpec
public import proofs.«01_k».proof.Proof.Gen.Pre_finite_sgu
public import Idealize.ShloMosaic.Lib.Tactic

@[expose] public section

noncomputable section

open Idealize.ShloMosaic Cert.Lift

namespace Cert.Sgu

def lo (k : Fin 256) : Fin 512 := ⟨k.val, by omega⟩
def hi (k : Fin 256) : Fin 512 := ⟨256 + k.val, by omega⟩

/-- The six argument arrays hold the reals of `a`, whose weights are their lower triangles. -/
structure Reads (a : Args) (x0 : (⟨2, ![8192, 512]⟩ : Shape).Idx → EReal) (x1 : (⟨2, ![8192, 256]⟩ : Shape).Idx → EReal)
    (x2 : (⟨3, ![4, 128, 128]⟩ : Shape).Idx → EReal) (x3 : (⟨2, ![4, 128]⟩ : Shape).Idx → EReal) (x4 x5 : (⟨1, ![256]⟩ : Shape).Idx → EReal) : Prop where
  u : ∀ q i k, x0 (ix2 (rw64 q i) (lo k)) = (a.u q i k : EReal)
  v : ∀ q i k, x0 (ix2 (rw64 q i) (hi k)) = (a.v q i k : EReal)
  d : ∀ q i k, x1 (ix2 (rw64 q i) k) = (a.d q i k : EReal)
  w : ∀ h i j, ∃ z : ℝ, x2 (ix3 h i j) = (z : EReal) ∧ a.w h i j = if j ≤ i then z else 0
  b : ∀ h i, x3 (ix2 h i) = (a.b h i : EReal)
  gs : ∀ k, x4 (ix1 k) = (a.gs k : EReal)
  ga : ∀ k, x5 (ix1 k) = (a.ga k : EReal)

/-- The real parts of the argument arrays. -/
def Args.of (x0 : (⟨2, ![8192, 512]⟩ : Shape).Idx → EReal) (x1 : (⟨2, ![8192, 256]⟩ : Shape).Idx → EReal)
    (x2 : (⟨3, ![4, 128, 128]⟩ : Shape).Idx → EReal) (x3 : (⟨2, ![4, 128]⟩ : Shape).Idx → EReal) (x4 x5 : (⟨1, ![256]⟩ : Shape).Idx → EReal) : Args where
  u q i k := (x0 (ix2 (rw64 q i) (lo k))).toReal
  v q i k := (x0 (ix2 (rw64 q i) (hi k))).toReal
  d q i k := (x1 (ix2 (rw64 q i) k)).toReal
  w h i j := if j ≤ i then (x2 (ix3 h i j)).toReal else 0
  b h i := (x3 (ix2 h i)).toReal
  gs k := (x4 (ix1 k)).toReal
  ga k := (x5 (ix1 k)).toReal

theorem Reads.of_eq {a : Args} {x0 y0 : (⟨2, ![8192, 512]⟩ : Shape).Idx → EReal} {x1 y1 : (⟨2, ![8192, 256]⟩ : Shape).Idx → EReal}
    {x2 y2 : (⟨3, ![4, 128, 128]⟩ : Shape).Idx → EReal} {x3 y3 : (⟨2, ![4, 128]⟩ : Shape).Idx → EReal} {x4 x5 y4 y5 : (⟨1, ![256]⟩ : Shape).Idx → EReal}
    (H : Reads a x0 x1 x2 x3 x4 x5) (h0 : y0 = x0) (h1 : y1 = x1) (h2 : y2 = x2) (h3 : y3 = x3) (h4 : y4 = x4) (h5 : y5 = x5) :
    Reads a y0 y1 y2 y3 y4 y5 := by
  subst h0 h1 h2 h3 h4 h5
  exact H

instance : Subsingleton (⟨0, ![]⟩ : Shape).Idx := ⟨fun _ _ => funext fun a => a.elim0⟩

/-- Arrays that pass the test of finiteness hold their real parts. -/
theorem reads_of_finite [Cert.Pre_finite_sgu.Facts] (x0 : FVec Ideal ⟨2, ![8192, 512]⟩ .f32) (x1 : FVec Ideal ⟨2, ![8192, 256]⟩ .f32)
    (x2 : FVec Ideal ⟨3, ![4, 128, 128]⟩ .f32) (x3 : FVec Ideal ⟨2, ![4, 128]⟩ .f32) (x4 x5 : FVec Ideal ⟨1, ![256]⟩ .f32)
    (e : Cert.Pre_finite_sgu.fn (F := Ideal) x0 x1 x2 x3 x4 x5 = fun _ => 1#1) : Reads (Args.of x0 x1 x2 x3 x4 x5) x0 x1 x2 x3 x4 x5 := by
  have e := congrFun e (fun a => a.elim0)
  unfold Cert.Pre_finite_sgu.fn Cert.Pre_finite_sgu.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun _ _ _ => real_of_all x0 _ _ _ _ _ _ e0 _, fun _ _ _ => real_of_all x0 _ _ _ _ _ _ e0 _, fun _ _ _ => real_of_all x1 _ _ _ _ _ _ e1 _,
    fun _ _ _ => ⟨_, real_of_all x2 _ _ _ _ _ _ e2 _, rfl⟩, fun _ _ => real_of_all x3 _ _ _ _ _ _ e3 _,
    fun _ => real_of_all x4 _ _ _ _ _ _ e4 _, fun _ => real_of_all x5 _ _ _ _ _ _ e5 _⟩

end Cert.Sgu

end
-- ==== Proof.SguPay.lean ====
/- What the payloads of the gating unit's backward kernel compute on finite arguments: the pointwise and the row-wise part. -/
module

public import proofs.«01_k».proof.Proof.Gen.SguIdeal.Skeleton
public import proofs.«01_k».proof.Proof.SguSpec
public import Idealize.ShloMosaic.Lib.Pointwise

@[expose] public section

set_option maxRecDepth 16384

noncomputable section

open Idealize.ShloMosaic Idealize.ShloMosaic.TcCoe Cert.Lift Cert.Sgu

namespace Cert.SguIdeal
open Cert.SguIdeal.Gen

/-! ## Constants -/

theorem lit_root : Ideal.ofBits .f32 0x3F4C422A#32 = ((root : ℝ) : EReal) := by
  simp [Ideal.ofBits, Ideal.ieee, root, -EReal.coe_mul]; norm_num

theorem cubic : (Named.named (F := Ideal) (φ := .f32) κ "cubic" 0x3D372713#32 : EReal) = ((kap : ℝ) : EReal) := rfl

theorem cubic3 : (Named.named (F := Ideal) (φ := .f32) κ "cubic3" 0x3E095D4F#32 : EReal) = ((3 * kap : ℝ) : EReal) :=
  (rfl : _ = ((26829 / 200000 : ℝ) : EReal)).trans (congrArg _ (by unfold kap; norm_num))

variable (r : Fin 512) (k : Fin 256)

/-! ## The activation of the two halves -/

section act
variable (x : Vec Ideal S512x512 .f32) (f : Fin 256 → ℝ)

theorem p25 (hu : ∀ (k : Fin 256) (h : k.val < 512), (x (ix2 r ⟨k.val, h⟩) : EReal) = ((f k : ℝ) : EReal)) :
    (k0_pay25 (F := Ideal) x (ix2 r k) : EReal) = ((th (f k) : ℝ) : EReal) := by
  pointwise [k0_pay25, k0_pay23]
  simp only [hu, lit_root, cubic, ← EReal.coe_mul, ← EReal.coe_add, Ideal.tanh_coe]
  rfl

theorem p26 (hu : ∀ (k : Fin 256) (h : k.val < 512), (x (ix2 r ⟨k.val, h⟩) : EReal) = ((f k : ℝ) : EReal)) :
    (k0_pay26 (F := Ideal) x (ix2 r k) : EReal) = ((gelu (f k) : ℝ) : EReal) := by
  pointwise [k0_pay26, k0_pay23]
  simp only [hu, p25 r k x f hu, lit_half, one_eq, ← EReal.coe_mul, ← EReal.coe_add]
  rfl

theorem p27 (hv : ∀ (k : Fin 256) (h : 256 + k.val < 512), (x (ix2 r ⟨256 + k.val, h⟩) : EReal) = ((f k : ℝ) : EReal)) :
    (k0_pay27 (F := Ideal) x (ix2 r k) : EReal) = ((th (f k) : ℝ) : EReal) := by
  pointwise [k0_pay27, k0_pay24]
  simp only [hv, lit_root, cubic, ← EReal.coe_mul, ← EReal.coe_add, Ideal.tanh_coe]
  rfl

theorem p28 (hv : ∀ (k : Fin 256) (h : 256 + k.val < 512), (x (ix2 r ⟨256 + k.val, h⟩) : EReal) = ((f k : ℝ) : EReal)) :
    (k0_pay28 (F := Ideal) x (ix2 r k) : EReal) = ((gelu (f k) : ℝ) : EReal) := by
  pointwise [k0_pay28, k0_pay24]
  simp only [hv, p27 r k x f hv, lit_half, one_eq, ← EReal.coe_mul, ← EReal.coe_add]
  rfl

theorem p29 (hv : ∀ (k : Fin 256) (h : 256 + k.val < 512), (x (ix2 r ⟨256 + k.val, h⟩) : EReal) = ((f k : ℝ) : EReal)) :
    (k0_pay29 (F := Ideal) x (ix2 r 0) : EReal) = ((mean (fun k => gelu (f k)) : ℝ) : EReal) := by
  pointwise [k0_pay29]
  simp only [p28 r _ x f hv, lit_256, sum_coe, div_256]
  rfl

/-- The derivative of `u` as it is stored. -/
theorem p134 (e : FVec Ideal S512x256 .f32) (g : Fin 256 → ℝ) (he : ∀ k, (e (ix2 r k) : EReal) = ((g k : ℝ) : EReal))
    (hu : ∀ (k : Fin 256) (h : k.val < 512), (x (ix2 r ⟨k.val, h⟩) : EReal) = ((f k : ℝ) : EReal)) :
    (k0_pay134 (F := Ideal) (k0_pay23 x) (k0_pay25 x) e (ix2 r k) : EReal) = ((g k * gelud (f k) : ℝ) : EReal) := by
  pointwise [k0_pay134, k0_pay23]
  simp only [hu, he, p25 r k x f hu, lit_half, lit_root, cubic3, one_eq, ← EReal.coe_mul, ← EReal.coe_add, ← EReal.coe_sub]
  rfl

/-- The derivative of `v` as it is stored. -/
theorem p1 (e : FVec Ideal S512x256 .f32) (g : Fin 256 → ℝ) (he : ∀ k, (e (ix2 r k) : EReal) = ((g k : ℝ) : EReal))
    (hv : ∀ (k : Fin 256) (h : 256 + k.val < 512), (x (ix2 r ⟨256 + k.val, h⟩) : EReal) = ((f k : ℝ) : EReal)) :
    (k0_pay1 (F := Ideal) e (k0_pay135 (k0_pay27 x)) (k0_pay136 (k0_pay24 x) (k0_pay27 x)) (k0_pay137 (k0_pay24 x)) (ix2 r k) : EReal)
      = ((g k * gelud (f k) : ℝ) : EReal) := by
  pointwise [k0_pay1, k0_pay135, k0_pay136, k0_pay137, k0_pay24]
  simp only [hv, he, p27 r k x f hv, lit_half, lit_root, cubic3, one_eq, ← EReal.coe_mul, ← EReal.coe_add, ← EReal.coe_sub]
  rfl

end act

/-! ## The normalisation with the mean taken off -/

section hat
variable (x : FVec Ideal S512x256 .f32) (s : FVec Ideal S512x1 .f32) (f : Fin 256 → ℝ)
  (hx : ∀ k, (x (ix2 r k) : EReal) = ((f k : ℝ) : EReal)) (hs : (s (ix2 r 0) : EReal) = ((mean f : ℝ) : EReal))
include hx hs

theorem p30 : (k0_pay30 (F := Ideal) x s (ix2 r k) : EReal) = ((cen f k : ℝ) : EReal) := by
  pointwise [k0_pay30]
  simp only [hx, hs, ← EReal.coe_sub]
  rfl

theorem p31 : (k0_pay31 (F := Ideal) x s (ix2 r 0) : EReal) = ((rs f : ℝ) : EReal) := by
  pointwise [k0_pay31]
  simp only [p30 r _ x s f hx hs, lit_256, lit_eps, ← EReal.coe_mul, sum_coe, div_256, ← EReal.coe_add]
  exact rsqrt_msq (by norm_num) _

theorem p32 : (k0_pay32 (F := Ideal) x s (ix2 r k) : EReal) = ((hat f k : ℝ) : EReal) := by
  pointwise [k0_pay32]
  simp only [p30 r _ x s f hx hs, p31 r x s f hx hs, ← EReal.coe_mul]
  rfl

theorem p33 (g : FVec Ideal S1x256 .f32) (gs : Fin 256 → ℝ) (hg : ∀ k, (g (ix2 0 k) : EReal) = ((gs k : ℝ) : EReal)) :
    (k0_pay33 (F := Ideal) g x s (ix2 r k) : EReal) = ((hat f k * gs k : ℝ) : EReal) := by
  pointwise [k0_pay33]
  simp only [p32 r _ x s f hx hs, hg, ← EReal.coe_mul]
end hat

/-! ## The normalisation by the root of the mean square, and its derivative -/

section nrm
variable (b : FVec Ideal S128x256 .f32) (x : FVec Ideal S512x256 .f32) (c0 c1 c2 c3 : FVec Ideal S128x256 .f32) (g mx : Fin 256 → ℝ)
  (hx : ∀ k, (x (ix2 r k) : EReal) = ((g k : ℝ) : EReal))
  (hm : ∀ k, (k0_pay48 (F := Ideal) b c0 c1 c2 c3 (ix2 r k) : EReal) = ((mx k : ℝ) : EReal))
include hx hm

theorem p49 : (k0_pay49 (F := Ideal) b x c0 c1 c2 c3 (ix2 r k) : EReal) = ((g k * mx k : ℝ) : EReal) := by
  pointwise [k0_pay49]
  simp only [hx, hm, ← EReal.coe_mul]

theorem p50 : (k0_pay50 (F := Ideal) b x c0 c1 c2 c3 (ix2 r 0) : EReal) = ((rinv 256 (fun k => g k * mx k) : ℝ) : EReal) := by
  pointwise [k0_pay50]
  simp only [p49 r _ b x c0 c1 c2 c3 g mx hx hm, lit_256, lit_eps, ← EReal.coe_mul, sum_coe, div_256, ← EReal.coe_add]
  exact rsqrt_msq (by norm_num) _

theorem p51 : (k0_pay51 (F := Ideal) b x c0 c1 c2 c3 (ix2 r k) : EReal) = ((nrm (fun k => g k * mx k) k : ℝ) : EReal) := by
  pointwise [k0_pay51]
  simp only [p49 r _ b x c0 c1 c2 c3 g mx hx hm, p50 r b x c0 c1 c2 c3 g mx hx hm, ← EReal.coe_mul]
  rfl

variable (dl : Vec Ideal S512x256 .f32) (gn : Vec Ideal S1x256 .f32) (e ga : Fin 256 → ℝ)
  (hd : ∀ k, (dl (ix2 r k) : EReal) = ((e k : ℝ) : EReal)) (hg : ∀ k, (gn (ix2 0 k) : EReal) = ((ga k : ℝ) : EReal))
include hd hg

theorem p53 : (k0_pay53 (F := Ideal) b x c0 c1 c2 c3 dl gn (ix2 r k) : EReal)
    = ((nrmb (fun k => g k * mx k) (fun k => e k * ga k) k : ℝ) : EReal) := by
  pointwise [k0_pay53]
  simp only [p51 r _ b x c0 c1 c2 c3 g mx hx hm, p50 r b x c0 c1 c2 c3 g mx hx hm, hd, hg, lit_256, ← EReal.coe_mul, sum_coe, div_256,
    ← EReal.coe_sub]
  rfl

theorem p54 : (k0_pay54 (F := Ideal) b x c0 c1 c2 c3 dl gn (ix2 r k) : EReal)
    = ((nrmb (fun k => g k * mx k) (fun k => e k * ga k) k * mx k : ℝ) : EReal) := by
  pointwise [k0_pay54]
  simp only [p53 r _ b x c0 c1 c2 c3 g mx hx hm dl gn e ga hd hg, hm, ← EReal.coe_mul]

theorem p55 : (k0_pay55 (F := Ideal) b x c0 c1 c2 c3 dl gn (ix2 r k) : EReal)
    = ((nrmb (fun k => g k * mx k) (fun k => e k * ga k) k * g k : ℝ) : EReal) := by
  pointwise [k0_pay55]
  simp only [p53 r _ b x c0 c1 c2 c3 g mx hx hm dl gn e ga hd hg, hx, ← EReal.coe_mul]

theorem p56 : (k0_pay56 (F := Ideal) b x c0 c1 c2 c3 dl gn (ix2 r k) : EReal)
    = ((nrmb (fun k => g k * mx k) (fun k => e k * ga k) k * g k : ℝ) : EReal) := by
  pointwise [k0_pay56]
  simp only [p55 r _ b x c0 c1 c2 c3 g mx hx hm dl gn e ga hd hg]

end nrm

/-- The derivative of the gain after the mixing: the rows of the block are added to what is there. -/
theorem p52 (b : FVec Ideal S128x256 .f32) (x : FVec Ideal S512x256 .f32) (c0 c1 c2 c3 : FVec Ideal S128x256 .f32) (dl : Vec Ideal S512x256 .f32)
    (acc : Vec Ideal S1x256 .f32) (g mx e : Fin 512 → Fin 256 → ℝ) (hx : ∀ r k, (x (ix2 r k) : EReal) = ((g r k : ℝ) : EReal))
    (hm : ∀ r k, (k0_pay48 (F := Ideal) b c0 c1 c2 c3 (ix2 r k) : EReal) = ((mx r k : ℝ) : EReal))
    (hd : ∀ r k, (dl (ix2 r k) : EReal) = ((e r k : ℝ) : EReal)) :
    (k0_pay52 (F := Ideal) b x c0 c1 c2 c3 dl acc (ix2 0 k) : EReal)
      = acc (ix2 0 k) + ((∑ r, e r k * nrm (fun k => g r k * mx r k) k : ℝ) : EReal) := by
  pointwise [k0_pay52]
  simp only [p51 _ _ b x c0 c1 c2 c3 _ _ (hx _) (hm _), hd, ← EReal.coe_mul, sum_coe]

/-! ## The derivative back through the normalisation with the mean taken off -/

section hatb
variable (t0 t1 t2 : FVec Ideal S128x256 .f32) (s0 s1 : FVec Ideal S128x128 .f32)

/-- The derivative of the gain before the mixing: the rows of the block are added to what is there. -/
theorem p129 (vh : FVec Ideal S512x256 .f32) (acc : Vec Ideal S1x256 .f32) (f e : Fin 512 → Fin 256 → ℝ)
    (hv : ∀ r k, (vh (ix2 r k) : EReal) = ((f r k : ℝ) : EReal))
    (he : ∀ r k, (k0_pay128 (F := Ideal) t0 t1 t2 s0 s1 (ix2 r k) : EReal) = ((e r k : ℝ) : EReal)) :
    (k0_pay129 (F := Ideal) vh t0 t1 t2 s0 s1 acc (ix2 0 k) : EReal) = acc (ix2 0 k) + ((∑ r, e r k * f r k : ℝ) : EReal) := by
  pointwise [k0_pay129]
  simp only [hv, he, ← EReal.coe_mul, sum_coe]

variable (gn : Vec Ideal S1x256 .f32) (e gs : Fin 256 → ℝ)
  (he : ∀ k, (k0_pay128 (F := Ideal) t0 t1 t2 s0 s1 (ix2 r k) : EReal) = ((e k : ℝ) : EReal))
  (hg : ∀ k, (gn (ix2 0 k) : EReal) = ((gs k : ℝ) : EReal))
include he hg

theorem p130 : (k0_pay130 (F := Ideal) t0 t1 t2 s0 s1 gn (ix2 r k) : EReal) = ((e k * gs k : ℝ) : EReal) := by
  pointwise [k0_pay130]
  simp only [he, hg, ← EReal.coe_mul]

theorem p133 (x : FVec Ideal S512x256 .f32) (s : FVec Ideal S512x1 .f32) (f : Fin 256 → ℝ)
    (hx : ∀ k, (x (ix2 r k) : EReal) = ((f k : ℝ) : EReal)) (hs : (s (ix2 r 0) : EReal) = ((mean f : ℝ) : EReal)) :
    (k0_pay133 (F := Ideal) (k0_pay31 x s) (k0_pay32 x s) (k0_pay131 t0 t1 t2 s0 s1 gn) (k0_pay132 (k0_pay32 x s) t0 t1 t2 s0 s1 gn) (ix2 r k) : EReal)
      = ((hatb f (fun k => e k * gs k) k : ℝ) : EReal) := by
  pointwise [k0_pay133, k0_pay131, k0_pay132]
  simp only [p130 r _ t0 t1 t2 s0 s1 gn e gs he hg, p31 r x s f hx hs, p32 r _ x s f hx hs, lit_256, ← EReal.coe_mul, sum_coe, div_256,
    ← EReal.coe_sub]
  rfl

end hatb

end Cert.SguIdeal

end
-- ==== Proof.SguMix.lean ====
/- What the payloads of the gating unit's backward kernel compute on finite arguments: the mixing of a chunk's rows, its
   derivatives at the rows and at the weights. The kernel takes two groups of 64 lanes at a time, one by a mask and one by
   its complement. -/
module

public import proofs.«01_k».proof.Proof.SguPay

@[expose] public section

set_option maxRecDepth 16384

noncomputable section

open Idealize.ShloMosaic Idealize.ShloMosaic.TcCoe Cert.Lift Cert.Sgu

namespace Cert.SguIdeal
open Cert.SguIdeal.Gen

/-! ## The masks -/

def mk (l : Fin 128) : ℝ := if l.val < 64 then 1 else 0

theorem mask_apply : ∀ l : Fin 128, BitVec.setWidth 32 (IntOp.cmpi CmpIPredicate.slt (BitVec.ofNat 32 l.val) 64#32) = if l.val < 64 then 1#32 else 0#32 := by
  decide +kernel

theorem m34 (i l : Fin 128) : (k0_pay34 (F := Ideal) (ix2 i l) : EReal) = ((mk l : ℝ) : EReal) := by
  pointwise [k0_pay34]
  rw [mask_apply]
  unfold mk
  split <;> simp [FloatOps.sitofp]

theorem m35 (i l : Fin 128) : (k0_pay35 (F := Ideal) (ix2 i l) : EReal) = ((mk l : ℝ) : EReal) := m34 i l

theorem m36 (i l : Fin 128) : (k0_pay36 (F := Ideal) (ix2 i l) : EReal) = ((1 - mk l : ℝ) : EReal) := by
  pointwise [k0_pay36]
  simp only [m34, one_eq, ← EReal.coe_sub]

theorem m57 (i l : Fin 128) : (k0_pay57 (F := Ideal) (ix2 i l) : EReal) = ((mk l : ℝ) : EReal) := m34 i l

theorem m58 (i l : Fin 128) : (k0_pay58 (F := Ideal) (ix2 i l) : EReal) = ((mk l : ℝ) : EReal) := m34 i l

theorem m59 (i l : Fin 128) : (k0_pay59 (F := Ideal) k0_pay57 (ix2 i l) : EReal) = ((1 - mk l : ℝ) : EReal) := m36 i l

/-! ## Rows of the four chunks of a block -/

theorem quarters {n : ℕ} {e : EltTy} {X : (⟨2, ![512, n]⟩ : Shape).Idx → EReal} {f : Fin 4 → Fin 128 → Fin n → ℝ}
    (hX : ∀ q i k, X (ix2 (rw4 q i) k) = ((f q i k : ℝ) : EReal)) :
    (∀ (i : Fin 128) (h : i.val < 512) k, X (ix2 ⟨i.val, h⟩ k) = ((f 0 i k : ℝ) : EReal))
    ∧ (∀ (i : Fin 128) (h : 128 + i.val < 512) k, X (ix2 ⟨128 + i.val, h⟩ k) = ((f 1 i k : ℝ) : EReal))
    ∧ (∀ (i : Fin 128) (h : 256 + i.val < 512) k, X (ix2 ⟨256 + i.val, h⟩ k) = ((f 2 i k : ℝ) : EReal))
    ∧ ∀ (i : Fin 128) (h : 384 + i.val < 512) k, X (ix2 ⟨384 + i.val, h⟩ k) = ((f 3 i k : ℝ) : EReal) := by
  refine ⟨fun i h k => ?_, fun i h k => ?_, fun i h k => ?_, fun i h k => ?_⟩
  · rw [← hX]; exact congrArg (fun r => X (ix2 r k)) (Fin.ext (by show i.val = 128 * 0 + i.val; omega))
  · rw [← hX]; rfl
  · rw [← hX]; rfl
  · rw [← hX]; rfl

/-- Two groups of lanes taken by the mask and its complement: each lane meets its own group's weight. -/
theorem two_groups (w : Fin 4 → Fin 128 → Fin 128 → ℝ) (f : Fin 128 → Fin 256 → ℝ) (i : Fin 128) (k k' : Fin 256) (hk : k'.val = k.val) (g : Fin 2)
    (l : Fin 128) (hl : k.val = 128 * g.val + l.val) (h0 h1 : Fin 4) (e0 : h0.val = 2 * g.val) (e1 : h1.val = 2 * g.val + 1) :
    ∑ j, w h0 i j * (f j k' * mk l) + ∑ j, w h1 i j * (f j k' * (1 - mk l)) = ∑ j, w (hd k) i j * f j k := by
  obtain rfl : k' = k := Fin.ext hk
  unfold mk
  by_cases h : l.val < 64
  · have e : hd k' = h0 := Fin.ext (by show k'.val / 64 = _; omega)
    simp [h, e]
  · have e : hd k' = h1 := Fin.ext (by show k'.val / 64 = _; omega)
    simp [h, e]

/-- The two halves of the lanes side by side. -/
theorem two_halves (w : Fin 4 → Fin 128 → Fin 128 → ℝ) (f : Fin 128 → Fin 256 → ℝ) (i : Fin 128) (k : Fin 256) (A : k.val < 128 → EReal)
    (B : ¬k.val < 128 → EReal)
    (hA : ∀ h : k.val < 128, A h = ((∑ j, w 0 i j * (f j k * mk ⟨k.val, h⟩) + ∑ j, w 1 i j * (f j k * (1 - mk ⟨k.val, h⟩)) : ℝ) : EReal))
    (hB : ∀ h : ¬k.val < 128, B h = ((∑ j, w 2 i j * (f j ⟨128 + (k.val - 128), by omega⟩ * mk ⟨k.val - 128, by omega⟩)
      + ∑ j, w 3 i j * (f j ⟨128 + (k.val - 128), by omega⟩ * (1 - mk ⟨k.val - 128, by omega⟩)) : ℝ) : EReal)) :
    (if h : k.val < 128 then A h else B h) = ((∑ j, w (hd k) i j * f j k : ℝ) : EReal) := by
  split <;> rename_i h
  · rw [hA h]
    exact congrArg _ (two_groups w f i k k rfl 0 ⟨k.val, h⟩ (by simp) 0 1 rfl rfl)
  · rw [hB h]
    exact congrArg _ (two_groups w f i k _ (by show 128 + (k.val - 128) = k.val; omega) 1 ⟨k.val - 128, by omega⟩
      (by show k.val = 128 * 1 + (k.val - 128); omega) 2 3 rfl rfl)

section mixing
variable (w : Fin 4 → Fin 128 → Fin 128 → ℝ) (b : Fin 128 → Fin 256 → ℝ) (f : Fin 4 → Fin 128 → Fin 256 → ℝ)
  (v5 : FVec Ideal S128x256 .f32) (v54 : FVec Ideal S512x256 .bf16) (w0 w1 w2 w3 : Vec Ideal S1x128x128 .bf16)
  (hb : ∀ i k, (v5 (ix2 i k) : EReal) = ((b i k : ℝ) : EReal))
  (hv : ∀ q i k, (v54 (ix2 (rw4 q i) k) : EReal) = ((f q i k : ℝ) : EReal))
  (h0 : ∀ i j, (w0 (ix3 0 i j) : EReal) = ((w 0 i j : ℝ) : EReal)) (h1 : ∀ i j, (w1 (ix3 0 i j) : EReal) = ((w 1 i j : ℝ) : EReal))
  (h2 : ∀ i j, (w2 (ix3 0 i j) : EReal) = ((w 2 i j : ℝ) : EReal)) (h3 : ∀ i j, (w3 (ix3 0 i j) : EReal) = ((w 3 i j : ℝ) : EReal))
include hv h0 h1 h2 h3

section biased
include hb

theorem p41 (i : Fin 128) (k : Fin 256) :
    (k0_pay41 (F := Ideal) v5 v54 k0_pay35 k0_pay36 w0 w1 w2 w3 (ix2 i k) : EReal) = ((∑ j, w (hd k) i j * f 1 j k + b i k : ℝ) : EReal) := by
  obtain ⟨-, q, -, -⟩ := quarters (e := .bf16) hv
  pointwise [k0_pay41]
  simp only [q, hb, h0, h1, h2, h3, m35, m36, ← EReal.coe_mul, sum_coe, ← EReal.coe_add]
  rw [EReal.coe_add]
  exact congrArg (· + _) (two_halves w (f 1) i k _ _ (fun _ => rfl) (fun _ => rfl))

theorem p46 (i : Fin 128) (k : Fin 256) :
    (k0_pay46 (F := Ideal) v5 v54 k0_pay35 k0_pay36 (k0_pay43 v54 k0_pay35 w0) (k0_pay44 w1) (k0_pay45 v54 k0_pay36) w2 w3 (ix2 i k) : EReal)
      = ((∑ j, w (hd k) i j * f 2 j k + b i k : ℝ) : EReal) := by
  obtain ⟨-, -, q, -⟩ := quarters (e := .bf16) hv
  pointwise [k0_pay46, k0_pay43, k0_pay44, k0_pay45, k0_pay42]
  simp only [q, hb, h0, h1, h2, h3, m35, m36, ← EReal.coe_mul, sum_coe, ← EReal.coe_add]
  rw [EReal.coe_add]
  exact congrArg (· + _) (two_halves w (f 2) i k _ _ (fun _ => rfl) (fun _ => rfl))

end biased

theorem p47 (i : Fin 128) (k : Fin 256) :
    (k0_pay47 (F := Ideal) v54 k0_pay35 k0_pay36 w0 w1 w2 w3 (ix2 i k) : EReal) = ((∑ j, w (hd k) i j * f 3 j k : ℝ) : EReal) := by
  obtain ⟨-, -, -, q⟩ := quarters (e := .bf16) hv
  pointwise [k0_pay47]
  simp only [q, h0, h1, h2, h3, m35, m36, ← EReal.coe_mul, sum_coe, ← EReal.coe_add]
  exact two_halves w (f 3) i k _ _ (fun _ => rfl) (fun _ => rfl)

end mixing

end Cert.SguIdeal

end
-- ==== Proof.SguDw.lean ====
/- The rest of the payloads of the gating unit's backward kernel on finite arguments: a block's four chunks under each other,
   the derivative at the normalised rows, and what a block adds to the derivatives at the weights and at the bias. -/
module

public import proofs.«01_k».proof.Proof.SguMix

@[expose] public section

set_option maxRecDepth 16384

noncomputable section

open Idealize.ShloMosaic Idealize.ShloMosaic.TcCoe Cert.Lift Cert.Sgu

namespace Cert.SguIdeal
open Cert.SguIdeal.Gen

/-! ## The weights -/

/-- The sum over the lanes of one group, as the kernel takes it: over the 128 lanes of two groups, one of them masked off. -/
theorem half_lanes (f g : Fin 256 → ℝ) (h : Fin 4) (c : Fin 128 → ℝ) (e : Fin 128 → Fin 256) (he : ∀ x, (e x).val = 128 * (h.val / 2) + x.val)
    (hc : ∀ x : Fin 128, c x = if x.val / 64 = h.val % 2 then 1 else 0) :
    ∑ x, f (e x) * c x * g (e x) = ∑ l, f (ln h l) * g (ln h l) := by
  rw [Fin.sum_univ_tiles 2 64 (by norm_num) (fun x => f (e x) * c x * g (e x)), Fin.sum_univ_two]
  have z (b : Fin 2) : ∑ l : Fin 64, f (e ⟨b.val * 64 + l.val, by omega⟩) * c ⟨b.val * 64 + l.val, by omega⟩ * g (e ⟨b.val * 64 + l.val, by omega⟩)
      = if b.val = h.val % 2 then ∑ l, f (ln h l) * g (ln h l) else 0 := by
    split <;> rename_i hb
    · refine Finset.sum_congr rfl fun l _ => ?_
      have eq : e ⟨b.val * 64 + l.val, by omega⟩ = ln h l := Fin.ext ((he _).trans (by show 128 * (h.val / 2) + (b.val * 64 + l.val) = 64 * h.val + l.val; omega))
      rw [eq, hc, if_pos (by show (b.val * 64 + l.val) / 64 = _; omega), mul_one]
    · refine Finset.sum_eq_zero fun l _ => ?_
      rw [hc, if_neg (by show ¬(b.val * 64 + l.val) / 64 = _; omega), mul_zero, zero_mul]
  refine (congrArg₂ (· + ·) (z 0) (z 1)).trans ?_
  rcases Nat.mod_two_eq_zero_or_one h.val with e | e <;> simp [e]

theorem mk_even (h : Fin 4) (e : h.val % 2 = 0) (x : Fin 128) : mk x = if x.val / 64 = h.val % 2 then 1 else 0 := by
  unfold mk
  rw [e]
  exact if_congr (by omega) rfl rfl

theorem mk_odd (h : Fin 4) (e : h.val % 2 = 1) (x : Fin 128) : 1 - mk x = if x.val / 64 = h.val % 2 then 1 else 0 := by
  unfold mk
  rw [e]
  by_cases hx : x.val < 64
  · rw [if_pos hx, if_neg (by omega), sub_self]
  · rw [if_neg hx, if_pos (by omega), sub_zero]

/-- Four parts added one after the other to what is there. -/
theorem add_four (p : EReal) (b : Fin 4 → ℝ) (a0 a1 a2 a3 : ℝ) (h0 : a0 = b 0) (h1 : a1 = b 1) (h2 : a2 = b 2) (h3 : a3 = b 3) :
    p + (a0 : EReal) + (a1 : EReal) + (a2 : EReal) + (a3 : EReal) = p + ((∑ q, b q : ℝ) : EReal) := by
  subst h0 h1 h2 h3
  rw [Fin.sum_univ_four]
  simp only [EReal.coe_add, add_assoc]

section weights
variable (VN DM : FVec Ideal S512x256 .bf16) (vn dm : Fin 4 → Fin 128 → Fin 256 → ℝ) (p : Vec Ideal S1x128x128 .f32)
  (hv : ∀ q i k, (VN (ix2 (rw4 q i) k) : EReal) = ((vn q i k : ℝ) : EReal))
  (hd : ∀ q i k, (DM (ix2 (rw4 q i) k) : EReal) = ((dm q i k : ℝ) : EReal)) (i j : Fin 128)
include hv hd

theorem slab0 :
    (k0_pay116 (F := Ideal) VN DM k0_pay58 (k0_pay98 (k0_pay94 VN) (k0_pay95 DM k0_pay58) (k0_pay97 (k0_pay80 (k0_pay77 VN) (k0_pay79 DM k0_pay58)
      (k0_pay64 VN DM k0_pay58 p)))) (ix3 0 i j) : EReal) = p (ix3 0 i j) + ((∑ q, ∑ l, dm q i (ln 0 l) * vn q j (ln 0 l) : ℝ) : EReal) := by
  obtain ⟨v0, v1, v2, v3⟩ := quarters (e := .bf16) hv
  obtain ⟨d0, d1, d2, d3⟩ := quarters (e := .bf16) hd
  pointwise [k0_pay116, k0_pay113, k0_pay114, k0_pay112, k0_pay98, k0_pay94, k0_pay95, k0_pay93, k0_pay97, k0_pay80, k0_pay77, k0_pay79, k0_pay76, k0_pay64,
    k0_pay61, k0_pay62, k0_pay63]
  simp only [v0, v1, v2, v3, d0, d1, d2, d3, m58, ← EReal.coe_mul, sum_coe]
  refine add_four _ _ _ _ _ _ ?_ ?_ ?_ ?_ <;> exact half_lanes _ _ 0 _ _ (fun _ => (Nat.zero_add _).symm) (mk_even 0 rfl)

theorem slab1 :
    (k0_pay119 (F := Ideal) (k0_pay113 VN) (k0_pay117 DM (k0_pay59 k0_pay57)) (k0_pay101 (k0_pay59 k0_pay57) (k0_pay93 DM) (k0_pay94 VN)
      (k0_pay83 (k0_pay59 k0_pay57) (k0_pay76 DM) (k0_pay77 VN) (k0_pay67 VN DM k0_pay57 p))) (ix3 0 i j) : EReal)
      = p (ix3 0 i j) + ((∑ q, ∑ l, dm q i (ln 1 l) * vn q j (ln 1 l) : ℝ) : EReal) := by
  obtain ⟨v0, v1, v2, v3⟩ := quarters (e := .bf16) hv
  obtain ⟨d0, d1, d2, d3⟩ := quarters (e := .bf16) hd
  pointwise [k0_pay119, k0_pay113, k0_pay117, k0_pay112, k0_pay101, k0_pay94, k0_pay93, k0_pay99, k0_pay83, k0_pay81, k0_pay77, k0_pay76, k0_pay67,
    k0_pay65, k0_pay62, k0_pay61]
  simp only [v0, v1, v2, v3, d0, d1, d2, d3, m59, ← EReal.coe_mul, sum_coe]
  refine add_four _ _ _ _ _ _ ?_ ?_ ?_ ?_ <;> exact half_lanes _ _ 1 _ _ (fun _ => (Nat.zero_add _).symm) (mk_odd 1 rfl)

theorem slab2 :
    (k0_pay123 (F := Ideal) VN DM k0_pay58 (k0_pay107 (k0_pay106 VN DM k0_pay58 (k0_pay88 (k0_pay85 VN) (k0_pay86 DM k0_pay58)
      (k0_pay71 VN DM k0_pay58 p)))) (ix3 0 i j) : EReal) = p (ix3 0 i j) + ((∑ q, ∑ l, dm q i (ln 2 l) * vn q j (ln 2 l) : ℝ) : EReal) := by
  obtain ⟨v0, v1, v2, v3⟩ := quarters (e := .bf16) hv
  obtain ⟨d0, d1, d2, d3⟩ := quarters (e := .bf16) hd
  pointwise [k0_pay123, k0_pay121, k0_pay122, k0_pay120, k0_pay107, k0_pay106, k0_pay103, k0_pay104, k0_pay102, k0_pay88, k0_pay85, k0_pay86, k0_pay84,
    k0_pay71, k0_pay70, k0_pay69, k0_pay68]
  simp only [v0, v1, v2, v3, d0, d1, d2, d3, m58, ← EReal.coe_mul, sum_coe]
  refine add_four _ _ _ _ _ _ ?_ ?_ ?_ ?_ <;> exact half_lanes _ _ 2 _ _ (fun _ => rfl) (mk_even 2 rfl)

theorem slab3 :
    (k0_pay126 (F := Ideal) (k0_pay121 VN) (k0_pay124 DM (k0_pay59 k0_pay57)) (k0_pay109 (k0_pay59 k0_pay57) (k0_pay102 DM) (k0_pay103 VN)
      (k0_pay90 (k0_pay59 k0_pay57) (k0_pay84 DM) (k0_pay85 VN) (k0_pay73 VN DM (k0_pay59 k0_pay57) p))) (ix3 0 i j) : EReal)
      = p (ix3 0 i j) + ((∑ q, ∑ l, dm q i (ln 3 l) * vn q j (ln 3 l) : ℝ) : EReal) := by
  obtain ⟨v0, v1, v2, v3⟩ := quarters (e := .bf16) hv
  obtain ⟨d0, d1, d2, d3⟩ := quarters (e := .bf16) hd
  pointwise [k0_pay126, k0_pay121, k0_pay124, k0_pay120, k0_pay109, k0_pay108, k0_pay103, k0_pay102, k0_pay90, k0_pay89, k0_pay85, k0_pay84,
    k0_pay73, k0_pay72, k0_pay69, k0_pay68]
  simp only [v0, v1, v2, v3, d0, d1, d2, d3, m59, ← EReal.coe_mul, sum_coe]
  refine add_four _ _ _ _ _ _ ?_ ?_ ?_ ?_ <;> exact half_lanes _ _ 3 _ _ (fun _ => rfl) (mk_odd 3 rfl)

end weights

/-! ## The bias -/

theorem p127 (D : FVec Ideal S512x256 .f32) (dm : Fin 4 → Fin 128 → Fin 256 → ℝ) (acc : Vec Ideal S128x256 .f32)
    (hd : ∀ q i k, (D (ix2 (rw4 q i) k) : EReal) = ((dm q i k : ℝ) : EReal)) (i : Fin 128) (k : Fin 256) :
    (k0_pay127 (F := Ideal) (k0_pay111 D (k0_pay92 D (k0_pay75 D (k0_pay60 D)))) acc (ix2 i k) : EReal) = acc (ix2 i k) + ((∑ q, dm q i k : ℝ) : EReal) := by
  obtain ⟨d0, d1, d2, d3⟩ := quarters (e := .f32) hd
  pointwise [k0_pay127, k0_pay111, k0_pay92, k0_pay75, k0_pay60]
  simp only [d0, d1, d2, d3, zero_add, ← EReal.coe_add]
  rw [Fin.sum_univ_four]

/-! ## A block's chunks under each other -/

theorem stack (A B C D : Fin 128 → EReal) (f : Fin 4 → Fin 128 → EReal) (hA : ∀ i, A i = f 0 i) (hB : ∀ i, B i = f 1 i) (hC : ∀ i, C i = f 2 i)
    (hD : ∀ i, D i = f 3 i) (q : Fin 4) (i : Fin 128) :
    (if h : (rw4 q i).val < 128 then A ⟨(rw4 q i).val, h⟩
      else if h : (rw4 q i).val - 128 < 128 then B ⟨(rw4 q i).val - 128, h⟩
      else if h : (rw4 q i).val - 128 - 128 < 128 then C ⟨(rw4 q i).val - 128 - 128, h⟩
      else D ⟨(rw4 q i).val - 128 - 128 - 128, by omega⟩) = f q i := by
  have e : (rw4 q i).val = 128 * q.val + i.val := rfl
  match q with
  | 0 =>
    rw [dif_pos (by rw [e]; show 128 * 0 + i.val < 128; omega), hA]
    exact congrArg (f 0) (Fin.ext (by show 128 * 0 + i.val = i.val; omega))
  | 1 =>
    rw [dif_neg (by rw [e]; show ¬128 * 1 + i.val < 128; omega), dif_pos (by rw [e]; show 128 * 1 + i.val - 128 < 128; omega), hB]
    exact congrArg (f 1) (Fin.ext (by show 128 * 1 + i.val - 128 = i.val; omega))
  | 2 =>
    rw [dif_neg (by rw [e]; show ¬128 * 2 + i.val < 128; omega), dif_neg (by rw [e]; show ¬128 * 2 + i.val - 128 < 128; omega),
      dif_pos (by rw [e]; show 128 * 2 + i.val - 128 - 128 < 128; omega), hC]
    exact congrArg (f 2) (Fin.ext (by show 128 * 2 + i.val - 128 - 128 = i.val; omega))
  | 3 =>
    rw [dif_neg (by rw [e]; show ¬128 * 3 + i.val < 128; omega), dif_neg (by rw [e]; show ¬128 * 3 + i.val - 128 < 128; omega),
      dif_neg (by rw [e]; show ¬128 * 3 + i.val - 128 - 128 < 128; omega), hD]
    exact congrArg (f 3) (Fin.ext (by show 128 * 3 + i.val - 128 - 128 - 128 = i.val; omega))

theorem stack48 (b c0 c1 c2 c3 : FVec Ideal S128x256 .f32) (k : Fin 256) (f : Fin 4 → Fin 128 → EReal) (hA : ∀ i, c0 (ix2 i k) = f 0 i)
    (hB : ∀ i, c1 (ix2 i k) = f 1 i) (hC : ∀ i, c2 (ix2 i k) = f 2 i) (hD : ∀ i, (c3 (ix2 i k) + b (ix2 i k) : EReal) = f 3 i) (q : Fin 4) (i : Fin 128) :
    (k0_pay48 (F := Ideal) b c0 c1 c2 c3 (ix2 (rw4 q i) k) : EReal) = f q i := by
  pointwise [k0_pay48]
  exact stack (fun r => c0 (ix2 r k)) (fun r => c1 (ix2 r k)) (fun r => c2 (ix2 r k)) (fun r => (c3 (ix2 r k) + b (ix2 r k) : EReal)) f hA hB hC hD q i

theorem stack128 (c0 c1 c2 : FVec Ideal S128x256 .f32) (s0 s1 : FVec Ideal S128x128 .f32) (k : Fin 256) (f : Fin 4 → Fin 128 → EReal)
    (hA : ∀ i, c0 (ix2 i k) = f 0 i) (hB : ∀ i, c1 (ix2 i k) = f 1 i) (hC : ∀ i, c2 (ix2 i k) = f 2 i)
    (hD : ∀ i, (if h : k.val < 128 then s0 (ix2 i ⟨k.val, h⟩) else s1 (ix2 i ⟨k.val - 128, by omega⟩) : EReal) = f 3 i) (q : Fin 4) (i : Fin 128) :
    (k0_pay128 (F := Ideal) c0 c1 c2 s0 s1 (ix2 (rw4 q i) k) : EReal) = f q i := by
  pointwise [k0_pay128]
  exact stack (fun r => c0 (ix2 r k)) (fun r => c1 (ix2 r k)) (fun r => c2 (ix2 r k))
    (fun r => (if h : k.val < 128 then s0 (ix2 r ⟨k.val, h⟩) else s1 (ix2 r ⟨k.val - 128, by omega⟩) : EReal)) f hA hB hC hD q i

section mixing
variable (w : Fin 4 → Fin 128 → Fin 128 → ℝ) (b : Fin 128 → Fin 256 → ℝ) (f : Fin 4 → Fin 128 → Fin 256 → ℝ)
  (v5 : FVec Ideal S128x256 .f32) (g : FVec Ideal S1x256 .f32) (x : FVec Ideal S512x256 .f32) (s : FVec Ideal S512x1 .f32)
  (w0 w1 w2 w3 : Vec Ideal S1x128x128 .bf16)
  (hb : ∀ i k, (v5 (ix2 i k) : EReal) = ((b i k : ℝ) : EReal))
  (hv : ∀ q i k, (k0_pay33 (F := Ideal) g x s (ix2 (rw4 q i) k) : EReal) = ((f q i k : ℝ) : EReal))
  (h0 : ∀ i j, (w0 (ix3 0 i j) : EReal) = ((w 0 i j : ℝ) : EReal)) (h1 : ∀ i j, (w1 (ix3 0 i j) : EReal) = ((w 1 i j : ℝ) : EReal))
  (h2 : ∀ i j, (w2 (ix3 0 i j) : EReal) = ((w 2 i j : ℝ) : EReal)) (h3 : ∀ i j, (w3 (ix3 0 i j) : EReal) = ((w 3 i j : ℝ) : EReal))
include hb hv h0 h1 h2 h3

theorem p40 (i : Fin 128) (k : Fin 256) :
    (k0_pay40 (F := Ideal) v5 k0_pay36 (k0_pay37 g x s w0 w1) (k0_pay38 g x s) (k0_pay39 g x s w2) w3 (ix2 i k) : EReal)
      = ((∑ j, w (hd k) i j * f 0 j k + b i k : ℝ) : EReal) := by
  obtain ⟨q, -, -, -⟩ := quarters (e := .bf16) hv
  pointwise [k0_pay40, k0_pay37, k0_pay38, k0_pay39]
  simp only [q, hb, h0, h1, h2, h3, m35, m36, ← EReal.coe_mul, sum_coe, ← EReal.coe_add]
  rw [EReal.coe_add]
  exact congrArg (· + _) (two_halves w (f 0) i k _ _ (fun _ => rfl) (fun _ => rfl))

/-- The mixed rows of a block, bias included. -/
theorem mixes (q : Fin 4) (i : Fin 128) (k : Fin 256) :
    (k0_pay48 (F := Ideal) v5 (k0_pay40 v5 k0_pay36 (k0_pay37 g x s w0 w1) (k0_pay38 g x s) (k0_pay39 g x s w2) w3)
      (k0_pay41 v5 (k0_pay33 g x s) k0_pay35 k0_pay36 w0 w1 w2 w3)
      (k0_pay46 v5 (k0_pay33 g x s) k0_pay35 k0_pay36 (k0_pay43 (k0_pay33 g x s) k0_pay35 w0) (k0_pay44 w1) (k0_pay45 (k0_pay33 g x s) k0_pay36) w2 w3)
      (k0_pay47 (k0_pay33 g x s) k0_pay35 k0_pay36 w0 w1 w2 w3) (ix2 (rw4 q i) k) : EReal)
      = ((∑ j, w (hd k) i j * f q j k + b i k : ℝ) : EReal) := by
  refine stack48 _ _ _ _ _ _ (fun q i => ((∑ j, w (hd k) i j * f q j k + b i k : ℝ) : EReal))
    (fun i => ?_) (fun i => ?_) (fun i => ?_) (fun i => ?_) q i
  · exact p40 w b f v5 g x s w0 w1 w2 w3 hb hv h0 h1 h2 h3 i k
  · exact p41 w b f v5 _ w0 w1 w2 w3 hb hv h0 h1 h2 h3 i k
  · exact p46 w b f v5 _ w0 w1 w2 w3 hb hv h0 h1 h2 h3 i k
  · exact (congrArg₂ (· + ·) (p47 w f _ w0 w1 w2 w3 hv h0 h1 h2 h3 i k) (hb i k)).trans (EReal.coe_add _ _).symm

end mixing

section back
variable (w : Fin 4 → Fin 128 → Fin 128 → ℝ) (dm : Fin 4 → Fin 128 → Fin 256 → ℝ) (DM : FVec Ideal S512x256 .bf16)
  (w0 w1 w2 w3 : Vec Ideal S1x128x128 .bf16)
  (hv : ∀ q i k, (DM (ix2 (rw4 q i) k) : EReal) = ((dm q i k : ℝ) : EReal))
  (h0 : ∀ i j, (w0 (ix3 0 i j) : EReal) = ((w 0 j i : ℝ) : EReal)) (h1 : ∀ i j, (w1 (ix3 0 i j) : EReal) = ((w 1 j i : ℝ) : EReal))
  (h2 : ∀ i j, (w2 (ix3 0 i j) : EReal) = ((w 2 j i : ℝ) : EReal)) (h3 : ∀ i j, (w3 (ix3 0 i j) : EReal) = ((w 3 j i : ℝ) : EReal))
include hv h0 h1 h2 h3

/-- The derivative at the normalised rows of a block. -/
theorem unmixes (q : Fin 4) (i : Fin 128) (k : Fin 256) :
    (k0_pay128 (F := Ideal) (k0_pay74 DM k0_pay58 (k0_pay59 k0_pay57) (k0_pay66 DM k0_pay57 k0_pay58 w0 w1) w2 w3)
      (k0_pay91 (k0_pay59 k0_pay57) (k0_pay82 (k0_pay59 k0_pay57) (k0_pay76 DM) k0_pay78 (k0_pay79 DM k0_pay58) w0 w1) (k0_pay84 DM)
        (k0_pay87 DM k0_pay58 w2) w3)
      (k0_pay110 (k0_pay59 k0_pay57) (k0_pay100 (k0_pay59 k0_pay57) (k0_pay93 DM) (k0_pay96 DM k0_pay58 w0) w1) (k0_pay102 DM)
        (k0_pay105 DM k0_pay58 w2) w3)
      (k0_pay118 (k0_pay115 DM k0_pay58 w0) (k0_pay117 DM (k0_pay59 k0_pay57)) w1) (k0_pay125 DM k0_pay58 (k0_pay59 k0_pay57) w2 w3)
      (ix2 (rw4 q i) k) : EReal) = ((∑ j, w (hd k) j i * dm q j k : ℝ) : EReal) := by
  obtain ⟨d0, d1, d2, d3⟩ := quarters (e := .bf16) hv
  have H (q) (i : Fin 128) := two_halves (fun h i j => w h j i) (dm q) i k
  refine stack128 _ _ _ _ _ _ (fun q i => ((∑ j, w (hd k) j i * dm q j k : ℝ) : EReal))
    (fun i => ?_) (fun i => ?_) (fun i => ?_) (fun i => ?_) q i
  · pointwise [k0_pay74, k0_pay66, k0_pay63, k0_pay61, k0_pay65, k0_pay70, k0_pay68, k0_pay72]
    simp only [d0, h0, h1, h2, h3, m58, m59, zero_add, ← EReal.coe_mul, sum_coe, ← EReal.coe_add]
    exact H 0 i _ _ (fun _ => rfl) (fun _ => rfl)
  · pointwise [k0_pay91, k0_pay82, k0_pay76, k0_pay78, k0_pay79, k0_pay81, k0_pay84, k0_pay87, k0_pay86, k0_pay89]
    simp only [d1, h0, h1, h2, h3, m58, m59, zero_add, ← EReal.coe_mul, sum_coe, ← EReal.coe_add]
    exact H 1 i _ _ (fun _ => rfl) (fun _ => rfl)
  · pointwise [k0_pay110, k0_pay100, k0_pay93, k0_pay95, k0_pay96, k0_pay99, k0_pay102, k0_pay105, k0_pay104, k0_pay108]
    simp only [d2, h0, h1, h2, h3, m58, m59, zero_add, ← EReal.coe_mul, sum_coe, ← EReal.coe_add]
    exact H 2 i _ _ (fun _ => rfl) (fun _ => rfl)
  · refine (dite_congr rfl (fun h => ?_) (fun h => ?_)).trans (H 3 i _ _ (fun _ => rfl) (fun _ => rfl))
    · pointwise [k0_pay118, k0_pay115, k0_pay114, k0_pay112, k0_pay117]
      simp only [d3, h0, h1, h2, h3, m58, m59, zero_add, ← EReal.coe_mul, sum_coe, ← EReal.coe_add]
    · pointwise [k0_pay125, k0_pay122, k0_pay120, k0_pay124]
      simp only [d3, h0, h1, h2, h3, m58, m59, zero_add, ← EReal.coe_mul, sum_coe, ← EReal.coe_add]

end back

end Cert.SguIdeal

end
-- ==== Proof.SguBlk.lean ====
/- What the host prepares for the gating unit's backward kernel, and the blocks a grid point takes of it. -/
module

public import proofs.«01_k».proof.Proof.SguFin
public import proofs.«01_k».proof.Proof.SguDw
public import proofs.«01_k».proof.Proof.Gen.SguIdeal.Value
public import Idealize.ShloMosaic.Lib.Pipeline.ReadBack

@[expose] public section

set_option maxRecDepth 16384

noncomputable section

open Idealize.ShloMosaic Idealize.ShloMosaic.TcCoe Idealize.SL.Sem Cert.BlockSums Cert.Lift Cert.Sgu

namespace Cert.SguIdeal
open Cert.SguIdeal.Gen Cert.SguIdeal.Value

variable (m : (ℓ : Loc nD τ sig) → Buf (Elt Ideal) ℓ)

/-- The argument arrays on device `c` hold the reals of `a`. -/
abbrev Holds (a : Args) (c : Dev nD) : Prop :=
  Reads a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem le_bits : ∀ i j : Fin 128, IntOp.cmpi CmpIPredicate.sge (IntOp.addi (BitVec.ofNat 32 i.val) 0#32) (BitVec.ofNat 32 j.val) = if j ≤ i then 1#1 else 0#1 := by
  decide +kernel

/-- The lower triangle of ones. -/
theorem tri (i j : Fin 128) : (select (cmpi .sge (addi (iotaInDim S128x128 32 0) (broadcastInDim S128x128 ![] bcast_S_S128x128 (constantI S_ 32 0#32)))
    (iotaInDim S128x128 32 1)) (broadcastInDim S128x128 ![] bcast_S_S128x128 (constant (F := Ideal) S_ .f32 0x3F800000#32))
    (broadcastInDim S128x128 ![] bcast_S_S128x128 (constant (F := Ideal) S_ .f32 0#32)) (ix2 i j) : EReal) = ((if j ≤ i then 1 else 0 : ℝ) : EReal) := by
  pointwise []
  rw [le_bits]
  split <;> simp [Scalar.select]

theorem masked_by (x y : EReal) (w z : ℝ) (i j : Fin 128) (hy : y = ((if j ≤ i then 1 else 0 : ℝ) : EReal)) (hx : x = (z : EReal)) (hw : w = if j ≤ i then z else 0) :
    x * y = (w : EReal) := by
  rw [hx, hw, hy, ← EReal.coe_mul]
  split <;> simp

variable {m} {a : Args} {c : Dev nD} (H : Holds m a c)

include H in
theorem host_w (h : Fin 4) (i j : Fin 128) : (V m c main_v5 (ix3 h i j) : EReal) = ((a.w h i j : ℝ) : EReal) := by
  unfold V hostOps0 hostOps0_1 hostOps0_2
  simp only [List.flatten_cons, List.flatten_nil, List.cons_append, List.nil_append, List.append_nil]
  after_results
  pointwise []
  obtain ⟨z, hz, hw⟩ := H.w h i j
  exact masked_by _ _ _ z i j (tri i j) hz hw

include H in
theorem host_wt (h : Fin 4) (i j : Fin 128) : (V m c main_v6 (ix3 h i j) : EReal) = ((a.w h j i : ℝ) : EReal) := by
  unfold V hostOps0 hostOps0_1 hostOps0_2
  simp only [List.flatten_cons, List.flatten_nil, List.cons_append, List.nil_append, List.append_nil]
  after_results
  pointwise []
  obtain ⟨z, hz, hw⟩ := H.w h j i
  exact masked_by _ _ _ z j i (tri j i) hz hw

include H in
theorem host_b (i : Fin 128) (k : Fin 256) : (V m c main_v9 (ix2 i k) : EReal) = ((a.b (hd k) i : ℝ) : EReal) := by
  unfold V hostOps0 hostOps0_1 hostOps0_2
  simp only [List.flatten_cons, List.flatten_nil, List.cons_append, List.nil_append, List.append_nil]
  after_results
  pointwise []
  exact H.b (hd k) i

include H in
theorem host_gs (z : Fin 1) (k : Fin 256) : (V m c main_v10 (ix2 z k) : EReal) = ((a.gs k : ℝ) : EReal) := by
  unfold V hostOps0 hostOps0_1 hostOps0_2
  simp only [List.flatten_cons, List.flatten_nil, List.cons_append, List.nil_append, List.append_nil]
  after_results
  pointwise []
  exact H.gs k

include H in
theorem host_ga (z : Fin 1) (k : Fin 256) : (V m c main_v11 (ix2 z k) : EReal) = ((a.ga k : ℝ) : EReal) := by
  unfold V hostOps0 hostOps0_1 hostOps0_2
  simp only [List.flatten_cons, List.flatten_nil, List.cons_append, List.nil_append, List.append_nil]
  after_results
  pointwise []
  exact H.ga k

/-! ## The blocks of a grid point -/

/-- The chunks of a point's block. -/
def ck (t : ℕ) (q : Fin 4) : Fin 64 := rowAt (N := 64) 4 (by decide) t q

theorem ck_val {t : ℕ} (ht : t < 16) (q : Fin 4) : (ck t q).val = 4 * t + q.val :=
  rowAt_val (J := 16) (by norm_num) _ _ ht q

theorem lt_N (t : Fin cfg0.N) : t.val < 16 := lt_of_lt_of_eq t.isLt N_0

theorem index_rows : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_7.index t (0 : Fin 2) = t.val ∧ win0_7.index t (1 : Fin 2) = 0) :=
  (by decide +kernel : ∀ t : Fin grid0.N, _)

theorem index_whole : ∀ t : Fin cfg0.N, (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

section
include H

/-- A block of 512 rows read at a row of one of its chunks. -/
theorem blk0 (t : Fin cfg0.N) (q : Fin 4) (i : Fin 128) (k : Fin 512) :
    ((iblk m c 0 t : Vec Ideal S512x512 .f32) (ix2 (rw4 q i) k) : EReal) = m ((c : Thread nD τ).loc main_arg0) (ix2 (rw64 (ck t.val q) i) k) := by
  have hN := lt_N t
  unfold iblk
  rw [View.read_apply]
  refine congrArg (V m c main_arg0) (?_ : _ = ix2 (rw64 (ck t.val q) i) k)
  funext b
  apply Fin.ext
  match b with
  | ⟨0, _⟩ => show win0_0.index t 0 * 512 + 1 * (128 * q.val + i.val) = 128 * (ck t.val q).val + i.val; rw [(index_rows t).1.1, ck_val hN]; omega
  | ⟨1, _⟩ => show win0_0.index t 1 * 512 + 1 * k.val = k.val; rw [(index_rows t).1.2]; omega

theorem blk1 (t : Fin cfg0.N) (q : Fin 4) (i : Fin 128) (k : Fin 256) :
    ((iblk m c 1 t : Vec Ideal S512x256 .f32) (ix2 (rw4 q i) k) : EReal) = ((a.d (ck t.val q) i k : ℝ) : EReal) := by
  have hN := lt_N t
  unfold iblk
  rw [View.read_apply]
  refine (congrArg (V m c main_arg1) (?_ : _ = ix2 (rw64 (ck t.val q) i) k)).trans (H.d (ck t.val q) i k)
  funext b
  apply Fin.ext
  match b with
  | ⟨0, _⟩ => show win0_1.index t 0 * 512 + 1 * (128 * q.val + i.val) = 128 * (ck t.val q).val + i.val; rw [(index_rows t).2.1.1, ck_val hN]; omega
  | ⟨1, _⟩ => show win0_1.index t 1 * 256 + 1 * k.val = k.val; rw [(index_rows t).2.1.2]; omega

theorem blk2 (t : Fin cfg0.N) (h : Fin 4) (i j : Fin 128) :
    ((iblk m c 2 t : Vec Ideal S4x128x128 .bf16) (ix3 h i j) : EReal) = ((a.w h i j : ℝ) : EReal) := by
  unfold iblk
  rw [View.read_apply]
  refine (congrArg (V m c main_v5) (?_ : _ = ix3 h i j)).trans (host_w H h i j)
  funext b
  apply Fin.ext
  match b with
  | ⟨0, _⟩ => show win0_2.index t 0 * 4 + 1 * h.val = h.val; rw [(index_whole t).1.1]; omega
  | ⟨1, _⟩ => show win0_2.index t 1 * 128 + 1 * i.val = i.val; rw [(index_whole t).1.2.1]; omega
  | ⟨2, _⟩ => show win0_2.index t 2 * 128 + 1 * j.val = j.val; rw [(index_whole t).1.2.2]; omega

theorem blk3 (t : Fin cfg0.N) (h : Fin 4) (i j : Fin 128) :
    ((iblk m c 3 t : Vec Ideal S4x128x128 .bf16) (ix3 h i j) : EReal) = ((a.w h j i : ℝ) : EReal) := by
  unfold iblk
  rw [View.read_apply]
  refine (congrArg (V m c main_v6) (?_ : _ = ix3 h i j)).trans (host_wt H h i j)
  funext b
  apply Fin.ext
  match b with
  | ⟨0, _⟩ => show win0_3.index t 0 * 4 + 1 * h.val = h.val; rw [(index_whole t).2.1.1]; omega
  | ⟨1, _⟩ => show win0_3.index t 1 * 128 + 1 * i.val = i.val; rw [(index_whole t).2.1.2.1]; omega
  | ⟨2, _⟩ => show win0_3.index t 2 * 128 + 1 * j.val = j.val; rw [(index_whole t).2.1.2.2]; omega

theorem blk4 (t : Fin cfg0.N) (i : Fin 128) (k : Fin 256) :
    ((iblk m c 4 t : Vec Ideal S128x256 .f32) (ix2 i k) : EReal) = ((a.b (hd k) i : ℝ) : EReal) := by
  unfold iblk
  rw [View.read_apply]
  refine (congrArg (V m c main_v9) (?_ : _ = ix2 i k)).trans (host_b H i k)
  funext b
  apply Fin.ext
  match b with
  | ⟨0, _⟩ => show win0_4.index t 0 * 128 + 1 * i.val = i.val; rw [(index_whole t).2.2.1.1]; omega
  | ⟨1, _⟩ => show win0_4.index t 1 * 256 + 1 * k.val = k.val; rw [(index_whole t).2.2.1.2]; omega

theorem blk5 (t : Fin cfg0.N) (k : Fin 256) :
    ((iblk m c 5 t : Vec Ideal S1x256 .f32) (ix2 0 k) : EReal) = ((a.gs k : ℝ) : EReal) := by
  unfold iblk
  rw [View.read_apply]
  refine (congrArg (V m c main_v10) (?_ : _ = ix2 0 k)).trans (host_gs H 0 k)
  funext b
  apply Fin.ext
  match b with
  | ⟨0, _⟩ => show win0_5.index t 0 * 1 + 1 * 0 = 0; rw [(index_whole t).2.2.2.1.1]
  | ⟨1, _⟩ => show win0_5.index t 1 * 256 + 1 * k.val = k.val; rw [(index_whole t).2.2.2.1.2]; omega

theorem blk6 (t : Fin cfg0.N) (k : Fin 256) :
    ((iblk m c 6 t : Vec Ideal S1x256 .f32) (ix2 0 k) : EReal) = ((a.ga k : ℝ) : EReal) := by
  unfold iblk
  rw [View.read_apply]
  refine (congrArg (V m c main_v11) (?_ : _ = ix2 0 k)).trans (host_ga H 0 k)
  funext b
  apply Fin.ext
  match b with
  | ⟨0, _⟩ => show win0_6.index t 0 * 1 + 1 * 0 = 0; rw [(index_whole t).2.2.2.2.1]
  | ⟨1, _⟩ => show win0_6.index t 1 * 256 + 1 * k.val = k.val; rw [(index_whole t).2.2.2.2.2]; omega

end

/-- A slab of a stack of four, loaded alone. -/
theorem ld_slab {e : EltTy} (X : Vec Ideal S4x128x128 e) (h : ℕ) (hh : h < 4) (inb) (i j : Fin 128) :
    View.ld X (Rect.unit (s := S4x128x128) ![h, 0, 0] ![1, 128, 128] inb) (ix3 0 i j) = X (ix3 ⟨h, hh⟩ i j) := by
  refine congrArg X (funext fun b => Fin.ext ?_)
  match b with
  | ⟨0, _⟩ => show h + 1 * 0 = h; omega
  | ⟨1, _⟩ => show 0 + 1 * i.val = i.val; omega
  | ⟨2, _⟩ => show 0 + 1 * j.val = j.val; omega

end Cert.SguIdeal

end
-- ==== Proof.SguPoint.lean ====
/- What a grid point of the gating unit's backward kernel computes of its blocks. -/
module

public import proofs.«01_k».proof.Proof.SguDw

@[expose] public section

set_option maxRecDepth 16384

noncomputable section

open Idealize.ShloMosaic Idealize.ShloMosaic.TcCoe Cert.Lift Cert.Sgu

namespace Cert.SguIdeal
open Cert.SguIdeal.Gen

/-- The blocks of a point: the rows of the chunks `s`, the weights of the four groups and their transposes, the bias and the gains. -/
structure Blocks (a : Args) (s : Fin 4 → Fin 64) (B0 : Vec Ideal S512x512 .f32) (B1 : Vec Ideal S512x256 .f32) (B4 : Vec Ideal S128x256 .f32)
    (B5 B6 : Vec Ideal S1x256 .f32) (W0 W1 W2 W3 T0 T1 T2 T3 : Vec Ideal S1x128x128 .bf16) : Prop where
  u : ∀ q i (k : Fin 256) (h : k.val < 512), (B0 (ix2 (rw4 q i) ⟨k.val, h⟩) : EReal) = ((a.u (s q) i k : ℝ) : EReal)
  v : ∀ q i (k : Fin 256) (h : 256 + k.val < 512), (B0 (ix2 (rw4 q i) ⟨256 + k.val, h⟩) : EReal) = ((a.v (s q) i k : ℝ) : EReal)
  d : ∀ q i k, (B1 (ix2 (rw4 q i) k) : EReal) = ((a.d (s q) i k : ℝ) : EReal)
  b : ∀ i k, (B4 (ix2 i k) : EReal) = ((a.b (hd k) i : ℝ) : EReal)
  gs : ∀ k, (B5 (ix2 0 k) : EReal) = ((a.gs k : ℝ) : EReal)
  ga : ∀ k, (B6 (ix2 0 k) : EReal) = ((a.ga k : ℝ) : EReal)
  w0 : ∀ i j, (W0 (ix3 0 i j) : EReal) = ((a.w 0 i j : ℝ) : EReal)
  w1 : ∀ i j, (W1 (ix3 0 i j) : EReal) = ((a.w 1 i j : ℝ) : EReal)
  w2 : ∀ i j, (W2 (ix3 0 i j) : EReal) = ((a.w 2 i j : ℝ) : EReal)
  w3 : ∀ i j, (W3 (ix3 0 i j) : EReal) = ((a.w 3 i j : ℝ) : EReal)
  t0 : ∀ i j, (T0 (ix3 0 i j) : EReal) = ((a.w 0 j i : ℝ) : EReal)
  t1 : ∀ i j, (T1 (ix3 0 i j) : EReal) = ((a.w 1 j i : ℝ) : EReal)
  t2 : ∀ i j, (T2 (ix3 0 i j) : EReal) = ((a.w 2 j i : ℝ) : EReal)
  t3 : ∀ i j, (T3 (ix3 0 i j) : EReal) = ((a.w 3 j i : ℝ) : EReal)

section
variable {a : Args} {s : Fin 4 → Fin 64} (B0 : Vec Ideal S512x512 .f32) (B1 : Vec Ideal S512x256 .f32) (B4 : Vec Ideal S128x256 .f32)
    (B5 B6 : Vec Ideal S1x256 .f32) (W0 W1 W2 W3 T0 T1 T2 T3 : Vec Ideal S1x128x128 .bf16)

/-- The normalised rows, the four chunks mixed, and the derivative at the mixed rows. -/
abbrev NV : FVec Ideal S512x256 .bf16 := k0_pay33 (k0_pay22 B5) (k0_pay28 B0) (k0_pay29 B0)
abbrev X0 : FVec Ideal S128x256 .f32 := k0_pay40 (k0_pay21 B4) k0_pay36 (k0_pay37 (k0_pay22 B5) (k0_pay28 B0) (k0_pay29 B0) W0 W1)
  (k0_pay38 (k0_pay22 B5) (k0_pay28 B0) (k0_pay29 B0)) (k0_pay39 (k0_pay22 B5) (k0_pay28 B0) (k0_pay29 B0) W2) W3
abbrev X1 : FVec Ideal S128x256 .f32 := k0_pay41 (k0_pay21 B4) (NV B0 B5) k0_pay35 k0_pay36 W0 W1 W2 W3
abbrev X2 : FVec Ideal S128x256 .f32 := k0_pay46 (k0_pay21 B4) (NV B0 B5) k0_pay35 k0_pay36 (k0_pay43 (NV B0 B5) k0_pay35 W0) (k0_pay44 W1)
  (k0_pay45 (NV B0 B5) k0_pay36) W2 W3
abbrev X3 : FVec Ideal S128x256 .f32 := k0_pay47 (NV B0 B5) k0_pay35 k0_pay36 W0 W1 W2 W3
abbrev XF : FVec Ideal S512x256 .f32 := k0_pay55 (k0_pay21 B4) (k0_pay26 B0) (X0 B0 B4 B5 W0 W1 W2 W3) (X1 B0 B4 B5 W0 W1 W2 W3)
  (X2 B0 B4 B5 W0 W1 W2 W3) (X3 B0 B5 W0 W1 W2 W3) B1 B6
abbrev XM : FVec Ideal S512x256 .bf16 := k0_pay56 (k0_pay21 B4) (k0_pay26 B0) (X0 B0 B4 B5 W0 W1 W2 W3) (X1 B0 B4 B5 W0 W1 W2 W3)
  (X2 B0 B4 B5 W0 W1 W2 W3) (X3 B0 B5 W0 W1 W2 W3) B1 B6

/-- The derivative at the normalised rows, in the pieces the kernel keeps it in. -/
abbrev Y0 (D : FVec Ideal S512x256 .bf16) : FVec Ideal S128x256 .f32 :=
  k0_pay74 D k0_pay58 (k0_pay59 k0_pay57) (k0_pay66 D k0_pay57 k0_pay58 T0 T1) T2 T3
abbrev Y1 (D : FVec Ideal S512x256 .bf16) : FVec Ideal S128x256 .f32 :=
  k0_pay91 (k0_pay59 k0_pay57) (k0_pay82 (k0_pay59 k0_pay57) (k0_pay76 D) k0_pay78 (k0_pay79 D k0_pay58) T0 T1) (k0_pay84 D) (k0_pay87 D k0_pay58 T2) T3
abbrev Y2 (D : FVec Ideal S512x256 .bf16) : FVec Ideal S128x256 .f32 :=
  k0_pay110 (k0_pay59 k0_pay57) (k0_pay100 (k0_pay59 k0_pay57) (k0_pay93 D) (k0_pay96 D k0_pay58 T0) T1) (k0_pay102 D) (k0_pay105 D k0_pay58 T2) T3
abbrev Y3 (D : FVec Ideal S512x256 .bf16) : FVec Ideal S128x128 .f32 := k0_pay118 (k0_pay115 D k0_pay58 T0) (k0_pay117 D (k0_pay59 k0_pay57)) T1
abbrev Y4 (D : FVec Ideal S512x256 .bf16) : FVec Ideal S128x128 .f32 := k0_pay125 D k0_pay58 (k0_pay59 k0_pay57) T2 T3

variable {B0 B1 B4 B5 B6 W0 W1 W2 W3 T0 T1 T2 T3} (K : Blocks a s B0 B1 B4 B5 B6 W0 W1 W2 W3 T0 T1 T2 T3) (q : Fin 4) (i : Fin 128) (k : Fin 256)

theorem p21 (B4 : Vec Ideal S128x256 .f32) : k0_pay21 (F := Ideal) B4 = B4 := by
  funext i
  rw [eq_ix2 i]
  pointwise [k0_pay21]

theorem p22 (B5 : Vec Ideal S1x256 .f32) : k0_pay22 (F := Ideal) B5 = B5 := by
  funext i
  rw [eq_ix2 i]
  pointwise [k0_pay22]

include K

theorem vn_at : (NV B0 B5 (ix2 (rw4 q i) k) : EReal) = ((vn a (s q) i k : ℝ) : EReal) :=
  p33 (rw4 q i) k _ _ (vg a (s q) i) (fun k => p28 _ k B0 _ (K.v q i)) (p29 _ B0 _ (K.v q i)) _ a.gs (fun k => (congrFun (p22 B5) _).trans (K.gs k))

theorem ug_at : (k0_pay26 (F := Ideal) B0 (ix2 (rw4 q i) k) : EReal) = ((ug a (s q) i k : ℝ) : EReal) := p26 (rw4 q i) k B0 _ (K.u q i)

theorem mixed_at : (k0_pay48 (F := Ideal) (k0_pay21 B4) (X0 B0 B4 B5 W0 W1 W2 W3) (X1 B0 B4 B5 W0 W1 W2 W3) (X2 B0 B4 B5 W0 W1 W2 W3)
    (X3 B0 B5 W0 W1 W2 W3) (ix2 (rw4 q i) k) : EReal) = ((mixed a (s q) i k : ℝ) : EReal) :=
  mixes a.w (fun i k => a.b (hd k) i) (fun q => vn a (s q)) (k0_pay21 B4) _ _ _ W0 W1 W2 W3 (fun i k => (congrFun (p21 B4) _).trans (K.b i k))
    (vn_at K) K.w0 K.w1 K.w2 K.w3 q i k

theorem dmix_at : (XM B0 B1 B4 B5 B6 W0 W1 W2 W3 (ix2 (rw4 q i) k) : EReal) = ((dmix a (s q) i k : ℝ) : EReal) :=
  p56 (rw4 q i) k _ _ _ _ _ _ _ _ (ug_at K q i) (mixed_at K q i) _ _ _ _ (K.d q i) K.ga

theorem dmix_at' : (XF B0 B1 B4 B5 B6 W0 W1 W2 W3 (ix2 (rw4 q i) k) : EReal) = ((dmix a (s q) i k : ℝ) : EReal) :=
  p55 (rw4 q i) k _ _ _ _ _ _ _ _ (ug_at K q i) (mixed_at K q i) _ _ _ _ (K.d q i) K.ga

theorem du_at : (k0_pay134 (F := Ideal) (k0_pay23 B0) (k0_pay25 B0) (k0_pay54 (k0_pay21 B4) (k0_pay26 B0) (X0 B0 B4 B5 W0 W1 W2 W3)
    (X1 B0 B4 B5 W0 W1 W2 W3) (X2 B0 B4 B5 W0 W1 W2 W3) (X3 B0 B5 W0 W1 W2 W3) B1 B6) (ix2 (rw4 q i) k) : EReal) = ((du a (s q) i k : ℝ) : EReal) :=
  p134 (rw4 q i) k B0 _ _ _ (fun k => p54 (rw4 q i) k _ _ _ _ _ _ _ _ (ug_at K q i) (mixed_at K q i) _ _ _ _ (K.d q i) K.ga) (K.u q i)

theorem dga_at (acc : Vec Ideal S1x256 .f32) : (k0_pay52 (F := Ideal) (k0_pay21 B4) (k0_pay26 B0) (X0 B0 B4 B5 W0 W1 W2 W3)
    (X1 B0 B4 B5 W0 W1 W2 W3) (X2 B0 B4 B5 W0 W1 W2 W3) (X3 B0 B5 W0 W1 W2 W3) B1 acc (ix2 0 k) : EReal)
      = acc (ix2 0 k) + ((∑ q, ∑ i, a.d (s q) i k * nrm (y a (s q) i) k : ℝ) : EReal) := by
  have e (f : Fin 4 → Fin 128 → Fin 256 → ℝ) : ∃ g : Fin 512 → Fin 256 → ℝ, ∀ q i k, g (rw4 q i) k = f q i k :=
    ⟨fun r k => f ⟨r.val / 128, by omega⟩ ⟨r.val % 128, by omega⟩ k, fun q i k => by
      have h1 : (⟨(rw4 q i).val / 128, by omega⟩ : Fin 4) = q := Fin.ext (by show (128 * q.val + i.val) / 128 = q.val; omega)
      have h2 : (⟨(rw4 q i).val % 128, by omega⟩ : Fin 128) = i := Fin.ext (by show (128 * q.val + i.val) % 128 = i.val; omega)
      show f ⟨_, _⟩ ⟨_, _⟩ k = _
      rw [h1, h2]⟩
  obtain ⟨g, hg⟩ := e fun q => ug a (s q)
  obtain ⟨mx, hm⟩ := e fun q => mixed a (s q)
  obtain ⟨d, hd⟩ := e fun q => a.d (s q)
  refine (p52 k _ _ _ _ _ _ _ acc g mx d (fun r k => ?_) (fun r k => ?_) (fun r k => ?_)).trans (congrArg (acc (ix2 0 k) + ·) (congrArg _ ?_))
  · obtain ⟨q, i, rfl⟩ := row4 r; rw [hg]; exact ug_at K q i k
  · obtain ⟨q, i, rfl⟩ := row4 r; rw [hm]; exact mixed_at K q i k
  · obtain ⟨q, i, rfl⟩ := row4 r; rw [hd]; exact K.d q i k
  · rw [sum_rows4]
    simp only [hg, hm, hd]
    rfl

theorem dvn_at : (k0_pay128 (F := Ideal) (Y0 T0 T1 T2 T3 (XM B0 B1 B4 B5 B6 W0 W1 W2 W3)) (Y1 T0 T1 T2 T3 (XM B0 B1 B4 B5 B6 W0 W1 W2 W3))
    (Y2 T0 T1 T2 T3 (XM B0 B1 B4 B5 B6 W0 W1 W2 W3)) (Y3 T0 T1 (XM B0 B1 B4 B5 B6 W0 W1 W2 W3)) (Y4 T2 T3 (XM B0 B1 B4 B5 B6 W0 W1 W2 W3))
    (ix2 (rw4 q i) k) : EReal) = ((dvn a (s q) i k : ℝ) : EReal) :=
  unmixes a.w (fun q => dmix a (s q)) _ T0 T1 T2 T3 (dmix_at K) K.t0 K.t1 K.t2 K.t3 q i k

theorem dgs_at (acc : Vec Ideal S1x256 .f32) : (k0_pay129 (F := Ideal) (k0_pay32 (k0_pay28 B0) (k0_pay29 B0))
    (Y0 T0 T1 T2 T3 (XM B0 B1 B4 B5 B6 W0 W1 W2 W3)) (Y1 T0 T1 T2 T3 (XM B0 B1 B4 B5 B6 W0 W1 W2 W3))
    (Y2 T0 T1 T2 T3 (XM B0 B1 B4 B5 B6 W0 W1 W2 W3)) (Y3 T0 T1 (XM B0 B1 B4 B5 B6 W0 W1 W2 W3)) (Y4 T2 T3 (XM B0 B1 B4 B5 B6 W0 W1 W2 W3))
    acc (ix2 0 k) : EReal) = acc (ix2 0 k) + ((∑ q, ∑ i, dvn a (s q) i k * vh a (s q) i k : ℝ) : EReal) := by
  have e (f : Fin 4 → Fin 128 → Fin 256 → ℝ) : ∃ g : Fin 512 → Fin 256 → ℝ, ∀ q i k, g (rw4 q i) k = f q i k :=
    ⟨fun r k => f ⟨r.val / 128, by omega⟩ ⟨r.val % 128, by omega⟩ k, fun q i k => by
      have h1 : (⟨(rw4 q i).val / 128, by omega⟩ : Fin 4) = q := Fin.ext (by show (128 * q.val + i.val) / 128 = q.val; omega)
      have h2 : (⟨(rw4 q i).val % 128, by omega⟩ : Fin 128) = i := Fin.ext (by show (128 * q.val + i.val) % 128 = i.val; omega)
      show f ⟨_, _⟩ ⟨_, _⟩ k = _
      rw [h1, h2]⟩
  obtain ⟨f, hf⟩ := e fun q => vh a (s q)
  obtain ⟨d, hd⟩ := e fun q => dvn a (s q)
  refine (p129 k _ _ _ _ _ _ acc f d (fun r k => ?_) (fun r k => ?_)).trans (congrArg (acc (ix2 0 k) + ·) (congrArg _ ?_))
  · obtain ⟨q, i, rfl⟩ := row4 r; rw [hf]
    exact p32 (rw4 q i) k _ _ (vg a (s q) i) (fun k => p28 _ k B0 _ (K.v q i)) (p29 _ B0 _ (K.v q i))
  · obtain ⟨q, i, rfl⟩ := row4 r; rw [hd]; exact dvn_at K q i k
  · rw [sum_rows4]
    simp only [hf, hd]

theorem dv_at : (k0_pay1 (F := Ideal) (k0_pay133 (k0_pay31 (k0_pay28 B0) (k0_pay29 B0)) (k0_pay32 (k0_pay28 B0) (k0_pay29 B0))
      (k0_pay131 (Y0 T0 T1 T2 T3 (XM B0 B1 B4 B5 B6 W0 W1 W2 W3)) (Y1 T0 T1 T2 T3 (XM B0 B1 B4 B5 B6 W0 W1 W2 W3))
        (Y2 T0 T1 T2 T3 (XM B0 B1 B4 B5 B6 W0 W1 W2 W3)) (Y3 T0 T1 (XM B0 B1 B4 B5 B6 W0 W1 W2 W3)) (Y4 T2 T3 (XM B0 B1 B4 B5 B6 W0 W1 W2 W3)) B5)
      (k0_pay132 (k0_pay32 (k0_pay28 B0) (k0_pay29 B0)) (Y0 T0 T1 T2 T3 (XM B0 B1 B4 B5 B6 W0 W1 W2 W3)) (Y1 T0 T1 T2 T3 (XM B0 B1 B4 B5 B6 W0 W1 W2 W3))
        (Y2 T0 T1 T2 T3 (XM B0 B1 B4 B5 B6 W0 W1 W2 W3)) (Y3 T0 T1 (XM B0 B1 B4 B5 B6 W0 W1 W2 W3)) (Y4 T2 T3 (XM B0 B1 B4 B5 B6 W0 W1 W2 W3)) B5))
    (k0_pay135 (k0_pay27 B0)) (k0_pay136 (k0_pay24 B0) (k0_pay27 B0)) (k0_pay137 (k0_pay24 B0)) (ix2 (rw4 q i) k) : EReal)
      = ((dv a (s q) i k : ℝ) : EReal) :=
  p1 (rw4 q i) k B0 _ _ _ (fun k => p133 (rw4 q i) k _ _ _ _ _ B5 _ a.gs (dvn_at K q i) K.gs _ _ (vg a (s q) i) (fun k => p28 _ k B0 _ (K.v q i))
    (p29 _ B0 _ (K.v q i))) (K.v q i)

end

end Cert.SguIdeal

end
-- ==== Proof.SguDb.lean ====
/- The last point's work of the gating unit's backward kernel: the bias's derivative gathered from the lanes of its group,
   and the triangle above the diagonal of the weights' derivative cleared. -/
module

public import proofs.«01_k».proof.Proof.SguDw

@[expose] public section

set_option maxRecDepth 16384

noncomputable section

open Idealize.ShloMosaic Idealize.ShloMosaic.TcCoe Cert.Lift Cert.Sgu

namespace Cert.SguIdeal
open Cert.SguIdeal.Gen

/-- The group of a lane, as the kernel works it out. -/
theorem group_bits : ∀ x : Fin 256, Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (hd x).val := by
  decide +kernel

theorem eq_bits : ∀ g h : Fin 4, IntOp.cmpi CmpIPredicate.eq (BitVec.ofNat 32 g.val) (BitVec.ofNat 32 h.val) = if g = h then 1#1 else 0#1 := by
  decide +kernel

theorem col_bits : ∀ (g : Fin 128) (h : Fin 4), IntOp.cmpi CmpIPredicate.eq (BitVec.ofNat 32 g.val) (BitVec.ofNat 32 h.val) = if g.val = h.val then 1#1 else 0#1 := by
  decide +kernel

/-- The sum of the lanes of group `h`, written with a mask. -/
theorem pick (f : Fin 256 → EReal) (h : Fin 4) (b : BitVec 32) (hb : b = BitVec.ofNat 32 h.val) :
    ∑ x, Scalar.select (IntOp.cmpi CmpIPredicate.eq (BitVec.ofNat 32 (hd x).val) b) (f x) 0 = ∑ l, f (ln h l) := by
  rw [sum_lanes, hb]
  refine (Finset.sum_eq_single h (fun g _ hg => Finset.sum_eq_zero fun l _ => ?_) (fun n => absurd (Finset.mem_univ h) n)).trans
    (Finset.sum_congr rfl fun l _ => ?_)
  · rw [eq_bits, hd_ln, if_neg hg]; rfl
  · rw [eq_bits, hd_ln, if_pos rfl]; rfl

theorem put (i : Fin 128) (h : Fin 4) (b : BitVec 32) (hb : b = BitVec.ofNat 32 h.val) (x y : EReal) :
    Scalar.select (IntOp.cmpi CmpIPredicate.eq (BitVec.ofNat 32 i.val) b) x y = if i.val = h.val then x else y := by
  rw [hb, col_bits]
  split <;> rfl

/-- The sums of the four groups, each in its column. -/
theorem columns (i : Fin 128) (x : Fin 4 → EReal) :
    (if i.val = 3 then x 3 else if i.val = 2 then x 2 else if i.val = 1 then x 1 else if i.val = 0 then x 0 else 0)
      = if h : i.val < 4 then x ⟨i.val, h⟩ else 0 := by
  by_cases h : i.val < 4
  · rw [dif_pos h]
    have e (g : Fin 4) (hg : i.val = g.val) : x ⟨i.val, h⟩ = x g := congrArg x (Fin.ext hg)
    split
    · exact (e 3 ‹_›).symm
    split
    · exact (e 2 ‹_›).symm
    split
    · exact (e 1 ‹_›).symm
    split
    · exact (e 0 ‹_›).symm
    omega
  · rw [dif_neg h, if_neg (by omega), if_neg (by omega), if_neg (by omega), if_neg (by omega)]

theorem p12 (SC : Vec Ideal S128x256 .f32) (i h : Fin 128) :
    (k0_pay12 (F := Ideal) (iota .tc S128x128 32 [1] iota_S128x128_d1_w32) SC (k0_pay10 (iota .tc S128x256 32 [1] iota_S128x256_d1_w32)
      (iota .tc S128x128 32 [1] iota_S128x128_d1_w32) SC (k0_pay7 (iota .tc S128x256 32 [1] iota_S128x256_d1_w32)
      (iota .tc S128x128 32 [1] iota_S128x128_d1_w32) SC (k0_pay4 SC) 64#32 k0_pay5 k0_pay6) 64#32
      (k0_pay8 (iota .tc S128x256 32 [1] iota_S128x256_d1_w32)) (k0_pay9 (iota .tc S128x256 32 [1] iota_S128x256_d1_w32)))
      (k0_pay11 (iota .tc S128x256 32 [1] iota_S128x256_d1_w32)) (FloatOps.ofBits .f32 0#32) (ix2 i h) : EReal)
      = if g : h.val < 4 then ∑ l, SC (ix2 i (ln ⟨h.val, g⟩ l)) else 0 := by
  pointwise [k0_pay12, k0_pay11, k0_pay10, k0_pay9, k0_pay8, k0_pay7, k0_pay6, k0_pay5, k0_pay4]
  simp only [group_bits]
  rw [pick (fun x => SC (ix2 i x)) 3 3#32 rfl, pick (fun x => SC (ix2 i x)) 2 2#32 rfl, pick (fun x => SC (ix2 i x)) 1 1#32 rfl,
    pick (fun x => SC (ix2 i x)) 0 0#32 rfl, put h 3 3#32 rfl, put h 2 2#32 rfl, put h 1 1#32 rfl, put h 0 0#32 rfl]
  exact columns h fun g => ∑ l, SC (ix2 i (ln g l))

theorem ge_bits : ∀ i j : Fin 128, IntOp.cmpi CmpIPredicate.sge (BitVec.ofNat 32 i.val) (BitVec.ofNat 32 j.val) = if j ≤ i then 1#1 else 0#1 := by
  decide +kernel

theorem keep (i j : Fin 128) (x : EReal) :
    Scalar.select (IntOp.cmpi CmpIPredicate.sge (BitVec.ofNat 32 i.val) (BitVec.ofNat 32 j.val)) x 0 = if j ≤ i then x else 0 := by
  rw [ge_bits]
  split <;> rfl

section
variable (S : Vec Ideal S1x128x128 .f32) (i j : Fin 128)

theorem p14 : (k0_pay14 (F := Ideal) S (ix3 0 i j) : EReal) = if j ≤ i then S (ix3 0 i j) else 0 := by
  pointwise [k0_pay14, k0_pay13]
  exact keep i j _

theorem p15 : (k0_pay15 (F := Ideal) S (ix3 0 i j) : EReal) = if j ≤ i then S (ix3 0 i j) else 0 := by
  pointwise [k0_pay15, k0_pay13]
  exact keep i j _

theorem p16 : (k0_pay2 (F := Ideal) (k0_pay16 S) (ix3 0 i j) : EReal) = if j ≤ i then S (ix3 0 i j) else 0 := by
  pointwise [k0_pay2, k0_pay16, k0_pay13]
  exact keep i j _

theorem p3 : (k0_pay3 (F := Ideal) k0_pay13 S (ix3 0 i j) : EReal) = if j ≤ i then S (ix3 0 i j) else 0 := by
  pointwise [k0_pay3, k0_pay13]
  exact keep i j _

theorem p17 (h : Fin 4) : (k0_pay17 (F := Ideal) (ix3 h i j) : EReal) = 0 := by pointwise [k0_pay17]
theorem p18 (k : Fin 256) : (k0_pay18 (F := Ideal) (ix2 0 k) : EReal) = 0 := by pointwise [k0_pay18]
theorem p19 (k : Fin 256) : (k0_pay19 (F := Ideal) (ix2 0 k) : EReal) = 0 := by pointwise [k0_pay19]
theorem p20 (k : Fin 256) : (k0_pay20 (F := Ideal) (ix2 i k) : EReal) = 0 := by pointwise [k0_pay20]

end

end Cert.SguIdeal

end
-- ==== Proof.SguVal.lean ====
/- What the gating unit's backward kernel leaves in its windows at every grid point, and in its result arrays. -/
module

public import proofs.«01_k».proof.Proof.SguBlk
public import proofs.«01_k».proof.Proof.SguPoint
public import proofs.«01_k».proof.Proof.SguDb
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Cert.BlockSums Cert.Lift Cert.Sgu

namespace Cert.SguIdeal
open Cert.SguIdeal.Gen Cert.SguIdeal.Value

/-! ## Writes laid over one another -/

section
variable {e : EltTy} (L : List (View.Piece (Elt Ideal) S512x512 e)) (p p' : Vec Ideal S512x256 e) (r : Fin 512) (k : Fin 256)

theorem strip_hi (inb) : View.canon ((⟨Rect.unit (s := S512x512) ![0, 256] ![512, 256] inb, p⟩ : View.Piece (Elt Ideal) S512x512 e) :: L) (ix2 r (hi k)) = p (ix2 r k) := by
  have h : ix2 r (hi k) = (Rect.unit (s := S512x512) ![0, 256] ![512, 256] inb).emb (ix2 r k) := funext fun b => Fin.ext (by
    match b with
    | ⟨0, _⟩ => show r.val = 0 + 1 * r.val; omega
    | ⟨1, _⟩ => show 256 + k.val = 256 + 1 * k.val; omega)
  rw [h]
  exact View.canon_cons_emb (Rect.unit (s := S512x512) ![0, 256] ![512, 256] inb) p L (ix2 r k)

theorem strip_lo (inb inb') : View.canon ((⟨Rect.unit (s := S512x512) ![0, 256] ![512, 256] inb, p⟩ : View.Piece (Elt Ideal) S512x512 e)
    :: ⟨Rect.unit (s := S512x512) ![0, 0] ![512, 256] inb', p'⟩ :: L) (ix2 r (lo k)) = p' (ix2 r k) := by
  have h : ix2 r (lo k) = (Rect.unit (s := S512x512) ![0, 0] ![512, 256] inb').emb (ix2 r k) := funext fun b => Fin.ext (by
    match b with
    | ⟨0, _⟩ => show r.val = 0 + 1 * r.val; omega
    | ⟨1, _⟩ => show k.val = 0 + 1 * k.val; omega)
  rw [View.canon_cons_of_not_mem _ _ (fun hm => by
    have g := Rect.mem_set_unit.mp (show ix2 r (lo k) ∈ (Rect.unit (s := S512x512) ![0, 256] ![512, 256] inb).set from hm)
    have g : 256 ≤ k.val := (g (1 : Fin 2)).1
    omega), h]
  exact View.canon_cons_emb (Rect.unit (s := S512x512) ![0, 0] ![512, 256] inb') p' L (ix2 r k)

end

section
variable {e : EltTy} (L : List (View.Piece (Elt Ideal) S4x128x128 e)) (p : Vec Ideal S1x128x128 e) (i j : Fin 128)

theorem slab_hit (h : ℕ) (hh : h < 4) (inb) :
    View.canon ((⟨Rect.unit (s := S4x128x128) ![h, 0, 0] ![1, 128, 128] inb, p⟩ : View.Piece (Elt Ideal) S4x128x128 e) :: L) (ix3 ⟨h, hh⟩ i j) = p (ix3 0 i j) := by
  have e : ix3 ⟨h, hh⟩ i j = (Rect.unit (s := S4x128x128) ![h, 0, 0] ![1, 128, 128] inb).emb (ix3 0 i j) := funext fun b => Fin.ext (by
    match b with
    | ⟨0, _⟩ => show h = h + 1 * 0; omega
    | ⟨1, _⟩ => show i.val = 0 + 1 * i.val; omega
    | ⟨2, _⟩ => show j.val = 0 + 1 * j.val; omega)
  rw [e]
  exact View.canon_cons_emb (Rect.unit (s := S4x128x128) ![h, 0, 0] ![1, 128, 128] inb) p L (ix3 0 i j)

theorem slab_skip (h g : ℕ) (hh : h < 4) (hg : h < g) (inb) :
    View.canon ((⟨Rect.unit (s := S4x128x128) ![g, 0, 0] ![1, 128, 128] inb, p⟩ : View.Piece (Elt Ideal) S4x128x128 e) :: L) (ix3 ⟨h, hh⟩ i j)
      = View.canon L (ix3 ⟨h, hh⟩ i j) :=
  View.canon_cons_of_not_mem _ _ fun hm => by
    have g' := Rect.mem_set_unit.mp (show ix3 ⟨h, hh⟩ i j ∈ (Rect.unit (s := S4x128x128) ![g, 0, 0] ![1, 128, 128] inb).set from hm)
    have g' : g ≤ h := (g' (0 : Fin 3)).1
    omega

/-- The last write of each of the four slabs. -/
theorem four (p0 p1 p2 p3 : Vec Ideal S1x128x128 e) (i0 i1 i2 i3) (x : Fin 4 → Elt Ideal e) (h0 : p0 (ix3 0 i j) = x 0) (h1 : p1 (ix3 0 i j) = x 1)
    (h2 : p2 (ix3 0 i j) = x 2) (h3 : p3 (ix3 0 i j) = x 3) (h : Fin 4) :
    View.canon ((⟨Rect.unit (s := S4x128x128) ![3, 0, 0] ![1, 128, 128] i3, p3⟩ : View.Piece (Elt Ideal) S4x128x128 e)
      :: ⟨Rect.unit (s := S4x128x128) ![2, 0, 0] ![1, 128, 128] i2, p2⟩ :: ⟨Rect.unit (s := S4x128x128) ![1, 0, 0] ![1, 128, 128] i1, p1⟩
      :: ⟨Rect.unit (s := S4x128x128) ![0, 0, 0] ![1, 128, 128] i0, p0⟩ :: L) (ix3 h i j) = x h := by
  match h with
  | ⟨0, _⟩ =>
    exact (slab_skip _ _ i j 0 3 (by decide) (by decide) i3).trans ((slab_skip _ _ i j 0 2 (by decide) (by decide) i2).trans
      ((slab_skip _ _ i j 0 1 (by decide) (by decide) i1).trans ((slab_hit _ _ i j 0 (by decide) i0).trans h0)))
  | ⟨1, _⟩ =>
    exact (slab_skip _ _ i j 1 3 (by decide) (by decide) i3).trans ((slab_skip _ _ i j 1 2 (by decide) (by decide) i2).trans
      ((slab_hit _ _ i j 1 (by decide) i1).trans h1))
  | ⟨2, _⟩ => exact (slab_skip _ _ i j 2 3 (by decide) (by decide) i3).trans ((slab_hit _ _ i j 2 (by decide) i2).trans h2)
  | ⟨3, _⟩ => exact (slab_hit _ _ i j 3 (by decide) i3).trans h3

end

/-! ## The windows at a point -/

variable {m : (ℓ : Loc nD τ sig) → Buf (Elt Ideal) ℓ} {a : Args} {c : Dev nD} (H : Holds m a c)

include H in
theorem blocks (t : Fin cfg0.N) : Blocks a (ck t.val) (iblk m c 0 t) (iblk m c 1 t) (iblk m c 4 t) (iblk m c 5 t) (iblk m c 6 t)
    (View.ld (iblk m c 2 t) (Rect.unit (s := S4x128x128) ![0, 0, 0] ![1, 128, 128] inb_S4x128x128_S1x128x128_0_0_0))
    (View.ld (iblk m c 2 t) (Rect.unit (s := S4x128x128) ![1, 0, 0] ![1, 128, 128] inb_S4x128x128_S1x128x128_1_0_0))
    (View.ld (iblk m c 2 t) (Rect.unit (s := S4x128x128) ![2, 0, 0] ![1, 128, 128] inb_S4x128x128_S1x128x128_2_0_0))
    (View.ld (iblk m c 2 t) (Rect.unit (s := S4x128x128) ![3, 0, 0] ![1, 128, 128] inb_S4x128x128_S1x128x128_3_0_0))
    (View.ld (iblk m c 3 t) (Rect.unit (s := S4x128x128) ![0, 0, 0] ![1, 128, 128] inb_S4x128x128_S1x128x128_0_0_0))
    (View.ld (iblk m c 3 t) (Rect.unit (s := S4x128x128) ![1, 0, 0] ![1, 128, 128] inb_S4x128x128_S1x128x128_1_0_0))
    (View.ld (iblk m c 3 t) (Rect.unit (s := S4x128x128) ![2, 0, 0] ![1, 128, 128] inb_S4x128x128_S1x128x128_2_0_0))
    (View.ld (iblk m c 3 t) (Rect.unit (s := S4x128x128) ![3, 0, 0] ![1, 128, 128] inb_S4x128x128_S1x128x128_3_0_0)) where
  u q i k _ := (blk0 H t q i (lo k)).trans (H.u (ck t.val q) i k)
  v q i k _ := (blk0 H t q i (hi k)).trans (H.v (ck t.val q) i k)
  d := blk1 H t
  b := blk4 H t
  gs := blk5 H t
  ga := blk6 H t
  w0 i j := (ld_slab _ 0 (by decide) _ i j).trans (blk2 H t 0 i j)
  w1 i j := (ld_slab _ 1 (by decide) _ i j).trans (blk2 H t 1 i j)
  w2 i j := (ld_slab _ 2 (by decide) _ i j).trans (blk2 H t 2 i j)
  w3 i j := (ld_slab _ 3 (by decide) _ i j).trans (blk2 H t 3 i j)
  t0 i j := (ld_slab _ 0 (by decide) _ i j).trans (blk3 H t 0 i j)
  t1 i j := (ld_slab _ 1 (by decide) _ i j).trans (blk3 H t 1 i j)
  t2 i j := (ld_slab _ 2 (by decide) _ i j).trans (blk3 H t 2 i j)
  t3 i j := (ld_slab _ 3 (by decide) _ i j).trans (blk3 H t 3 i j)

section
variable (t : Fin cfg0.N)
include H

theorem os_A (h0 : t.val % 16 = 0) (h1 : ¬t.val % 16 = 15) (i : Fin 128) (k : Fin 256) :
    ((outsAt0 m c t.val t.isLt).2.2.2.2.2 (ix2 i k) : EReal) = (((∑ q, dmix a (ck t.val q) i k : ℝ)) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  refine (p127 _ (fun q => dmix a (ck t.val q)) _ (dmix_at' (blocks H t)) i k).trans ?_
  rw [p20 i k, zero_add]

theorem os_B (h0 : ¬t.val % 16 = 0) (h1 : ¬t.val % 16 = 15) (i : Fin 128) (k : Fin 256) :
    ((outsAt0 m c t.val t.isLt).2.2.2.2.2 (ix2 i k) : EReal) = (outsAt0 m c (t.val - 1) (by omega)).2.2.2.2.2 (ix2 i k) + ((∑ q, dmix a (ck t.val q) i k : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact p127 _ (fun q => dmix a (ck t.val q)) _ (dmix_at' (blocks H t)) i k

theorem os_C (h0 : ¬t.val % 16 = 0) (h1 : t.val % 16 = 15) (i : Fin 128) (k : Fin 256) :
    ((outsAt0 m c t.val t.isLt).2.2.2.2.2 (ix2 i k) : EReal) = (outsAt0 m c (t.val - 1) (by omega)).2.2.2.2.2 (ix2 i k) + ((∑ q, dmix a (ck t.val q) i k : ℝ) : EReal) := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact p127 _ (fun q => dmix a (ck t.val q)) _ (dmix_at' (blocks H t)) i k

theorem o10_A (h0 : t.val % 16 = 0) (h1 : ¬t.val % 16 = 15) (k : Fin 256) :
    ((outsAt0 m c t.val t.isLt).2.2.2.1 (ix2 0 k) : EReal) = (((∑ q, ∑ i, dvn a (ck t.val q) i k * vh a (ck t.val q) i k : ℝ)) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  refine (dgs_at (blocks H t) k _).trans ?_
  rw [p18 k, zero_add]

theorem o10_B (h0 : ¬t.val % 16 = 0) (h1 : ¬t.val % 16 = 15) (k : Fin 256) :
    ((outsAt0 m c t.val t.isLt).2.2.2.1 (ix2 0 k) : EReal) = (outsAt0 m c (t.val - 1) (by omega)).2.2.2.1 (ix2 0 k) + ((∑ q, ∑ i, dvn a (ck t.val q) i k * vh a (ck t.val q) i k : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact dgs_at (blocks H t) k _

theorem o10_C (h0 : ¬t.val % 16 = 0) (h1 : t.val % 16 = 15) (k : Fin 256) :
    ((outsAt0 m c t.val t.isLt).2.2.2.1 (ix2 0 k) : EReal) = (outsAt0 m c (t.val - 1) (by omega)).2.2.2.1 (ix2 0 k) + ((∑ q, ∑ i, dvn a (ck t.val q) i k * vh a (ck t.val q) i k : ℝ) : EReal) := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact dgs_at (blocks H t) k _

theorem o11_A (h0 : t.val % 16 = 0) (h1 : ¬t.val % 16 = 15) (k : Fin 256) :
    ((outsAt0 m c t.val t.isLt).2.2.2.2.1 (ix2 0 k) : EReal) = (((∑ q, ∑ i, a.d (ck t.val q) i k * nrm (y a (ck t.val q) i) k : ℝ)) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  refine (dga_at (blocks H t) k _).trans ?_
  rw [p19 k, zero_add]

theorem o11_B (h0 : ¬t.val % 16 = 0) (h1 : ¬t.val % 16 = 15) (k : Fin 256) :
    ((outsAt0 m c t.val t.isLt).2.2.2.2.1 (ix2 0 k) : EReal) = (outsAt0 m c (t.val - 1) (by omega)).2.2.2.2.1 (ix2 0 k) + ((∑ q, ∑ i, a.d (ck t.val q) i k * nrm (y a (ck t.val q) i) k : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact dga_at (blocks H t) k _

theorem o11_C (h0 : ¬t.val % 16 = 0) (h1 : t.val % 16 = 15) (k : Fin 256) :
    ((outsAt0 m c t.val t.isLt).2.2.2.2.1 (ix2 0 k) : EReal) = (outsAt0 m c (t.val - 1) (by omega)).2.2.2.2.1 (ix2 0 k) + ((∑ q, ∑ i, a.d (ck t.val q) i k * nrm (y a (ck t.val q) i) k : ℝ) : EReal) := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact dga_at (blocks H t) k _

theorem o8_A (h0 : t.val % 16 = 0) (h1 : ¬t.val % 16 = 15) (h : Fin 4) (i j : Fin 128) :
    ((outsAt0 m c t.val t.isLt).2.1 (ix3 h i j) : EReal) = ((∑ q, dwq a (ck t.val q) h i j : ℝ) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  refine (four _ i j _ _ _ _ _ _ _ _ (fun h => (k0_pay17 (F := Ideal) (ix3 h i j) : EReal) + ((∑ q, dwq a (ck t.val q) h i j : ℝ) : EReal)) ((slab0 _ _ (fun q => vn a (ck t.val q)) (fun q => dmix a (ck t.val q)) _ (vn_at (blocks H t)) (dmix_at (blocks H t)) i j).trans (congrArg (· + _) (ld_slab (k0_pay17 (F := Ideal)) 0 (by decide) _ i j)))
    ((slab1 _ _ (fun q => vn a (ck t.val q)) (fun q => dmix a (ck t.val q)) _ (vn_at (blocks H t)) (dmix_at (blocks H t)) i j).trans (congrArg (· + _) (ld_slab (k0_pay17 (F := Ideal)) 1 (by decide) _ i j)))
    ((slab2 _ _ (fun q => vn a (ck t.val q)) (fun q => dmix a (ck t.val q)) _ (vn_at (blocks H t)) (dmix_at (blocks H t)) i j).trans (congrArg (· + _) (ld_slab (k0_pay17 (F := Ideal)) 2 (by decide) _ i j)))
    ((slab3 _ _ (fun q => vn a (ck t.val q)) (fun q => dmix a (ck t.val q)) _ (vn_at (blocks H t)) (dmix_at (blocks H t)) i j).trans (congrArg (· + _) (ld_slab (k0_pay17 (F := Ideal)) 3 (by decide) _ i j))) h).trans ?_
  rw [p17, zero_add]

theorem o8_B (h0 : ¬t.val % 16 = 0) (h1 : ¬t.val % 16 = 15) (h : Fin 4) (i j : Fin 128) :
    ((outsAt0 m c t.val t.isLt).2.1 (ix3 h i j) : EReal) = (outsAt0 m c (t.val - 1) (by omega)).2.1 (ix3 h i j) + ((∑ q, dwq a (ck t.val q) h i j : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact four _ i j _ _ _ _ _ _ _ _ (fun h => ((outsAt0 m c (t.val - 1) (by omega)).2.1 (ix3 h i j) : EReal) + ((∑ q, dwq a (ck t.val q) h i j : ℝ) : EReal)) ((slab0 _ _ (fun q => vn a (ck t.val q)) (fun q => dmix a (ck t.val q)) _ (vn_at (blocks H t)) (dmix_at (blocks H t)) i j).trans (congrArg (· + _) (ld_slab (outsAt0 m c (t.val - 1) (by omega)).2.1 0 (by decide) _ i j)))
    ((slab1 _ _ (fun q => vn a (ck t.val q)) (fun q => dmix a (ck t.val q)) _ (vn_at (blocks H t)) (dmix_at (blocks H t)) i j).trans (congrArg (· + _) (ld_slab (outsAt0 m c (t.val - 1) (by omega)).2.1 1 (by decide) _ i j)))
    ((slab2 _ _ (fun q => vn a (ck t.val q)) (fun q => dmix a (ck t.val q)) _ (vn_at (blocks H t)) (dmix_at (blocks H t)) i j).trans (congrArg (· + _) (ld_slab (outsAt0 m c (t.val - 1) (by omega)).2.1 2 (by decide) _ i j)))
    ((slab3 _ _ (fun q => vn a (ck t.val q)) (fun q => dmix a (ck t.val q)) _ (vn_at (blocks H t)) (dmix_at (blocks H t)) i j).trans (congrArg (· + _) (ld_slab (outsAt0 m c (t.val - 1) (by omega)).2.1 3 (by decide) _ i j))) h

theorem o8_C (h0 : ¬t.val % 16 = 0) (h1 : t.val % 16 = 15) (h : Fin 4) (i j : Fin 128) :
    ((outsAt0 m c t.val t.isLt).2.1 (ix3 h i j) : EReal) = if j ≤ i then (outsAt0 m c (t.val - 1) (by omega)).2.1 (ix3 h i j) + ((∑ q, dwq a (ck t.val q) h i j : ℝ) : EReal) else 0 := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact four _ i j _ _ _ _ _ _ _ _ (fun h => if j ≤ i then ((outsAt0 m c (t.val - 1) (by omega)).2.1 (ix3 h i j) : EReal) + ((∑ q, dwq a (ck t.val q) h i j : ℝ) : EReal) else 0) ((p14 _ i j).trans (congrArg (fun x : EReal => if j ≤ i then x else 0) ((slab0 _ _ (fun q => vn a (ck t.val q)) (fun q => dmix a (ck t.val q)) _ (vn_at (blocks H t)) (dmix_at (blocks H t)) i j).trans (congrArg (· + _) (ld_slab (outsAt0 m c (t.val - 1) (by omega)).2.1 0 (by decide) _ i j)))))
    ((p15 _ i j).trans (congrArg (fun x : EReal => if j ≤ i then x else 0) ((slab1 _ _ (fun q => vn a (ck t.val q)) (fun q => dmix a (ck t.val q)) _ (vn_at (blocks H t)) (dmix_at (blocks H t)) i j).trans (congrArg (· + _) (ld_slab (outsAt0 m c (t.val - 1) (by omega)).2.1 1 (by decide) _ i j)))))
    ((p16 _ i j).trans (congrArg (fun x : EReal => if j ≤ i then x else 0) ((slab2 _ _ (fun q => vn a (ck t.val q)) (fun q => dmix a (ck t.val q)) _ (vn_at (blocks H t)) (dmix_at (blocks H t)) i j).trans (congrArg (· + _) (ld_slab (outsAt0 m c (t.val - 1) (by omega)).2.1 2 (by decide) _ i j)))))
    ((p3 _ i j).trans (congrArg (fun x : EReal => if j ≤ i then x else 0) ((slab3 _ _ (fun q => vn a (ck t.val q)) (fun q => dmix a (ck t.val q)) _ (vn_at (blocks H t)) (dmix_at (blocks H t)) i j).trans (congrArg (· + _) (ld_slab (outsAt0 m c (t.val - 1) (by omega)).2.1 3 (by decide) _ i j))))) h

theorem du_A (h0 : t.val % 16 = 0) (h1 : ¬t.val % 16 = 15) (q : Fin 4) (i : Fin 128) (k : Fin 256) :
    ((outsAt0 m c t.val t.isLt).1 (ix2 (rw4 q i) (lo k)) : EReal) = ((du a (ck t.val q) i k : ℝ) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_lo _ _ _ _ _ _ _).trans (du_at (blocks H t) q i k)

theorem du_B (h0 : ¬t.val % 16 = 0) (h1 : ¬t.val % 16 = 15) (q : Fin 4) (i : Fin 128) (k : Fin 256) :
    ((outsAt0 m c t.val t.isLt).1 (ix2 (rw4 q i) (lo k)) : EReal) = ((du a (ck t.val q) i k : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_lo _ _ _ _ _ _ _).trans (du_at (blocks H t) q i k)

theorem du_C (h0 : ¬t.val % 16 = 0) (h1 : t.val % 16 = 15) (q : Fin 4) (i : Fin 128) (k : Fin 256) :
    ((outsAt0 m c t.val t.isLt).1 (ix2 (rw4 q i) (lo k)) : EReal) = ((du a (ck t.val q) i k : ℝ) : EReal) := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_lo _ _ _ _ _ _ _).trans (du_at (blocks H t) q i k)

theorem dv_A (h0 : t.val % 16 = 0) (h1 : ¬t.val % 16 = 15) (q : Fin 4) (i : Fin 128) (k : Fin 256) :
    ((outsAt0 m c t.val t.isLt).1 (ix2 (rw4 q i) (hi k)) : EReal) = ((dv a (ck t.val q) i k : ℝ) : EReal) := by
  rw [outsAt0_A m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_hi _ _ _ _ _).trans (dv_at (blocks H t) q i k)

theorem dv_B (h0 : ¬t.val % 16 = 0) (h1 : ¬t.val % 16 = 15) (q : Fin 4) (i : Fin 128) (k : Fin 256) :
    ((outsAt0 m c t.val t.isLt).1 (ix2 (rw4 q i) (hi k)) : EReal) = ((dv a (ck t.val q) i k : ℝ) : EReal) := by
  rw [outsAt0_B m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_hi _ _ _ _ _).trans (dv_at (blocks H t) q i k)

theorem dv_C (h0 : ¬t.val % 16 = 0) (h1 : t.val % 16 = 15) (q : Fin 4) (i : Fin 128) (k : Fin 256) :
    ((outsAt0 m c t.val t.isLt).1 (ix2 (rw4 q i) (hi k)) : EReal) = ((dv a (ck t.val q) i k : ℝ) : EReal) := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact (strip_hi _ _ _ _ _).trans (dv_at (blocks H t) q i k)

theorem o9_C (h0 : ¬t.val % 16 = 0) (h1 : t.val % 16 = 15) (i h : Fin 128) :
    ((outsAt0 m c t.val t.isLt).2.2.1 (ix2 i h) : EReal) = if g : h.val < 4 then ∑ l, (outsAt0 m c t.val t.isLt).2.2.2.2.2 (ix2 i (ln ⟨h.val, g⟩ l)) else 0 := by
  rw [outsAt0_C m c t h0 h1]
  frame_open
  simp (disch := decide) only [↓View.readCov_skip, ↓View.readCov_fill, ↓View.readCov_cons_toLoadRect, View.read_writes_junk_eq_canon, View.canon_cons_unit_lit',
    View.ld_unit_lit', View.readCov_unit_lit', View.readCov_cons_unit_lit', View.readAt_eq_ld, Memref.IsWhole.read_unread, read_unread_whole]
  exact p12 _ i h

end

end Cert.SguIdeal

end
-- ==== Proof.SguArr.lean ====
/- The result arrays of the gating unit's backward kernel. -/
module

public import proofs.«01_k».proof.Proof.SguVal

@[expose] public section

set_option maxRecDepth 16384

noncomputable section

open Idealize.ShloMosaic Idealize.ShloMosaic.TcCoe Idealize.SL.Sem Cert.BlockSums Cert.Lift Cert.Sgu

namespace Cert.SguIdeal
open Cert.SguIdeal.Gen Cert.SguIdeal.Value

/-- A value that starts at the first point's term and takes one term more at every later point. -/
theorem accum (g : (n : ℕ) → n < cfg0.N → EReal) (f : ℕ → ℝ) (h0 : ∀ h, g 0 h = (f 0 : EReal))
    (hs : ∀ n h h', g (n + 1) h = g n h' + (f (n + 1) : EReal)) (n : ℕ) : ∀ h, g n h = ((∑ s ∈ Finset.range (n + 1), f s : ℝ) : EReal) := by
  induction n with
  | zero => intro h; rw [h0, Finset.sum_range_one]
  | succ n ih =>
    intro h
    rw [hs n h (by omega), ih, Finset.sum_range_succ _ (n + 1), EReal.coe_add]

theorem flush7 : ∀ t : Fin cfg0.N, (cfg0.win 7).flush t = true :=
  (by decide +kernel : ∀ t : Fin grid0.N, win0_7.flush t = true)

theorem flush_last : ∀ t : Fin cfg0.N, ((cfg0.win 8).flush t = true ↔ t.val = 15) ∧ ((cfg0.win 9).flush t = true ↔ t.val = 15)
    ∧ ((cfg0.win 10).flush t = true ↔ t.val = 15) ∧ ((cfg0.win 11).flush t = true ↔ t.val = 15) :=
  (by decide +kernel : ∀ t : Fin grid0.N, (win0_8.flush t = true ↔ t.val = 15) ∧ (win0_9.flush t = true ↔ t.val = 15)
    ∧ (win0_10.flush t = true ↔ t.val = 15) ∧ (win0_11.flush t = true ↔ t.val = 15))

theorem index_out : ∀ t : Fin cfg0.N, (win0_8.index t (0 : Fin 3) = 0 ∧ win0_8.index t (1 : Fin 3) = 0 ∧ win0_8.index t (2 : Fin 3) = 0)
    ∧ (win0_9.index t (0 : Fin 2) = 0 ∧ win0_9.index t (1 : Fin 2) = 0) ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem last : ∃ t : Fin cfg0.N, t.val = 15 := ⟨⟨15, by have h : cfg0.N = 16 := N_0; omega⟩, rfl⟩

/-- The row `i` of chunk `q` belongs to one point. -/
theorem point (q : Fin 64) : ∃ (t : Fin cfg0.N) (p : Fin 4), ck t.val p = q := by
  have hN : cfg0.N = 16 := N_0
  refine ⟨⟨q.val / 4, by omega⟩, ⟨q.val % 4, by omega⟩, Fin.ext ?_⟩
  rw [ck_val (by show q.val / 4 < 16; omega)]
  show 4 * (q.val / 4) + q.val % 4 = q.val
  omega

variable {m : (ℓ : Loc nD τ sig) → Buf (Elt Ideal) ℓ} {a : Args} {c : Dev nD} (H : Holds m a c)
include H

theorem out10 (t : Fin cfg0.N) (ht : t.val = 15) (k : Fin 256) : ((outsAt0 m c t.val t.isLt).2.2.2.1 (ix2 0 k) : EReal) = ((dgs a k : ℝ) : EReal) := by
  rw [accum (fun n h => (outsAt0 m c n h).2.2.2.1 (ix2 0 k)) (fun s => ∑ q, ∑ i, dvn a (ck s q) i k * vh a (ck s q) i k)
    (fun h => o10_A H ⟨0, h⟩ rfl (fun e => absurd e (by show ¬0 % 16 = 15; decide)) k) (fun n h h' => by
      have hn : n + 1 < 16 := lt_of_lt_of_eq h N_0
      by_cases g : n + 1 = 15
      · exact o10_C H ⟨n + 1, h⟩ (by show ¬(n + 1) % 16 = 0; omega) (by show (n + 1) % 16 = 15; omega) k
      · exact o10_B H ⟨n + 1, h⟩ (by show ¬(n + 1) % 16 = 0; omega) (by show ¬(n + 1) % 16 = 15; omega) k) t.val t.isLt, ht]
  exact congrArg _ (sum_blocks 16 4 (by norm_num) (by decide) fun q => ∑ i, dvn a q i k * vh a q i k)

theorem out11 (t : Fin cfg0.N) (ht : t.val = 15) (k : Fin 256) : ((outsAt0 m c t.val t.isLt).2.2.2.2.1 (ix2 0 k) : EReal) = ((dga a k : ℝ) : EReal) := by
  rw [accum (fun n h => (outsAt0 m c n h).2.2.2.2.1 (ix2 0 k)) (fun s => ∑ q, ∑ i, a.d (ck s q) i k * nrm (y a (ck s q) i) k)
    (fun h => o11_A H ⟨0, h⟩ rfl (fun e => absurd e (by show ¬0 % 16 = 15; decide)) k) (fun n h h' => by
      have hn : n + 1 < 16 := lt_of_lt_of_eq h N_0
      by_cases g : n + 1 = 15
      · exact o11_C H ⟨n + 1, h⟩ (by show ¬(n + 1) % 16 = 0; omega) (by show (n + 1) % 16 = 15; omega) k
      · exact o11_B H ⟨n + 1, h⟩ (by show ¬(n + 1) % 16 = 0; omega) (by show ¬(n + 1) % 16 = 15; omega) k) t.val t.isLt, ht]
  exact congrArg _ (sum_blocks 16 4 (by norm_num) (by decide) fun q => ∑ i, a.d q i k * nrm (y a q i) k)

theorem scratch (t : Fin cfg0.N) (ht : t.val = 15) (i : Fin 128) (k : Fin 256) :
    ((outsAt0 m c t.val t.isLt).2.2.2.2.2 (ix2 i k) : EReal) = ((∑ q, dmix a q i k : ℝ) : EReal) := by
  rw [accum (fun n h => (outsAt0 m c n h).2.2.2.2.2 (ix2 i k)) (fun s => ∑ q, dmix a (ck s q) i k)
    (fun h => os_A H ⟨0, h⟩ rfl (fun e => absurd e (by show ¬0 % 16 = 15; decide)) i k) (fun n h h' => by
      have hn : n + 1 < 16 := lt_of_lt_of_eq h N_0
      by_cases g : n + 1 = 15
      · exact os_C H ⟨n + 1, h⟩ (by show ¬(n + 1) % 16 = 0; omega) (by show (n + 1) % 16 = 15; omega) i k
      · exact os_B H ⟨n + 1, h⟩ (by show ¬(n + 1) % 16 = 0; omega) (by show ¬(n + 1) % 16 = 15; omega) i k) t.val t.isLt, ht]
  exact congrArg _ (sum_blocks 16 4 (by norm_num) (by decide) fun q => dmix a q i k)

theorem out9 (t : Fin cfg0.N) (ht : t.val = 15) (i h : Fin 128) :
    ((outsAt0 m c t.val t.isLt).2.2.1 (ix2 i h) : EReal) = if g : h.val < 4 then ((db a i ⟨h.val, g⟩ : ℝ) : EReal) else 0 := by
  rw [o9_C H t (by omega) (by omega) i h]
  split
  · simp only [scratch H t ht, sum_coe]
    exact congrArg _ Finset.sum_comm
  · rfl

theorem before8 (h : Fin 4) (i j : Fin 128) (n : ℕ) : ∀ hn : n < cfg0.N, n < 15 →
    ((outsAt0 m c n hn).2.1 (ix3 h i j) : EReal) = ((∑ s ∈ Finset.range (n + 1), ∑ q, dwq a (ck s q) h i j : ℝ) : EReal) := by
  induction n with
  | zero => intro hn _; rw [Finset.sum_range_one]; exact o8_A H ⟨0, hn⟩ rfl (fun e => absurd e (by show ¬0 % 16 = 15; decide)) h i j
  | succ n ih =>
    intro hn hl
    rw [Finset.sum_range_succ _ (n + 1), EReal.coe_add]
    exact (o8_B H ⟨n + 1, hn⟩ (by show ¬(n + 1) % 16 = 0; omega) (by show ¬(n + 1) % 16 = 15; omega) h i j).trans (congrArg (· + _) (ih (by omega) (by omega)))

theorem out8 (t : Fin cfg0.N) (ht : t.val = 15) (h : Fin 4) (i j : Fin 128) :
    ((outsAt0 m c t.val t.isLt).2.1 (ix3 h i j) : EReal) = ((dw a h i j : ℝ) : EReal) := by
  have hN : cfg0.N = 16 := N_0
  have e : ((outsAt0 m c (t.val - 1) (by omega)).2.1 (ix3 h i j) : EReal) + ((∑ q, dwq a (ck t.val q) h i j : ℝ) : EReal)
      = ((∑ q, dwq a q h i j : ℝ) : EReal) := by
    rw [before8 H h i j (t.val - 1) (by omega) (by omega), ht, ← EReal.coe_add]
    exact congrArg _ ((Finset.sum_range_succ (fun s => ∑ q, dwq a (ck s q) h i j) 15).symm.trans
      (sum_blocks 16 4 (by norm_num) (by decide) fun q => dwq a q h i j))
  refine (o8_C H t (by omega) (by omega) h i j).trans ?_
  unfold dw
  split
  · exact e
  · rfl

/-! ## The arrays -/

theorem arr7_at (q : Fin 64) (i : Fin 128) (k : Fin 512) (x : EReal)
    (hx : ∀ (t : Fin cfg0.N) (p : Fin 4), ck t.val p = q → (outsAt0 m c t.val t.isLt).1 (ix2 (rw4 p i) k) = x) :
    ((dats m 0 c).arrAt 7 cfg0.N : Vec Ideal S8192x512 .bf16) (ix2 (rw64 q i) k) = x := by
  obtain ⟨t, p, hp⟩ := point q
  have hi : ((cfg0.win 7).blk t).view.emb (ix2 (rw4 p i) k) = ix2 (rw64 q i) k := by
    funext b
    apply Fin.ext
    match b with
    | ⟨0, _⟩ =>
      show win0_7.index t 0 * 512 + 1 * (128 * p.val + i.val) = 128 * q.val + i.val
      rw [(index_rows t).2.2.1, ← hp, ck_val (lt_N t)]; omega
    | ⟨1, _⟩ => show win0_7.index t 1 * 512 + 1 * k.val = k.val; rw [(index_rows t).2.2.2]; omega
  have hb := congrFun (blocks7 m c t (flush7 t)) (ix2 (rw4 p i) k)
  rw [View.read_apply, hi, flushed7] at hb
  exact hb.trans (hx t p hp)

theorem arr7_lo (q : Fin 64) (i : Fin 128) (k : Fin 256) :
    ((dats m 0 c).arrAt 7 cfg0.N : Vec Ideal S8192x512 .bf16) (ix2 (rw64 q i) (lo k)) = ((du a q i k : ℝ) : EReal) := by
  refine arr7_at H q i (lo k) _ fun t p hp => ?_
  rw [← hp]
  have hN := lt_N t
  by_cases h0 : t.val % 16 = 0
  · exact du_A H t h0 (by omega) p i k
  · by_cases h1 : t.val % 16 = 15
    · exact du_C H t h0 h1 p i k
    · exact du_B H t h0 h1 p i k

theorem arr7_hi (q : Fin 64) (i : Fin 128) (k : Fin 256) :
    ((dats m 0 c).arrAt 7 cfg0.N : Vec Ideal S8192x512 .bf16) (ix2 (rw64 q i) (hi k)) = ((dv a q i k : ℝ) : EReal) := by
  refine arr7_at H q i (hi k) _ fun t p hp => ?_
  rw [← hp]
  have hN := lt_N t
  by_cases h0 : t.val % 16 = 0
  · exact dv_A H t h0 (by omega) p i k
  · by_cases h1 : t.val % 16 = 15
    · exact dv_C H t h0 h1 p i k
    · exact dv_B H t h0 h1 p i k

theorem arr8 (h : Fin 4) (i j : Fin 128) : ((dats m 0 c).arrAt 8 cfg0.N : Vec Ideal S4x128x128 .f32) (ix3 h i j) = ((dw a h i j : ℝ) : EReal) := by
  obtain ⟨t, ht⟩ := last
  have hi : ((cfg0.win 8).blk t).view.emb (ix3 h i j) = ix3 h i j := by
    funext b
    apply Fin.ext
    match b with
    | ⟨0, _⟩ => show win0_8.index t 0 * 4 + 1 * h.val = h.val; rw [(index_out t).1.1]; omega
    | ⟨1, _⟩ => show win0_8.index t 1 * 128 + 1 * i.val = i.val; rw [(index_out t).1.2.1]; omega
    | ⟨2, _⟩ => show win0_8.index t 2 * 128 + 1 * j.val = j.val; rw [(index_out t).1.2.2]; omega
  have hb := congrFun ((dats m 0 c).read_blk_arrAt_eq_flushed 8 (fun t t' h h' hne =>
    absurd (Fin.ext (((flush_last t).1.mp h).trans ((flush_last t').1.mp h').symm)) hne) cfg0.N t t.isLt ((flush_last t).1.mpr ht)) (ix3 h i j)
  rw [View.read_apply, hi, flushed8] at hb
  exact hb.trans (out8 H t ht h i j)

theorem arr9 (i h : Fin 128) : ((dats m 0 c).arrAt 9 cfg0.N : Vec Ideal S128x128 .f32) (ix2 i h)
    = (if g : h.val < 4 then ((db a i ⟨h.val, g⟩ : ℝ) : EReal) else 0 : EReal) := by
  obtain ⟨t, ht⟩ := last
  have hi : ((cfg0.win 9).blk t).view.emb (ix2 i h) = ix2 i h := by
    funext b
    apply Fin.ext
    match b with
    | ⟨0, _⟩ => show win0_9.index t 0 * 128 + 1 * i.val = i.val; rw [(index_out t).2.1.1]; omega
    | ⟨1, _⟩ => show win0_9.index t 1 * 128 + 1 * h.val = h.val; rw [(index_out t).2.1.2]; omega
  have hb := congrFun ((dats m 0 c).read_blk_arrAt_eq_flushed 9 (fun t t' h h' hne =>
    absurd (Fin.ext (((flush_last t).2.1.mp h).trans ((flush_last t').2.1.mp h').symm)) hne) cfg0.N t t.isLt ((flush_last t).2.1.mpr ht)) (ix2 i h)
  rw [View.read_apply, hi, flushed9] at hb
  exact hb.trans (out9 H t ht i h)

theorem arr10 (k : Fin 256) : ((dats m 0 c).arrAt 10 cfg0.N : Vec Ideal S1x256 .f32) (ix2 0 k) = ((dgs a k : ℝ) : EReal) := by
  obtain ⟨t, ht⟩ := last
  have hi : ((cfg0.win 10).blk t).view.emb (ix2 0 k) = ix2 0 k := by
    funext b
    apply Fin.ext
    match b with
    | ⟨0, _⟩ => show win0_10.index t 0 * 1 + 1 * 0 = 0; rw [(index_out t).2.2.1.1]
    | ⟨1, _⟩ => show win0_10.index t 1 * 256 + 1 * k.val = k.val; rw [(index_out t).2.2.1.2]; omega
  have hb := congrFun ((dats m 0 c).read_blk_arrAt_eq_flushed 10 (fun t t' h h' hne =>
    absurd (Fin.ext (((flush_last t).2.2.1.mp h).trans ((flush_last t').2.2.1.mp h').symm)) hne) cfg0.N t t.isLt ((flush_last t).2.2.1.mpr ht)) (ix2 0 k)
  rw [View.read_apply, hi, flushed10] at hb
  exact hb.trans (out10 H t ht k)

theorem arr11 (k : Fin 256) : ((dats m 0 c).arrAt 11 cfg0.N : Vec Ideal S1x256 .f32) (ix2 0 k) = ((dga a k : ℝ) : EReal) := by
  obtain ⟨t, ht⟩ := last
  have hi : ((cfg0.win 11).blk t).view.emb (ix2 0 k) = ix2 0 k := by
    funext b
    apply Fin.ext
    match b with
    | ⟨0, _⟩ => show win0_11.index t 0 * 1 + 1 * 0 = 0; rw [(index_out t).2.2.2.1]
    | ⟨1, _⟩ => show win0_11.index t 1 * 256 + 1 * k.val = k.val; rw [(index_out t).2.2.2.2]; omega
  have hb := congrFun ((dats m 0 c).read_blk_arrAt_eq_flushed 11 (fun t t' h h' hne =>
    absurd (Fin.ext (((flush_last t).2.2.2.mp h).trans ((flush_last t').2.2.2.mp h').symm)) hne) cfg0.N t t.isLt ((flush_last t).2.2.2.mpr ht)) (ix2 0 k)
  rw [View.read_apply, hi, flushed11] at hb
  exact hb.trans (out11 H t ht k)

end Cert.SguIdeal

end
-- ==== Proof.SguRef.lean ====
/- What the plain form of the gating unit's backward pass computes on finite arguments. -/
module

public import proofs.«01_k».proof.Proof.SguFin
public import proofs.«01_k».proof.Proof.Gen.SguRefIdeal.Run
public import proofs.«01_k».proof.Proof.Gen.SguRefIdeal.Read
public import Idealize.ShloMosaic.Lib.Pointwise

@[expose] public section

set_option maxRecDepth 16384

noncomputable section

open Idealize.ShloMosaic Idealize.ShloMosaic.TcCoe Cert.Lift Cert.Sgu

namespace Cert.SguRefIdeal
open Cert.SguRefIdeal.Gen Cert.SguRefIdeal.Read

theorem lit_root : Ideal.ofBits .f32 0x3F4C422A#32 = ((root : ℝ) : EReal) := by
  simp [Ideal.ofBits, Ideal.ieee, root, -EReal.coe_mul]; norm_num

theorem lit_8943 : Ideal.ofBits .f32 0x460BBC00#32 = ((8943 : ℝ) : EReal) := by
  simp [Ideal.ofBits, Ideal.ieee, -EReal.coe_mul]; norm_num

theorem lit_200000 : Ideal.ofBits .f32 0x48435000#32 = ((200000 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; try norm_num

theorem lit_three : Ideal.ofBits .f32 0x40400000#32 = ((3 : ℝ) : EReal) := by
  simp [Ideal.ofBits, Ideal.ieee, -EReal.coe_mul]; norm_num

theorem div_200000 (x : ℝ) : Ideal.div (x : EReal) ((200000 : ℝ) : EReal) = ((x / 200000 : ℝ) : EReal) := div_coe (by norm_num) x

/-- A sum over the outer two of four axes. -/
theorem reduce_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (b : Fin n1) (c : Fin n2) :
    Ideal.hostReduceAdd h v init (ix2 b c) = init + ∑ k0 : Fin n0, ∑ k1 : Fin n3, v (ix4 k0 b c k1) := by
  refine congrArg (init + ·) ((Finset.sum_filter_eq_sum_of_fiber (fun i => h.drop i = ix2 b c) (fun k : Fin n0 × Fin n3 => ix4 k.1 b c k.2)
    (fun _ _ e => Prod.ext (congrFun e 0) (congrFun e 3)) (fun i => ⟨fun e => ⟨(i 0, i 3), funext fun a => Fin.ext ?_⟩, ?_⟩) v).trans ?_)
  · match a with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext a
    apply Fin.ext
    match a with
    | ⟨0, _⟩ => rfl
    | ⟨1, _⟩ => rfl
  · simp only [Fintype.sum_prod_type]

/-- A row and a lane put together of their parts, and taken apart. -/
theorem fuse (q : Fin 64) (i : Fin 128) (h : Fin 4) (l : Fin 64) (p : q.val * 128 + i.val < 8192) (p' : h.val * 64 + l.val < 256) :
    (ix2 ⟨q.val * 128 + i.val, p⟩ ⟨h.val * 64 + l.val, p'⟩ : (⟨2, ![8192, 256]⟩ : Shape).Idx) = ix2 (rw64 q i) (ln h l) := by
  rw [show (⟨q.val * 128 + i.val, p⟩ : Fin 8192) = rw64 q i from Fin.ext (by show q.val * 128 + i.val = 128 * q.val + i.val; omega),
    show (⟨h.val * 64 + l.val, p'⟩ : Fin 256) = ln h l from Fin.ext (by show h.val * 64 + l.val = 64 * h.val + l.val; omega)]

theorem part (q : Fin 64) (i : Fin 128) (h : Fin 4) (l : Fin 64) (p1 : (rw64 q i).val / 128 < 64) (p2 : (rw64 q i).val % 128 < 128)
    (p3 : (ln h l).val / 64 < 4) (p4 : (ln h l).val % 64 < 64) :
    (ix4 ⟨(rw64 q i).val / 128, p1⟩ ⟨(rw64 q i).val % 128, p2⟩ ⟨(ln h l).val / 64, p3⟩ ⟨(ln h l).val % 64, p4⟩ : (⟨4, ![64, 128, 4, 64]⟩ : Shape).Idx)
      = ix4 q i h l := by
  rw [show (⟨(rw64 q i).val / 128, p1⟩ : Fin 64) = q from Fin.ext (by show (128 * q.val + i.val) / 128 = q.val; omega),
    show (⟨(rw64 q i).val % 128, p2⟩ : Fin 128) = i from Fin.ext (by show (128 * q.val + i.val) % 128 = i.val; omega),
    show (⟨(ln h l).val / 64, p3⟩ : Fin 4) = h from Fin.ext (by show (64 * h.val + l.val) / 64 = h.val; omega),
    show (⟨(ln h l).val % 64, p4⟩ : Fin 64) = l from Fin.ext (by show (64 * h.val + l.val) % 64 = l.val; omega)]

theorem le_bits : ∀ i j : Fin 128, IntOp.cmpi CmpIPredicate.sge (IntOp.addi (BitVec.ofNat 32 i.val) 0#32) (BitVec.ofNat 32 j.val) = if j ≤ i then 1#1 else 0#1 := by
  decide +kernel

theorem keep (i j : Fin 128) (x : EReal) :
    Scalar.select (IntOp.cmpi CmpIPredicate.sge (IntOp.addi (BitVec.ofNat 32 i.val) 0#32) (BitVec.ofNat 32 j.val)) x 0 = if j ≤ i then x else 0 := by
  rw [le_bits]
  split <;> rfl

variable {a : Args} {x0 : (⟨S8192x512, .f32⟩ : BufTy).Contents (Elt Ideal)} {x1 : (⟨S8192x256, .f32⟩ : BufTy).Contents (Elt Ideal)}
  {x2 : (⟨S4x128x128, .f32⟩ : BufTy).Contents (Elt Ideal)} {x3 : (⟨S4x128, .f32⟩ : BufTy).Contents (Elt Ideal)}
  {x4 x5 : (⟨S256, .f32⟩ : BufTy).Contents (Elt Ideal)} (H : Reads a x0 x1 x2 x3 x4 x5) (q : Fin 64) (i : Fin 128)
include H

theorem e0 (k : Fin 256) : (val_main_v0 (F := Ideal) x0 (ix2 (rw64 q i) k) : EReal) = ((a.u q i k : ℝ) : EReal) := by
  pointwise [val_main_v0]
  exact H.u q i k

theorem e1 (k : Fin 256) : (val_main_v1 (F := Ideal) x0 (ix2 (rw64 q i) k) : EReal) = ((a.v q i k : ℝ) : EReal) := by
  pointwise [val_main_v1]
  exact H.v q i k

theorem e14 (k : Fin 256) : (val_main_v14 (F := Ideal) x0 (ix2 (rw64 q i) k) : EReal) = ((th (a.u q i k) : ℝ) : EReal) := by
  pointwise [val_main_v14, val_main_v13, val_main_v12, val_main_cst_2, val_main_v11, val_main_v10, val_main_v9, val_main_cst_1, val_main_v8, val_main_v7, val_main_cst_0, val_main_v3, val_main_v2]
  simp only [e0 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg, Ideal.tanh_coe]
  exact congrArg _ (by unfold th kap; congr 1; ring)

theorem e37 (k : Fin 256) : (val_main_v37 (F := Ideal) x0 (ix2 (rw64 q i) k) : EReal) = ((th (a.v q i k) : ℝ) : EReal) := by
  pointwise [val_main_v37, val_main_v36, val_main_v35, val_main_cst_10, val_main_v34, val_main_v33, val_main_v32, val_main_cst_9, val_main_v31, val_main_v30, val_main_cst_8, val_main_v26, val_main_v25]
  simp only [e1 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg, Ideal.tanh_coe]
  exact congrArg _ (by unfold th kap; congr 1; ring)

theorem e24 (k : Fin 256) : (val_main_v24 (F := Ideal) x0 (ix2 (rw64 q i) k) : EReal) = ((ug a q i k : ℝ) : EReal) := by
  pointwise [val_main_v24, val_main_v23, val_main_v22, val_main_cst_6, val_main_v21, val_main_cst_5, val_main_v20]
  simp only [e0 H, e14 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (by unfold ug gelu; ring)

theorem e47 (k : Fin 256) : (val_main_v47 (F := Ideal) x0 (ix2 (rw64 q i) k) : EReal) = ((vg a q i k : ℝ) : EReal) := by
  pointwise [val_main_v47, val_main_v46, val_main_v45, val_main_cst_14, val_main_v44, val_main_cst_13, val_main_v43]
  simp only [e1 H, e37 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (by unfold vg gelu; ring)

theorem e51 (z : Fin 1) : (val_main_v51 (F := Ideal) x0 (ix2 (rw64 q i) z) : EReal) = ((mean (vg a q i) : ℝ) : EReal) := by
  pointwise [val_main_v51, val_main_v50, val_main_cst_16, val_main_v49, val_main_v48, val_main_cst_15]
  simp only [e47 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e53 (k : Fin 256) : (val_main_v53 (F := Ideal) x0 (ix2 (rw64 q i) k) : EReal) = ((cen (vg a q i) k : ℝ) : EReal) := by
  pointwise [val_main_v53, val_main_v52]
  simp only [e47 H, e51 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e62 (k : Fin 256) : (val_main_v62 (F := Ideal) x0 (ix2 (rw64 q i) k) : EReal) = ((cen (vg a q i) k : ℝ) : EReal) := by
  pointwise [val_main_v62, val_main_v61]
  simp only [e47 H, e51 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e65 (z : Fin 1) : (val_main_v65 (F := Ideal) x0 (ix2 (rw64 q i) z) : EReal) = ((rs (vg a q i) : ℝ) : EReal) := by
  pointwise [val_main_v65, val_main_v64, val_main_v63, val_main_cst_20, val_main_v60, val_main_v59, val_main_cst_19, val_main_v58, val_main_v57, val_main_cst_18, val_main_v54]
  simp only [e53 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact rsqrt_msq (by norm_num) _

theorem e68 (z : Fin 1) : (val_main_v68 (F := Ideal) x0 (ix2 (rw64 q i) z) : EReal) = ((-(1 / 2) * (rs (vg a q i) / msq 256 (cen (vg a q i))) : ℝ) : EReal) := by
  pointwise [val_main_v68, val_main_v67, val_main_cst_21, val_main_v66, val_main_v64, val_main_v63, val_main_cst_20, val_main_v60, val_main_v59, val_main_cst_19, val_main_v58, val_main_v57, val_main_cst_18, val_main_v54]
  simp only [e53 H, e65 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rw [div_msq (by norm_num) (cen (vg a q i)), ← EReal.coe_mul]

theorem e70 (k : Fin 256) : (val_main_v70 (F := Ideal) x0 (ix2 (rw64 q i) k) : EReal) = ((vh a q i k : ℝ) : EReal) := by
  pointwise [val_main_v70, val_main_v69]
  simp only [e62 H, e65 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e73 (k : Fin 256) : (val_main_v73 (F := Ideal) x0 x4 (ix2 (rw64 q i) k) : EReal) = ((vn a q i k : ℝ) : EReal) := by
  pointwise [val_main_v73, val_main_v72, val_main_v71]
  simp only [e70 H, H.gs, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e74 (h : Fin 4) (l : Fin 64) : (val_main_v74 (F := Ideal) x0 x4 (ix4 q i h l) : EReal) = ((vn a q i (ln h l) : ℝ) : EReal) := by
  pointwise [val_main_v74]
  exact (congrArg (val_main_v73 (F := Ideal) x0 x4) (fuse q i h l _ _)).trans (e73 H q i (ln h l))

omit q i in
theorem e79 (h : Fin 4) (i j : Fin 128) : (val_main_v79 (F := Ideal) x2 (ix3 h i j) : EReal) = ((a.w h i j : ℝ) : EReal) := by
  pointwise [val_main_v79, val_main_v78, val_main_v77, val_main_v76, val_main_v75, val_main_cst_22, val_main_call0_v0, val_main_call0_v1, val_main_call0_v2, val_main_call0_v3, val_main_call0_v4, val_main_call0_v5, val_main_call0_cst, val_main_call0_c]
  obtain ⟨z, hz, hw⟩ := H.w h i j
  refine (keep i j _).trans ?_
  rw [hz, hw]
  split <;> rfl

theorem e85 (h : Fin 4) (l : Fin 64) : (val_main_v85 (F := Ideal) x0 x2 x3 x4 (ix4 q i h l) : EReal) = ((mixed a q i (ln h l) : ℝ) : EReal) := by
  pointwise [val_main_v85, val_main_v81, val_main_v80, val_main_v84, val_main_v83, val_main_v82]
  simp only [e74 H, e79 H, H.b, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  unfold mixed
  rw [hd_ln]
  exact congrArg _ (congrArg (· + _) (Finset.sum_congr rfl fun _ _ => mul_comm _ _))

theorem e86 (k : Fin 256) : (val_main_v86 (F := Ideal) x0 x2 x3 x4 (ix2 (rw64 q i) k) : EReal) = ((mixed a q i k : ℝ) : EReal) := by
  obtain ⟨h, l, rfl⟩ := lane k
  pointwise [val_main_v86]
  exact (congrArg (val_main_v85 (F := Ideal) x0 x2 x3 x4) (part q i h l _ _ _ _)).trans (e85 H q i h l)

theorem e87 (k : Fin 256) : (val_main_v87 (F := Ideal) x0 x2 x3 x4 (ix2 (rw64 q i) k) : EReal) = ((y a q i k : ℝ) : EReal) := by
  pointwise [val_main_v87]
  simp only [e24 H, e86 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e95 (z : Fin 1) : (val_main_v95 (F := Ideal) x0 x2 x3 x4 (ix2 (rw64 q i) z) : EReal) = ((rinv 256 (y a q i) : ℝ) : EReal) := by
  pointwise [val_main_v95, val_main_v94, val_main_v93, val_main_cst_25, val_main_v92, val_main_v91, val_main_cst_24, val_main_v90, val_main_v89, val_main_cst_23, val_main_v88]
  simp only [e87 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact rsqrt_msq (by norm_num) _

theorem e98 (z : Fin 1) : (val_main_v98 (F := Ideal) x0 x2 x3 x4 (ix2 (rw64 q i) z) : EReal) = ((-(1 / 2) * (rinv 256 (y a q i) / msq 256 (y a q i)) : ℝ) : EReal) := by
  pointwise [val_main_v98, val_main_v97, val_main_cst_26, val_main_v96, val_main_v94, val_main_v93, val_main_cst_25, val_main_v92, val_main_v91, val_main_cst_24, val_main_v90, val_main_v89, val_main_cst_23, val_main_v88]
  simp only [e87 H, e95 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rw [div_msq (by norm_num) (y a q i), ← EReal.coe_mul]

theorem e100 (k : Fin 256) : (val_main_v100 (F := Ideal) x0 x2 x3 x4 (ix2 (rw64 q i) k) : EReal) = ((nrm (y a q i) k : ℝ) : EReal) := by
  pointwise [val_main_v100, val_main_v99]
  simp only [e87 H, e95 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

theorem e108 (k : Fin 256) : (val_main_v108 (F := Ideal) x1 x5 (ix2 (rw64 q i) k) : EReal) = ((a.d q i k * a.ga k : ℝ) : EReal) := by
  pointwise [val_main_v108, val_main_v107, val_main_v101]
  simp only [H.d, H.ga, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e119 (k : Fin 256) : (val_main_v119 (F := Ideal) x0 x1 x2 x3 x4 x5 (ix2 (rw64 q i) k) : EReal) = (((∑ l, y a q i l * (a.d q i l * a.ga l)) * (-(1 / 2) * (rinv 256 (y a q i) / msq 256 (y a q i))) / 256 : ℝ) : EReal) := by
  pointwise [val_main_v119, val_main_v118, val_main_cst_31, val_main_v117, val_main_cst_30, val_main_v116, val_main_v115, val_main_v112, val_main_v111, val_main_cst_29, val_main_v110]
  simp only [e87 H, e98 H, e108 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e123 (k : Fin 256) : (val_main_v123 (F := Ideal) x0 x1 x2 x3 x4 x5 (ix2 (rw64 q i) k) : EReal) = ((dy a q i k : ℝ) : EReal) := by
  pointwise [val_main_v123, val_main_v122, val_main_v121, val_main_v120, val_main_v114, val_main_v113]
  simp only [e87 H, e95 H, e108 H, e119 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (nrmb_chain (y a q i) (fun k => a.d q i k * a.ga k) k)

theorem e124 (k : Fin 256) : (val_main_v124 (F := Ideal) x0 x1 x2 x3 x4 x5 (ix2 (rw64 q i) k) : EReal) = ((dmix a q i k : ℝ) : EReal) := by
  pointwise [val_main_v124]
  simp only [e24 H, e123 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (mul_comm _ _)

theorem e125 (k : Fin 256) : (val_main_v125 (F := Ideal) x0 x1 x2 x3 x4 x5 (ix2 (rw64 q i) k) : EReal) = ((dy a q i k * mixed a q i k : ℝ) : EReal) := by
  pointwise [val_main_v125]
  simp only [e86 H, e123 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e126 (h : Fin 4) (l : Fin 64) : (val_main_v126 (F := Ideal) x0 x1 x2 x3 x4 x5 (ix4 q i h l) : EReal) = ((dmix a q i (ln h l) : ℝ) : EReal) := by
  pointwise [val_main_v126]
  exact (congrArg (val_main_v124 (F := Ideal) x0 x1 x2 x3 x4 x5) (fuse q i h l _ _)).trans (e124 H q i (ln h l))

omit q in
theorem e127 (h : Fin 4) : (val_main_v127 (F := Ideal) x0 x1 x2 x3 x4 x5 (ix2 i h) : EReal) = ((db a i h : ℝ) : EReal) := by
  pointwise [val_main_v127, val_main_cst_32]
  rw [reduce_outer]
  simp only [e126 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

omit q in
theorem e130 (h : Fin 4) : (val_main_v130 (F := Ideal) x0 x1 x2 x3 x4 x5 (ix2 h i) : EReal) = ((db a i h : ℝ) : EReal) := by
  pointwise [val_main_v130, val_main_v129, val_main_cst_33]
  rw [reduce_outer]
  pointwise [val_main_v128]
  simp only [e127 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

omit q in
theorem e132 (h : Fin 4) (j : Fin 128) : (val_main_v132 (F := Ideal) x0 x1 x2 x3 x4 x5 (ix3 h i j) : EReal) = ((∑ q, dwq a q h i j : ℝ) : EReal) := by
  pointwise [val_main_v132, val_main_v131]
  simp only [e126 H, e74 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  rfl

omit q in
theorem e136 (h : Fin 4) (j : Fin 128) : (val_main_v136 (F := Ideal) x0 x1 x2 x3 x4 x5 (ix3 h i j) : EReal) = ((dw a h i j : ℝ) : EReal) := by
  pointwise [val_main_v136, val_main_v135, val_main_v77, val_main_v76, val_main_v75, val_main_cst_22, val_main_call0_v0, val_main_call0_v1, val_main_call0_v2, val_main_call0_v3, val_main_call0_v4, val_main_call0_v5, val_main_call0_cst, val_main_call0_c]
  refine (keep i j _).trans ?_
  unfold dw
  rw [e132 H]
  split <;> rfl

theorem e134 (h : Fin 4) (l : Fin 64) : (val_main_v134 (F := Ideal) x0 x1 x2 x3 x4 x5 (ix4 q i h l) : EReal) = ((dvn a q i (ln h l) : ℝ) : EReal) := by
  pointwise [val_main_v134, val_main_v133, val_main_v131]
  simp only [e126 H, e79 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  unfold dvn
  rw [hd_ln]
  exact congrArg _ (Finset.sum_congr rfl fun _ _ => mul_comm _ _)

theorem e137 (k : Fin 256) : (val_main_v137 (F := Ideal) x0 x1 x2 x3 x4 x5 (ix2 (rw64 q i) k) : EReal) = ((dvn a q i k : ℝ) : EReal) := by
  obtain ⟨h, l, rfl⟩ := lane k
  pointwise [val_main_v137]
  exact (congrArg (val_main_v134 (F := Ideal) x0 x1 x2 x3 x4 x5) (part q i h l _ _ _ _)).trans (e134 H q i h l)

theorem e142 (k : Fin 256) : (val_main_v142 (F := Ideal) x0 x1 x2 x3 x4 x5 (ix2 (rw64 q i) k) : EReal) = ((dvn a q i k * a.gs k : ℝ) : EReal) := by
  pointwise [val_main_v142, val_main_v141, val_main_v71]
  simp only [e137 H, H.gs, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e156 (k : Fin 256) : (val_main_v156 (F := Ideal) x0 x1 x2 x3 x4 x5 (ix2 (rw64 q i) k) : EReal) = (((∑ l, cen (vg a q i) l * (dvn a q i l * a.gs l)) * (-(1 / 2) * (rs (vg a q i) / msq 256 (cen (vg a q i)))) / 256 : ℝ) : EReal) := by
  pointwise [val_main_v156, val_main_v155, val_main_cst_39, val_main_v154, val_main_cst_38, val_main_v153, val_main_v149, val_main_v146, val_main_v145, val_main_cst_36, val_main_v144]
  simp only [e62 H, e68 H, e142 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e148 (k : Fin 256) : (val_main_v148 (F := Ideal) x0 x1 x2 x3 x4 x5 (ix2 (rw64 q i) k) : EReal) = ((dvn a q i k * a.gs k * rs (vg a q i) : ℝ) : EReal) := by
  pointwise [val_main_v148, val_main_v147]
  simp only [e65 H, e142 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e157 (k : Fin 256) : (val_main_v157 (F := Ideal) x0 x1 x2 x3 x4 x5 (ix2 (rw64 q i) k) : EReal) = (((∑ l, cen (vg a q i) l * (dvn a q i l * a.gs l)) * (-(1 / 2) * (rs (vg a q i) / msq 256 (cen (vg a q i)))) / 256 * (2 * cen (vg a q i) k) : ℝ) : EReal) := by
  pointwise [val_main_v157, val_main_v56, val_main_cst_17, val_main_v55]
  simp only [e53 H, e156 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]

theorem e167 (k : Fin 256) : (val_main_v167 (F := Ideal) x0 x1 x2 x3 x4 x5 (ix2 (rw64 q i) k) : EReal) = ((dvg a q i k : ℝ) : EReal) := by
  pointwise [val_main_v167, val_main_v166, val_main_v165, val_main_cst_42, val_main_v164, val_main_cst_41, val_main_v163, val_main_v162, val_main_v161, val_main_v160, val_main_v159, val_main_cst_40, val_main_v158, val_main_v152, val_main_v151, val_main_cst_37, val_main_v150]
  simp only [e148 H, e157 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (hatb_chain (vg a q i) (fun k => dvn a q i k * a.gs k) k)

theorem e181 (k : Fin 256) : (val_main_v181 (F := Ideal) x0 x1 x2 x3 x4 x5 (ix2 (rw64 q i) k) : EReal) = ((dv a q i k : ℝ) : EReal) := by
  pointwise [val_main_v181, val_main_v180, val_main_v179, val_main_v178, val_main_cst_46, val_main_v177, val_main_v176, val_main_cst_45, val_main_v175, val_main_v174, val_main_v173, val_main_cst_44, val_main_v172, val_main_v171, val_main_v170, val_main_cst_43, val_main_v169, val_main_v168, val_main_v46, val_main_v45, val_main_cst_14, val_main_v44, val_main_cst_13, val_main_v43, val_main_v42, val_main_v41, val_main_cst_12, val_main_v40, val_main_v39, val_main_cst_11, val_main_v38, val_main_v29, val_main_cst_7, val_main_v28, val_main_v27]
  simp only [e1 H, e37 H, e167 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (by unfold dv gelud kap; ring)

theorem e195 (k : Fin 256) : (val_main_v195 (F := Ideal) x0 x1 x2 x3 x4 x5 (ix2 (rw64 q i) k) : EReal) = ((du a q i k : ℝ) : EReal) := by
  pointwise [val_main_v195, val_main_v194, val_main_v193, val_main_v192, val_main_cst_50, val_main_v191, val_main_v190, val_main_cst_49, val_main_v189, val_main_v188, val_main_v187, val_main_cst_48, val_main_v186, val_main_v185, val_main_v184, val_main_cst_47, val_main_v183, val_main_v182, val_main_v23, val_main_v22, val_main_cst_6, val_main_v21, val_main_cst_5, val_main_v20, val_main_v19, val_main_v18, val_main_cst_4, val_main_v17, val_main_v16, val_main_cst_3, val_main_v15, val_main_v6, val_main_cst, val_main_v5, val_main_v4]
  simp only [e0 H, e14 H, e125 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (by unfold du gelud kap; ring)

theorem e201_lo (k : Fin 256) : (val_main_v201 (F := Ideal) x0 x1 x2 x3 x4 x5 (ix2 (rw64 q i) (lo k)) : EReal) = ((du a q i k : ℝ) : EReal) := by
  pointwise [val_main_v201, val_main_v198, val_main_v197, val_main_v196, val_main_cst_51, val_main_cst_52]
  have h : (lo k).val = k.val := rfl
  rw [dif_neg (by omega), dif_pos (by omega), zero_add]
  exact e195 H q i k

theorem e201_hi (k : Fin 256) : (val_main_v201 (F := Ideal) x0 x1 x2 x3 x4 x5 (ix2 (rw64 q i) (hi k)) : EReal) = ((dv a q i k : ℝ) : EReal) := by
  pointwise [val_main_v201, val_main_v198, val_main_v197, val_main_v196, val_main_cst_51, val_main_cst_52]
  have h : (hi k).val = 256 + k.val := rfl
  rw [dif_pos (by omega), dif_neg (by omega), add_zero]
  exact (congrArg (fun z => (val_main_v181 (F := Ideal) x0 x1 x2 x3 x4 x5 (ix2 (rw64 q i) z) : EReal)) (Fin.ext (by show 256 + k.val - 256 = k.val; omega))).trans (e181 H q i k)

omit q in
theorem e200 (h : Fin 128) : (val_main_v200 (F := Ideal) x0 x1 x2 x3 x4 x5 (ix2 i h) : EReal) = if g : h.val < 4 then ((db a i ⟨h.val, g⟩ : ℝ) : EReal) else 0 := by
  pointwise [val_main_v200, val_main_v199, val_main_call1_v0, val_main_c]
  split
  · exact e130 H i _
  · exact (by simp [FloatOps.sitofp] : (FloatOps.sitofp (F := Ideal) FTy.f32 0#32 : EReal) = 0)

omit q i in
theorem e202 (k : Fin 256) : (val_main_v202 (F := Ideal) x0 x1 x2 x3 x4 x5 (ix2 0 k) : EReal) = ((dgs a k : ℝ) : EReal) := by
  pointwise [val_main_v202, val_main_v143, val_main_cst_35, val_main_v140, val_main_v139, val_main_cst_34, val_main_v138]
  simp only [sum_rows]
  simp only [e70 H, e137 H, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (Finset.sum_congr rfl fun _ _ => Finset.sum_congr rfl fun _ _ => mul_comm _ _)

omit q i in
theorem e203 (k : Fin 256) : (val_main_v203 (F := Ideal) x0 x1 x2 x3 x4 (ix2 0 k) : EReal) = ((dga a k : ℝ) : EReal) := by
  pointwise [val_main_v203, val_main_v109, val_main_cst_28, val_main_v106, val_main_v105, val_main_cst_27, val_main_v104]
  simp only [sum_rows]
  simp only [e100 H, H.d, zero_add, lit_256, lit_eps, lit_root, lit_half, lit_neg_half, lit_two, lit_three, lit_8943, lit_200000, one_eq, div_256, div_200000, Finset.univ_unique, Finset.sum_singleton, sum_coe, ← EReal.coe_mul, ← EReal.coe_add, ← EReal.coe_sub, ← EReal.coe_neg]
  exact congrArg _ (Finset.sum_congr rfl fun _ _ => Finset.sum_congr rfl fun _ _ => mul_comm _ _)

end Cert.SguRefIdeal

end
-- ==== Proof.Sgu.lean ====
/- The gating unit's backward pass: what the kernel returns, 512 rows at a time and with the sums carried from point to
   point, is what the plain form returns. -/
module

public import proofs.«01_k».proof.Defs
public import proofs.«01_k».proof.Proof.SguArr
public import proofs.«01_k».proof.Proof.SguRef

@[expose] public section

set_option maxRecDepth 16384

noncomputable section

open Idealize.ShloMosaic Idealize.ShloMosaic.TcCoe Idealize.SL.Sem Cert.BlockSums Cert.Lift Cert.Sgu

namespace Cert.SguIdeal

theorem half (k : Fin 512) : (∃ j, k = lo j) ∨ ∃ j, k = hi j := by
  by_cases h : k.val < 256
  · exact Or.inl ⟨⟨k.val, h⟩, rfl⟩
  · exact Or.inr ⟨⟨k.val - 256, by omega⟩, Fin.ext (by show k.val = 256 + (k.val - 256); omega)⟩

/-- Arrays of 8192 rows and 512 lanes agree when they do on each half of the lanes, chunk by chunk. -/
theorem ext_lanes {f g : (⟨2, ![8192, 512]⟩ : Shape).Idx → EReal} (hl : ∀ q i k, f (ix2 (rw64 q i) (lo k)) = g (ix2 (rw64 q i) (lo k)))
    (hh : ∀ q i k, f (ix2 (rw64 q i) (hi k)) = g (ix2 (rw64 q i) (hi k))) : f = g := by
  funext i
  obtain ⟨r, k, rfl⟩ : ∃ r k, i = ix2 r k := ⟨i 0, i 1, eq_ix2 i⟩
  obtain ⟨q, p, rfl⟩ := row64 r
  rcases half k with ⟨j, rfl⟩ | ⟨j, rfl⟩
  · exact hl q p j
  · exact hh q p j

theorem ext_ix3 {f g : (⟨3, ![4, 128, 128]⟩ : Shape).Idx → EReal} (h : ∀ b i j, f (ix3 b i j) = g (ix3 b i j)) : f = g :=
  funext fun i => (congrArg f (eq_ix3 i)).trans ((h (i 0) (i 1) (i 2)).trans (congrArg g (eq_ix3 i)).symm)

theorem ext_ix2 {f g : (⟨2, ![128, 128]⟩ : Shape).Idx → EReal} (h : ∀ i j, f (ix2 i j) = g (ix2 i j)) : f = g :=
  funext fun i => (congrArg f (eq_ix2 i)).trans ((h (i 0) (i 1)).trans (congrArg g (eq_ix2 i)).symm)

theorem ext_row {f g : (⟨2, ![1, 256]⟩ : Shape).Idx → EReal} (h : ∀ k, f (ix2 0 k) = g (ix2 0 k)) : f = g := by
  funext i
  obtain ⟨z, k, rfl⟩ : ∃ z k, i = ix2 z k := ⟨i 0, i 1, eq_ix2 i⟩
  obtain rfl : z = 0 := Subsingleton.elim _ _
  exact h k

theorem value_agrees : algebraic_SguIdeal_SguRefIdeal_pre_finite_sgu (hSguIdeal := Cert.SguIdeal.Gen.facts)
    (hSguRefIdeal := Cert.SguRefIdeal.Gen.facts) (hPre_finite_sgu := Cert.Pre_finite_sgu.Gen.facts) := by
  letI := Cert.Pre_finite_sgu.Gen.facts
  intro m ρ m' ρ' hpre hagree
  have H := fun c => reads_of_finite _ _ _ _ _ _ (hpre c)
  refine ⟨_, _, _, _, _, Cert.SguIdeal.Value.run_blocks (F := Ideal) m ρ, ?_⟩
  refine (θ_run Cert.SguRefIdeal.defs _ _).mono (fun r h c => ?_) (Cert.SguRefIdeal.Value.run (F := Ideal) m' ρ')
  obtain ⟨g0, g1, g2, g3, g4, g5⟩ := hagree c
  obtain ⟨r0, r1, r2, r3, r4, kept⟩ := h c
  have H' := (H c).of_eq g0 g1 g2 g3 g4 g5
  clear g0 g1 g2 g3 g4 g5 h
  refine ⟨?_, ?_, ?_, ?_, ?_, kept⟩
  · exact r0.trans ((Cert.SguRefIdeal.Read.val_main_v201_eq _).trans (ext_lanes
      (fun q i k => (Cert.SguRefIdeal.e201_lo H' q i k).trans (arr7_lo (H c) q i k).symm)
      (fun q i k => (Cert.SguRefIdeal.e201_hi H' q i k).trans (arr7_hi (H c) q i k).symm)))
  · exact r1.trans ((Cert.SguRefIdeal.Read.val_main_v136_eq _).trans (ext_ix3
      fun b i j => (Cert.SguRefIdeal.e136 H' i b j).trans (arr8 (H c) b i j).symm))
  · exact r2.trans ((Cert.SguRefIdeal.Read.val_main_v200_eq _).trans (ext_ix2
      fun i j => (Cert.SguRefIdeal.e200 H' i j).trans (arr9 (H c) i j).symm))
  · exact r3.trans ((Cert.SguRefIdeal.Read.val_main_v202_eq _).trans (ext_row
      fun k => (Cert.SguRefIdeal.e202 H' k).trans (arr10 (H c) k).symm))
  · exact r4.trans ((Cert.SguRefIdeal.Read.val_main_v203_eq _).trans (ext_row
      fun k => (Cert.SguRefIdeal.e203 H' k).trans (arr11 (H c) k).symm))

end Cert.SguIdeal

end
-- ==== Proof.PleSpec.lean ====
/- The last layer on real numbers: a gated embedding added to the row, the normalised output, its loss, and the way back. -/
module

public import proofs.«01_k».proof.Proof.Gen.Pre_finite_ple
public import proofs.«01_k».proof.Proof.Lift
public import Idealize.ShloMosaic.Lib.Pointwise

@[expose] public section

set_option maxRecDepth 16384

noncomputable section

open Idealize.ShloMosaic Idealize.ShloMosaic.TcCoe Cert.Lift

namespace Cert.Head

/-! ## The normalisation of a row and its derivative -/

def nrm (y : Fin 1024 → ℝ) (k : Fin 1024) : ℝ := y k * rinv 1024 y

/-- The derivative `e` taken back through the normalisation. -/
def nrmb (y e : Fin 1024 → ℝ) (k : Fin 1024) : ℝ := rinv 1024 y * (e k - nrm y k * ((∑ l, e l * nrm y l) / 1024))

/-- The same derivative the way the chain rule writes it. -/
theorem nrmb_chain (y e : Fin 1024 → ℝ) (k : Fin 1024) :
    e k * rinv 1024 y + y k * ((∑ l, y l * e l) * (-(1 / 2) * (rinv 1024 y / msq 1024 y)) / 1024)
      + (∑ l, y l * e l) * (-(1 / 2) * (rinv 1024 y / msq 1024 y)) / 1024 * y k = nrmb y e k := by
  have hr : (msq 1024 y)⁻¹ = rinv 1024 y * rinv 1024 y := (rinv_mul_self (by norm_num) y).symm
  have hs : ∑ l, e l * nrm y l = (∑ l, y l * e l) * rinv 1024 y := by
    rw [Finset.sum_mul]
    exact Finset.sum_congr rfl fun l _ => by unfold nrm; ring
  unfold nrmb
  rw [hs, div_eq_mul_inv (rinv 1024 y), hr]
  unfold nrm
  ring

/-! ## The last layer, its loss, and the way back -/

/-- The rows `h` before the layer, the embedding's rows `p`, the targets `t`, the two gains, the gate's weight and the
    embedding's. -/
structure Args where
  h : Fin 8192 → Fin 1024 → ℝ
  p : Fin 8192 → Fin 256 → ℝ
  t : Fin 8192 → Fin 1024 → ℝ
  gp : Fin 1024 → ℝ
  wg : Fin 1024 → Fin 1024 → ℝ
  wp : Fin 256 → Fin 1024 → ℝ
  gf : Fin 1024 → ℝ

variable (a : Args) (i : Fin 8192) (k : Fin 1024)

/-- The normalised row times its gain. -/
def hn : ℝ := nrm (a.h i) k * a.gp k
def gate : ℝ := logi (∑ l, hn a i l * a.wg l k)
def emb : ℝ := ∑ l, a.p i l * a.wp l k
/-- The row after the layer. -/
def h3 : ℝ := a.h i k + gate a i k * emb a i k
/-- The output less the target. -/
def diff : ℝ := nrm (h3 a i) k * a.gf k - a.t i k
/-- The loss. -/
def loss : ℝ := ∑ i, 1 / 2 * ((∑ k, diff a i k * diff a i k) / 1024)
/-- The derivative at the output. -/
def dy : ℝ := diff a i k * (1 / 1024)
def dgf : ℝ := ∑ i, dy a i k * nrm (h3 a i) k
def dh3 : ℝ := nrmb (h3 a i) (fun k => dy a i k * a.gf k) k
def dpp : ℝ := dh3 a i k * gate a i k
def dz : ℝ := dh3 a i k * emb a i k * gate a i k * (1 - gate a i k)
def dhn : ℝ := ∑ j, dz a i j * a.wg k j
def dgp : ℝ := ∑ i, dhn a i k * nrm (a.h i) k
def dh : ℝ := dh3 a i k + nrmb (a.h i) (fun k => dhn a i k * a.gp k) k

/-! ## The argument arrays -/

/-- The seven argument arrays hold the reals of `a`. -/
structure Reads (a : Args)
    (x0 : (⟨2, ![8192, 1024]⟩ : Shape).Idx → EReal)
    (x1 : (⟨2, ![8192, 256]⟩ : Shape).Idx → EReal)
    (x2 : (⟨2, ![8192, 1024]⟩ : Shape).Idx → EReal)
    (x3 : (⟨1, ![1024]⟩ : Shape).Idx → EReal)
    (x4 : (⟨2, ![1024, 1024]⟩ : Shape).Idx → EReal)
    (x5 : (⟨2, ![256, 1024]⟩ : Shape).Idx → EReal)
    (x6 : (⟨1, ![1024]⟩ : Shape).Idx → EReal) : Prop where
  h : ∀ i k, x0 (ix2 i k) = (a.h i k : EReal)
  p : ∀ i l, x1 (ix2 i l) = (a.p i l : EReal)
  t : ∀ i k, x2 (ix2 i k) = (a.t i k : EReal)
  gp : ∀ k, x3 (ix1 k) = (a.gp k : EReal)
  wg : ∀ k j, x4 (ix2 k j) = (a.wg k j : EReal)
  wp : ∀ l j, x5 (ix2 l j) = (a.wp l j : EReal)
  gf : ∀ k, x6 (ix1 k) = (a.gf k : EReal)

/-- The real parts of the argument arrays. -/
def Args.of
    (x0 : (⟨2, ![8192, 1024]⟩ : Shape).Idx → EReal)
    (x1 : (⟨2, ![8192, 256]⟩ : Shape).Idx → EReal)
    (x2 : (⟨2, ![8192, 1024]⟩ : Shape).Idx → EReal)
    (x3 : (⟨1, ![1024]⟩ : Shape).Idx → EReal)
    (x4 : (⟨2, ![1024, 1024]⟩ : Shape).Idx → EReal)
    (x5 : (⟨2, ![256, 1024]⟩ : Shape).Idx → EReal)
    (x6 : (⟨1, ![1024]⟩ : Shape).Idx → EReal) : Args where
  h i k := (x0 (ix2 i k)).toReal
  p i l := (x1 (ix2 i l)).toReal
  t i k := (x2 (ix2 i k)).toReal
  gp k := (x3 (ix1 k)).toReal
  wg k j := (x4 (ix2 k j)).toReal
  wp l j := (x5 (ix2 l j)).toReal
  gf k := (x6 (ix1 k)).toReal

theorem Reads.of_eq {a : Args}
    {x0 y0 : (⟨2, ![8192, 1024]⟩ : Shape).Idx → EReal}
    {x1 y1 : (⟨2, ![8192, 256]⟩ : Shape).Idx → EReal}
    {x2 y2 : (⟨2, ![8192, 1024]⟩ : Shape).Idx → EReal}
    {x3 y3 : (⟨1, ![1024]⟩ : Shape).Idx → EReal}
    {x4 y4 : (⟨2, ![1024, 1024]⟩ : Shape).Idx → EReal}
    {x5 y5 : (⟨2, ![256, 1024]⟩ : Shape).Idx → EReal}
    {x6 y6 : (⟨1, ![1024]⟩ : Shape).Idx → EReal}
    (H : Reads a x0 x1 x2 x3 x4 x5 x6) (e0 : y0 = x0) (e1 : y1 = x1) (e2 : y2 = x2) (e3 : y3 = x3) (e4 : y4 = x4) (e5 : y5 = x5) (e6 : y6 = x6) :
    Reads a y0 y1 y2 y3 y4 y5 y6 := by
  subst e0 e1 e2 e3 e4 e5 e6
  exact H

instance : Subsingleton (⟨0, ![]⟩ : Shape).Idx := ⟨fun _ _ => funext fun a => a.elim0⟩

/-- Arrays that pass the test of finiteness hold their real parts. -/
theorem reads_of_finite [Cert.Pre_finite_ple.Facts] (x0 : FVec Ideal ⟨2, ![8192, 1024]⟩ .f32) (x1 : FVec Ideal ⟨2, ![8192, 256]⟩ .f32)
    (x2 : FVec Ideal ⟨2, ![8192, 1024]⟩ .f32) (x3 : FVec Ideal ⟨1, ![1024]⟩ .f32) (x4 : FVec Ideal ⟨2, ![1024, 1024]⟩ .f32)
    (x5 : FVec Ideal ⟨2, ![256, 1024]⟩ .f32) (x6 : FVec Ideal ⟨1, ![1024]⟩ .f32)
    (e : Cert.Pre_finite_ple.fn (F := Ideal) x0 x1 x2 x3 x4 x5 x6 = fun _ => 1#1) : Reads (Args.of x0 x1 x2 x3 x4 x5 x6) x0 x1 x2 x3 x4 x5 x6 := by
  have e := congrFun e (fun a => a.elim0)
  unfold Cert.Pre_finite_ple.fn Cert.Pre_finite_ple.fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun _ _ => real_of_all x0 _ _ _ _ _ _ e0 _, fun _ _ => real_of_all x1 _ _ _ _ _ _ e1 _, fun _ _ => real_of_all x2 _ _ _ _ _ _ e2 _,
    fun _ => real_of_all x3 _ _ _ _ _ _ e3 _, fun _ _ => real_of_all x4 _ _ _ _ _ _ e4 _, fun _ _ => real_of_all x5 _ _ _ _ _ _ e5 _,
    fun _ => real_of_all x6 _ _ _ _ _ _ e6 _⟩

end Cert.Head

end
-- ==== Proof.PlePay.lean ====
/- What the payloads of the last layer's kernel compute on finite arguments. -/
module

public import proofs.«01_k».proof.Proof.Gen.PleIdeal.Skeleton
public import proofs.«01_k».proof.Proof.PleSpec
public import Idealize.ShloMosaic.Lib.Pointwise

@[expose] public section

set_option maxRecDepth 16384

noncomputable section

open Idealize.ShloMosaic Idealize.ShloMosaic.TcCoe Cert.Lift Cert.Head

namespace Cert.PleIdeal
open Cert.PleIdeal.Gen

theorem lit_inv : Ideal.ofBits .f32 0x3A800000#32 = ((1 / 1024 : ℝ) : EReal) := by
  simp [Ideal.ofBits, Ideal.ieee, -EReal.coe_mul]; norm_num

/-- The sum of a page over both its axes. -/
theorem page_sum {n0 n1 n2 : ℕ} (h : (⟨3, ![n0, n1, n2]⟩ : Shape).Reduces [1, 2] ⟨1, ![n0]⟩) (v : FVec Ideal ⟨3, ![n0, n1, n2]⟩ .f32) (b : Fin n0) :
    (FloatOps.reduceAdd [1, 2] h v (ix1 b) : EReal) = ∑ k0 : Fin n1, ∑ k1 : Fin n2, (v (ix3 b k0 k1) : EReal) := by
  refine ((Finset.sum_filter_eq_sum_of_fiber (fun i => h.drop i = ix1 b) (fun k : Fin n1 × Fin n2 => ix3 b k.1 k.2)
    (fun _ _ e => Prod.ext (congrFun e 1) (congrFun e 2)) (fun i => ⟨fun e => ⟨(i 1, i 2), funext fun a => Fin.ext ?_⟩, ?_⟩) v).trans ?_)
  · match a with
    | ⟨0, _⟩ => exact (congrArg Fin.val (congrFun e (0 : Fin 1))).symm
    | ⟨1, _⟩ => rfl
    | ⟨2, _⟩ => rfl
  · rintro ⟨k, rfl⟩
    funext a
    apply Fin.ext
    match a with
    | ⟨0, _⟩ => rfl
  · simp only [Fintype.sum_prod_type]

/-- Blocks of 512 rows, the rows numbered by `ρ`. -/
structure Blocks (a : Args) (ρ : Fin 512 → Fin 8192) (x0 : Vec Ideal S512x1024 .f32) (x1 : Vec Ideal S512x256 .f32) (x2 : Vec Ideal S512x1024 .f32)
    (x3 : Vec Ideal S1x1024 .f32) (x4 : Vec Ideal S1024x1024 .bf16) (x5 : Vec Ideal S1024x256 .bf16) (x6 : Vec Ideal S1x1024 .f32) : Prop where
  h : ∀ r k, x0 (ix2 r k) = (a.h (ρ r) k : EReal)
  p : ∀ r l, x1 (ix2 r l) = (a.p (ρ r) l : EReal)
  t : ∀ r k, x2 (ix2 r k) = (a.t (ρ r) k : EReal)
  gp : ∀ z k, x3 (ix2 z k) = (a.gp k : EReal)
  wg : ∀ k j, x4 (ix2 k j) = (a.wg k j : EReal)
  wp : ∀ j l, x5 (ix2 j l) = (a.wp l j : EReal)
  gf : ∀ z k, x6 (ix2 z k) = (a.gf k : EReal)

variable {a : Args} {ρ : Fin 512 → Fin 8192} {x0 : Vec Ideal S512x1024 .f32} {x1 : Vec Ideal S512x256 .f32} {x2 : Vec Ideal S512x1024 .f32}
  {x3 : Vec Ideal S1x1024 .f32} {x4 : Vec Ideal S1024x1024 .bf16} {x5 : Vec Ideal S1024x256 .bf16} {x6 : Vec Ideal S1x1024 .f32}
  (B : Blocks a ρ x0 x1 x2 x3 x4 x5 x6)

section
variable (r : Fin 512) (k : Fin 1024)
include B

theorem p5 (z : Fin 1) : (k0_pay5 (F := Ideal) x0 (ix2 r z) : EReal) = ((rinv 1024 (a.h (ρ r)) : ℝ) : EReal) := by
  pointwise [k0_pay5]
  simp only [B.h, zero_add, lit_1024, lit_eps, lit_half, lit_inv, one_eq, div_1024, sum_coe, ← EReal.coe_mul, ← EReal.coe_add, ← EReal.coe_sub]
  exact rsqrt_msq (by norm_num) _

theorem p6 : (k0_pay6 (F := Ideal) x0 (ix2 r k) : EReal) = ((nrm (a.h (ρ r)) k : ℝ) : EReal) := by
  pointwise [k0_pay6]
  simp only [B.h, p5 B, zero_add, lit_1024, lit_eps, lit_half, lit_inv, one_eq, div_1024, sum_coe, ← EReal.coe_mul, ← EReal.coe_add, ← EReal.coe_sub]
  rfl

theorem p7 : (k0_pay7 (F := Ideal) x0 x3 (ix2 r k) : EReal) = ((hn a (ρ r) k : ℝ) : EReal) := by
  pointwise [k0_pay7]
  simp only [p6 B, B.gp, zero_add, lit_1024, lit_eps, lit_half, lit_inv, one_eq, div_1024, sum_coe, ← EReal.coe_mul, ← EReal.coe_add, ← EReal.coe_sub]
  rfl

theorem p8 : (k0_pay8 (F := Ideal) x0 x3 x4 (ix2 r k) : EReal) = ((gate a (ρ r) k : ℝ) : EReal) := by
  pointwise [k0_pay8]
  simp only [p7 B, B.wg, logistic_eq, zero_add, lit_1024, lit_eps, lit_half, lit_inv, one_eq, div_1024, sum_coe, ← EReal.coe_mul, ← EReal.coe_add, ← EReal.coe_sub]
  rfl

theorem p9 : (k0_pay9 (F := Ideal) x1 x5 (ix2 r k) : EReal) = ((emb a (ρ r) k : ℝ) : EReal) := by
  pointwise [k0_pay9]
  simp only [B.p, B.wp, zero_add, lit_1024, lit_eps, lit_half, lit_inv, one_eq, div_1024, sum_coe, ← EReal.coe_mul, ← EReal.coe_add, ← EReal.coe_sub]
  rfl

theorem p10 : (k0_pay10 (F := Ideal) x0 x3 x4 x1 x5 (ix2 r k) : EReal) = ((h3 a (ρ r) k : ℝ) : EReal) := by
  pointwise [k0_pay10]
  simp only [B.h, p8 B, p9 B, zero_add, lit_1024, lit_eps, lit_half, lit_inv, one_eq, div_1024, sum_coe, ← EReal.coe_mul, ← EReal.coe_add, ← EReal.coe_sub]
  rfl

theorem p11 (z : Fin 1) : (k0_pay11 (F := Ideal) x0 x3 x4 x1 x5 (ix2 r z) : EReal) = (((∑ k, h3 a (ρ r) k * h3 a (ρ r) k) / 1024 : ℝ) : EReal) := by
  pointwise [k0_pay11]
  simp only [p10 B, zero_add, lit_1024, lit_eps, lit_half, lit_inv, one_eq, div_1024, sum_coe, ← EReal.coe_mul, ← EReal.coe_add, ← EReal.coe_sub]

theorem p12 (z : Fin 1) : (k0_pay12 (F := Ideal) (k0_pay11 x0 x3 x4 x1 x5) (ix2 r z) : EReal) = ((rinv 1024 (h3 a (ρ r)) : ℝ) : EReal) := by
  pointwise [k0_pay12]
  simp only [p11 B, zero_add, lit_1024, lit_eps, lit_half, lit_inv, one_eq, div_1024, sum_coe, ← EReal.coe_mul, ← EReal.coe_add, ← EReal.coe_sub]
  exact rsqrt_msq (by norm_num) _

theorem p13 : (k0_pay13 (F := Ideal) (k0_pay10 x0 x3 x4 x1 x5) (k0_pay11 x0 x3 x4 x1 x5) (ix2 r k) : EReal) = ((nrm (h3 a (ρ r)) k : ℝ) : EReal) := by
  pointwise [k0_pay13]
  simp only [p10 B, p12 B, zero_add, lit_1024, lit_eps, lit_half, lit_inv, one_eq, div_1024, sum_coe, ← EReal.coe_mul, ← EReal.coe_add, ← EReal.coe_sub]
  rfl

theorem p14 : (k0_pay14 (F := Ideal) (k0_pay10 x0 x3 x4 x1 x5) (k0_pay11 x0 x3 x4 x1 x5) x6 x2 (ix2 r k) : EReal) = ((diff a (ρ r) k : ℝ) : EReal) := by
  pointwise [k0_pay14]
  simp only [p13 B, B.gf, B.t, zero_add, lit_1024, lit_eps, lit_half, lit_inv, one_eq, div_1024, sum_coe, ← EReal.coe_mul, ← EReal.coe_add, ← EReal.coe_sub]
  rfl

theorem p16 : (k0_pay16 (F := Ideal) (k0_pay10 x0 x3 x4 x1 x5) (k0_pay11 x0 x3 x4 x1 x5) x6 x2 (ix2 r k) : EReal) = ((dy a (ρ r) k : ℝ) : EReal) := by
  pointwise [k0_pay16]
  simp only [p14 B, zero_add, lit_1024, lit_eps, lit_half, lit_inv, one_eq, div_1024, sum_coe, ← EReal.coe_mul, ← EReal.coe_add, ← EReal.coe_sub]
  rfl

theorem p18 : (k0_pay18 (F := Ideal) (k0_pay10 x0 x3 x4 x1 x5) (k0_pay11 x0 x3 x4 x1 x5) x6 x2 x6 (ix2 r k) : EReal) = ((dy a (ρ r) k * a.gf k : ℝ) : EReal) := by
  pointwise [k0_pay18]
  simp only [p16 B, B.gf, zero_add, lit_1024, lit_eps, lit_half, lit_inv, one_eq, div_1024, sum_coe, ← EReal.coe_mul, ← EReal.coe_add, ← EReal.coe_sub]

theorem p19 : (k0_pay19 (F := Ideal) (k0_pay10 x0 x3 x4 x1 x5) (k0_pay11 x0 x3 x4 x1 x5) x6 x2 x6 (ix2 r k) : EReal) = ((dy a (ρ r) k * a.gf k * nrm (h3 a (ρ r)) k : ℝ) : EReal) := by
  pointwise [k0_pay19]
  simp only [p18 B, p13 B, zero_add, lit_1024, lit_eps, lit_half, lit_inv, one_eq, div_1024, sum_coe, ← EReal.coe_mul, ← EReal.coe_add, ← EReal.coe_sub]

theorem p20 : (k0_pay20 (F := Ideal) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) (ix2 r k) : EReal) = ((dh3 a (ρ r) k : ℝ) : EReal) := by
  pointwise [k0_pay20]
  simp only [p12 B, p13 B, p18 B, p19 B, zero_add, lit_1024, lit_eps, lit_half, lit_inv, one_eq, div_1024, sum_coe, ← EReal.coe_mul, ← EReal.coe_add, ← EReal.coe_sub]
  rfl

theorem p21 : (k0_pay21 (F := Ideal) (k0_pay8 x0 x3 x4) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) (ix2 r k) : EReal) = ((dpp a (ρ r) k : ℝ) : EReal) := by
  pointwise [k0_pay21]
  simp only [p20 B, p8 B, zero_add, lit_1024, lit_eps, lit_half, lit_inv, one_eq, div_1024, sum_coe, ← EReal.coe_mul, ← EReal.coe_add, ← EReal.coe_sub]
  rfl

theorem p22 : (k0_pay22 (F := Ideal) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) (ix2 r k) : EReal) = ((dz a (ρ r) k : ℝ) : EReal) := by
  pointwise [k0_pay22]
  simp only [p20 B, p8 B, p9 B, zero_add, lit_1024, lit_eps, lit_half, lit_inv, one_eq, div_1024, sum_coe, ← EReal.coe_mul, ← EReal.coe_add, ← EReal.coe_sub]
  rfl

theorem p23 : (k0_pay23 (F := Ideal) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 (ix2 r k) : EReal) = ((dhn a (ρ r) k : ℝ) : EReal) := by
  pointwise [k0_pay23]
  simp only [p22 B, B.wg, zero_add, lit_1024, lit_eps, lit_half, lit_inv, one_eq, div_1024, sum_coe, ← EReal.coe_mul, ← EReal.coe_add, ← EReal.coe_sub]
  rfl

theorem p25 : (k0_pay25 (F := Ideal) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 x3 (ix2 r k) : EReal) = ((dhn a (ρ r) k * a.gp k : ℝ) : EReal) := by
  pointwise [k0_pay25]
  simp only [p23 B, B.gp, zero_add, lit_1024, lit_eps, lit_half, lit_inv, one_eq, div_1024, sum_coe, ← EReal.coe_mul, ← EReal.coe_add, ← EReal.coe_sub]

theorem p26 : (k0_pay26 (F := Ideal) (k0_pay6 x0) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 x3 (ix2 r k) : EReal) = (((∑ l, dhn a (ρ r) l * a.gp l * nrm (a.h (ρ r)) l) / 1024 : ℝ) : EReal) := by
  pointwise [k0_pay26]
  simp only [p25 B, p6 B, zero_add, lit_1024, lit_eps, lit_half, lit_inv, one_eq, div_1024, sum_coe, ← EReal.coe_mul, ← EReal.coe_add, ← EReal.coe_sub]

theorem p1 : (k0_pay1 (F := Ideal) (k0_pay5 x0) (k0_pay6 x0) (k0_pay20 (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6)) (k0_pay25 (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 x3) (k0_pay26 (k0_pay6 x0) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 x3) (ix2 r k) : EReal) = ((dh a (ρ r) k : ℝ) : EReal) := by
  pointwise [k0_pay1]
  simp only [p5 B, p6 B, p20 B, p25 B, p26 B, zero_add, lit_1024, lit_eps, lit_half, lit_inv, one_eq, div_1024, sum_coe, ← EReal.coe_mul, ← EReal.coe_add, ← EReal.coe_sub]
  rfl

end

section
include B

theorem p17 (acc : Vec Ideal S1x1024 .f32) (k : Fin 1024) :
    (k0_pay17 (F := Ideal) (k0_pay10 x0 x3 x4 x1 x5) (k0_pay11 x0 x3 x4 x1 x5) x6 x2 acc (ix2 0 k) : EReal) = (acc (ix2 0 k) : EReal) + ((∑ r, dy a (ρ r) k * nrm (h3 a (ρ r)) k : ℝ) : EReal) := by
  pointwise [k0_pay17]
  simp only [p16 B, p13 B, zero_add, lit_1024, lit_eps, lit_half, lit_inv, one_eq, div_1024, sum_coe, ← EReal.coe_mul, ← EReal.coe_add, ← EReal.coe_sub]

theorem p24 (acc : Vec Ideal S1x1024 .f32) (k : Fin 1024) :
    (k0_pay24 (F := Ideal) (k0_pay6 x0) (k0_pay8 x0 x3 x4) (k0_pay9 x1 x5) (k0_pay12 (k0_pay11 x0 x3 x4 x1 x5)) (k0_pay13 (k0_pay10 x0 x3 x4 x1 x5) (k0_pay11 x0 x3 x4 x1 x5)) (k0_pay18 (k0_pay10 x0 x3 x4 x1 x5) (k0_pay11 x0 x3 x4 x1 x5) x6 x2 x6) (k0_pay19 (k0_pay10 x0 x3 x4 x1 x5) (k0_pay11 x0 x3 x4 x1 x5) x6 x2 x6) x4 acc (ix2 0 k) : EReal) = (acc (ix2 0 k) : EReal) + ((∑ r, dhn a (ρ r) k * nrm (a.h (ρ r)) k : ℝ) : EReal) := by
  pointwise [k0_pay24]
  simp only [p23 B, p6 B, zero_add, lit_1024, lit_eps, lit_half, lit_inv, one_eq, div_1024, sum_coe, ← EReal.coe_mul, ← EReal.coe_add, ← EReal.coe_sub]

theorem p15 (acc : Vec Ideal S1x128 .f32) (l : Fin 128) :
    (k0_pay15 (F := Ideal) (k0_pay10 x0 x3 x4 x1 x5) (k0_pay11 x0 x3 x4 x1 x5) x6 x2 acc (ix2 0 l) : EReal) = (acc (ix2 0 l) : EReal) + ((∑ r, 1 / 2 * ((∑ k, diff a (ρ r) k * diff a (ρ r) k) / 1024) : ℝ) : EReal) := by
  pointwise [k0_pay15]
  simp only [page_sum, p14 B, zero_add, lit_1024, lit_eps, lit_half, lit_inv, one_eq, div_1024, sum_coe, ← EReal.coe_mul, ← EReal.coe_add, ← EReal.coe_sub]
  rw [show (1 / 2 : ℝ) * (∑ r, ∑ k, diff a (ρ r) k * diff a (ρ r) k) / 1024 = ∑ r, 1 / 2 * ((∑ k, diff a (ρ r) k * diff a (ρ r) k) / 1024) by
    rw [Finset.mul_sum, Finset.sum_div]
    exact Finset.sum_congr rfl fun r _ => mul_div_assoc _ _ _]

end

end Cert.PleIdeal

end
-- ==== Proof.PleArr.lean ====
/- The last layer's kernel point by point: the blocks it takes, the rows it writes, the loss and the gains' derivatives it adds up. -/
module

public import proofs.«01_k».proof.Proof.PlePay
public import proofs.«01_k».proof.Proof.BlockSums
public import proofs.«01_k».proof.Proof.Gen.PleIdeal.Value
public import Idealize.ShloMosaic.Lib.Pipeline.ReadBack
public import Idealize.ShloMosaic.Lib.Pipeline.ValueKit.Acc
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Cert.BlockSums Cert.Lift Cert.Head

namespace Cert.PleIdeal
open Cert.PleIdeal.Gen Cert.PleIdeal.Value

variable (m : (ℓ : Loc nD τ sig) → Buf (Elt Ideal) ℓ)

/-- The argument arrays on device `c` hold the reals of `a`. -/
abbrev Holds (a : Args) (c : Dev nD) : Prop :=
  Reads a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {m} {a : Args} {c : Dev nD} (H : Holds m a c)

/-! ## What the host prepares -/

include H in
theorem host_v0 (z : Fin 1) (k : Fin 1024) : (V m c main_v0 (ix2 z k) : EReal) = ((a.gp k : ℝ) : EReal) := by
  unfold V hostOps0
  after_results
  pointwise []
  exact H.gp k

include H in
theorem host_v1 (k j : Fin 1024) : (V m c main_v1 (ix2 k j) : EReal) = ((a.wg k j : ℝ) : EReal) := by
  unfold V hostOps0
  after_results
  pointwise []
  exact H.wg k j

include H in
theorem host_v3 (j : Fin 1024) (l : Fin 256) : (V m c main_v3 (ix2 j l) : EReal) = ((a.wp l j : ℝ) : EReal) := by
  unfold V hostOps0
  after_results
  pointwise []
  exact H.wp l j

include H in
theorem host_v4 (z : Fin 1) (k : Fin 1024) : (V m c main_v4 (ix2 z k) : EReal) = ((a.gf k : ℝ) : EReal) := by
  unfold V hostOps0
  after_results
  pointwise []
  exact H.gf k

/-! ## The blocks of a grid point -/

def row (t : ℕ) (r : Fin 512) : Fin 8192 := rowAt (N := 8192) 512 (by decide) t r

theorem row_val {t : ℕ} (ht : t < 16) (r : Fin 512) : (row t r).val = 512 * t + r.val :=
  rowAt_val (J := 16) (by norm_num) _ _ ht r

theorem lt_N (t : Fin cfg0.N) : t.val < 16 := lt_of_lt_of_eq t.isLt N_0

theorem index_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem index_whole : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

theorem flush8 : ∀ t : Fin cfg0.N, (cfg0.win 8).flush t = true :=
  (by decide +kernel : ∀ t : Fin grid0.N, win0_8.flush t = true)

theorem flush9 : ∀ t : Fin cfg0.N, (cfg0.win 9).flush t = true :=
  (by decide +kernel : ∀ t : Fin grid0.N, win0_9.flush t = true)

theorem flush10 : ∀ t : Fin cfg0.N, (cfg0.win 10).flush t = true :=
  (by decide +kernel : ∀ t : Fin grid0.N, win0_10.flush t = true)

theorem flush11 : ∀ t : Fin cfg0.N, (cfg0.win 11).flush t = true :=
  (by decide +kernel : ∀ t : Fin grid0.N, win0_11.flush t = true)

theorem flush7 : ∀ t : Fin cfg0.N, (cfg0.win 7).flush t = true ↔ t.val = 15 :=
  (by decide +kernel : ∀ t : Fin grid0.N, win0_7.flush t = true ↔ t.val = 15)

theorem flush12 : ∀ t : Fin cfg0.N, (cfg0.win 12).flush t = true ↔ t.val = 15 :=
  (by decide +kernel : ∀ t : Fin grid0.N, win0_12.flush t = true ↔ t.val = 15)

theorem flush13 : ∀ t : Fin cfg0.N, (cfg0.win 13).flush t = true ↔ t.val = 15 :=
  (by decide +kernel : ∀ t : Fin grid0.N, win0_13.flush t = true ↔ t.val = 15)

/-- Every row lies in the block of one point. -/
theorem tile (i : (⟨2, ![8192, 1024]⟩ : Shape).Idx) : ∃ (t : Fin cfg0.N) (r : Fin 512), i 0 = row t.val r := by
  have hN : cfg0.N = 16 := N_0
  have h0 : (i 0).val < 8192 := (i 0).isLt
  refine ⟨⟨(i 0).val / 512, by omega⟩, ⟨(i 0).val % 512, by omega⟩, Fin.ext ?_⟩
  rw [row_val (by show (i 0).val / 512 < 16; omega)]
  show (i 0).val = 512 * ((i 0).val / 512) + (i 0).val % 512
  omega

section
include H

theorem blk0 (t : Fin cfg0.N) (r : Fin 512) (k : Fin 1024) :
    ((iblk m c 0 t : Vec Ideal S512x1024 .f32) (ix2 r k) : EReal) = ((a.h (row t.val r) k : ℝ) : EReal) := by
  unfold iblk
  rw [View.read_apply]
  refine (congrArg (V m c main_arg0) (?_ : _ = ix2 (row t.val r) k)).trans (H.h (row t.val r) k)
  funext b
  apply Fin.ext
  match b with
  | ⟨0, _⟩ => show win0_0.index t 0 * 512 + 1 * r.val = (row t.val r).val; rw [(index_rows t).1.1, row_val (lt_N t)]; omega
  | ⟨1, _⟩ => show win0_0.index t 1 * 1024 + 1 * k.val = k.val; rw [(index_rows t).1.2]; omega

theorem blk1 (t : Fin cfg0.N) (r : Fin 512) (k : Fin 256) :
    ((iblk m c 1 t : Vec Ideal S512x256 .f32) (ix2 r k) : EReal) = ((a.p (row t.val r) k : ℝ) : EReal) := by
  unfold iblk
  rw [View.read_apply]
  refine (congrArg (V m c main_arg1) (?_ : _ = ix2 (row t.val r) k)).trans (H.p (row t.val r) k)
  funext b
  apply Fin.ext
  match b with
  | ⟨0, _⟩ => show win0_1.index t 0 * 512 + 1 * r.val = (row t.val r).val; rw [(index_rows t).2.1.1, row_val (lt_N t)]; omega
  | ⟨1, _⟩ => show win0_1.index t 1 * 256 + 1 * k.val = k.val; rw [(index_rows t).2.1.2]; omega

theorem blk2 (t : Fin cfg0.N) (r : Fin 512) (k : Fin 1024) :
    ((iblk m c 2 t : Vec Ideal S512x1024 .f32) (ix2 r k) : EReal) = ((a.t (row t.val r) k : ℝ) : EReal) := by
  unfold iblk
  rw [View.read_apply]
  refine (congrArg (V m c main_arg2) (?_ : _ = ix2 (row t.val r) k)).trans (H.t (row t.val r) k)
  funext b
  apply Fin.ext
  match b with
  | ⟨0, _⟩ => show win0_2.index t 0 * 512 + 1 * r.val = (row t.val r).val; rw [(index_rows t).2.2.1.1, row_val (lt_N t)]; omega
  | ⟨1, _⟩ => show win0_2.index t 1 * 1024 + 1 * k.val = k.val; rw [(index_rows t).2.2.1.2]; omega

theorem blk3 (t : Fin cfg0.N) (r : Fin 1) (k : Fin 1024) :
    ((iblk m c 3 t : Vec Ideal S1x1024 .f32) (ix2 r k) : EReal) = ((a.gp k : ℝ) : EReal) := by
  unfold iblk
  rw [View.read_apply]
  refine (congrArg (V m c main_v0) (?_ : _ = ix2 r k)).trans (host_v0 H r k)
  funext b
  apply Fin.ext
  match b with
  | ⟨0, _⟩ => show win0_3.index t 0 * 1 + 1 * r.val = r.val; rw [(index_whole t).1.1]; omega
  | ⟨1, _⟩ => show win0_3.index t 1 * 1024 + 1 * k.val = k.val; rw [(index_whole t).1.2]; omega

theorem blk4 (t : Fin cfg0.N) (r : Fin 1024) (k : Fin 1024) :
    ((iblk m c 4 t : Vec Ideal S1024x1024 .bf16) (ix2 r k) : EReal) = ((a.wg r k : ℝ) : EReal) := by
  unfold iblk
  rw [View.read_apply]
  refine (congrArg (V m c main_v1) (?_ : _ = ix2 r k)).trans (host_v1 H r k)
  funext b
  apply Fin.ext
  match b with
  | ⟨0, _⟩ => show win0_4.index t 0 * 1024 + 1 * r.val = r.val; rw [(index_whole t).2.1.1]; omega
  | ⟨1, _⟩ => show win0_4.index t 1 * 1024 + 1 * k.val = k.val; rw [(index_whole t).2.1.2]; omega

theorem blk5 (t : Fin cfg0.N) (r : Fin 1024) (k : Fin 256) :
    ((iblk m c 5 t : Vec Ideal S1024x256 .bf16) (ix2 r k) : EReal) = ((a.wp k r : ℝ) : EReal) := by
  unfold iblk
  rw [View.read_apply]
  refine (congrArg (V m c main_v3) (?_ : _ = ix2 r k)).trans (host_v3 H r k)
  funext b
  apply Fin.ext
  match b with
  | ⟨0, _⟩ => show win0_5.index t 0 * 1024 + 1 * r.val = r.val; rw [(index_whole t).2.2.1.1]; omega
  | ⟨1, _⟩ => show win0_5.index t 1 * 256 + 1 * k.val = k.val; rw [(index_whole t).2.2.1.2]; omega

theorem blk6 (t : Fin cfg0.N) (r : Fin 1) (k : Fin 1024) :
    ((iblk m c 6 t : Vec Ideal S1x1024 .f32) (ix2 r k) : EReal) = ((a.gf k : ℝ) : EReal) := by
  unfold iblk
  rw [View.read_apply]
  refine (congrArg (V m c main_v4) (?_ : _ = ix2 r k)).trans (host_v4 H r k)
  funext b
  apply Fin.ext
  match b with
  | ⟨0, _⟩ => show win0_6.index t 0 * 1 + 1 * r.val = r.val; rw [(index_whole t).2.2.2.1.1]; omega
  | ⟨1, _⟩ => show win0_6.index t 1 * 1024 + 1 * k.val = k.val; rw [(index_whole t).2.2.2.1.2]; omega

theorem blocks (t : Fin cfg0.N) : Blocks a (row t.val) (iblk m c 0 t) (iblk m c 1 t) (iblk m c 2 t) (iblk m c 3 t) (iblk m c 4 t) (iblk m c 5 t) (iblk m c 6 t) :=
  ⟨blk0 H t, blk1 H t, blk2 H t, blk3 H t, blk4 H t, blk5 H t, blk6 H t⟩

/-! ## The windows at a point -/

theorem out8 (t : Fin cfg0.N) (r : Fin 512) (k : Fin 1024) :
    ((outsAt0 m c t.val t.isLt).2.1 (ix2 r k) : EReal) = ((dh a (row t.val r) k : ℝ) : EReal) := by
  by_cases h : t.val % 16 = 0
  · rw [outsAt0_A m c t h]
    frame_out
    exact p1 (blocks H t) r k
  · rw [outsAt0_B m c t h]
    frame_out
    exact p1 (blocks H t) r k

theorem out9 (t : Fin cfg0.N) (r : Fin 512) (k : Fin 1024) :
    ((outsAt0 m c t.val t.isLt).2.2.1 (ix2 r k) : EReal) = ((dz a (row t.val r) k : ℝ) : EReal) := by
  by_cases h : t.val % 16 = 0
  · rw [outsAt0_A m c t h]
    frame_out
    exact p22 (blocks H t) r k
  · rw [outsAt0_B m c t h]
    frame_out
    exact p22 (blocks H t) r k

theorem out10 (t : Fin cfg0.N) (r : Fin 512) (k : Fin 1024) :
    ((outsAt0 m c t.val t.isLt).2.2.2.1 (ix2 r k) : EReal) = ((dpp a (row t.val r) k : ℝ) : EReal) := by
  by_cases h : t.val % 16 = 0
  · rw [outsAt0_A m c t h]
    frame_out
    exact p21 (blocks H t) r k
  · rw [outsAt0_B m c t h]
    frame_out
    exact p21 (blocks H t) r k

theorem out11 (t : Fin cfg0.N) (r : Fin 512) (k : Fin 1024) :
    ((outsAt0 m c t.val t.isLt).2.2.2.2.1 (ix2 r k) : EReal) = ((hn a (row t.val r) k : ℝ) : EReal) := by
  by_cases h : t.val % 16 = 0
  · rw [outsAt0_A m c t h]
    frame_out
    exact p7 (blocks H t) r k
  · rw [outsAt0_B m c t h]
    frame_out
    exact p7 (blocks H t) r k

theorem out7 (t : Fin cfg0.N) (ht : t.val = 15) (k : Fin 128) :
    ((outsAt0 m c t.val t.isLt).1 (ix2 0 k) : EReal) = ((loss a : ℝ) : EReal) := by
  have hz : k0_pay2 (F := Ideal) (ix2 0 k) = (0 : EReal) := by pointwise [k0_pay2]
  have key : ∀ (n : ℕ) (h : n < cfg0.N), ((outsAt0 m c n h).1 (ix2 0 k) : EReal)
      = ((∑ s ∈ Finset.range (n + 1), ∑ r, 1 / 2 * ((∑ j, diff a (row s r) j * diff a (row s r) j) / 1024) : ℝ) : EReal) := by
    intro n
    induction n with
    | zero =>
      intro h
      rw [outsAt0_A m c ⟨0, h⟩ rfl]
      frame_out
      refine (p15 (blocks H ⟨0, h⟩) _ k).trans ?_
      rw [hz, zero_add, Finset.sum_range_one]
    | succ n ih =>
      intro h
      have hn : n + 1 < 16 := lt_of_lt_of_eq h N_0
      rw [outsAt0_B m c ⟨n + 1, h⟩ (by show ¬(n + 1) % 16 = 0; omega)]
      frame_out
      refine (p15 (blocks H ⟨n + 1, h⟩) _ k).trans ?_
      rw [Finset.sum_range_succ, EReal.coe_add]
      exact congrArg (· + _) (ih (by omega))
  rw [key, ht]
  exact congrArg _ (sum_blocks 16 512 (by norm_num) (by decide) fun i => 1 / 2 * ((∑ j, diff a i j * diff a i j) / 1024))

theorem out12 (t : Fin cfg0.N) (ht : t.val = 15) (k : Fin 1024) :
    ((outsAt0 m c t.val t.isLt).2.2.2.2.2.1 (ix2 0 k) : EReal) = ((dgp a k : ℝ) : EReal) := by
  have hz : k0_pay3 (F := Ideal) (ix2 0 k) = (0 : EReal) := by pointwise [k0_pay3]
  have key : ∀ (n : ℕ) (h : n < cfg0.N), ((outsAt0 m c n h).2.2.2.2.2.1 (ix2 0 k) : EReal)
      = ((∑ s ∈ Finset.range (n + 1), ∑ r, dhn a (row s r) k * nrm (a.h (row s r)) k : ℝ) : EReal) := by
    intro n
    induction n with
    | zero =>
      intro h
      rw [outsAt0_A m c ⟨0, h⟩ rfl]
      frame_out
      refine (p24 (blocks H ⟨0, h⟩) _ k).trans ?_
      rw [hz, zero_add, Finset.sum_range_one]
    | succ n ih =>
      intro h
      have hn : n + 1 < 16 := lt_of_lt_of_eq h N_0
      rw [outsAt0_B m c ⟨n + 1, h⟩ (by show ¬(n + 1) % 16 = 0; omega)]
      frame_out
      refine (p24 (blocks H ⟨n + 1, h⟩) _ k).trans ?_
      rw [Finset.sum_range_succ, EReal.coe_add]
      exact congrArg (· + _) (ih (by omega))
  rw [key, ht]
  exact congrArg _ (sum_blocks 16 512 (by norm_num) (by decide) fun i => dhn a i k * nrm (a.h i) k)

theorem out13 (t : Fin cfg0.N) (ht : t.val = 15) (k : Fin 1024) :
    ((outsAt0 m c t.val t.isLt).2.2.2.2.2.2 (ix2 0 k) : EReal) = ((dgf a k : ℝ) : EReal) := by
  have hz : k0_pay4 (F := Ideal) (ix2 0 k) = (0 : EReal) := by pointwise [k0_pay4]
  have key : ∀ (n : ℕ) (h : n < cfg0.N), ((outsAt0 m c n h).2.2.2.2.2.2 (ix2 0 k) : EReal)
      = ((∑ s ∈ Finset.range (n + 1), ∑ r, dy a (row s r) k * nrm (h3 a (row s r)) k : ℝ) : EReal) := by
    intro n
    induction n with
    | zero =>
      intro h
      rw [outsAt0_A m c ⟨0, h⟩ rfl]
      frame_out
      refine (p17 (blocks H ⟨0, h⟩) _ k).trans ?_
      rw [hz, zero_add, Finset.sum_range_one]
    | succ n ih =>
      intro h
      have hn : n + 1 < 16 := lt_of_lt_of_eq h N_0
      rw [outsAt0_B m c ⟨n + 1, h⟩ (by show ¬(n + 1) % 16 = 0; omega)]
      frame_out
      refine (p17 (blocks H ⟨n + 1, h⟩) _ k).trans ?_
      rw [Finset.sum_range_succ, EReal.coe_add]
      exact congrArg (· + _) (ih (by omega))
  rw [key, ht]
  exact congrArg _ (sum_blocks 16 512 (by norm_num) (by decide) fun i => dy a i k * nrm (h3 a i) k)

/-! ## The result arrays -/

theorem arr8 : (dats m 0 c).arrAt 8 cfg0.N = fun i => (((dh a (i 0) (i 1) : ℝ) : EReal) : Elt Ideal .f32) := by
  funext i
  obtain ⟨t, r, hr⟩ := tile i
  have hi : ((cfg0.win 8).blk t).view.emb (ix2 r (i 1)) = i := by
    funext b
    apply Fin.ext
    match b with
    | ⟨0, _⟩ => show win0_8.index t 0 * 512 + 1 * r.val = (i 0).val; rw [(index_rows t).2.2.2.1.1, hr, row_val (lt_N t)]; omega
    | ⟨1, _⟩ => show win0_8.index t 1 * 1024 + 1 * (i 1).val = (i 1).val; rw [(index_rows t).2.2.2.1.2]; omega
  have hb := congrFun (blocks8 m c t (flush8 t)) (ix2 r (i 1))
  rw [View.read_apply, hi, flushed8] at hb
  refine hb.trans ?_
  show (outsAt0 m c t.val t.isLt).2.1 (ix2 r (i 1)) = _
  rw [hr]
  exact out8 H t r (i 1)

theorem arr9 : (dats m 0 c).arrAt 9 cfg0.N = fun i => (((dz a (i 0) (i 1) : ℝ) : EReal) : Elt Ideal .bf16) := by
  funext i
  obtain ⟨t, r, hr⟩ := tile i
  have hi : ((cfg0.win 9).blk t).view.emb (ix2 r (i 1)) = i := by
    funext b
    apply Fin.ext
    match b with
    | ⟨0, _⟩ => show win0_9.index t 0 * 512 + 1 * r.val = (i 0).val; rw [(index_rows t).2.2.2.2.1.1, hr, row_val (lt_N t)]; omega
    | ⟨1, _⟩ => show win0_9.index t 1 * 1024 + 1 * (i 1).val = (i 1).val; rw [(index_rows t).2.2.2.2.1.2]; omega
  have hb := congrFun (blocks9 m c t (flush9 t)) (ix2 r (i 1))
  rw [View.read_apply, hi, flushed9] at hb
  refine hb.trans ?_
  show (outsAt0 m c t.val t.isLt).2.2.1 (ix2 r (i 1)) = _
  rw [hr]
  exact out9 H t r (i 1)

theorem arr10 : (dats m 0 c).arrAt 10 cfg0.N = fun i => (((dpp a (i 0) (i 1) : ℝ) : EReal) : Elt Ideal .bf16) := by
  funext i
  obtain ⟨t, r, hr⟩ := tile i
  have hi : ((cfg0.win 10).blk t).view.emb (ix2 r (i 1)) = i := by
    funext b
    apply Fin.ext
    match b with
    | ⟨0, _⟩ => show win0_10.index t 0 * 512 + 1 * r.val = (i 0).val; rw [(index_rows t).2.2.2.2.2.1.1, hr, row_val (lt_N t)]; omega
    | ⟨1, _⟩ => show win0_10.index t 1 * 1024 + 1 * (i 1).val = (i 1).val; rw [(index_rows t).2.2.2.2.2.1.2]; omega
  have hb := congrFun (blocks10 m c t (flush10 t)) (ix2 r (i 1))
  rw [View.read_apply, hi, flushed10] at hb
  refine hb.trans ?_
  show (outsAt0 m c t.val t.isLt).2.2.2.1 (ix2 r (i 1)) = _
  rw [hr]
  exact out10 H t r (i 1)

theorem arr11 : (dats m 0 c).arrAt 11 cfg0.N = fun i => (((hn a (i 0) (i 1) : ℝ) : EReal) : Elt Ideal .bf16) := by
  funext i
  obtain ⟨t, r, hr⟩ := tile i
  have hi : ((cfg0.win 11).blk t).view.emb (ix2 r (i 1)) = i := by
    funext b
    apply Fin.ext
    match b with
    | ⟨0, _⟩ => show win0_11.index t 0 * 512 + 1 * r.val = (i 0).val; rw [(index_rows t).2.2.2.2.2.2.1, hr, row_val (lt_N t)]; omega
    | ⟨1, _⟩ => show win0_11.index t 1 * 1024 + 1 * (i 1).val = (i 1).val; rw [(index_rows t).2.2.2.2.2.2.2]; omega
  have hb := congrFun (blocks11 m c t (flush11 t)) (ix2 r (i 1))
  rw [View.read_apply, hi, flushed11] at hb
  refine hb.trans ?_
  show (outsAt0 m c t.val t.isLt).2.2.2.2.1 (ix2 r (i 1)) = _
  rw [hr]
  exact out11 H t r (i 1)

theorem arr7 : (dats m 0 c).arrAt 7 cfg0.N = fun i => (((loss a : ℝ) : EReal) : Elt Ideal .f32) := by
  have hN : cfg0.N = 16 := N_0
  funext i
  obtain ⟨t, ht⟩ : ∃ t : Fin cfg0.N, t.val = 15 := ⟨⟨15, by omega⟩, rfl⟩
  have h0 : (i 0).val = 0 := by have h : (i 0).val < 1 := (i 0).isLt; omega
  have hi : ((cfg0.win 7).blk t).view.emb (ix2 0 (i 1)) = i := by
    funext b
    apply Fin.ext
    match b with
    | ⟨0, _⟩ => show win0_7.index t 0 * 1 + 1 * 0 = (i 0).val; rw [(index_whole t).2.2.2.2.1.1, h0]
    | ⟨1, _⟩ => show win0_7.index t 1 * 128 + 1 * (i 1).val = (i 1).val; rw [(index_whole t).2.2.2.2.1.2]; omega
  have hd : ∀ t t' : Fin cfg0.N, (cfg0.win 7).flush t = true → (cfg0.win 7).flush t' = true → t ≠ t' →
      Disjoint ((cfg0.win 7).blk t).view.set ((cfg0.win 7).blk t').view.set := fun t t' h h' hne =>
    absurd (Fin.ext (((flush7 t).mp h).trans ((flush7 t').mp h').symm)) hne
  have hb := congrFun ((dats m 0 c).read_blk_arrAt_eq_flushed 7 hd cfg0.N t t.isLt ((flush7 t).mpr ht)) (ix2 0 (i 1))
  rw [View.read_apply, hi, flushed7] at hb
  refine hb.trans ?_
  show (outsAt0 m c t.val t.isLt).1 (ix2 0 (i 1)) = _
  exact out7 H t ht (i 1)

theorem arr12 : (dats m 0 c).arrAt 12 cfg0.N = fun i => (((dgp a (i 1) : ℝ) : EReal) : Elt Ideal .f32) := by
  have hN : cfg0.N = 16 := N_0
  funext i
  obtain ⟨t, ht⟩ : ∃ t : Fin cfg0.N, t.val = 15 := ⟨⟨15, by omega⟩, rfl⟩
  have h0 : (i 0).val = 0 := by have h : (i 0).val < 1 := (i 0).isLt; omega
  have hi : ((cfg0.win 12).blk t).view.emb (ix2 0 (i 1)) = i := by
    funext b
    apply Fin.ext
    match b with
    | ⟨0, _⟩ => show win0_12.index t 0 * 1 + 1 * 0 = (i 0).val; rw [(index_whole t).2.2.2.2.2.1.1, h0]
    | ⟨1, _⟩ => show win0_12.index t 1 * 1024 + 1 * (i 1).val = (i 1).val; rw [(index_whole t).2.2.2.2.2.1.2]; omega
  have hd : ∀ t t' : Fin cfg0.N, (cfg0.win 12).flush t = true → (cfg0.win 12).flush t' = true → t ≠ t' →
      Disjoint ((cfg0.win 12).blk t).view.set ((cfg0.win 12).blk t').view.set := fun t t' h h' hne =>
    absurd (Fin.ext (((flush12 t).mp h).trans ((flush12 t').mp h').symm)) hne
  have hb := congrFun ((dats m 0 c).read_blk_arrAt_eq_flushed 12 hd cfg0.N t t.isLt ((flush12 t).mpr ht)) (ix2 0 (i 1))
  rw [View.read_apply, hi, flushed12] at hb
  refine hb.trans ?_
  show (outsAt0 m c t.val t.isLt).2.2.2.2.2.1 (ix2 0 (i 1)) = _
  exact out12 H t ht (i 1)

theorem arr13 : (dats m 0 c).arrAt 13 cfg0.N = fun i => (((dgf a (i 1) : ℝ) : EReal) : Elt Ideal .f32) := by
  have hN : cfg0.N = 16 := N_0
  funext i
  obtain ⟨t, ht⟩ : ∃ t : Fin cfg0.N, t.val = 15 := ⟨⟨15, by omega⟩, rfl⟩
  have h0 : (i 0).val = 0 := by have h : (i 0).val < 1 := (i 0).isLt; omega
  have hi : ((cfg0.win 13).blk t).view.emb (ix2 0 (i 1)) = i := by
    funext b
    apply Fin.ext
    match b with
    | ⟨0, _⟩ => show win0_13.index t 0 * 1 + 1 * 0 = (i 0).val; rw [(index_whole t).2.2.2.2.2.2.1, h0]
    | ⟨1, _⟩ => show win0_13.index t 1 * 1024 + 1 * (i 1).val = (i 1).val; rw [(index_whole t).2.2.2.2.2.2.2]; omega
  have hd : ∀ t t' : Fin cfg0.N, (cfg0.win 13).flush t = true → (cfg0.win 13).flush t' = true → t ≠ t' →
      Disjoint ((cfg0.win 13).blk t).view.set ((cfg0.win 13).blk t').view.set := fun t t' h h' hne =>
    absurd (Fin.ext (((flush13 t).mp h).trans ((flush13 t').mp h').symm)) hne
  have hb := congrFun ((dats m 0 c).read_blk_arrAt_eq_flushed 13 hd cfg0.N t t.isLt ((flush13 t).mpr ht)) (ix2 0 (i 1))
  rw [View.read_apply, hi, flushed13] at hb
  refine hb.trans ?_
  show (outsAt0 m c t.val t.isLt).2.2.2.2.2.2 (ix2 0 (i 1)) = _
  exact out13 H t ht (i 1)

end

end Cert.PleIdeal

end
-- ==== Proof.PleRef.lean ====
/- What the plain form of the last layer and its loss computes on finite arguments. -/
module

public import proofs.«01_k».proof.Proof.PleSpec
public import proofs.«01_k».proof.Proof.Gen.PleRefIdeal.Run
public import proofs.«01_k».proof.Proof.Gen.PleRefIdeal.Read
public import Idealize.ShloMosaic.Lib.Pointwise

@[expose] public section

set_option maxRecDepth 16384

noncomputable section

open Idealize.ShloMosaic Idealize.ShloMosaic.TcCoe Cert.Lift Cert.Head

namespace Cert.PleRefIdeal
open Cert.PleRefIdeal.Gen Cert.PleRefIdeal.Read

theorem lit_two : Ideal.ofBits .f32 0x40000000#32 = ((2 : ℝ) : EReal) := by
  simp [Ideal.ofBits, Ideal.ieee, -EReal.coe_mul]; try norm_num

variable {a : Args}
  {x0 : (⟨S8192x1024, .f32⟩ : BufTy).Contents (Elt Ideal)}
  {x1 : (⟨S8192x256, .f32⟩ : BufTy).Contents (Elt Ideal)}
  {x2 : (⟨S8192x1024, .f32⟩ : BufTy).Contents (Elt Ideal)}
  {x3 : (⟨S1024, .f32⟩ : BufTy).Contents (Elt Ideal)}
  {x4 : (⟨S1024x1024, .f32⟩ : BufTy).Contents (Elt Ideal)}
  {x5 : (⟨S256x1024, .f32⟩ : BufTy).Contents (Elt Ideal)}
  {x6 : (⟨S1024, .f32⟩ : BufTy).Contents (Elt Ideal)}
  (H : Reads a x0 x1 x2 x3 x4 x5 x6)

section
variable (i : Fin 8192)
include H

theorem e7 (z : Fin 1) : (val_main_v7 (F := Ideal) x0 (ix2 i z) : EReal) = ((rinv 1024 (a.h i) : ℝ) : EReal) := by
  pointwise [val_main_v7, val_main_v6, val_main_v5, val_main_cst_1, val_main_v4, val_main_v3, val_main_cst_0, val_main_v2, val_main_v1, val_main_cst, val_main_v0]
  simp only [H.h, zero_add, lit_1024, lit_eps, lit_half, lit_neg_half, lit_two, one_eq, div_1024, Finset.univ_unique, Finset.sum_singleton, sum_coe, ← EReal.coe_mul, ← EReal.coe_add, ← EReal.coe_sub]
  exact rsqrt_msq (by norm_num) _

theorem e10 (z : Fin 1) : (val_main_v10 (F := Ideal) x0 (ix2 i z) : EReal) = ((-(1 / 2) * (rinv 1024 (a.h i) / msq 1024 (a.h i)) : ℝ) : EReal) := by
  pointwise [val_main_v10, val_main_v9, val_main_cst_2, val_main_v8, val_main_v6, val_main_v5, val_main_cst_1, val_main_v4, val_main_v3, val_main_cst_0, val_main_v2, val_main_v1, val_main_cst, val_main_v0]
  simp only [H.h, e7 H, zero_add, lit_1024, lit_eps, lit_half, lit_neg_half, lit_two, one_eq, div_1024, Finset.univ_unique, Finset.sum_singleton, sum_coe, ← EReal.coe_mul, ← EReal.coe_add, ← EReal.coe_sub]
  rw [div_msq (by norm_num) (a.h i), ← EReal.coe_mul]

theorem e12 (k : Fin 1024) : (val_main_v12 (F := Ideal) x0 (ix2 i k) : EReal) = ((nrm (a.h i) k : ℝ) : EReal) := by
  pointwise [val_main_v12, val_main_v11]
  simp only [H.h, e7 H, zero_add, lit_1024, lit_eps, lit_half, lit_neg_half, lit_two, one_eq, div_1024, Finset.univ_unique, Finset.sum_singleton, sum_coe, ← EReal.coe_mul, ← EReal.coe_add, ← EReal.coe_sub]
  rfl

theorem e15 (k : Fin 1024) : (val_main_v15 (F := Ideal) x0 x3 (ix2 i k) : EReal) = ((hn a i k : ℝ) : EReal) := by
  pointwise [val_main_v15, val_main_v14, val_main_v13]
  simp only [H.gp, e12 H, zero_add, lit_1024, lit_eps, lit_half, lit_neg_half, lit_two, one_eq, div_1024, Finset.univ_unique, Finset.sum_singleton, sum_coe, ← EReal.coe_mul, ← EReal.coe_add, ← EReal.coe_sub]
  rfl

theorem e17 (k : Fin 1024) : (val_main_v17 (F := Ideal) x1 x5 (ix2 i k) : EReal) = ((emb a i k : ℝ) : EReal) := by
  pointwise [val_main_v17]
  simp only [H.p, H.wp, zero_add, lit_1024, lit_eps, lit_half, lit_neg_half, lit_two, one_eq, div_1024, Finset.univ_unique, Finset.sum_singleton, sum_coe, ← EReal.coe_mul, ← EReal.coe_add, ← EReal.coe_sub]
  rfl

theorem e23 (k : Fin 1024) : (val_main_v23 (F := Ideal) x0 x3 x4 (ix2 i k) : EReal) = ((gate a i k : ℝ) : EReal) := by
  pointwise [val_main_v23, val_main_v22, val_main_cst_4, val_main_v21, val_main_v20, val_main_cst_3, val_main_v19, val_main_v18, val_main_v16]
  simp only [e15 H, H.wg, zero_add, lit_1024, lit_eps, lit_half, lit_neg_half, lit_two, one_eq, div_1024, Finset.univ_unique, Finset.sum_singleton, sum_coe, ← EReal.coe_mul, ← EReal.coe_add, ← EReal.coe_sub]
  exact host_logistic _

theorem e26 (k : Fin 1024) : (val_main_v26 (F := Ideal) x0 x3 x4 (ix2 i k) : EReal) = ((gate a i k * (1 - gate a i k) : ℝ) : EReal) := by
  pointwise [val_main_v26, val_main_v25, val_main_v24, val_main_cst_5]
  simp only [e23 H, zero_add, lit_1024, lit_eps, lit_half, lit_neg_half, lit_two, one_eq, div_1024, Finset.univ_unique, Finset.sum_singleton, sum_coe, ← EReal.coe_mul, ← EReal.coe_add, ← EReal.coe_sub]

theorem e28 (k : Fin 1024) : (val_main_v28 (F := Ideal) x0 x1 x3 x4 x5 (ix2 i k) : EReal) = ((h3 a i k : ℝ) : EReal) := by
  pointwise [val_main_v28, val_main_v27]
  simp only [H.h, e23 H, e17 H, zero_add, lit_1024, lit_eps, lit_half, lit_neg_half, lit_two, one_eq, div_1024, Finset.univ_unique, Finset.sum_singleton, sum_coe, ← EReal.coe_mul, ← EReal.coe_add, ← EReal.coe_sub]
  rfl

theorem e36 (z : Fin 1) : (val_main_v36 (F := Ideal) x0 x1 x3 x4 x5 (ix2 i z) : EReal) = ((rinv 1024 (h3 a i) : ℝ) : EReal) := by
  pointwise [val_main_v36, val_main_v35, val_main_v34, val_main_cst_8, val_main_v33, val_main_v32, val_main_cst_7, val_main_v31, val_main_v30, val_main_cst_6, val_main_v29]
  simp only [e28 H, zero_add, lit_1024, lit_eps, lit_half, lit_neg_half, lit_two, one_eq, div_1024, Finset.univ_unique, Finset.sum_singleton, sum_coe, ← EReal.coe_mul, ← EReal.coe_add, ← EReal.coe_sub]
  exact rsqrt_msq (by norm_num) _

theorem e39 (z : Fin 1) : (val_main_v39 (F := Ideal) x0 x1 x3 x4 x5 (ix2 i z) : EReal) = ((-(1 / 2) * (rinv 1024 (h3 a i) / msq 1024 (h3 a i)) : ℝ) : EReal) := by
  pointwise [val_main_v39, val_main_v38, val_main_cst_9, val_main_v37, val_main_v35, val_main_v34, val_main_cst_8, val_main_v33, val_main_v32, val_main_cst_7, val_main_v31, val_main_v30, val_main_cst_6, val_main_v29]
  simp only [e28 H, e36 H, zero_add, lit_1024, lit_eps, lit_half, lit_neg_half, lit_two, one_eq, div_1024, Finset.univ_unique, Finset.sum_singleton, sum_coe, ← EReal.coe_mul, ← EReal.coe_add, ← EReal.coe_sub]
  rw [div_msq (by norm_num) (h3 a i), ← EReal.coe_mul]

theorem e41 (k : Fin 1024) : (val_main_v41 (F := Ideal) x0 x1 x3 x4 x5 (ix2 i k) : EReal) = ((nrm (h3 a i) k : ℝ) : EReal) := by
  pointwise [val_main_v41, val_main_v40]
  simp only [e28 H, e36 H, zero_add, lit_1024, lit_eps, lit_half, lit_neg_half, lit_two, one_eq, div_1024, Finset.univ_unique, Finset.sum_singleton, sum_coe, ← EReal.coe_mul, ← EReal.coe_add, ← EReal.coe_sub]
  rfl

theorem e45 (k : Fin 1024) : (val_main_v45 (F := Ideal) x0 x1 x2 x3 x4 x5 x6 (ix2 i k) : EReal) = ((diff a i k : ℝ) : EReal) := by
  pointwise [val_main_v45, val_main_v44, val_main_v43, val_main_v42]
  simp only [e41 H, H.gf, H.t, zero_add, lit_1024, lit_eps, lit_half, lit_neg_half, lit_two, one_eq, div_1024, Finset.univ_unique, Finset.sum_singleton, sum_coe, ← EReal.coe_mul, ← EReal.coe_add, ← EReal.coe_sub]
  rfl

theorem e59 (k : Fin 1024) : (val_main_v59 (F := Ideal) x0 x1 x2 x3 x4 x5 x6 (ix2 i k) : EReal) = ((dy a i k : ℝ) : EReal) := by
  pointwise [val_main_v59, val_main_v58, val_main_v57, val_main_v56, val_main_cst_17, val_main_v55, val_main_v54, val_main_cst_16, val_main_cst_15, val_main_v48, val_main_v47, val_main_cst_10]
  simp only [e45 H, zero_add, lit_1024, lit_eps, lit_half, lit_neg_half, lit_two, one_eq, div_1024, Finset.univ_unique, Finset.sum_singleton, sum_coe, ← EReal.coe_mul, ← EReal.coe_add, ← EReal.coe_sub]
  exact congrArg _ (by unfold dy; ring)

theorem e64 (k : Fin 1024) : (val_main_v64 (F := Ideal) x0 x1 x2 x3 x4 x5 x6 (ix2 i k) : EReal) = ((dy a i k * a.gf k : ℝ) : EReal) := by
  pointwise [val_main_v64, val_main_v63, val_main_v42]
  simp only [e59 H, H.gf, zero_add, lit_1024, lit_eps, lit_half, lit_neg_half, lit_two, one_eq, div_1024, Finset.univ_unique, Finset.sum_singleton, sum_coe, ← EReal.coe_mul, ← EReal.coe_add, ← EReal.coe_sub]

theorem e75 (k : Fin 1024) : (val_main_v75 (F := Ideal) x0 x1 x2 x3 x4 x5 x6 (ix2 i k) : EReal) = (((∑ l, h3 a i l * (dy a i l * a.gf l)) * (-(1 / 2) * (rinv 1024 (h3 a i) / msq 1024 (h3 a i))) / 1024 : ℝ) : EReal) := by
  pointwise [val_main_v75, val_main_v74, val_main_cst_22, val_main_v73, val_main_v72, val_main_cst_21, val_main_v71, val_main_v68, val_main_v67, val_main_cst_20, val_main_v66]
  simp only [e28 H, e64 H, e39 H, zero_add, lit_1024, lit_eps, lit_half, lit_neg_half, lit_two, one_eq, div_1024, Finset.univ_unique, Finset.sum_singleton, sum_coe, ← EReal.coe_mul, ← EReal.coe_add, ← EReal.coe_sub]

theorem e79 (k : Fin 1024) : (val_main_v79 (F := Ideal) x0 x1 x2 x3 x4 x5 x6 (ix2 i k) : EReal) = ((dh3 a i k : ℝ) : EReal) := by
  pointwise [val_main_v79, val_main_v78, val_main_v77, val_main_v76, val_main_v70, val_main_v69]
  simp only [e28 H, e64 H, e36 H, e75 H, zero_add, lit_1024, lit_eps, lit_half, lit_neg_half, lit_two, one_eq, div_1024, Finset.univ_unique, Finset.sum_singleton, sum_coe, ← EReal.coe_mul, ← EReal.coe_add, ← EReal.coe_sub]
  exact congrArg _ (nrmb_chain (h3 a i) (fun k => dy a i k * a.gf k) k)

theorem e80 (k : Fin 1024) : (val_main_v80 (F := Ideal) x0 x1 x2 x3 x4 x5 x6 (ix2 i k) : EReal) = ((dpp a i k : ℝ) : EReal) := by
  pointwise [val_main_v80]
  simp only [e23 H, e79 H, zero_add, lit_1024, lit_eps, lit_half, lit_neg_half, lit_two, one_eq, div_1024, Finset.univ_unique, Finset.sum_singleton, sum_coe, ← EReal.coe_mul, ← EReal.coe_add, ← EReal.coe_sub]
  exact congrArg _ (mul_comm _ _)

theorem e82 (k : Fin 1024) : (val_main_v82 (F := Ideal) x0 x1 x2 x3 x4 x5 x6 (ix2 i k) : EReal) = ((dz a i k : ℝ) : EReal) := by
  pointwise [val_main_v82, val_main_v81]
  simp only [e79 H, e17 H, e26 H, zero_add, lit_1024, lit_eps, lit_half, lit_neg_half, lit_two, one_eq, div_1024, Finset.univ_unique, Finset.sum_singleton, sum_coe, ← EReal.coe_mul, ← EReal.coe_add, ← EReal.coe_sub]
  exact congrArg _ (by unfold dz; ring)

theorem e83 (k : Fin 1024) : (val_main_v83 (F := Ideal) x0 x1 x2 x3 x4 x5 x6 (ix2 i k) : EReal) = ((dhn a i k : ℝ) : EReal) := by
  pointwise [val_main_v83]
  simp only [e82 H, H.wg, zero_add, lit_1024, lit_eps, lit_half, lit_neg_half, lit_two, one_eq, div_1024, Finset.univ_unique, Finset.sum_singleton, sum_coe, ← EReal.coe_mul, ← EReal.coe_add, ← EReal.coe_sub]
  rfl

theorem e88 (k : Fin 1024) : (val_main_v88 (F := Ideal) x0 x1 x2 x3 x4 x5 x6 (ix2 i k) : EReal) = ((dhn a i k * a.gp k : ℝ) : EReal) := by
  pointwise [val_main_v88, val_main_v87, val_main_v13]
  simp only [e83 H, H.gp, zero_add, lit_1024, lit_eps, lit_half, lit_neg_half, lit_two, one_eq, div_1024, Finset.univ_unique, Finset.sum_singleton, sum_coe, ← EReal.coe_mul, ← EReal.coe_add, ← EReal.coe_sub]

theorem e99 (k : Fin 1024) : (val_main_v99 (F := Ideal) x0 x1 x2 x3 x4 x5 x6 (ix2 i k) : EReal) = (((∑ l, a.h i l * (dhn a i l * a.gp l)) * (-(1 / 2) * (rinv 1024 (a.h i) / msq 1024 (a.h i))) / 1024 : ℝ) : EReal) := by
  pointwise [val_main_v99, val_main_v98, val_main_cst_27, val_main_v97, val_main_v96, val_main_cst_26, val_main_v95, val_main_v92, val_main_v91, val_main_cst_25, val_main_v90]
  simp only [H.h, e88 H, e10 H, zero_add, lit_1024, lit_eps, lit_half, lit_neg_half, lit_two, one_eq, div_1024, Finset.univ_unique, Finset.sum_singleton, sum_coe, ← EReal.coe_mul, ← EReal.coe_add, ← EReal.coe_sub]

theorem e103 (k : Fin 1024) : (val_main_v103 (F := Ideal) x0 x1 x2 x3 x4 x5 x6 (ix2 i k) : EReal) = ((nrmb (a.h i) (fun k => dhn a i k * a.gp k) k : ℝ) : EReal) := by
  pointwise [val_main_v103, val_main_v102, val_main_v101, val_main_v100, val_main_v94, val_main_v93]
  simp only [H.h, e88 H, e7 H, e99 H, zero_add, lit_1024, lit_eps, lit_half, lit_neg_half, lit_two, one_eq, div_1024, Finset.univ_unique, Finset.sum_singleton, sum_coe, ← EReal.coe_mul, ← EReal.coe_add, ← EReal.coe_sub]
  exact congrArg _ (nrmb_chain (a.h i) (fun k => dhn a i k * a.gp k) k)

theorem e105 (k : Fin 1024) : (val_main_v105 (F := Ideal) x0 x1 x2 x3 x4 x5 x6 (ix2 i k) : EReal) = ((dh a i k : ℝ) : EReal) := by
  pointwise [val_main_v105]
  simp only [e79 H, e103 H, zero_add, lit_1024, lit_eps, lit_half, lit_neg_half, lit_two, one_eq, div_1024, Finset.univ_unique, Finset.sum_singleton, sum_coe, ← EReal.coe_mul, ← EReal.coe_add, ← EReal.coe_sub]
  rfl

theorem e106 (k : Fin 1024) : (val_main_v106 (F := Ideal) x0 x1 x2 x3 x4 x5 x6 (ix2 i k) : EReal) = ((dz a i k : ℝ) : EReal) := by
  pointwise [val_main_v106]
  exact e82 H i k

theorem e107 (k : Fin 1024) : (val_main_v107 (F := Ideal) x0 x1 x2 x3 x4 x5 x6 (ix2 i k) : EReal) = ((dpp a i k : ℝ) : EReal) := by
  pointwise [val_main_v107]
  exact e80 H i k

theorem e108 (k : Fin 1024) : (val_main_v108 (F := Ideal) x0 x3 (ix2 i k) : EReal) = ((hn a i k : ℝ) : EReal) := by
  pointwise [val_main_v108]
  exact e15 H i k

end

section
include H

theorem e109 (z : Fin 1) (k : Fin 1024) : (val_main_v109 (F := Ideal) x0 x1 x2 x3 x4 x5 x6 (ix2 z k) : EReal) = ((dgp a k : ℝ) : EReal) := by
  pointwise [val_main_v109, val_main_v89, val_main_cst_24, val_main_v86, val_main_v85, val_main_cst_23, val_main_v84]
  simp only [e12 H, e83 H, zero_add, lit_1024, lit_eps, lit_half, lit_neg_half, lit_two, one_eq, div_1024, Finset.univ_unique, Finset.sum_singleton, sum_coe, ← EReal.coe_mul, ← EReal.coe_add, ← EReal.coe_sub]
  exact congrArg _ (Finset.sum_congr rfl fun i _ => mul_comm _ _)

theorem e110 (z : Fin 1) (k : Fin 1024) : (val_main_v110 (F := Ideal) x0 x1 x2 x3 x4 x5 x6 (ix2 z k) : EReal) = ((dgf a k : ℝ) : EReal) := by
  pointwise [val_main_v110, val_main_v65, val_main_cst_19, val_main_v62, val_main_v61, val_main_cst_18, val_main_v60]
  simp only [e41 H, e59 H, zero_add, lit_1024, lit_eps, lit_half, lit_neg_half, lit_two, one_eq, div_1024, Finset.univ_unique, Finset.sum_singleton, sum_coe, ← EReal.coe_mul, ← EReal.coe_add, ← EReal.coe_sub]
  exact congrArg _ (Finset.sum_congr rfl fun i _ => mul_comm _ _)

theorem e104 (z : Fin 1) (l : Fin 128) : (val_main_v104 (F := Ideal) x0 x1 x2 x3 x4 x5 x6 (ix2 z l) : EReal) = ((loss a : ℝ) : EReal) := by
  pointwise [val_main_v104, val_main_v53, val_main_cst_14, val_main_v52, val_main_cst_13, val_main_v51, val_main_v50, val_main_cst_12, val_main_v49, val_main_cst_11, val_main_v46]
  simp only [e45 H, zero_add, lit_1024, lit_eps, lit_half, lit_neg_half, lit_two, one_eq, div_1024, Finset.univ_unique, Finset.sum_singleton, sum_coe, ← EReal.coe_mul, ← EReal.coe_add, ← EReal.coe_sub]
  exact congrArg _ (Finset.mul_sum _ _ _)

end

end Cert.PleRefIdeal

end
-- ==== Proof.Ple.lean ====
/- The last layer and its loss: what the kernel returns, 512 rows at a time and with the loss and the gains' derivatives carried
   from point to point, is what the plain form returns. -/
module

public import proofs.«01_k».proof.Defs
public import proofs.«01_k».proof.Proof.PleArr
public import proofs.«01_k».proof.Proof.PleRef

@[expose] public section

set_option maxRecDepth 16384

noncomputable section

open Idealize.ShloMosaic Idealize.ShloMosaic.TcCoe Idealize.SL.Sem Cert.BlockSums Cert.Lift Cert.Head

namespace Cert.PleIdeal

/-- Arrays agree when they do at every row and lane. -/
theorem ext_ix2 {n0 n1 : ℕ} {f g : (⟨2, ![n0, n1]⟩ : Shape).Idx → EReal} (h : ∀ i k, f (ix2 i k) = g (ix2 i k)) : f = g :=
  funext fun i => (congrArg f (eq_ix2 i)).trans ((h (i 0) (i 1)).trans (congrArg g (eq_ix2 i)).symm)

theorem value_agrees : algebraic_PleIdeal_PleRefIdeal_pre_finite_ple (hPleIdeal := Cert.PleIdeal.Gen.facts)
    (hPleRefIdeal := Cert.PleRefIdeal.Gen.facts) (hPre_finite_ple := Cert.Pre_finite_ple.Gen.facts) := by
  letI := Cert.Pre_finite_ple.Gen.facts
  intro m ρ m' ρ' hpre hagree
  have H := fun c => reads_of_finite _ _ _ _ _ _ _ (hpre c)
  refine ⟨_, _, _, _, _, _, _, Cert.PleIdeal.Value.run_blocks (F := Ideal) m ρ, ?_⟩
  refine (θ_run Cert.PleRefIdeal.defs _ _).mono (fun r h c => ?_) (Cert.PleRefIdeal.Value.run (F := Ideal) m' ρ')
  obtain ⟨g0, g1, g2, g3, g4, g5, g6⟩ := hagree c
  obtain ⟨r0, r1, r2, r3, r4, r5, r6, kept⟩ := h c
  have H' := (H c).of_eq g0 g1 g2 g3 g4 g5 g6
  clear g0 g1 g2 g3 g4 g5 g6 h
  refine ⟨?_, ?_, ?_, ?_, ?_, ?_, ?_, kept⟩
  · exact r0.trans ((Cert.PleRefIdeal.Read.val_main_v104_eq _).trans (ext_ix2
      fun i k => (Cert.PleRefIdeal.e104 H' i k).trans (congrFun (arr7 (H c)) (ix2 i k)).symm))
  · exact r1.trans ((Cert.PleRefIdeal.Read.val_main_v105_eq _).trans (ext_ix2
      fun i k => (Cert.PleRefIdeal.e105 H' i k).trans (congrFun (arr8 (H c)) (ix2 i k)).symm))
  · exact r2.trans ((Cert.PleRefIdeal.Read.val_main_v106_eq _).trans (ext_ix2
      fun i k => (Cert.PleRefIdeal.e106 H' i k).trans (congrFun (arr9 (H c)) (ix2 i k)).symm))
  · exact r3.trans ((Cert.PleRefIdeal.Read.val_main_v107_eq _).trans (ext_ix2
      fun i k => (Cert.PleRefIdeal.e107 H' i k).trans (congrFun (arr10 (H c)) (ix2 i k)).symm))
  · exact r4.trans ((Cert.PleRefIdeal.Read.val_main_v108_eq _).trans (ext_ix2
      fun i k => (Cert.PleRefIdeal.e108 H' i k).trans (congrFun (arr11 (H c)) (ix2 i k)).symm))
  · exact r5.trans ((Cert.PleRefIdeal.Read.val_main_v109_eq _).trans (ext_ix2
      fun i k => (Cert.PleRefIdeal.e109 H' i k).trans (congrFun (arr12 (H c)) (ix2 i k)).symm))
  · exact r6.trans ((Cert.PleRefIdeal.Read.val_main_v110_eq _).trans (ext_ix2
      fun i k => (Cert.PleRefIdeal.e110 H' i k).trans (congrFun (arr13 (H c)) (ix2 i k)).symm))

end Cert.PleIdeal

end
-- ==== Proof.lean ====
module

public import proofs.«01_k».proof.Defs
public import proofs.«01_k».proof.Proof.Gen.Ffb.Frame
public import proofs.«01_k».proof.Proof.Gen.FfbIdeal.Value
public import proofs.«01_k».proof.Proof.Gen.FfbRefIdeal.Run
public import proofs.«01_k».proof.Proof.Gen.FfbRefIdeal.Read
public import proofs.«01_k».proof.Proof.Gen.Pre_finite_ffn
public import proofs.«01_k».proof.Proof.Ffb
public import proofs.«01_k».proof.Proof.Gen.WgA.Frame
public import proofs.«01_k».proof.Proof.Gen.WgAIdeal.Value
public import proofs.«01_k».proof.Proof.Gen.WgARefIdeal.Run
public import proofs.«01_k».proof.Proof.Gen.WgARefIdeal.Read
public import proofs.«01_k».proof.Proof.WgA
public import proofs.«01_k».proof.Proof.Gen.WgB.Frame
public import proofs.«01_k».proof.Proof.Gen.WgBIdeal.Value
public import proofs.«01_k».proof.Proof.Gen.WgBRefIdeal.Run
public import proofs.«01_k».proof.Proof.Gen.WgBRefIdeal.Read
public import proofs.«01_k».proof.Proof.WgB
public import proofs.«01_k».proof.Proof.Gen.WgC.Frame
public import proofs.«01_k».proof.Proof.Gen.WgCIdeal.Value
public import proofs.«01_k».proof.Proof.Gen.WgCRefIdeal.Run
public import proofs.«01_k».proof.Proof.Gen.WgCRefIdeal.Read
public import proofs.«01_k».proof.Proof.WgC
public import proofs.«01_k».proof.Proof.Gen.WgD.Frame
public import proofs.«01_k».proof.Proof.Gen.WgDIdeal.Value
public import proofs.«01_k».proof.Proof.Gen.WgDRefIdeal.Run
public import proofs.«01_k».proof.Proof.Gen.WgDRefIdeal.Read
public import proofs.«01_k».proof.Proof.WgD
public import proofs.«01_k».proof.Proof.Gen.WgE.Frame
public import proofs.«01_k».proof.Proof.Gen.WgEIdeal.Value
public import proofs.«01_k».proof.Proof.Gen.WgERefIdeal.Run
public import proofs.«01_k».proof.Proof.Gen.WgERefIdeal.Read
public import proofs.«01_k».proof.Proof.WgE
public import proofs.«01_k».proof.Proof.Gen.FfnF.Frame
public import proofs.«01_k».proof.Proof.Gen.FfnFIdeal.Value
public import proofs.«01_k».proof.Proof.Gen.FfnFRefIdeal.Run
public import proofs.«01_k».proof.Proof.Gen.FfnFRefIdeal.Read
public import proofs.«01_k».proof.Proof.FfnF
public import proofs.«01_k».proof.Proof.Gen.InBx.Frame
public import proofs.«01_k».proof.Proof.Gen.InBxIdeal.Value
public import proofs.«01_k».proof.Proof.Gen.InBxRefIdeal.Run
public import proofs.«01_k».proof.Proof.Gen.InBxRefIdeal.Read
public import proofs.«01_k».proof.Proof.Gen.Pre_finite_in
public import proofs.«01_k».proof.Proof.InBx
public import proofs.«01_k».proof.Proof.Gen.Sgu.Frame
public import proofs.«01_k».proof.Proof.Gen.SguIdeal.Value
public import proofs.«01_k».proof.Proof.Gen.SguRefIdeal.Run
public import proofs.«01_k».proof.Proof.Gen.SguRefIdeal.Read
public import proofs.«01_k».proof.Proof.Gen.Pre_finite_sgu
public import proofs.«01_k».proof.Proof.Sgu
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.Pre_finite_ple
public import proofs.«01_k».proof.Proof.Ple
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfbRefIdeal : quiescent_FfbRefIdeal (hFfbRefIdeal := Cert.FfbRefIdeal.Gen.facts) := fun m ρ _ =>
  (θ_run Cert.FfbRefIdeal.defs _ _).mono (fun r h => ⟨fun c => (h c).2.2.2.2.2, sem_eq_zero_of_no_sems (by decide) r.2⟩)
    (Cert.FfbRefIdeal.Value.run (F := Ideal) m ρ)

theorem quiescent_WgARefIdeal : quiescent_WgARefIdeal (hWgARefIdeal := Cert.WgARefIdeal.Gen.facts) := fun m ρ _ =>
  (θ_run Cert.WgARefIdeal.defs _ _).mono (fun r h => ⟨fun c => (h c).2, sem_eq_zero_of_no_sems (by decide) r.2⟩)
    (Cert.WgARefIdeal.Value.run (F := Ideal) m ρ)

theorem quiescent_WgBRefIdeal : quiescent_WgBRefIdeal (hWgBRefIdeal := Cert.WgBRefIdeal.Gen.facts) := fun m ρ _ =>
  (θ_run Cert.WgBRefIdeal.defs _ _).mono (fun r h => ⟨fun c => (h c).2, sem_eq_zero_of_no_sems (by decide) r.2⟩)
    (Cert.WgBRefIdeal.Value.run (F := Ideal) m ρ)

theorem quiescent_WgCRefIdeal : quiescent_WgCRefIdeal (hWgCRefIdeal := Cert.WgCRefIdeal.Gen.facts) := fun m ρ _ =>
  (θ_run Cert.WgCRefIdeal.defs _ _).mono (fun r h => ⟨fun c => (h c).2, sem_eq_zero_of_no_sems (by decide) r.2⟩)
    (Cert.WgCRefIdeal.Value.run (F := Ideal) m ρ)

theorem quiescent_WgDRefIdeal : quiescent_WgDRefIdeal (hWgDRefIdeal := Cert.WgDRefIdeal.Gen.facts) := fun m ρ _ =>
  (θ_run Cert.WgDRefIdeal.defs _ _).mono (fun r h => ⟨fun c => (h c).2, sem_eq_zero_of_no_sems (by decide) r.2⟩)
    (Cert.WgDRefIdeal.Value.run (F := Ideal) m ρ)

theorem quiescent_WgERefIdeal : quiescent_WgERefIdeal (hWgERefIdeal := Cert.WgERefIdeal.Gen.facts) := fun m ρ _ =>
  (θ_run Cert.WgERefIdeal.defs _ _).mono (fun r h => ⟨fun c => (h c).2, sem_eq_zero_of_no_sems (by decide) r.2⟩)
    (Cert.WgERefIdeal.Value.run (F := Ideal) m ρ)

theorem quiescent_FfnFRefIdeal : quiescent_FfnFRefIdeal (hFfnFRefIdeal := Cert.FfnFRefIdeal.Gen.facts) := fun m ρ _ =>
  (θ_run Cert.FfnFRefIdeal.defs _ _).mono (fun r h => ⟨fun c => (h c).2.2.2.2, sem_eq_zero_of_no_sems (by decide) r.2⟩)
    (Cert.FfnFRefIdeal.Value.run (F := Ideal) m ρ)

theorem quiescent_InBxRefIdeal : quiescent_InBxRefIdeal (hInBxRefIdeal := Cert.InBxRefIdeal.Gen.facts) := fun m ρ _ =>
  (θ_run Cert.InBxRefIdeal.defs _ _).mono (fun r h => ⟨fun c => (h c).2.2, sem_eq_zero_of_no_sems (by decide) r.2⟩)
    (Cert.InBxRefIdeal.Value.run (F := Ideal) m ρ)

theorem quiescent_SguRefIdeal : quiescent_SguRefIdeal (hSguRefIdeal := Cert.SguRefIdeal.Gen.facts) := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

theorem quiescent_PleRefIdeal : quiescent_PleRefIdeal (hPleRefIdeal := Cert.PleRefIdeal.Gen.facts) := fun m ρ _ =>
  (θ_run Cert.PleRefIdeal.defs _ _).mono (fun r h => ⟨fun c => (h c).2.2.2.2.2.2.2, sem_eq_zero_of_no_sems (by decide) r.2⟩)
    (Cert.PleRefIdeal.Value.run (F := Ideal) m ρ)

theorem claim : Cert.Claim := ⟨Cert.Ffb.Gen.facts, Cert.FfbIdeal.Gen.facts, Cert.FfbRefIdeal.Gen.facts, Cert.WgA.Gen.facts, Cert.WgAIdeal.Gen.facts, Cert.WgARefIdeal.Gen.facts, Cert.WgB.Gen.facts, Cert.WgBIdeal.Gen.facts, Cert.WgBRefIdeal.Gen.facts, Cert.WgC.Gen.facts, Cert.WgCIdeal.Gen.facts, Cert.WgCRefIdeal.Gen.facts, Cert.WgD.Gen.facts, Cert.WgDIdeal.Gen.facts, Cert.WgDRefIdeal.Gen.facts, Cert.WgE.Gen.facts, Cert.WgEIdeal.Gen.facts, Cert.WgERefIdeal.Gen.facts, Cert.FfnF.Gen.facts, Cert.FfnFIdeal.Gen.facts, Cert.FfnFRefIdeal.Gen.facts, Cert.InBx.Gen.facts, Cert.InBxIdeal.Gen.facts, Cert.InBxRefIdeal.Gen.facts, Cert.Sgu.Gen.facts, Cert.SguIdeal.Gen.facts, Cert.SguRefIdeal.Gen.facts, Cert.Ple.Gen.facts, Cert.PleIdeal.Gen.facts, Cert.PleRefIdeal.Gen.facts, Cert.Pre_finite_ffn.Gen.facts, Cert.Pre_finite_in.Gen.facts, Cert.Pre_finite_sgu.Gen.facts, Cert.Pre_finite_ple.Gen.facts,
  fun m ρ _ => Cert.Ffb.Gen.frame m ρ,
  fun m ρ _ => Cert.FfbIdeal.Gen.frame m ρ,
  fun m ρ _ => Cert.FfbIdeal.Gen.frame m ρ,
  quiescent_FfbRefIdeal,
  fun m ρ _ => quiescent_FfbRefIdeal m ρ trivial,
  fun m ρ _ => Cert.WgA.Gen.frame m ρ,
  fun m ρ _ => Cert.WgAIdeal.Gen.frame m ρ,
  quiescent_WgARefIdeal,
  fun m ρ _ => Cert.WgB.Gen.frame m ρ,
  fun m ρ _ => Cert.WgBIdeal.Gen.frame m ρ,
  quiescent_WgBRefIdeal,
  fun m ρ _ => Cert.WgC.Gen.frame m ρ,
  fun m ρ _ => Cert.WgCIdeal.Gen.frame m ρ,
  quiescent_WgCRefIdeal,
  fun m ρ _ => Cert.WgD.Gen.frame m ρ,
  fun m ρ _ => Cert.WgDIdeal.Gen.frame m ρ,
  quiescent_WgDRefIdeal,
  fun m ρ _ => Cert.WgE.Gen.frame m ρ,
  fun m ρ _ => Cert.WgEIdeal.Gen.frame m ρ,
  quiescent_WgERefIdeal,
  fun m ρ _ => Cert.FfnF.Gen.frame m ρ,
  fun m ρ _ => Cert.FfnFIdeal.Gen.frame m ρ,
  quiescent_FfnFRefIdeal,
  fun m ρ _ => Cert.InBx.Gen.frame m ρ,
  fun m ρ _ => Cert.InBxIdeal.Gen.frame m ρ,
  fun m ρ _ => Cert.InBxIdeal.Gen.frame m ρ,
  quiescent_InBxRefIdeal,
  fun m ρ _ => quiescent_InBxRefIdeal m ρ trivial,
  fun m ρ _ => Cert.Sgu.Gen.frame m ρ,
  fun m ρ _ => Cert.SguIdeal.Gen.frame m ρ,
  fun m ρ _ => Cert.SguIdeal.Gen.frame m ρ,
  quiescent_SguRefIdeal,
  fun m ρ _ => quiescent_SguRefIdeal m ρ trivial,
  fun m ρ _ => Cert.Ple.Gen.frame m ρ,
  fun m ρ _ => Cert.PleIdeal.Gen.frame m ρ,
  fun m ρ _ => Cert.PleIdeal.Gen.frame m ρ,
  quiescent_PleRefIdeal,
  fun m ρ _ => quiescent_PleRefIdeal m ρ trivial,
  trivial,
  Cert.FfbIdeal.value_agrees,
  trivial,
  Cert.WgAIdeal.value_agrees,
  trivial,
  Cert.WgBIdeal.value_agrees,
  trivial,
  Cert.WgCIdeal.value_agrees,
  trivial,
  Cert.WgDIdeal.value_agrees,
  trivial,
  Cert.WgEIdeal.value_agrees,
  trivial,
  Cert.FfnFIdeal.value_agrees,
  trivial,
  Cert.InBxIdeal.value_agrees,
  ⟨IdealRules.named_const.statement Cert.SguIdeal.κ "cubic" .f32 0x3D372713#32 ((8943 / 200000 : ℝ) : EReal) rfl, IdealRules.named_const.statement Cert.SguIdeal.κ "cubic3" .f32 0x3E095D4F#32 ((26829 / 200000 : ℝ) : EReal) rfl⟩,
  Cert.SguIdeal.value_agrees,
  trivial,
  Cert.PleIdeal.value_agrees⟩

end Cert.Proof

end
